-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_SwaOutDx (m : (ℓ : Loc Cert.SwaOutDx.nD Cert.SwaOutDx.τ Cert.SwaOutDx.sig) → Buf (Elt Bits) ℓ) : Prop :=
  True

def Pre_SwaOutDxIdeal (m : (ℓ : Loc Cert.SwaOutDxIdeal.nD Cert.SwaOutDxIdeal.τ Cert.SwaOutDxIdeal.sig) → Buf (Elt Ideal) ℓ) : Prop :=
  True

def Pre_SwaOutDxRefIdeal (m : (ℓ : Loc Cert.SwaOutDxRefIdeal.nD Cert.SwaOutDxRefIdeal.τ Cert.SwaOutDxRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormRefIdeal (m : (ℓ : Loc Cert.DownNormRefIdeal.nD Cert.DownNormRefIdeal.τ Cert.DownNormRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1)
      ∧ r.2.mem ((c.tc : Thread Cert.QkvDw.nD Cert.QkvDw.τ).loc Cert.QkvDw.main_arg2) = m ((c.tc : Thread Cert.QkvDw.nD Cert.QkvDw.τ).loc Cert.QkvDw.main_arg2)
      ∧ r.2.mem ((c.tc : Thread Cert.QkvDw.nD Cert.QkvDw.τ).loc Cert.QkvDw.main_arg3) = m ((c.tc : Thread Cert.QkvDw.nD Cert.QkvDw.τ).loc Cert.QkvDw.main_arg3))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
      ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2)
      ∧ r.2.mem ((c.tc : Thread Cert.QkvDwIdeal.nD Cert.QkvDwIdeal.τ).loc Cert.QkvDwIdeal.main_arg3) = m ((c.tc : Thread Cert.QkvDwIdeal.nD Cert.QkvDwIdeal.τ).loc Cert.QkvDwIdeal.main_arg3))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1)
      ∧ r.2.mem ((c.tc : Thread Cert.QkvDwRefIdeal.nD Cert.QkvDwRefIdeal.τ).loc Cert.QkvDwRefIdeal.main_arg2) = m ((c.tc : Thread Cert.QkvDwRefIdeal.nD Cert.QkvDwRefIdeal.τ).loc Cert.QkvDwRefIdeal.main_arg2)
      ∧ r.2.mem ((c.tc : Thread Cert.QkvDwRefIdeal.nD Cert.QkvDwRefIdeal.τ).loc Cert.QkvDwRefIdeal.main_arg3) = m ((c.tc : Thread Cert.QkvDwRefIdeal.nD Cert.QkvDwRefIdeal.τ).loc Cert.QkvDwRefIdeal.main_arg3))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_SwaOutDx [hSwaOutDx : Cert.SwaOutDx.Facts] : Prop :=
  ∀ (m : (ℓ : Loc Cert.SwaOutDx.nD Cert.SwaOutDx.τ Cert.SwaOutDx.sig) → Buf (Elt Bits) ℓ) (g : Dev Cert.SwaOutDx.nD → PrngReg), Pre_SwaOutDx m →
    θ_run (Cert.SwaOutDx.defs (F := Bits)) (onTc (τ := Cert.SwaOutDx.τ) (Cert.SwaOutDx.main (F := Bits))) ⟨m, fun _ => 0, g⟩ (fun r => (∀ c : Dev Cert.SwaOutDx.nD,
      r.2.mem ((c.tc : Thread Cert.SwaOutDx.nD Cert.SwaOutDx.τ).loc Cert.SwaOutDx.main_arg0) = m ((c.tc : Thread Cert.SwaOutDx.nD Cert.SwaOutDx.τ).loc Cert.SwaOutDx.main_arg0)
      ∧ r.2.mem ((c.tc : Thread Cert.SwaOutDx.nD Cert.SwaOutDx.τ).loc Cert.SwaOutDx.main_arg1) = m ((c.tc : Thread Cert.SwaOutDx.nD Cert.SwaOutDx.τ).loc Cert.SwaOutDx.main_arg1))
      ∧ r.2.sem = fun _ => 0)

def quiescent_SwaOutDxIdeal [hSwaOutDxIdeal : Cert.SwaOutDxIdeal.Facts] : Prop :=
  ∀ (m : (ℓ : Loc Cert.SwaOutDxIdeal.nD Cert.SwaOutDxIdeal.τ Cert.SwaOutDxIdeal.sig) → Buf (Elt Ideal) ℓ) (g : Dev Cert.SwaOutDxIdeal.nD → PrngReg), Pre_SwaOutDxIdeal m →
    θ_run (Cert.SwaOutDxIdeal.defs (F := Ideal)) (onTc (τ := Cert.SwaOutDxIdeal.τ) (Cert.SwaOutDxIdeal.main (F := Ideal))) ⟨m, fun _ => 0, g⟩ (fun r => (∀ c : Dev Cert.SwaOutDxIdeal.nD,
      r.2.mem ((c.tc : Thread Cert.SwaOutDxIdeal.nD Cert.SwaOutDxIdeal.τ).loc Cert.SwaOutDxIdeal.main_arg0) = m ((c.tc : Thread Cert.SwaOutDxIdeal.nD Cert.SwaOutDxIdeal.τ).loc Cert.SwaOutDxIdeal.main_arg0)
      ∧ r.2.mem ((c.tc : Thread Cert.SwaOutDxIdeal.nD Cert.SwaOutDxIdeal.τ).loc Cert.SwaOutDxIdeal.main_arg1) = m ((c.tc : Thread Cert.SwaOutDxIdeal.nD Cert.SwaOutDxIdeal.τ).loc Cert.SwaOutDxIdeal.main_arg1))
      ∧ r.2.sem = fun _ => 0)

def quiescent_SwaOutDxRefIdeal [hSwaOutDxRefIdeal : Cert.SwaOutDxRefIdeal.Facts] : Prop :=
  ∀ (m : (ℓ : Loc Cert.SwaOutDxRefIdeal.nD Cert.SwaOutDxRefIdeal.τ Cert.SwaOutDxRefIdeal.sig) → Buf (Elt Ideal) ℓ) (g : Dev Cert.SwaOutDxRefIdeal.nD → PrngReg), Pre_SwaOutDxRefIdeal m →
    θ_run (Cert.SwaOutDxRefIdeal.defs (F := Ideal)) (onTc (τ := Cert.SwaOutDxRefIdeal.τ) (Cert.SwaOutDxRefIdeal.main (F := Ideal))) ⟨m, fun _ => 0, g⟩ (fun r => (∀ c : Dev Cert.SwaOutDxRefIdeal.nD,
      r.2.mem ((c.tc : Thread Cert.SwaOutDxRefIdeal.nD Cert.SwaOutDxRefIdeal.τ).loc Cert.SwaOutDxRefIdeal.main_arg0) = m ((c.tc : Thread Cert.SwaOutDxRefIdeal.nD Cert.SwaOutDxRefIdeal.τ).loc Cert.SwaOutDxRefIdeal.main_arg0)
      ∧ r.2.mem ((c.tc : Thread Cert.SwaOutDxRefIdeal.nD Cert.SwaOutDxRefIdeal.τ).loc Cert.SwaOutDxRefIdeal.main_arg1) = m ((c.tc : Thread Cert.SwaOutDxRefIdeal.nD Cert.SwaOutDxRefIdeal.τ).loc Cert.SwaOutDxRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ r.2.sem = fun _ => 0)

def quiescent_DownNormRefIdeal [hDownNormRefIdeal : Cert.DownNormRefIdeal.Facts] : Prop :=
  ∀ (m : (ℓ : Loc Cert.DownNormRefIdeal.nD Cert.DownNormRefIdeal.τ Cert.DownNormRefIdeal.sig) → Buf (Elt Ideal) ℓ) (g : Dev Cert.DownNormRefIdeal.nD → PrngReg), Pre_DownNormRefIdeal m →
    θ_run (Cert.DownNormRefIdeal.defs (F := Ideal)) (onTc (τ := Cert.DownNormRefIdeal.τ) (Cert.DownNormRefIdeal.main (F := Ideal))) ⟨m, fun _ => 0, g⟩ (fun r => (∀ c : Dev Cert.DownNormRefIdeal.nD,
      r.2.mem ((c.tc : Thread Cert.DownNormRefIdeal.nD Cert.DownNormRefIdeal.τ).loc Cert.DownNormRefIdeal.main_arg0) = m ((c.tc : Thread Cert.DownNormRefIdeal.nD Cert.DownNormRefIdeal.τ).loc Cert.DownNormRefIdeal.main_arg0)
      ∧ r.2.mem ((c.tc : Thread Cert.DownNormRefIdeal.nD Cert.DownNormRefIdeal.τ).loc Cert.DownNormRefIdeal.main_arg1) = m ((c.tc : Thread Cert.DownNormRefIdeal.nD Cert.DownNormRefIdeal.τ).loc Cert.DownNormRefIdeal.main_arg1)
      ∧ r.2.mem ((c.tc : Thread Cert.DownNormRefIdeal.nD Cert.DownNormRefIdeal.τ).loc Cert.DownNormRefIdeal.main_arg2) = m ((c.tc : Thread Cert.DownNormRefIdeal.nD Cert.DownNormRefIdeal.τ).loc Cert.DownNormRefIdeal.main_arg2)
      ∧ r.2.mem ((c.tc : Thread Cert.DownNormRefIdeal.nD Cert.DownNormRefIdeal.τ).loc Cert.DownNormRefIdeal.main_arg3) = m ((c.tc : Thread Cert.DownNormRefIdeal.nD Cert.DownNormRefIdeal.τ).loc Cert.DownNormRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2)
      ∧ r.2.mem ((c.tc : Thread Cert.QkvDx.nD Cert.QkvDx.τ).loc Cert.QkvDx.main_arg3) = m ((c.tc : Thread Cert.QkvDx.nD Cert.QkvDx.τ).loc Cert.QkvDx.main_arg3)
      ∧ r.2.mem ((c.tc : Thread Cert.QkvDx.nD Cert.QkvDx.τ).loc Cert.QkvDx.main_arg4) = m ((c.tc : Thread Cert.QkvDx.nD Cert.QkvDx.τ).loc Cert.QkvDx.main_arg4)
      ∧ r.2.mem ((c.tc : Thread Cert.QkvDx.nD Cert.QkvDx.τ).loc Cert.QkvDx.main_arg5) = m ((c.tc : Thread Cert.QkvDx.nD Cert.QkvDx.τ).loc Cert.QkvDx.main_arg5)
      ∧ r.2.mem ((c.tc : Thread Cert.QkvDx.nD Cert.QkvDx.τ).loc Cert.QkvDx.main_arg6) = m ((c.tc : Thread Cert.QkvDx.nD Cert.QkvDx.τ).loc Cert.QkvDx.main_arg6)
      ∧ r.2.mem ((c.tc : Thread Cert.QkvDx.nD Cert.QkvDx.τ).loc Cert.QkvDx.main_arg7) = m ((c.tc : Thread Cert.QkvDx.nD Cert.QkvDx.τ).loc Cert.QkvDx.main_arg7)
      ∧ r.2.mem ((c.tc : Thread Cert.QkvDx.nD Cert.QkvDx.τ).loc Cert.QkvDx.main_arg8) = m ((c.tc : Thread Cert.QkvDx.nD Cert.QkvDx.τ).loc Cert.QkvDx.main_arg8))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
      ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
      ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4)
      ∧ r.2.mem ((c.tc : Thread Cert.QkvDxIdeal.nD Cert.QkvDxIdeal.τ).loc Cert.QkvDxIdeal.main_arg5) = m ((c.tc : Thread Cert.QkvDxIdeal.nD Cert.QkvDxIdeal.τ).loc Cert.QkvDxIdeal.main_arg5)
      ∧ r.2.mem ((c.tc : Thread Cert.QkvDxIdeal.nD Cert.QkvDxIdeal.τ).loc Cert.QkvDxIdeal.main_arg6) = m ((c.tc : Thread Cert.QkvDxIdeal.nD Cert.QkvDxIdeal.τ).loc Cert.QkvDxIdeal.main_arg6)
      ∧ r.2.mem ((c.tc : Thread Cert.QkvDxIdeal.nD Cert.QkvDxIdeal.τ).loc Cert.QkvDxIdeal.main_arg7) = m ((c.tc : Thread Cert.QkvDxIdeal.nD Cert.QkvDxIdeal.τ).loc Cert.QkvDxIdeal.main_arg7)
      ∧ r.2.mem ((c.tc : Thread Cert.QkvDxIdeal.nD Cert.QkvDxIdeal.τ).loc Cert.QkvDxIdeal.main_arg8) = m ((c.tc : Thread Cert.QkvDxIdeal.nD Cert.QkvDxIdeal.τ).loc Cert.QkvDxIdeal.main_arg8))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2)
      ∧ r.2.mem ((c.tc : Thread Cert.QkvDxRefIdeal.nD Cert.QkvDxRefIdeal.τ).loc Cert.QkvDxRefIdeal.main_arg3) = m ((c.tc : Thread Cert.QkvDxRefIdeal.nD Cert.QkvDxRefIdeal.τ).loc Cert.QkvDxRefIdeal.main_arg3)
      ∧ r.2.mem ((c.tc : Thread Cert.QkvDxRefIdeal.nD Cert.QkvDxRefIdeal.τ).loc Cert.QkvDxRefIdeal.main_arg4) = m ((c.tc : Thread Cert.QkvDxRefIdeal.nD Cert.QkvDxRefIdeal.τ).loc Cert.QkvDxRefIdeal.main_arg4)
      ∧ r.2.mem ((c.tc : Thread Cert.QkvDxRefIdeal.nD Cert.QkvDxRefIdeal.τ).loc Cert.QkvDxRefIdeal.main_arg5) = m ((c.tc : Thread Cert.QkvDxRefIdeal.nD Cert.QkvDxRefIdeal.τ).loc Cert.QkvDxRefIdeal.main_arg5)
      ∧ r.2.mem ((c.tc : Thread Cert.QkvDxRefIdeal.nD Cert.QkvDxRefIdeal.τ).loc Cert.QkvDxRefIdeal.main_arg6) = m ((c.tc : Thread Cert.QkvDxRefIdeal.nD Cert.QkvDxRefIdeal.τ).loc Cert.QkvDxRefIdeal.main_arg6)
      ∧ r.2.mem ((c.tc : Thread Cert.QkvDxRefIdeal.nD Cert.QkvDxRefIdeal.τ).loc Cert.QkvDxRefIdeal.main_arg7) = m ((c.tc : Thread Cert.QkvDxRefIdeal.nD Cert.QkvDxRefIdeal.τ).loc Cert.QkvDxRefIdeal.main_arg7)
      ∧ r.2.mem ((c.tc : Thread Cert.QkvDxRefIdeal.nD Cert.QkvDxRefIdeal.τ).loc Cert.QkvDxRefIdeal.main_arg8) = m ((c.tc : Thread Cert.QkvDxRefIdeal.nD Cert.QkvDxRefIdeal.τ).loc Cert.QkvDxRefIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v5)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v5) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v3)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v3) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)
      ∧ m' ((c.tc : Thread Cert.QkvDwRefIdeal.nD Cert.QkvDwRefIdeal.τ).loc Cert.QkvDwRefIdeal.main_arg2) = m ((c.tc : Thread Cert.QkvDwIdeal.nD Cert.QkvDwIdeal.τ).loc Cert.QkvDwIdeal.main_arg2)
      ∧ m' ((c.tc : Thread Cert.QkvDwRefIdeal.nD Cert.QkvDwRefIdeal.τ).loc Cert.QkvDwRefIdeal.main_arg3) = m ((c.tc : Thread Cert.QkvDwIdeal.nD Cert.QkvDwIdeal.τ).loc Cert.QkvDwIdeal.main_arg3)) →
    ∃ (v0 : (c : Dev Cert.QkvDwIdeal.nD) → Buf (Elt Ideal) ((c.tc : Thread Cert.QkvDwIdeal.nD Cert.QkvDwIdeal.τ).loc Cert.QkvDwIdeal.main_v4)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v4) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
          ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2)
          ∧ r.2.mem ((c.tc : Thread Cert.QkvDwIdeal.nD Cert.QkvDwIdeal.τ).loc Cert.QkvDwIdeal.main_arg3) = m ((c.tc : Thread Cert.QkvDwIdeal.nD Cert.QkvDwIdeal.τ).loc Cert.QkvDwIdeal.main_arg3))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v14) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1)
          ∧ r.2.mem ((c.tc : Thread Cert.QkvDwRefIdeal.nD Cert.QkvDwRefIdeal.τ).loc Cert.QkvDwRefIdeal.main_arg2) = m' ((c.tc : Thread Cert.QkvDwRefIdeal.nD Cert.QkvDwRefIdeal.τ).loc Cert.QkvDwRefIdeal.main_arg2)
          ∧ r.2.mem ((c.tc : Thread Cert.QkvDwRefIdeal.nD Cert.QkvDwRefIdeal.τ).loc Cert.QkvDwRefIdeal.main_arg3) = m' ((c.tc : Thread Cert.QkvDwRefIdeal.nD Cert.QkvDwRefIdeal.τ).loc Cert.QkvDwRefIdeal.main_arg3))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v1)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v1) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v2) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_SwaOutDx_SwaOutDxIdeal : Prop :=
  True

def algebraic_SwaOutDxIdeal_SwaOutDxRefIdeal [hSwaOutDxIdeal : Cert.SwaOutDxIdeal.Facts] [hSwaOutDxRefIdeal : Cert.SwaOutDxRefIdeal.Facts] : Prop :=
  ∀ (m : (ℓ : Loc Cert.SwaOutDxIdeal.nD Cert.SwaOutDxIdeal.τ Cert.SwaOutDxIdeal.sig) → Buf (Elt Ideal) ℓ) (g : Dev Cert.SwaOutDxIdeal.nD → PrngReg)
    (m' : (ℓ : Loc Cert.SwaOutDxRefIdeal.nD Cert.SwaOutDxRefIdeal.τ Cert.SwaOutDxRefIdeal.sig) → Buf (Elt Ideal) ℓ) (g' : Dev Cert.SwaOutDxRefIdeal.nD → PrngReg), Pre_SwaOutDxIdeal m →
    (∀ c : Dev Cert.SwaOutDxIdeal.nD,
      m' ((c.tc : Thread Cert.SwaOutDxRefIdeal.nD Cert.SwaOutDxRefIdeal.τ).loc Cert.SwaOutDxRefIdeal.main_arg0) = m ((c.tc : Thread Cert.SwaOutDxIdeal.nD Cert.SwaOutDxIdeal.τ).loc Cert.SwaOutDxIdeal.main_arg0)
      ∧ m' ((c.tc : Thread Cert.SwaOutDxRefIdeal.nD Cert.SwaOutDxRefIdeal.τ).loc Cert.SwaOutDxRefIdeal.main_arg1) = m ((c.tc : Thread Cert.SwaOutDxIdeal.nD Cert.SwaOutDxIdeal.τ).loc Cert.SwaOutDxIdeal.main_arg1)) →
    ∃ (v0 : (c : Dev Cert.SwaOutDxIdeal.nD) → Buf (Elt Ideal) ((c.tc : Thread Cert.SwaOutDxIdeal.nD Cert.SwaOutDxIdeal.τ).loc Cert.SwaOutDxIdeal.main_v1)),
      θ_run (Cert.SwaOutDxIdeal.defs (F := Ideal)) (onTc (τ := Cert.SwaOutDxIdeal.τ) (Cert.SwaOutDxIdeal.main (F := Ideal))) ⟨m, fun _ => 0, g⟩ (fun r => ∀ c : Dev Cert.SwaOutDxIdeal.nD,
          r.2.mem ((c.tc : Thread Cert.SwaOutDxIdeal.nD Cert.SwaOutDxIdeal.τ).loc Cert.SwaOutDxIdeal.main_v1) = v0 c
          ∧ r.2.mem ((c.tc : Thread Cert.SwaOutDxIdeal.nD Cert.SwaOutDxIdeal.τ).loc Cert.SwaOutDxIdeal.main_arg0) = m ((c.tc : Thread Cert.SwaOutDxIdeal.nD Cert.SwaOutDxIdeal.τ).loc Cert.SwaOutDxIdeal.main_arg0)
          ∧ r.2.mem ((c.tc : Thread Cert.SwaOutDxIdeal.nD Cert.SwaOutDxIdeal.τ).loc Cert.SwaOutDxIdeal.main_arg1) = m ((c.tc : Thread Cert.SwaOutDxIdeal.nD Cert.SwaOutDxIdeal.τ).loc Cert.SwaOutDxIdeal.main_arg1))
      ∧ θ_run (Cert.SwaOutDxRefIdeal.defs (F := Ideal)) (onTc (τ := Cert.SwaOutDxRefIdeal.τ) (Cert.SwaOutDxRefIdeal.main (F := Ideal))) ⟨m', fun _ => 0, g'⟩ (fun r => ∀ c : Dev Cert.SwaOutDxRefIdeal.nD,
          r.2.mem ((c.tc : Thread Cert.SwaOutDxRefIdeal.nD Cert.SwaOutDxRefIdeal.τ).loc Cert.SwaOutDxRefIdeal.main_v3) = v0 c
          ∧ r.2.mem ((c.tc : Thread Cert.SwaOutDxRefIdeal.nD Cert.SwaOutDxRefIdeal.τ).loc Cert.SwaOutDxRefIdeal.main_arg0) = m' ((c.tc : Thread Cert.SwaOutDxRefIdeal.nD Cert.SwaOutDxRefIdeal.τ).loc Cert.SwaOutDxRefIdeal.main_arg0)
          ∧ r.2.mem ((c.tc : Thread Cert.SwaOutDxRefIdeal.nD Cert.SwaOutDxRefIdeal.τ).loc Cert.SwaOutDxRefIdeal.main_arg1) = m' ((c.tc : Thread Cert.SwaOutDxRefIdeal.nD Cert.SwaOutDxRefIdeal.τ).loc Cert.SwaOutDxRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v1) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v3_0)) (v1 : (c : Dev Cert.OutNormIdeal.nD) → Buf (Elt Ideal) ((c.tc : Thread Cert.OutNormIdeal.nD Cert.OutNormIdeal.τ).loc Cert.OutNormIdeal.main_v3_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v3_0) = v0 c
          ∧ r.2.mem ((c.tc : Thread Cert.OutNormIdeal.nD Cert.OutNormIdeal.τ).loc Cert.OutNormIdeal.main_v3_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v1) = v0 c
          ∧ r.2.mem ((c.tc : Thread Cert.OutNormRefIdeal.nD Cert.OutNormRefIdeal.τ).loc Cert.OutNormRefIdeal.main_v15) = v1 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_DownNorm_DownNormIdeal : Prop :=
  True

def algebraic_DownNormIdeal_DownNormRefIdeal [hDownNormIdeal : Cert.DownNormIdeal.Facts] [hDownNormRefIdeal : Cert.DownNormRefIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormRefIdeal.nD Cert.DownNormRefIdeal.τ Cert.DownNormRefIdeal.sig) → Buf (Elt Ideal) ℓ) (g' : Dev Cert.DownNormRefIdeal.nD → PrngReg), Pre_DownNormIdeal m →
    (∀ c : Dev Cert.DownNormIdeal.nD,
      m' ((c.tc : Thread Cert.DownNormRefIdeal.nD Cert.DownNormRefIdeal.τ).loc Cert.DownNormRefIdeal.main_arg0) = m ((c.tc : Thread Cert.DownNormIdeal.nD Cert.DownNormIdeal.τ).loc Cert.DownNormIdeal.main_arg0)
      ∧ m' ((c.tc : Thread Cert.DownNormRefIdeal.nD Cert.DownNormRefIdeal.τ).loc Cert.DownNormRefIdeal.main_arg1) = m ((c.tc : Thread Cert.DownNormIdeal.nD Cert.DownNormIdeal.τ).loc Cert.DownNormIdeal.main_arg1)
      ∧ m' ((c.tc : Thread Cert.DownNormRefIdeal.nD Cert.DownNormRefIdeal.τ).loc Cert.DownNormRefIdeal.main_arg2) = m ((c.tc : Thread Cert.DownNormIdeal.nD Cert.DownNormIdeal.τ).loc Cert.DownNormIdeal.main_arg2)
      ∧ m' ((c.tc : Thread Cert.DownNormRefIdeal.nD Cert.DownNormRefIdeal.τ).loc Cert.DownNormRefIdeal.main_arg3) = m ((c.tc : Thread Cert.DownNormIdeal.nD Cert.DownNormIdeal.τ).loc Cert.DownNormIdeal.main_arg3)) →
    ∃ (v0 : (c : Dev Cert.DownNormIdeal.nD) → Buf (Elt Ideal) ((c.tc : Thread Cert.DownNormIdeal.nD Cert.DownNormIdeal.τ).loc Cert.DownNormIdeal.main_v3_0)) (v1 : (c : Dev Cert.DownNormIdeal.nD) → Buf (Elt Ideal) ((c.tc : Thread Cert.DownNormIdeal.nD Cert.DownNormIdeal.τ).loc Cert.DownNormIdeal.main_v3_1)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v3_0) = v0 c
          ∧ r.2.mem ((c.tc : Thread Cert.DownNormIdeal.nD Cert.DownNormIdeal.τ).loc Cert.DownNormIdeal.main_v3_1) = v1 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ θ_run (Cert.DownNormRefIdeal.defs (F := Ideal)) (onTc (τ := Cert.DownNormRefIdeal.τ) (Cert.DownNormRefIdeal.main (F := Ideal))) ⟨m', fun _ => 0, g'⟩ (fun r => ∀ c : Dev Cert.DownNormRefIdeal.nD,
          r.2.mem ((c.tc : Thread Cert.DownNormRefIdeal.nD Cert.DownNormRefIdeal.τ).loc Cert.DownNormRefIdeal.main_v1) = v0 c
          ∧ r.2.mem ((c.tc : Thread Cert.DownNormRefIdeal.nD Cert.DownNormRefIdeal.τ).loc Cert.DownNormRefIdeal.main_v15) = v1 c
          ∧ r.2.mem ((c.tc : Thread Cert.DownNormRefIdeal.nD Cert.DownNormRefIdeal.τ).loc Cert.DownNormRefIdeal.main_arg0) = m' ((c.tc : Thread Cert.DownNormRefIdeal.nD Cert.DownNormRefIdeal.τ).loc Cert.DownNormRefIdeal.main_arg0)
          ∧ r.2.mem ((c.tc : Thread Cert.DownNormRefIdeal.nD Cert.DownNormRefIdeal.τ).loc Cert.DownNormRefIdeal.main_arg1) = m' ((c.tc : Thread Cert.DownNormRefIdeal.nD Cert.DownNormRefIdeal.τ).loc Cert.DownNormRefIdeal.main_arg1)
          ∧ r.2.mem ((c.tc : Thread Cert.DownNormRefIdeal.nD Cert.DownNormRefIdeal.τ).loc Cert.DownNormRefIdeal.main_arg2) = m' ((c.tc : Thread Cert.DownNormRefIdeal.nD Cert.DownNormRefIdeal.τ).loc Cert.DownNormRefIdeal.main_arg2)
          ∧ r.2.mem ((c.tc : Thread Cert.DownNormRefIdeal.nD Cert.DownNormRefIdeal.τ).loc Cert.DownNormRefIdeal.main_arg3) = m' ((c.tc : Thread Cert.DownNormRefIdeal.nD Cert.DownNormRefIdeal.τ).loc Cert.DownNormRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v8_0)) (v1 : (c : Dev Cert.UpDxIdeal.nD) → Buf (Elt Ideal) ((c.tc : Thread Cert.UpDxIdeal.nD Cert.UpDxIdeal.τ).loc Cert.UpDxIdeal.main_v8_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v8_0) = v0 c
          ∧ r.2.mem ((c.tc : Thread Cert.UpDxIdeal.nD Cert.UpDxIdeal.τ).loc Cert.UpDxIdeal.main_v8_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v41) = v0 c
          ∧ r.2.mem ((c.tc : Thread Cert.UpDxRefIdeal.nD Cert.UpDxRefIdeal.τ).loc Cert.UpDxRefIdeal.main_v42) = v1 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v5_0)) (v1 : (c : Dev Cert.InDxIdeal.nD) → Buf (Elt Ideal) ((c.tc : Thread Cert.InDxIdeal.nD Cert.InDxIdeal.τ).loc Cert.InDxIdeal.main_v5_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v5_0) = v0 c
          ∧ r.2.mem ((c.tc : Thread Cert.InDxIdeal.nD Cert.InDxIdeal.τ).loc Cert.InDxIdeal.main_v5_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v41) = v0 c
          ∧ r.2.mem ((c.tc : Thread Cert.InDxRefIdeal.nD Cert.InDxRefIdeal.τ).loc Cert.InDxRefIdeal.main_v42) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)
      ∧ m' ((c.tc : Thread Cert.QkvDxRefIdeal.nD Cert.QkvDxRefIdeal.τ).loc Cert.QkvDxRefIdeal.main_arg2) = m ((c.tc : Thread Cert.QkvDxIdeal.nD Cert.QkvDxIdeal.τ).loc Cert.QkvDxIdeal.main_arg2)
      ∧ m' ((c.tc : Thread Cert.QkvDxRefIdeal.nD Cert.QkvDxRefIdeal.τ).loc Cert.QkvDxRefIdeal.main_arg3) = m ((c.tc : Thread Cert.QkvDxIdeal.nD Cert.QkvDxIdeal.τ).loc Cert.QkvDxIdeal.main_arg3)
      ∧ m' ((c.tc : Thread Cert.QkvDxRefIdeal.nD Cert.QkvDxRefIdeal.τ).loc Cert.QkvDxRefIdeal.main_arg4) = m ((c.tc : Thread Cert.QkvDxIdeal.nD Cert.QkvDxIdeal.τ).loc Cert.QkvDxIdeal.main_arg4)
      ∧ m' ((c.tc : Thread Cert.QkvDxRefIdeal.nD Cert.QkvDxRefIdeal.τ).loc Cert.QkvDxRefIdeal.main_arg5) = m ((c.tc : Thread Cert.QkvDxIdeal.nD Cert.QkvDxIdeal.τ).loc Cert.QkvDxIdeal.main_arg5)
      ∧ m' ((c.tc : Thread Cert.QkvDxRefIdeal.nD Cert.QkvDxRefIdeal.τ).loc Cert.QkvDxRefIdeal.main_arg6) = m ((c.tc : Thread Cert.QkvDxIdeal.nD Cert.QkvDxIdeal.τ).loc Cert.QkvDxIdeal.main_arg6)
      ∧ m' ((c.tc : Thread Cert.QkvDxRefIdeal.nD Cert.QkvDxRefIdeal.τ).loc Cert.QkvDxRefIdeal.main_arg7) = m ((c.tc : Thread Cert.QkvDxIdeal.nD Cert.QkvDxIdeal.τ).loc Cert.QkvDxIdeal.main_arg7)
      ∧ m' ((c.tc : Thread Cert.QkvDxRefIdeal.nD Cert.QkvDxRefIdeal.τ).loc Cert.QkvDxRefIdeal.main_arg8) = m ((c.tc : Thread Cert.QkvDxIdeal.nD Cert.QkvDxIdeal.τ).loc Cert.QkvDxIdeal.main_arg8)) →
    ∃ (v0 : (c : Dev Cert.QkvDxIdeal.nD) → Buf (Elt Ideal) ((c.tc : Thread Cert.QkvDxIdeal.nD Cert.QkvDxIdeal.τ).loc Cert.QkvDxIdeal.main_v7_0)) (v1 : (c : Dev Cert.QkvDxIdeal.nD) → Buf (Elt Ideal) ((c.tc : Thread Cert.QkvDxIdeal.nD Cert.QkvDxIdeal.τ).loc Cert.QkvDxIdeal.main_v7_1)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v7_0) = v0 c
          ∧ r.2.mem ((c.tc : Thread Cert.QkvDxIdeal.nD Cert.QkvDxIdeal.τ).loc Cert.QkvDxIdeal.main_v7_1) = v1 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
          ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
          ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4)
          ∧ r.2.mem ((c.tc : Thread Cert.QkvDxIdeal.nD Cert.QkvDxIdeal.τ).loc Cert.QkvDxIdeal.main_arg5) = m ((c.tc : Thread Cert.QkvDxIdeal.nD Cert.QkvDxIdeal.τ).loc Cert.QkvDxIdeal.main_arg5)
          ∧ r.2.mem ((c.tc : Thread Cert.QkvDxIdeal.nD Cert.QkvDxIdeal.τ).loc Cert.QkvDxIdeal.main_arg6) = m ((c.tc : Thread Cert.QkvDxIdeal.nD Cert.QkvDxIdeal.τ).loc Cert.QkvDxIdeal.main_arg6)
          ∧ r.2.mem ((c.tc : Thread Cert.QkvDxIdeal.nD Cert.QkvDxIdeal.τ).loc Cert.QkvDxIdeal.main_arg7) = m ((c.tc : Thread Cert.QkvDxIdeal.nD Cert.QkvDxIdeal.τ).loc Cert.QkvDxIdeal.main_arg7)
          ∧ r.2.mem ((c.tc : Thread Cert.QkvDxIdeal.nD Cert.QkvDxIdeal.τ).loc Cert.QkvDxIdeal.main_arg8) = m ((c.tc : Thread Cert.QkvDxIdeal.nD Cert.QkvDxIdeal.τ).loc Cert.QkvDxIdeal.main_arg8))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v47) = v0 c
          ∧ r.2.mem ((c.tc : Thread Cert.QkvDxRefIdeal.nD Cert.QkvDxRefIdeal.τ).loc Cert.QkvDxRefIdeal.main_v48) = v1 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1)
          ∧ r.2.mem ((c.tc : Thread Cert.QkvDxRefIdeal.nD Cert.QkvDxRefIdeal.τ).loc Cert.QkvDxRefIdeal.main_arg2) = m' ((c.tc : Thread Cert.QkvDxRefIdeal.nD Cert.QkvDxRefIdeal.τ).loc Cert.QkvDxRefIdeal.main_arg2)
          ∧ r.2.mem ((c.tc : Thread Cert.QkvDxRefIdeal.nD Cert.QkvDxRefIdeal.τ).loc Cert.QkvDxRefIdeal.main_arg3) = m' ((c.tc : Thread Cert.QkvDxRefIdeal.nD Cert.QkvDxRefIdeal.τ).loc Cert.QkvDxRefIdeal.main_arg3)
          ∧ r.2.mem ((c.tc : Thread Cert.QkvDxRefIdeal.nD Cert.QkvDxRefIdeal.τ).loc Cert.QkvDxRefIdeal.main_arg4) = m' ((c.tc : Thread Cert.QkvDxRefIdeal.nD Cert.QkvDxRefIdeal.τ).loc Cert.QkvDxRefIdeal.main_arg4)
          ∧ r.2.mem ((c.tc : Thread Cert.QkvDxRefIdeal.nD Cert.QkvDxRefIdeal.τ).loc Cert.QkvDxRefIdeal.main_arg5) = m' ((c.tc : Thread Cert.QkvDxRefIdeal.nD Cert.QkvDxRefIdeal.τ).loc Cert.QkvDxRefIdeal.main_arg5)
          ∧ r.2.mem ((c.tc : Thread Cert.QkvDxRefIdeal.nD Cert.QkvDxRefIdeal.τ).loc Cert.QkvDxRefIdeal.main_arg6) = m' ((c.tc : Thread Cert.QkvDxRefIdeal.nD Cert.QkvDxRefIdeal.τ).loc Cert.QkvDxRefIdeal.main_arg6)
          ∧ r.2.mem ((c.tc : Thread Cert.QkvDxRefIdeal.nD Cert.QkvDxRefIdeal.τ).loc Cert.QkvDxRefIdeal.main_arg7) = m' ((c.tc : Thread Cert.QkvDxRefIdeal.nD Cert.QkvDxRefIdeal.τ).loc Cert.QkvDxRefIdeal.main_arg7)
          ∧ r.2.mem ((c.tc : Thread Cert.QkvDxRefIdeal.nD Cert.QkvDxRefIdeal.τ).loc Cert.QkvDxRefIdeal.main_arg8) = m' ((c.tc : Thread Cert.QkvDxRefIdeal.nD Cert.QkvDxRefIdeal.τ).loc Cert.QkvDxRefIdeal.main_arg8))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v19) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v1_0)) (v1 : (c : Dev Cert.AdamKvIdeal.nD) → Buf (Elt Ideal) ((c.tc : Thread Cert.AdamKvIdeal.nD Cert.AdamKvIdeal.τ).loc Cert.AdamKvIdeal.main_v1_1)) (v2 : (c : Dev Cert.AdamKvIdeal.nD) → Buf (Elt Ideal) ((c.tc : Thread Cert.AdamKvIdeal.nD Cert.AdamKvIdeal.τ).loc Cert.AdamKvIdeal.main_v1_2)) (v3 : (c : Dev Cert.AdamKvIdeal.nD) → Buf (Elt Ideal) ((c.tc : Thread Cert.AdamKvIdeal.nD Cert.AdamKvIdeal.τ).loc Cert.AdamKvIdeal.main_v1_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v1_0) = v0 c
          ∧ r.2.mem ((c.tc : Thread Cert.AdamKvIdeal.nD Cert.AdamKvIdeal.τ).loc Cert.AdamKvIdeal.main_v1_1) = v1 c
          ∧ r.2.mem ((c.tc : Thread Cert.AdamKvIdeal.nD Cert.AdamKvIdeal.τ).loc Cert.AdamKvIdeal.main_v1_2) = v2 c
          ∧ r.2.mem ((c.tc : Thread Cert.AdamKvIdeal.nD Cert.AdamKvIdeal.τ).loc Cert.AdamKvIdeal.main_v1_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg1) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)) (v3 : (c : Dev Cert.AdamUpIdeal.nD) → Buf (Elt Ideal) ((c.tc : Thread Cert.AdamUpIdeal.nD Cert.AdamUpIdeal.τ).loc Cert.AdamUpIdeal.main_v4_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_v4_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg1) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)) (v3 : (c : Dev Cert.AdamDownIdeal.nD) → Buf (Elt Ideal) ((c.tc : Thread Cert.AdamDownIdeal.nD Cert.AdamDownIdeal.τ).loc Cert.AdamDownIdeal.main_v4_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_v4_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg1) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hInDw : Cert.InDw.Facts) (hInDwIdeal : Cert.InDwIdeal.Facts) (hInDwRefIdeal : Cert.InDwRefIdeal.Facts) (hQkvDw : Cert.QkvDw.Facts) (hQkvDwIdeal : Cert.QkvDwIdeal.Facts) (hQkvDwRefIdeal : Cert.QkvDwRefIdeal.Facts) (hOutDw : Cert.OutDw.Facts) (hOutDwIdeal : Cert.OutDwIdeal.Facts) (hOutDwRefIdeal : Cert.OutDwRefIdeal.Facts) (hMixOutDx : Cert.MixOutDx.Facts) (hMixOutDxIdeal : Cert.MixOutDxIdeal.Facts) (hMixOutDxRefIdeal : Cert.MixOutDxRefIdeal.Facts) (hSwaOutDx : Cert.SwaOutDx.Facts) (hSwaOutDxIdeal : Cert.SwaOutDxIdeal.Facts) (hSwaOutDxRefIdeal : Cert.SwaOutDxRefIdeal.Facts) (hMixIn : Cert.MixIn.Facts) (hMixInIdeal : Cert.MixInIdeal.Facts) (hMixInRefIdeal : Cert.MixInRefIdeal.Facts) (hQkv : Cert.Qkv.Facts) (hQkvIdeal : Cert.QkvIdeal.Facts) (hQkvRefIdeal : Cert.QkvRefIdeal.Facts) (hOutNorm : Cert.OutNorm.Facts) (hOutNormIdeal : Cert.OutNormIdeal.Facts) (hOutNormRefIdeal : Cert.OutNormRefIdeal.Facts) (hDownNorm : Cert.DownNorm.Facts) (hDownNormIdeal : Cert.DownNormIdeal.Facts) (hDownNormRefIdeal : Cert.DownNormRefIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hQkvDx : Cert.QkvDx.Facts) (hQkvDxIdeal : Cert.QkvDxIdeal.Facts) (hQkvDxRefIdeal : Cert.QkvDxRefIdeal.Facts) (hLoss : Cert.Loss.Facts) (hLossIdeal : Cert.LossIdeal.Facts) (hLossRefIdeal : Cert.LossRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamKv : Cert.AdamKv.Facts) (hAdamKvIdeal : Cert.AdamKvIdeal.Facts) (hAdamKvRefIdeal : Cert.AdamKvRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hSumSlots : Cert.SumSlots.Facts) (hSumSlotsIdeal : Cert.SumSlotsIdeal.Facts) (hSumSlotsRefIdeal : Cert.SumSlotsRefIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_SwaOutDx (hSwaOutDx := hSwaOutDx)
    ∧ quiescent_SwaOutDxIdeal (hSwaOutDxIdeal := hSwaOutDxIdeal)
    ∧ quiescent_SwaOutDxRefIdeal (hSwaOutDxRefIdeal := hSwaOutDxRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_DownNorm (hDownNorm := hDownNorm)
    ∧ quiescent_DownNormIdeal (hDownNormIdeal := hDownNormIdeal)
    ∧ quiescent_DownNormRefIdeal (hDownNormRefIdeal := hDownNormRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_Loss (hLoss := hLoss)
    ∧ quiescent_LossIdeal (hLossIdeal := hLossIdeal)
    ∧ quiescent_LossRefIdeal (hLossRefIdeal := hLossRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_InDw_InDwIdeal
    ∧ algebraic_InDwIdeal_InDwRefIdeal (hInDwIdeal := hInDwIdeal) (hInDwRefIdeal := hInDwRefIdeal)
    ∧ preserves_QkvDw_QkvDwIdeal
    ∧ algebraic_QkvDwIdeal_QkvDwRefIdeal (hQkvDwIdeal := hQkvDwIdeal) (hQkvDwRefIdeal := hQkvDwRefIdeal)
    ∧ preserves_OutDw_OutDwIdeal
    ∧ algebraic_OutDwIdeal_OutDwRefIdeal (hOutDwIdeal := hOutDwIdeal) (hOutDwRefIdeal := hOutDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_SwaOutDx_SwaOutDxIdeal
    ∧ algebraic_SwaOutDxIdeal_SwaOutDxRefIdeal (hSwaOutDxIdeal := hSwaOutDxIdeal) (hSwaOutDxRefIdeal := hSwaOutDxRefIdeal)
    ∧ preserves_MixIn_MixInIdeal
    ∧ algebraic_MixInIdeal_MixInRefIdeal (hMixInIdeal := hMixInIdeal) (hMixInRefIdeal := hMixInRefIdeal)
    ∧ preserves_Qkv_QkvIdeal
    ∧ algebraic_QkvIdeal_QkvRefIdeal (hQkvIdeal := hQkvIdeal) (hQkvRefIdeal := hQkvRefIdeal)
    ∧ preserves_OutNorm_OutNormIdeal
    ∧ algebraic_OutNormIdeal_OutNormRefIdeal (hOutNormIdeal := hOutNormIdeal) (hOutNormRefIdeal := hOutNormRefIdeal)
    ∧ preserves_DownNorm_DownNormIdeal
    ∧ algebraic_DownNormIdeal_DownNormRefIdeal (hDownNormIdeal := hDownNormIdeal) (hDownNormRefIdeal := hDownNormRefIdeal)
    ∧ preserves_UpDx_UpDxIdeal
    ∧ algebraic_UpDxIdeal_UpDxRefIdeal (hUpDxIdeal := hUpDxIdeal) (hUpDxRefIdeal := hUpDxRefIdeal)
    ∧ preserves_InDx_InDxIdeal
    ∧ algebraic_InDxIdeal_InDxRefIdeal (hInDxIdeal := hInDxIdeal) (hInDxRefIdeal := hInDxRefIdeal)
    ∧ preserves_QkvDx_QkvDxIdeal
    ∧ algebraic_QkvDxIdeal_QkvDxRefIdeal (hQkvDxIdeal := hQkvDxIdeal) (hQkvDxRefIdeal := hQkvDxRefIdeal)
    ∧ preserves_Loss_LossIdeal
    ∧ algebraic_LossIdeal_LossRefIdeal (hLossIdeal := hLossIdeal) (hLossRefIdeal := hLossRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSlots_SumSlotsIdeal
    ∧ algebraic_SumSlotsIdeal_SumSlotsRefIdeal (hSumSlotsIdeal := hSumSlotsIdeal) (hSumSlotsRefIdeal := hSumSlotsRefIdeal)
-- ==== Pre_finite_operands.lean ====
abbrev S4224x2816 : Shape := ⟨2, ![4224, 2816]⟩
abbrev S2816x1024 : Shape := ⟨2, ![2816, 1024]⟩
abbrev S3x2816 : Shape := ⟨2, ![3, 2816]⟩
abbrev S4224x1024 : Shape := ⟨2, ![4224, 1024]⟩
abbrev S_ : Shape := ⟨0, ![]⟩

class Facts : Prop where
  bcast_S_S4224x2816 : S_.BroadcastsInDim S4224x2816 (![] : Fin 0 → Fin S4224x2816.rank)
  bcast_S_S2816x1024 : S_.BroadcastsInDim S2816x1024 (![] : Fin 0 → Fin S2816x1024.rank)
  bcast_S_S4224x1024 : S_.BroadcastsInDim S4224x1024 (![] : Fin 0 → Fin S4224x1024.rank)

variable [Facts]

def fn {F : FTy → Type} [FloatOps F] (main_arg0 : FVec F S4224x2816 .f32) (main_arg1 : FVec F S4224x2816 .f32) (main_arg2 : FVec F S2816x1024 .f32) (main_arg3 : FVec F S3x2816 .f32) (main_arg4 : FVec F S4224x1024 .f32) : IVec S4224x2816 1 × IVec S2816x1024 1 × IVec S4224x1024 1 :=
  let main_v0 : FVec F S4224x2816 .f32 := Host.absf main_arg1
  let main_cst : FVec F S_ .f32 := constant S_ .f32 0x7F800000#32
  let main_v1 : FVec F S4224x2816 .f32 := broadcastInDim S4224x2816 ![] bcast_S_S4224x2816 main_cst
  let main_v2 : IVec S4224x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4224x1024 .f32 := Host.absf main_arg4
  let main_cst_1 : FVec F S_ .f32 := constant S_ .f32 0x7F800000#32
  let main_v7 : FVec F S4224x1024 .f32 := broadcastInDim S4224x1024 ![] bcast_S_S4224x1024 main_cst_1
  let main_v8 : IVec S4224x1024 1 := cmpf .olt main_v6 main_v7
  (main_v2, main_v5, main_v8)
-- ==== Kernel.lean ====
abbrev S4224x2816 : Shape := ⟨2, ![4224, 2816]⟩
abbrev S2816x1024 : Shape := ⟨2, ![2816, 1024]⟩
abbrev S3x2816 : Shape := ⟨2, ![3, 2816]⟩
abbrev S4224x1024 : Shape := ⟨2, ![4224, 1024]⟩
abbrev S_ : Shape := ⟨0, ![]⟩
abbrev S2x2816 : Shape := ⟨2, ![2, 2816]⟩
abbrev S4226x2816 : Shape := ⟨2, ![4226, 2816]⟩
abbrev S1x2816 : Shape := ⟨2, ![1, 2816]⟩
abbrev S2816 : Shape := ⟨1, ![2816]⟩
abbrev S8x2816 : Shape := ⟨2, ![8, 2816]⟩
abbrev S4224x5632 : Shape := ⟨2, ![4224, 5632]⟩
abbrev S384x1024 : Shape := ⟨2, ![384, 1024]⟩
abbrev S1408x1024 : Shape := ⟨2, ![1408, 1024]⟩
abbrev S384x1408 : Shape := ⟨2, ![384, 1408]⟩
abbrev S8x1408 : Shape := ⟨2, ![8, 1408]⟩
abbrev S384x2816 : Shape := ⟨2, ![384, 2816]⟩
abbrev S392x1408 : Shape := ⟨2, ![392, 1408]⟩
abbrev S1x1408 : Shape := ⟨2, ![1, 1408]⟩
abbrev S1408 : Shape := ⟨1, ![1408]⟩
abbrev S5x1408 : Shape := ⟨2, ![5, 1408]⟩

abbrev nBuf : Space → Nat
  | .hbm => 40
  | .vmem => 21
  | .smem => 0
  | _ => 0

abbrev bufTy : (tb : Table) → Fin (tcTables nBuf tb) → BufTy
  | .hbm, ⟨0, _⟩ => ⟨S4224x2816, .f32⟩
  | .hbm, ⟨1, _⟩ => ⟨S4224x2816, .f32⟩
  | .hbm, ⟨2, _⟩ => ⟨S2816x1024, .f32⟩
  | .hbm, ⟨3, _⟩ => ⟨S3x2816, .f32⟩
  | .hbm, ⟨4, _⟩ => ⟨S4224x1024, .f32⟩
  | .hbm, ⟨5, _⟩ => ⟨S_, .f32⟩
  | .hbm, ⟨6, _⟩ => ⟨S2x2816, .f32⟩
  | .hbm, ⟨7, _⟩ => ⟨S4226x2816, .f32⟩
  | .hbm, ⟨8, _⟩ => ⟨S1x2816, .f32⟩
  | .hbm, ⟨9, _⟩ => ⟨S2816, .f32⟩
  | .hbm, ⟨10, _⟩ => ⟨S4224x2816, .f32⟩
  | .hbm, ⟨11, _⟩ => ⟨S1x2816, .f32⟩
  | .hbm, ⟨12, _⟩ => ⟨S4224x2816, .f32⟩
  | .hbm, ⟨13, _⟩ => ⟨S4224x2816, .f32⟩
  | .hbm, ⟨14, _⟩ => ⟨S_, .f32⟩
  | .hbm, ⟨15, _⟩ => ⟨S4224x2816, .f32⟩
  | .hbm, ⟨16, _⟩ => ⟨S4224x2816, .f32⟩
  | .hbm, ⟨17, _⟩ => ⟨S1x2816, .f32⟩
  | .hbm, ⟨18, _⟩ => ⟨S2816, .f32⟩
  | .hbm, ⟨19, _⟩ => ⟨S4224x2816, .f32⟩
  | .hbm, ⟨20, _⟩ => ⟨S1x2816, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S1x2816, .f32⟩
  | .hbm, ⟨25, _⟩ => ⟨S2816, .f32⟩
  | .hbm, ⟨26, _⟩ => ⟨S4224x2816, .f32⟩
  | .hbm, ⟨27, _⟩ => ⟨S1x2816, .f32⟩
  | .hbm, ⟨28, _⟩ => ⟨S4224x2816, .f32⟩
  | .hbm, ⟨29, _⟩ => ⟨S4224x2816, .f32⟩
  | .hbm, ⟨30, _⟩ => ⟨S4224x2816, .f32⟩
  | .hbm, ⟨31, _⟩ => ⟨S_, .i32⟩
  | .hbm, ⟨32, _⟩ => ⟨S_, .f32⟩
  | .hbm, ⟨33, _⟩ => ⟨S8x2816, .f32⟩
  | .hbm, ⟨34, _⟩ => ⟨S2816x1024, .bf16⟩
  | .hbm, ⟨35, _⟩ => ⟨S4224x2816, .bf16⟩
  | .hbm, ⟨36, _⟩ => ⟨S4224x2816, .bf16⟩
  | .hbm, ⟨37, _⟩ => ⟨S4224x2816, .bf16⟩
  | .hbm, ⟨38, _⟩ => ⟨S4224x5632, .bf16⟩
  | .hbm, ⟨39, _⟩ => ⟨S8x2816, .f32⟩
  | .local _ .vmem, ⟨0, _⟩ => ⟨S384x1024, .f32⟩
  | .local _ .vmem, ⟨1, _⟩ => ⟨S384x1024, .f32⟩
  | .local _ .vmem, ⟨2, _⟩ => ⟨S1408x1024, .bf16⟩
  | .local _ .vmem, ⟨3, _⟩ => ⟨S1408x1024, .bf16⟩
  | .local _ .vmem, ⟨4, _⟩ => ⟨S384x1408, .bf16⟩
  | .local _ .vmem, ⟨5, _⟩ => ⟨S384x1408, .bf16⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | .local _ .vmem, ⟨10, _⟩ => ⟨S8x1408, .bf16⟩
  | .local _ .vmem, ⟨11, _⟩ => ⟨S8x1408, .bf16⟩
  | .local _ .vmem, ⟨12, _⟩ => ⟨S8x1408, .f32⟩
  | .local _ .vmem, ⟨13, _⟩ => ⟨S8x1408, .f32⟩
  | .local _ .vmem, ⟨14, _⟩ => ⟨S384x2816, .bf16⟩
  | .local _ .vmem, ⟨15, _⟩ => ⟨S384x2816, .bf16⟩
  | .local _ .vmem, ⟨16, _⟩ => ⟨S8x1408, .f32⟩
  | .local _ .vmem, ⟨17, _⟩ => ⟨S8x1408, .f32⟩
  | .local _ .vmem, ⟨18, _⟩ => ⟨S8x1408, .f32⟩
  | .local _ .vmem, ⟨19, _⟩ => ⟨S392x1408, .f32⟩
  | .local _ .vmem, ⟨20, _⟩ => ⟨S392x1408, .f32⟩
  | _, _ => ⟨S4224x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c48_i32 : BitVec 32 := 48#32
  let v1 : BitVec 32 := Scalar.muli v0 c48_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4224x2816 : Shape := ⟨2, ![4224, 2816]⟩
abbrev S2816x1024 : Shape := ⟨2, ![2816, 1024]⟩
abbrev S3x2816 : Shape := ⟨2, ![3, 2816]⟩
abbrev S4224x1024 : Shape := ⟨2, ![4224, 1024]⟩
abbrev S_ : Shape := ⟨0, ![]⟩
abbrev S2x2816 : Shape := ⟨2, ![2, 2816]⟩
abbrev S4226x2816 : Shape := ⟨2, ![4226, 2816]⟩
abbrev S1x2816 : Shape := ⟨2, ![1, 2816]⟩
abbrev S2816 : Shape := ⟨1, ![2816]⟩
abbrev S4224x1408 : Shape := ⟨2, ![4224, 1408]⟩
abbrev S4224x5632 : Shape := ⟨2, ![4224, 5632]⟩
abbrev S8x2816 : Shape := ⟨2, ![8, 2816]⟩

abbrev nBuf : Space → Nat
  | .hbm => 109
  | .vmem => 0
  | .smem => 0
  | _ => 0

abbrev bufTy : (tb : Table) → Fin (tcTables nBuf tb) → BufTy
  | .hbm, ⟨0, _⟩ => ⟨S4224x2816, .f32⟩
  | .hbm, ⟨1, _⟩ => ⟨S4224x2816, .f32⟩
  | .hbm, ⟨2, _⟩ => ⟨S2816x1024, .f32⟩
  | .hbm, ⟨3, _⟩ => ⟨S3x2816, .f32⟩
  | .hbm, ⟨4, _⟩ => ⟨S4224x1024, .f32⟩
  | .hbm, ⟨5, _⟩ => ⟨S_, .f32⟩
  | .hbm, ⟨6, _⟩ => ⟨S2x2816, .f32⟩
  | .hbm, ⟨7, _⟩ => ⟨S4226x2816, .f32⟩
  | .hbm, ⟨8, _⟩ => ⟨S_, .f32⟩
  | .hbm, ⟨9, _⟩ => ⟨S2x2816, .f32⟩
  | .hbm, ⟨10, _⟩ => ⟨S1x2816, .f32⟩
  | .hbm, ⟨11, _⟩ => ⟨S2816, .f32⟩
  | .hbm, ⟨12, _⟩ => ⟨S4224x2816, .f32⟩
  | .hbm, ⟨13, _⟩ => ⟨S1x2816, .f32⟩
  | .hbm, ⟨14, _⟩ => ⟨S4224x2816, .f32⟩
  | .hbm, ⟨15, _⟩ => ⟨S4224x2816, .f32⟩
  | .hbm, ⟨16, _⟩ => ⟨S_, .f32⟩
  | .hbm, ⟨17, _⟩ => ⟨S4224x2816, .f32⟩
  | .hbm, ⟨18, _⟩ => ⟨S4224x2816, .f32⟩
  | .hbm, ⟨19, _⟩ => ⟨S1x2816, .f32⟩
  | .hbm, ⟨20, _⟩ => ⟨S2816, .f32⟩
  | .hbm, ⟨21, _⟩ => ⟨S4224x2816, .f32⟩
  | .hbm, ⟨22, _⟩ => ⟨S1x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S1x2816, .f32⟩
  | .hbm, ⟨27, _⟩ => ⟨S2816, .f32⟩
  | .hbm, ⟨28, _⟩ => ⟨S4224x2816, .f32⟩
  | .hbm, ⟨29, _⟩ => ⟨S1x2816, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S_, .f32⟩
  | .hbm, ⟨36, _⟩ => ⟨S4224x2816, .f32⟩
  | .hbm, ⟨37, _⟩ => ⟨S4224x2816, .f32⟩
  | .hbm, ⟨38, _⟩ => ⟨S_, .f32⟩
  | .hbm, ⟨39, _⟩ => ⟨S4224x2816, .f32⟩
  | .hbm, ⟨40, _⟩ => ⟨S4224x2816, .f32⟩
  | .hbm, ⟨41, _⟩ => ⟨S_, .f32⟩
  | .hbm, ⟨42, _⟩ => ⟨S4224x2816, .f32⟩
  | .hbm, ⟨43, _⟩ => ⟨S4224x2816, .f32⟩
  | .hbm, ⟨44, _⟩ => ⟨S4224x2816, .f32⟩
  | .hbm, ⟨45, _⟩ => ⟨S4224x2816, .f32⟩
  | .hbm, ⟨46, _⟩ => ⟨S4224x2816, .f32⟩
  | .hbm, ⟨47, _⟩ => ⟨S4224x1024, .f32⟩
  | .hbm, ⟨48, _⟩ => ⟨S4224x2816, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S4224x2816, .f32⟩
  | .hbm, ⟨53, _⟩ => ⟨S4224x2816, .f32⟩
  | .hbm, ⟨54, _⟩ => ⟨S4224x2816, .f32⟩
  | .hbm, ⟨55, _⟩ => ⟨S4224x2816, .f32⟩
  | .hbm, ⟨56, _⟩ => ⟨S4224x2816, .f32⟩
  | .hbm, ⟨57, _⟩ => ⟨S4224x2816, .f32⟩
  | .hbm, ⟨58, _⟩ => ⟨S_, .f32⟩
  | .hbm, ⟨59, _⟩ => ⟨S2816, .f32⟩
  | .hbm, ⟨60, _⟩ => ⟨S1x2816, .f32⟩
  | .hbm, ⟨61, _⟩ => ⟨S_, .f32⟩
  | .hbm, ⟨62, _⟩ => ⟨S2816, .f32⟩
  | .hbm, ⟨63, _⟩ => ⟨S_, .f32⟩
  | .hbm, ⟨64, _⟩ => ⟨S4226x2816, .f32⟩
  | .hbm, ⟨65, _⟩ => ⟨S1x2816, .f32⟩
  | .hbm, ⟨66, _⟩ => ⟨S_, .f32⟩
  | .hbm, ⟨67, _⟩ => ⟨S3x2816, .f32⟩
  | .hbm, ⟨68, _⟩ => ⟨S4224x2816, .f32⟩
  | .hbm, ⟨69, _⟩ => ⟨S4224x2816, .f32⟩
  | .hbm, ⟨70, _⟩ => ⟨S4224x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S_, .f32⟩
  | .hbm, ⟨75, _⟩ => ⟨S2816, .f32⟩
  | .hbm, ⟨76, _⟩ => ⟨S_, .f32⟩
  | .hbm, ⟨77, _⟩ => ⟨S4226x2816, .f32⟩
  | .hbm, ⟨78, _⟩ => ⟨S4226x2816, .f32⟩
  | .hbm, ⟨79, _⟩ => ⟨S1x2816, .f32⟩
  | .hbm, ⟨80, _⟩ => ⟨S_, .f32⟩
  | .hbm, ⟨81, _⟩ => ⟨S3x2816, .f32⟩
  | .hbm, ⟨82, _⟩ => ⟨S3x2816, .f32⟩
  | .hbm, ⟨83, _⟩ => ⟨S4224x2816, .f32⟩
  | .hbm, ⟨84, _⟩ => ⟨S4224x2816, .f32⟩
  | .hbm, ⟨85, _⟩ => ⟨S4224x2816, .f32⟩
  | .hbm, ⟨86, _⟩ => ⟨S_, .f32⟩
  | .hbm, ⟨87, _⟩ => ⟨S2816, .f32⟩
  | .hbm, ⟨88, _⟩ => ⟨S1x2816, .f32⟩
  | .hbm, ⟨89, _⟩ => ⟨S_, .f32⟩
  | .hbm, ⟨90, _⟩ => ⟨S2816, .f32⟩
  | .hbm, ⟨91, _⟩ => ⟨S_, .f32⟩
  | .hbm, ⟨92, _⟩ => ⟨S4226x2816, .f32⟩
  | .hbm, ⟨93, _⟩ => ⟨S4226x2816, .f32⟩
  | .hbm, ⟨94, _⟩ => ⟨S1x2816, .f32⟩
  | .hbm, ⟨95, _⟩ => ⟨S_, .f32⟩
  | .hbm, ⟨96, _⟩ => ⟨S3x2816, .f32⟩
  | .hbm, ⟨97, _⟩ => ⟨S3x2816, .f32⟩
  | .hbm, ⟨98, _⟩ => ⟨S2x2816, .f32⟩
  | .hbm, ⟨99, _⟩ => ⟨S4224x2816, .f32⟩
  | .hbm, ⟨100, _⟩ => ⟨S4224x1408, .f32⟩
  | .hbm, ⟨101, _⟩ => ⟨S4224x1408, .f32⟩
  | .hbm, ⟨102, _⟩ => ⟨S4224x1408, .f32⟩
  | .hbm, ⟨103, _⟩ => ⟨S4224x1408, .f32⟩
  | .hbm, ⟨104, _⟩ => ⟨S4224x5632, .f32⟩
  | .hbm, ⟨105, _⟩ => ⟨S4224x5632, .bf16⟩
  | .hbm, ⟨106, _⟩ => ⟨S_, .i32⟩
  | .hbm, ⟨107, _⟩ => ⟨S_, .f32⟩
  | .hbm, ⟨108, _⟩ => ⟨S8x2816, .f32⟩
  | _, _ => ⟨S4224x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v25_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v25_1 : Ref sig .tc := ⟨.hbm, 44, rfl⟩
abbrev main_v25_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c : Ref sig .tc := ⟨.hbm, 106, rfl⟩
abbrev main_call2_v0 : Ref sig .tc := ⟨.hbm, 107, rfl⟩
abbrev main_v71 : Ref sig .tc := ⟨.hbm, 108, rfl⟩

abbrev nD : Nat := 1
abbrev τ : Topo := Topo.v7x

variable {F : FTy → Type} [FloatOps F]
-- ==== UpDw.lean ====
abbrev S4224x1024 : Shape := ⟨2, ![4224, 1024]⟩
abbrev S4224x5632 : Shape := ⟨2, ![4224, 5632]⟩
abbrev S4224x2x2x1408 : Shape := ⟨4, ![4224, 2, 2, 1408]⟩
abbrev S4x1024x1408 : Shape := ⟨3, ![4, 1024, 1408]⟩
abbrev S1408x1024 : Shape := ⟨2, ![1408, 1024]⟩
abbrev S1408x1408 : Shape := ⟨2, ![1408, 1408]⟩
abbrev S1x1024x1408 : Shape := ⟨3, ![1, 1024, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x5632, .f32⟩
  | .hbm, ⟨2, _⟩ => ⟨S4224x1024, .bf16⟩
  | .hbm, ⟨3, _⟩ => ⟨S4224x2x2x1408, .f32⟩
  | .hbm, ⟨4, _⟩ => ⟨S4224x2x2x1408, .f32⟩
  | .hbm, ⟨5, _⟩ => ⟨S4224x5632, .f32⟩
  | .hbm, ⟨6, _⟩ => ⟨S4224x5632, .bf16⟩
  | .hbm, ⟨7, _⟩ => ⟨S4x1024x1408, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg0.toNat, c0_i32_11.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4224x1024 : Shape := ⟨2, ![4224, 1024]⟩
abbrev S4224x5632 : Shape := ⟨2, ![4224, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x5632, .f32⟩
  | .hbm, ⟨2, _⟩ => ⟨S_, .f32⟩
  | .hbm, ⟨3, _⟩ => ⟨S1024x5632, .f32⟩
  | .hbm, ⟨4, _⟩ => ⟨S4224x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2816, .f32⟩
  | .hbm, ⟨1, _⟩ => ⟨S4224x1024, .f32⟩
  | .hbm, ⟨2, _⟩ => ⟨S4224x2816, .bf16⟩
  | .hbm, ⟨3, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .f32⟩
  | .hbm, ⟨1, _⟩ => ⟨S4224x1024, .f32⟩
  | .hbm, ⟨2, _⟩ => ⟨S_, .f32⟩
  | .hbm, ⟨3, _⟩ => ⟨S2816x1024, .f32⟩
  | .hbm, ⟨4, _⟩ => ⟨S4224x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4224x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S4224x1024 : Shape := ⟨2, ![4224, 1024]⟩
abbrev S4224x3592 : Shape := ⟨2, ![4224, 3592]⟩
abbrev S_ : Shape := ⟨0, ![]⟩
abbrev S4224x3840 : Shape := ⟨2, ![4224, 3840]⟩
abbrev S1024x3840 : Shape := ⟨2, ![1024, 3840]⟩
abbrev S1408x1024 : Shape := ⟨2, ![1408, 1024]⟩
abbrev S1408x768 : Shape := ⟨2, ![1408, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x3592, .f32⟩
  | .hbm, ⟨2, _⟩ => ⟨S4224x1024, .bf16⟩
  | .hbm, ⟨3, _⟩ => ⟨S_, .i32⟩
  | .hbm, ⟨4, _⟩ => ⟨S_, .f32⟩
  | .hbm, ⟨5, _⟩ => ⟨S4224x3840, .f32⟩
  | .hbm, ⟨6, _⟩ => ⟨S4224x3840, .bf16⟩
  | .hbm, ⟨7, _⟩ => ⟨S1024x3840, .bf16⟩
  | .local _ .vmem, ⟨0, _⟩ => ⟨S1408x1024, .bf16⟩
  | .local _ .vmem, ⟨1, _⟩ => ⟨S1408x1024, .bf16⟩
  | .local _ .vmem, ⟨2, _⟩ => ⟨S1408x768, .bf16⟩
  | .local _ .vmem, ⟨3, _⟩ => ⟨S1408x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4224x1024 : Shape := ⟨2, ![4224, 1024]⟩
abbrev S4224x3592 : Shape := ⟨2, ![4224, 3592]⟩
abbrev S_ : Shape := ⟨0, ![]⟩
abbrev S1024x3592 : Shape := ⟨2, ![1024, 3592]⟩
abbrev S3592x1024 : Shape := ⟨2, ![3592, 1024]⟩
abbrev S1024x3840 : Shape := ⟨2, ![1024, 3840]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x3592, .f32⟩
  | .hbm, ⟨2, _⟩ => ⟨S_, .f32⟩
  | .hbm, ⟨3, _⟩ => ⟨S1024x3592, .f32⟩
  | .hbm, ⟨4, _⟩ => ⟨S4224x3592, .f32⟩
  | .hbm, ⟨5, _⟩ => ⟨S3592x1024, .f32⟩
  | .hbm, ⟨6, _⟩ => ⟨S1024x3592, .f32⟩
  | .hbm, ⟨7, _⟩ => ⟨S_, .i32⟩
  | .hbm, ⟨8, _⟩ => ⟨S_, .f32⟩
  | .hbm, ⟨9, _⟩ => ⟨S1024x3840, .f32⟩
  | .hbm, ⟨10, _⟩ => ⟨S1024x3840, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== QkvDw.lean ====
abbrev S4224x1024 : Shape := ⟨2, ![4224, 1024]⟩
abbrev S4224x256 : Shape := ⟨2, ![4224, 256]⟩
abbrev S4224x512 : Shape := ⟨2, ![4224, 512]⟩
abbrev S4224x1536 : Shape := ⟨2, ![4224, 1536]⟩
abbrev S1024x1536 : Shape := ⟨2, ![1024, 1536]⟩
abbrev S1408x1024 : Shape := ⟨2, ![1408, 1024]⟩
abbrev S1408x768 : Shape := ⟨2, ![1408, 768]⟩
abbrev S1024x768 : Shape := ⟨2, ![1024, 768]⟩

abbrev nBuf : Space → Nat
  | .hbm => 9
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x256, .f32⟩
  | .hbm, ⟨3, _⟩ => ⟨S4224x256, .f32⟩
  | .hbm, ⟨4, _⟩ => ⟨S4224x512, .f32⟩
  | .hbm, ⟨5, _⟩ => ⟨S4224x1536, .f32⟩
  | .hbm, ⟨6, _⟩ => ⟨S4224x1024, .bf16⟩
  | .hbm, ⟨7, _⟩ => ⟨S4224x1536, .bf16⟩
  | .hbm, ⟨8, _⟩ => ⟨S1024x1536, .bf16⟩
  | .local _ .vmem, ⟨0, _⟩ => ⟨S1408x1024, .bf16⟩
  | .local _ .vmem, ⟨1, _⟩ => ⟨S1408x1024, .bf16⟩
  | .local _ .vmem, ⟨2, _⟩ => ⟨S1408x768, .bf16⟩
  | .local _ .vmem, ⟨3, _⟩ => ⟨S1408x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S4224x1024 : Shape := ⟨2, ![4224, 1024]⟩
abbrev S4224x256 : Shape := ⟨2, ![4224, 256]⟩
abbrev S_ : Shape := ⟨0, ![]⟩
abbrev S1024x1024 : Shape := ⟨2, ![1024, 1024]⟩
abbrev S1024x256 : Shape := ⟨2, ![1024, 256]⟩
abbrev S256x1024 : Shape := ⟨2, ![256, 1024]⟩
abbrev S1024x512 : Shape := ⟨2, ![1024, 512]⟩
abbrev S1024x1536 : Shape := ⟨2, ![1024, 1536]⟩

abbrev nBuf : Space → Nat
  | .hbm => 22
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x256, .f32⟩
  | .hbm, ⟨3, _⟩ => ⟨S4224x256, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x256, .f32⟩
  | .hbm, ⟨8, _⟩ => ⟨S_, .f32⟩
  | .hbm, ⟨9, _⟩ => ⟨S1024x256, .f32⟩
  | .hbm, ⟨10, _⟩ => ⟨S4224x1024, .f32⟩
  | .hbm, ⟨11, _⟩ => ⟨S4224x256, .f32⟩
  | .hbm, ⟨12, _⟩ => ⟨S4224x256, .f32⟩
  | .hbm, ⟨13, _⟩ => ⟨S256x1024, .f32⟩
  | .hbm, ⟨14, _⟩ => ⟨S1024x256, .f32⟩
  | .hbm, ⟨15, _⟩ => ⟨S256x1024, .f32⟩
  | .hbm, ⟨16, _⟩ => ⟨S1024x256, .f32⟩
  | .hbm, ⟨17, _⟩ => ⟨S1024x1024, .f32⟩
  | .hbm, ⟨18, _⟩ => ⟨S1024x1024, .f32⟩
  | .hbm, ⟨19, _⟩ => ⟨S1024x512, .f32⟩
  | .hbm, ⟨20, _⟩ => ⟨S1024x1536, .f32⟩
  | .hbm, ⟨21, _⟩ => ⟨S1024x1536, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== OutDw.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .bf16⟩
  | .hbm, ⟨3, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .bf16⟩
  | .local _ .vmem, ⟨5, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutDx.lean ====
abbrev S1024x1024 : Shape := ⟨2, ![1024, 1024]⟩
abbrev S4224x1024 : Shape := ⟨2, ![4224, 1024]⟩
abbrev S1408x1024 : Shape := ⟨2, ![1408, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4224x1024, .f32⟩
  | .hbm, ⟨2, _⟩ => ⟨S1024x1024, .bf16⟩
  | .hbm, ⟨3, _⟩ => ⟨S4224x1024, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S8x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S1024x1024 : Shape := ⟨2, ![1024, 1024]⟩
abbrev S4224x1024 : Shape := ⟨2, ![4224, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4224x1024, .f32⟩
  | .hbm, ⟨2, _⟩ => ⟨S_, .f32⟩
  | .hbm, ⟨3, _⟩ => ⟨S4224x1024, .f32⟩
  | .hbm, ⟨4, _⟩ => ⟨S4224x1024, .f32⟩
  | .hbm, ⟨5, _⟩ => ⟨S4224x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SwaOutDx.lean ====
abbrev S1024x1024 : Shape := ⟨2, ![1024, 1024]⟩
abbrev S4224x1024 : Shape := ⟨2, ![4224, 1024]⟩
abbrev S1408x1024 : Shape := ⟨2, ![1408, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4224x1024, .f32⟩
  | .hbm, ⟨2, _⟩ => ⟨S1024x1024, .bf16⟩
  | .hbm, ⟨3, _⟩ => ⟨S4224x1024, .bf16⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | .local _ .vmem, ⟨5, _⟩ => ⟨S8x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaOutDxRefIdeal.lean ====
abbrev S1024x1024 : Shape := ⟨2, ![1024, 1024]⟩
abbrev S4224x1024 : Shape := ⟨2, ![4224, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4224x1024, .f32⟩
  | .hbm, ⟨2, _⟩ => ⟨S_, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixIn.lean ====
abbrev S4224x1024 : Shape := ⟨2, ![4224, 1024]⟩
abbrev S1024x3592 : Shape := ⟨2, ![1024, 3592]⟩
abbrev S_ : Shape := ⟨0, ![]⟩
abbrev S1024x3840 : Shape := ⟨2, ![1024, 3840]⟩
abbrev S4224x3840 : Shape := ⟨2, ![4224, 3840]⟩
abbrev S1408x1024 : Shape := ⟨2, ![1408, 1024]⟩
abbrev S1024x768 : Shape := ⟨2, ![1024, 768]⟩
abbrev S1408x768 : Shape := ⟨2, ![1408, 768]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x3592, .f32⟩
  | .hbm, ⟨2, _⟩ => ⟨S4224x1024, .bf16⟩
  | .hbm, ⟨3, _⟩ => ⟨S_, .i32⟩
  | .hbm, ⟨4, _⟩ => ⟨S_, .f32⟩
  | .hbm, ⟨5, _⟩ => ⟨S1024x3840, .f32⟩
  | .hbm, ⟨6, _⟩ => ⟨S1024x3840, .bf16⟩
  | .hbm, ⟨7, _⟩ => ⟨S4224x3840, .f32⟩
  | .local _ .vmem, ⟨0, _⟩ => ⟨S1408x1024, .bf16⟩
  | .local _ .vmem, ⟨1, _⟩ => ⟨S1408x1024, .bf16⟩
  | .local _ .vmem, ⟨2, _⟩ => ⟨S1024x768, .bf16⟩
  | .local _ .vmem, ⟨3, _⟩ => ⟨S1024x768, .bf16⟩
  | .local _ .vmem, ⟨4, _⟩ => ⟨S1408x768, .f32⟩
  | .local _ .vmem, ⟨5, _⟩ => ⟨S1408x768, .f32⟩
  | .local _ .vmem, ⟨6, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4224x1024 : Shape := ⟨2, ![4224, 1024]⟩
abbrev S1024x3592 : Shape := ⟨2, ![1024, 3592]⟩
abbrev S4224x3592 : Shape := ⟨2, ![4224, 3592]⟩
abbrev S_ : Shape := ⟨0, ![]⟩
abbrev S4224x3840 : Shape := ⟨2, ![4224, 3840]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x3592, .f32⟩
  | .hbm, ⟨2, _⟩ => ⟨S4224x3592, .f32⟩
  | .hbm, ⟨3, _⟩ => ⟨S_, .i32⟩
  | .hbm, ⟨4, _⟩ => ⟨S_, .f32⟩
  | .hbm, ⟨5, _⟩ => ⟨S4224x3840, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Qkv.lean ====
abbrev S4224x1024 : Shape := ⟨2, ![4224, 1024]⟩
abbrev S1024x1024 : Shape := ⟨2, ![1024, 1024]⟩
abbrev S1024x256 : Shape := ⟨2, ![1024, 256]⟩
abbrev S1024x512 : Shape := ⟨2, ![1024, 512]⟩
abbrev S1024x1536 : Shape := ⟨2, ![1024, 1536]⟩
abbrev S4224x1536 : Shape := ⟨2, ![4224, 1536]⟩
abbrev S1408x1024 : Shape := ⟨2, ![1408, 1024]⟩
abbrev S1024x768 : Shape := ⟨2, ![1024, 768]⟩
abbrev S1408x768 : Shape := ⟨2, ![1408, 768]⟩
abbrev S8x128 : Shape := ⟨2, ![8, 128]⟩

abbrev nBuf : Space → Nat
  | .hbm => 9
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x1536, .f32⟩
  | .hbm, ⟨6, _⟩ => ⟨S4224x1024, .bf16⟩
  | .hbm, ⟨7, _⟩ => ⟨S1024x1536, .bf16⟩
  | .hbm, ⟨8, _⟩ => ⟨S4224x1536, .f32⟩
  | .local _ .vmem, ⟨0, _⟩ => ⟨S1408x1024, .bf16⟩
  | .local _ .vmem, ⟨1, _⟩ => ⟨S1408x1024, .bf16⟩
  | .local _ .vmem, ⟨2, _⟩ => ⟨S1024x768, .bf16⟩
  | .local _ .vmem, ⟨3, _⟩ => ⟨S1024x768, .bf16⟩
  | .local _ .vmem, ⟨4, _⟩ => ⟨S1408x768, .f32⟩
  | .local _ .vmem, ⟨5, _⟩ => ⟨S1408x768, .f32⟩
  | .local _ .vmem, ⟨6, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4224x1024 : Shape := ⟨2, ![4224, 1024]⟩
abbrev S1024x1024 : Shape := ⟨2, ![1024, 1024]⟩
abbrev S1024x256 : Shape := ⟨2, ![1024, 256]⟩
abbrev S4224x256 : Shape := ⟨2, ![4224, 256]⟩
abbrev S4224x512 : Shape := ⟨2, ![4224, 512]⟩
abbrev S4224x1536 : Shape := ⟨2, ![4224, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S1024x256, .f32⟩
  | .hbm, ⟨3, _⟩ => ⟨S1024x256, .f32⟩
  | .hbm, ⟨4, _⟩ => ⟨S4224x1024, .f32⟩
  | .hbm, ⟨5, _⟩ => ⟨S4224x256, .f32⟩
  | .hbm, ⟨6, _⟩ => ⟨S4224x256, .f32⟩
  | .hbm, ⟨7, _⟩ => ⟨S4224x512, .f32⟩
  | .hbm, ⟨8, _⟩ => ⟨S4224x1536, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutNorm.lean ====
abbrev S4224x1024 : Shape := ⟨2, ![4224, 1024]⟩
abbrev S1024x1024 : Shape := ⟨2, ![1024, 1024]⟩
abbrev S1024 : Shape := ⟨1, ![1024]⟩
abbrev S1x1024 : Shape := ⟨2, ![1, 1024]⟩
abbrev S704x1024 : Shape := ⟨2, ![704, 1024]⟩
abbrev S8x128 : Shape := ⟨2, ![8, 128]⟩
abbrev S704 : Shape := ⟨1, ![704]⟩
abbrev S704x1 : Shape := ⟨2, ![704, 1]⟩

abbrev nBuf : Space → Nat
  | .hbm => 9
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024, .f32⟩
  | .hbm, ⟨4, _⟩ => ⟨S4224x1024, .bf16⟩
  | .hbm, ⟨5, _⟩ => ⟨S1024x1024, .bf16⟩
  | .hbm, ⟨6, _⟩ => ⟨S1x1024, .f32⟩
  | .hbm, ⟨7, _⟩ => ⟨S4224x1024, .f32⟩
  | .hbm, ⟨8, _⟩ => ⟨S4224x1024, .bf16⟩
  | .local _ .vmem, ⟨0, _⟩ => ⟨S704x1024, .bf16⟩
  | .local _ .vmem, ⟨1, _⟩ => ⟨S704x1024, .bf16⟩
  | .local _ .vmem, ⟨2, _⟩ => ⟨S1024x1024, .bf16⟩
  | .local _ .vmem, ⟨3, _⟩ => ⟨S704x1024, .f32⟩
  | .local _ .vmem, ⟨4, _⟩ => ⟨S704x1024, .f32⟩
  | .local _ .vmem, ⟨5, _⟩ => ⟨S1x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .bf16⟩
  | .local _ .vmem, ⟨9, _⟩ => ⟨S704x1024, .bf16⟩
  | .local _ .vmem, ⟨10, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutNormRefIdeal.lean ====
abbrev S4224x1024 : Shape := ⟨2, ![4224, 1024]⟩
abbrev S1024x1024 : Shape := ⟨2, ![1024, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== DownNorm.lean ====
abbrev S4224x2816 : Shape := ⟨2, ![4224, 2816]⟩
abbrev S2816x1024 : Shape := ⟨2, ![2816, 1024]⟩
abbrev S4224x1024 : Shape := ⟨2, ![4224, 1024]⟩
abbrev S1024 : Shape := ⟨1, ![1024]⟩
abbrev S1x1024 : Shape := ⟨2, ![1, 1024]⟩
abbrev S704x1408 : Shape := ⟨2, ![704, 1408]⟩
abbrev S1408x1024 : Shape := ⟨2, ![1408, 1024]⟩
abbrev S704x1024 : Shape := ⟨2, ![704, 1024]⟩
abbrev S704 : Shape := ⟨1, ![704]⟩
abbrev S704x1 : Shape := ⟨2, ![704, 1]⟩

abbrev nBuf : Space → Nat
  | .hbm => 9
  | .vmem => 12
  | .smem => 0
  | _ => 0

abbrev bufTy : (tb : Table) → Fin (tcTables nBuf tb) → BufTy
  | .hbm, ⟨0, _⟩ => ⟨S4224x2816, .f32⟩
  | .hbm, ⟨1, _⟩ => ⟨S2816x1024, .f32⟩
  | .hbm, ⟨2, _⟩ => ⟨S4224x1024, .f32⟩
  | .hbm, ⟨3, _⟩ => ⟨S1024, .f32⟩
  | .hbm, ⟨4, _⟩ => ⟨S4224x2816, .bf16⟩
  | .hbm, ⟨5, _⟩ => ⟨S2816x1024, .bf16⟩
  | .hbm, ⟨6, _⟩ => ⟨S1x1024, .f32⟩
  | .hbm, ⟨7, _⟩ => ⟨S4224x1024, .f32⟩
  | .hbm, ⟨8, _⟩ => ⟨S4224x1024, .bf16⟩
  | .local _ .vmem, ⟨0, _⟩ => ⟨S704x1408, .bf16⟩
  | .local _ .vmem, ⟨1, _⟩ => ⟨S704x1408, .bf16⟩
  | .local _ .vmem, ⟨2, _⟩ => ⟨S1408x1024, .bf16⟩
  | .local _ .vmem, ⟨3, _⟩ => ⟨S1408x1024, .bf16⟩
  | .local _ .vmem, ⟨4, _⟩ => ⟨S704x1024, .f32⟩
  | .local _ .vmem, ⟨5, _⟩ => ⟨S704x1024, .f32⟩
  | .local _ .vmem, ⟨6, _⟩ => ⟨S1x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .bf16⟩
  | .local _ .vmem, ⟨10, _⟩ => ⟨S704x1024, .bf16⟩
  | .local _ .vmem, ⟨11, _⟩ => ⟨S704x1024, .f32⟩
  | _, _ => ⟨S4224x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownNormRefIdeal.lean ====
abbrev S4224x2816 : Shape := ⟨2, ![4224, 2816]⟩
abbrev S2816x1024 : Shape := ⟨2, ![2816, 1024]⟩
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4224x2816, .f32⟩
  | .hbm, ⟨1, _⟩ => ⟨S2816x1024, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x1024, .bf16⟩
  | _, _ => ⟨S4224x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== UpDx.lean ====
abbrev S4224x5632 : Shape := ⟨2, ![4224, 5632]⟩
abbrev S1024x5632 : Shape := ⟨2, ![1024, 5632]⟩
abbrev S4224x1024 : Shape := ⟨2, ![4224, 1024]⟩
abbrev S1024 : Shape := ⟨1, ![1024]⟩
abbrev S1024x4x1408 : Shape := ⟨3, ![1024, 4, 1408]⟩
abbrev S4x1024x1408 : Shape := ⟨3, ![4, 1024, 1408]⟩
abbrev S4224x2x2x1408 : Shape := ⟨4, ![4224, 2, 2, 1408]⟩
abbrev S1x1024 : Shape := ⟨2, ![1, 1024]⟩
abbrev S704x1408 : Shape := ⟨2, ![704, 1408]⟩
abbrev S1x1024x1408 : Shape := ⟨3, ![1, 1024, 1408]⟩
abbrev S704x1024 : Shape := ⟨2, ![704, 1024]⟩
abbrev S1024x1408 : Shape := ⟨2, ![1024, 1408]⟩
abbrev S704 : Shape := ⟨1, ![704]⟩
abbrev S704x1 : Shape := ⟨2, ![704, 1]⟩

abbrev nBuf : Space → Nat
  | .hbm => 15
  | .vmem => 13
  | .smem => 0
  | _ => 0

abbrev bufTy : (tb : Table) → Fin (tcTables nBuf tb) → BufTy
  | .hbm, ⟨0, _⟩ => ⟨S4224x5632, .f32⟩
  | .hbm, ⟨1, _⟩ => ⟨S1024x5632, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4224x2x2x1408, .f32⟩
  | .hbm, ⟨9, _⟩ => ⟨S4224x2x2x1408, .f32⟩
  | .hbm, ⟨10, _⟩ => ⟨S4224x5632, .f32⟩
  | .hbm, ⟨11, _⟩ => ⟨S4224x5632, .bf16⟩
  | .hbm, ⟨12, _⟩ => ⟨S1x1024, .f32⟩
  | .hbm, ⟨13, _⟩ => ⟨S4224x1024, .f32⟩
  | .hbm, ⟨14, _⟩ => ⟨S1x1024, .f32⟩
  | .local _ .vmem, ⟨0, _⟩ => ⟨S704x1408, .bf16⟩
  | .local _ .vmem, ⟨1, _⟩ => ⟨S704x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S1x1024, .f32⟩
  | .local _ .vmem, ⟨12, _⟩ => ⟨S704x1024, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v59 : BitVec 1 := Scalar.cmpi .eq arg0 c0_i32_26
  let arg1 : BitVec 32 := BitVec.ofNat 32 (i 1).val
  let c0_i32_27 : BitVec 32 := 0#32
  let v60 : BitVec 1 := Scalar.cmpi .eq arg1 c0_i32_27
  let v61 : BitVec 1 := Scalar.andi v59 v60
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg2 c2_i32_4
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .slt arg2 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg2 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  ![v28.toNat, arg1.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDxRefIdeal.lean ====
abbrev S4224x5632 : Shape := ⟨2, ![4224, 5632]⟩
abbrev S1024x5632 : Shape := ⟨2, ![1024, 5632]⟩
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S112x1024 : Shape := ⟨2, ![112, 1024]⟩
abbrev S4112x1024 : Shape := ⟨2, ![4112, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S1024x5632, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x5632, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1, .f32⟩
  | .hbm, ⟨43, _⟩ => ⟨S_, .f32⟩
  | .hbm, ⟨44, _⟩ => ⟨S4224x1, .f32⟩
  | .hbm, ⟨45, _⟩ => ⟨S4224x1, .f32⟩
  | .hbm, ⟨46, _⟩ => ⟨S_, .f32⟩
  | .hbm, ⟨47, _⟩ => ⟨S4224, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S_, .f32⟩
  | .hbm, ⟨54, _⟩ => ⟨S112x1024, .f32⟩
  | .hbm, ⟨55, _⟩ => ⟨S4112x1024, .f32⟩
  | .hbm, ⟨56, _⟩ => ⟨S4224x1024, .f32⟩
  | .hbm, ⟨57, _⟩ => ⟨S1x1024, .f32⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== InDx.lean ====
abbrev S4224x3592 : Shape := ⟨2, ![4224, 3592]⟩
abbrev S1024x3592 : Shape := ⟨2, ![1024, 3592]⟩
abbrev S4224x1024 : Shape := ⟨2, ![4224, 1024]⟩
abbrev S1024 : Shape := ⟨1, ![1024]⟩
abbrev S_ : Shape := ⟨0, ![]⟩
abbrev S4224x3840 : Shape := ⟨2, ![4224, 3840]⟩
abbrev S1024x3840 : Shape := ⟨2, ![1024, 3840]⟩
abbrev S1x1024 : Shape := ⟨2, ![1, 1024]⟩
abbrev S704x1280 : Shape := ⟨2, ![704, 1280]⟩
abbrev S1024x1280 : Shape := ⟨2, ![1024, 1280]⟩
abbrev S704x1024 : Shape := ⟨2, ![704, 1024]⟩
abbrev S704 : Shape := ⟨1, ![704]⟩
abbrev S704x1 : Shape := ⟨2, ![704, 1]⟩

abbrev nBuf : Space → Nat
  | .hbm => 16
  | .vmem => 13
  | .smem => 0
  | _ => 0

abbrev bufTy : (tb : Table) → Fin (tcTables nBuf tb) → BufTy
  | .hbm, ⟨0, _⟩ => ⟨S4224x3592, .f32⟩
  | .hbm, ⟨1, _⟩ => ⟨S1024x3592, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S_, .i32⟩
  | .hbm, ⟨6, _⟩ => ⟨S_, .f32⟩
  | .hbm, ⟨7, _⟩ => ⟨S4224x3840, .f32⟩
  | .hbm, ⟨8, _⟩ => ⟨S4224x3840, .bf16⟩
  | .hbm, ⟨9, _⟩ => ⟨S_, .i32⟩
  | .hbm, ⟨10, _⟩ => ⟨S_, .f32⟩
  | .hbm, ⟨11, _⟩ => ⟨S1024x3840, .f32⟩
  | .hbm, ⟨12, _⟩ => ⟨S1024x3840, .bf16⟩
  | .hbm, ⟨13, _⟩ => ⟨S1x1024, .f32⟩
  | .hbm, ⟨14, _⟩ => ⟨S4224x1024, .f32⟩
  | .hbm, ⟨15, _⟩ => ⟨S1x1024, .f32⟩
  | .local _ .vmem, ⟨0, _⟩ => ⟨S704x1280, .bf16⟩
  | .local _ .vmem, ⟨1, _⟩ => ⟨S704x1280, .bf16⟩
  | .local _ .vmem, ⟨2, _⟩ => ⟨S1024x1280, .bf16⟩
  | .local _ .vmem, ⟨3, _⟩ => ⟨S1024x1280, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S1x1024, .f32⟩
  | .local _ .vmem, ⟨12, _⟩ => ⟨S704x1024, .f32⟩
  | _, _ => ⟨S4224x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![6, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_25 : BitVec 32 := 0#32
  let v59 : BitVec 1 := Scalar.cmpi .eq arg0 c0_i32_25
  let arg1 : BitVec 32 := BitVec.ofNat 32 (i 1).val
  let c0_i32_26 : BitVec 32 := 0#32
  let v60 : BitVec 1 := Scalar.cmpi .eq arg1 c0_i32_26
  let v61 : BitVec 1 := Scalar.andi v59 v60
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InDxRefIdeal.lean ====
abbrev S4224x3592 : Shape := ⟨2, ![4224, 3592]⟩
abbrev S1024x3592 : Shape := ⟨2, ![1024, 3592]⟩
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S112x1024 : Shape := ⟨2, ![112, 1024]⟩
abbrev S4112x1024 : Shape := ⟨2, ![4112, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4224x3592, .f32⟩
  | .hbm, ⟨1, _⟩ => ⟨S1024x3592, .f32⟩
  | .hbm, ⟨2, _⟩ => ⟨S4224x1024, .f32⟩
  | .hbm, ⟨3, _⟩ => ⟨S1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x3592, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1, .f32⟩
  | .hbm, ⟨43, _⟩ => ⟨S_, .f32⟩
  | .hbm, ⟨44, _⟩ => ⟨S4224x1, .f32⟩
  | .hbm, ⟨45, _⟩ => ⟨S4224x1, .f32⟩
  | .hbm, ⟨46, _⟩ => ⟨S_, .f32⟩
  | .hbm, ⟨47, _⟩ => ⟨S4224, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S_, .f32⟩
  | .hbm, ⟨54, _⟩ => ⟨S112x1024, .f32⟩
  | .hbm, ⟨55, _⟩ => ⟨S4112x1024, .f32⟩
  | .hbm, ⟨56, _⟩ => ⟨S4224x1024, .f32⟩
  | .hbm, ⟨57, _⟩ => ⟨S1x1024, .f32⟩
  | _, _ => ⟨S4224x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== QkvDx.lean ====
abbrev S4224x1024 : Shape := ⟨2, ![4224, 1024]⟩
abbrev S4224x256 : Shape := ⟨2, ![4224, 256]⟩
abbrev S1024x1024 : Shape := ⟨2, ![1024, 1024]⟩
abbrev S1024x256 : Shape := ⟨2, ![1024, 256]⟩
abbrev S1024 : Shape := ⟨1, ![1024]⟩
abbrev S4224x512 : Shape := ⟨2, ![4224, 512]⟩
abbrev S4224x1536 : Shape := ⟨2, ![4224, 1536]⟩
abbrev S1024x512 : Shape := ⟨2, ![1024, 512]⟩
abbrev S1024x1536 : Shape := ⟨2, ![1024, 1536]⟩
abbrev S1x1024 : Shape := ⟨2, ![1, 1024]⟩
abbrev S704x768 : Shape := ⟨2, ![704, 768]⟩
abbrev S1024x768 : Shape := ⟨2, ![1024, 768]⟩
abbrev S704x1024 : Shape := ⟨2, ![704, 1024]⟩
abbrev S704 : Shape := ⟨1, ![704]⟩
abbrev S704x1 : Shape := ⟨2, ![704, 1]⟩

abbrev nBuf : Space → Nat
  | .hbm => 18
  | .vmem => 13
  | .smem => 0
  | _ => 0

abbrev bufTy : (tb : Table) → Fin (tcTables nBuf tb) → BufTy
  | .hbm, ⟨0, _⟩ => ⟨S4224x1024, .f32⟩
  | .hbm, ⟨1, _⟩ => ⟨S4224x256, .f32⟩
  | .hbm, ⟨2, _⟩ => ⟨S4224x256, .f32⟩
  | .hbm, ⟨3, _⟩ => ⟨S1024x1024, .f32⟩
  | .hbm, ⟨4, _⟩ => ⟨S1024x256, .f32⟩
  | .hbm, ⟨5, _⟩ => ⟨S1024x256, .f32⟩
  | .hbm, ⟨6, _⟩ => ⟨S4224x1024, .f32⟩
  | .hbm, ⟨7, _⟩ => ⟨S1024, .f32⟩
  | .hbm, ⟨8, _⟩ => ⟨S4224x1024, .f32⟩
  | .hbm, ⟨9, _⟩ => ⟨S4224x512, .f32⟩
  | .hbm, ⟨10, _⟩ => ⟨S4224x1536, .f32⟩
  | .hbm, ⟨11, _⟩ => ⟨S1024x512, .f32⟩
  | .hbm, ⟨12, _⟩ => ⟨S1024x1536, .f32⟩
  | .hbm, ⟨13, _⟩ => ⟨S4224x1536, .bf16⟩
  | .hbm, ⟨14, _⟩ => ⟨S1024x1536, .bf16⟩
  | .hbm, ⟨15, _⟩ => ⟨S1x1024, .f32⟩
  | .hbm, ⟨16, _⟩ => ⟨S4224x1024, .f32⟩
  | .hbm, ⟨17, _⟩ => ⟨S1x1024, .f32⟩
  | .local _ .vmem, ⟨0, _⟩ => ⟨S704x768, .bf16⟩
  | .local _ .vmem, ⟨1, _⟩ => ⟨S704x768, .bf16⟩
  | .local _ .vmem, ⟨2, _⟩ => ⟨S1024x768, .bf16⟩
  | .local _ .vmem, ⟨3, _⟩ => ⟨S1024x768, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S1x1024, .f32⟩
  | .local _ .vmem, ⟨9, _⟩ => ⟨S704x1024, .f32⟩
  | .local _ .vmem, ⟨10, _⟩ => ⟨S704x1024, .f32⟩
  | .local _ .vmem, ⟨11, _⟩ => ⟨S1x1024, .f32⟩
  | .local _ .vmem, ⟨12, _⟩ => ⟨S704x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_25 : BitVec 32 := 0#32
  let v59 : BitVec 1 := Scalar.cmpi .eq arg0 c0_i32_25
  let arg1 : BitVec 32 := BitVec.ofNat 32 (i 1).val
  let c0_i32_26 : BitVec 32 := 0#32
  let v60 : BitVec 1 := Scalar.cmpi .eq arg1 c0_i32_26
  let v61 : BitVec 1 := Scalar.andi v59 v60
  let v62 : BitVec 32 := Scalar.extui v61
  let c0_i32_27 : BitVec 32 := 0#32
  let v63 : BitVec 1 := Scalar.cmpi .ne v62 c0_i32_27
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== QkvDxRefIdeal.lean ====
abbrev S4224x1024 : Shape := ⟨2, ![4224, 1024]⟩
abbrev S4224x256 : Shape := ⟨2, ![4224, 256]⟩
abbrev S1024x1024 : Shape := ⟨2, ![1024, 1024]⟩
abbrev S1024x256 : Shape := ⟨2, ![1024, 256]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S112x1024 : Shape := ⟨2, ![112, 1024]⟩
abbrev S4112x1024 : Shape := ⟨2, ![4112, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x256, .f32⟩
  | .hbm, ⟨2, _⟩ => ⟨S4224x256, .f32⟩
  | .hbm, ⟨3, _⟩ => ⟨S1024x1024, .f32⟩
  | .hbm, ⟨4, _⟩ => ⟨S1024x256, .f32⟩
  | .hbm, ⟨5, _⟩ => ⟨S1024x256, .f32⟩
  | .hbm, ⟨6, _⟩ => ⟨S4224x1024, .f32⟩
  | .hbm, ⟨7, _⟩ => ⟨S1024, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x1, .f32⟩
  | .hbm, ⟨21, _⟩ => ⟨S_, .f32⟩
  | .hbm, ⟨22, _⟩ => ⟨S4224x1, .f32⟩
  | .hbm, ⟨23, _⟩ => ⟨S4224x1, .f32⟩
  | .hbm, ⟨24, _⟩ => ⟨S4224x1024, .f32⟩
  | .hbm, ⟨25, _⟩ => ⟨S4224x1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x256, .f32⟩
  | .hbm, ⟨31, _⟩ => ⟨S4224x256, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4224x1024, .f32⟩
  | .hbm, ⟨42, _⟩ => ⟨S4224x1024, .f32⟩
  | .hbm, ⟨43, _⟩ => ⟨S_, .f32⟩
  | .hbm, ⟨44, _⟩ => ⟨S1024, .f32⟩
  | .hbm, ⟨45, _⟩ => ⟨S4224x1024, .f32⟩
  | .hbm, ⟨46, _⟩ => ⟨S_, .f32⟩
  | .hbm, ⟨47, _⟩ => ⟨S4224, .f32⟩
  | .hbm, ⟨48, _⟩ => ⟨S4224x1, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1, .f32⟩
  | .hbm, ⟨53, _⟩ => ⟨S_, .f32⟩
  | .hbm, ⟨54, _⟩ => ⟨S4224x1, .f32⟩
  | .hbm, ⟨55, _⟩ => ⟨S4224x1, .f32⟩
  | .hbm, ⟨56, _⟩ => ⟨S_, .f32⟩
  | .hbm, ⟨57, _⟩ => ⟨S4224, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S4224x1024, .f32⟩
  | .hbm, ⟨62, _⟩ => ⟨S4224x1024, .f32⟩
  | .hbm, ⟨63, _⟩ => ⟨S_, .f32⟩
  | .hbm, ⟨64, _⟩ => ⟨S112x1024, .f32⟩
  | .hbm, ⟨65, _⟩ => ⟨S4112x1024, .f32⟩
  | .hbm, ⟨66, _⟩ => ⟨S4224x1024, .f32⟩
  | .hbm, ⟨67, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Loss.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S1x128 : Shape := ⟨2, ![1, 128]⟩
abbrev S704x1408 : Shape := ⟨2, ![704, 1408]⟩
abbrev S1408x1024 : Shape := ⟨2, ![1408, 1024]⟩
abbrev S704x1024 : Shape := ⟨2, ![704, 1024]⟩
abbrev S704x1 : Shape := ⟨2, ![704, 1]⟩
abbrev S128x1024 : Shape := ⟨2, ![128, 1024]⟩
abbrev S576x1024 : Shape := ⟨2, ![576, 1024]⟩
abbrev S704 : Shape := ⟨1, ![704]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S4224x2816, .f32⟩
  | .hbm, ⟨1, _⟩ => ⟨S2816x1024, .f32⟩
  | .hbm, ⟨2, _⟩ => ⟨S4224x1024, .f32⟩
  | .hbm, ⟨3, _⟩ => ⟨S4096x1024, .f32⟩
  | .hbm, ⟨4, _⟩ => ⟨S4224x2816, .bf16⟩
  | .hbm, ⟨5, _⟩ => ⟨S2816x1024, .bf16⟩
  | .hbm, ⟨6, _⟩ => ⟨S4224x1024, .f32⟩
  | .hbm, ⟨7, _⟩ => ⟨S1x128, .f32⟩
  | .local _ .vmem, ⟨0, _⟩ => ⟨S704x1408, .bf16⟩
  | .local _ .vmem, ⟨1, _⟩ => ⟨S704x1408, .bf16⟩
  | .local _ .vmem, ⟨2, _⟩ => ⟨S1408x1024, .bf16⟩
  | .local _ .vmem, ⟨3, _⟩ => ⟨S1408x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .f32⟩
  | .local _ .vmem, ⟨10, _⟩ => ⟨S1x128, .f32⟩
  | .local _ .vmem, ⟨11, _⟩ => ⟨S704x1024, .f32⟩
  | _, _ => ⟨S4224x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![6, 1, 2], ![false, false, false]⟩

def k0_mult1 (i : grid0.Coords) : BitVec 32 :=
  let arg0 : BitVec 32 := BitVec.ofNat 32 (i 0).val
  let c704_i32 : BitVec 32 := 704#32
  let v0 : BitVec 32 := Scalar.muli arg0 c704_i32
  let c128_i32 : BitVec 32 := 128#32
  let v1 : BitVec 32 := Scalar.subi v0 c128_i32
  let c0_i32 : BitVec 32 := 0#32
  let v2 : BitVec 32 := Scalar.maxsi v1 c0_i32
  v2
def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_22 : BitVec 32 := 0#32
  let v47 : BitVec 1 := Scalar.cmpi .eq arg0 c0_i32_22
  let arg1 : BitVec 32 := BitVec.ofNat 32 (i 1).val
  let c0_i32_23 : BitVec 32 := 0#32
  let v48 : BitVec 1 := Scalar.cmpi .eq arg1 c0_i32_23
  let v49 : BitVec 1 := Scalar.andi v47 v48
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c704_i32 : BitVec 32 := 704#32
  let v0 : BitVec 32 := Scalar.muli arg0 c704_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== LossRefIdeal.lean ====
abbrev S4224x2816 : Shape := ⟨2, ![4224, 2816]⟩
abbrev S2816x1024 : Shape := ⟨2, ![2816, 1024]⟩
abbrev S4224x1024 : Shape := ⟨2, ![4224, 1024]⟩
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4224x2816, .f32⟩
  | .hbm, ⟨1, _⟩ => ⟨S2816x1024, .f32⟩
  | .hbm, ⟨2, _⟩ => ⟨S4224x1024, .f32⟩
  | .hbm, ⟨3, _⟩ => ⟨S4096x1024, .f32⟩
  | .hbm, ⟨4, _⟩ => ⟨S4224x1024, .f32⟩
  | .hbm, ⟨5, _⟩ => ⟨S4224x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4224x1024, .f32⟩
  | .hbm, ⟨32, _⟩ => ⟨S1x128, .f32⟩
  | _, _ => ⟨S4224x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== AdamIn.lean ====
abbrev S1x1024x898 : Shape := ⟨3, ![1, 1024, 898]⟩
abbrev S1024x898 : Shape := ⟨2, ![1024, 898]⟩
abbrev S1x256x898 : Shape := ⟨3, ![1, 256, 898]⟩
abbrev S256x898 : Shape := ⟨2, ![256, 898]⟩

abbrev nBuf : Space → Nat
  | .hbm => 9
  | .vmem => 16
  | .smem => 0
  | _ => 0

abbrev bufTy : (tb : Table) → Fin (tcTables nBuf tb) → BufTy
  | .hbm, ⟨0, _⟩ => ⟨S1x1024x898, .f32⟩
  | .hbm, ⟨1, _⟩ => ⟨S1x1024x898, .f32⟩
  | .hbm, ⟨2, _⟩ => ⟨S1x1024x898, .f32⟩
  | .hbm, ⟨3, _⟩ => ⟨S1x1024x898, .f32⟩
  | .hbm, ⟨4, _⟩ => ⟨S1024x898, .f32⟩
  | .hbm, ⟨5, _⟩ => ⟨S1x1024x898, .f32⟩
  | .hbm, ⟨6, _⟩ => ⟨S1x1024x898, .f32⟩
  | .hbm, ⟨7, _⟩ => ⟨S1x1024x898, .f32⟩
  | .hbm, ⟨8, _⟩ => ⟨S1x1024x898, .f32⟩
  | .local _ .vmem, ⟨0, _⟩ => ⟨S1x256x898, .f32⟩
  | .local _ .vmem, ⟨1, _⟩ => ⟨S1x256x898, .f32⟩
  | .local _ .vmem, ⟨2, _⟩ => ⟨S1x256x898, .f32⟩
  | .local _ .vmem, ⟨3, _⟩ => ⟨S1x256x898, .f32⟩
  | .local _ .vmem, ⟨4, _⟩ => ⟨S1x256x898, .f32⟩
  | .local _ .vmem, ⟨5, _⟩ => ⟨S1x256x898, .f32⟩
  | .local _ .vmem, ⟨6, _⟩ => ⟨S256x898, .f32⟩
  | .local _ .vmem, ⟨7, _⟩ => ⟨S256x898, .f32⟩
  | .local _ .vmem, ⟨8, _⟩ => ⟨S1x256x898, .f32⟩
  | .local _ .vmem, ⟨9, _⟩ => ⟨S1x256x898, .f32⟩
  | .local _ .vmem, ⟨10, _⟩ => ⟨S1x256x898, .f32⟩
  | .local _ .vmem, ⟨11, _⟩ => ⟨S1x256x898, .f32⟩
  | .local _ .vmem, ⟨12, _⟩ => ⟨S1x256x898, .f32⟩
  | .local _ .vmem, ⟨13, _⟩ => ⟨S1x256x898, .f32⟩
  | .local _ .vmem, ⟨14, _⟩ => ⟨S1x256x898, .f32⟩
  | .local _ .vmem, ⟨15, _⟩ => ⟨S1x256x898, .f32⟩
  | _, _ => ⟨S1x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x256x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1x1024x898 : Shape := ⟨3, ![1, 1024, 898]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x898, .f32⟩
  | .hbm, ⟨1, _⟩ => ⟨S1x1024x898, .f32⟩
  | .hbm, ⟨2, _⟩ => ⟨S1x1024x898, .f32⟩
  | .hbm, ⟨3, _⟩ => ⟨S1x1024x898, .f32⟩
  | .hbm, ⟨4, _⟩ => ⟨S_, .f32⟩
  | .hbm, ⟨5, _⟩ => ⟨S1x1024x898, .f32⟩
  | .hbm, ⟨6, _⟩ => ⟨S1x1024x898, .f32⟩
  | .hbm, ⟨7, _⟩ => ⟨S_, .f32⟩
  | .hbm, ⟨8, _⟩ => ⟨S1x1024x898, .f32⟩
  | .hbm, ⟨9, _⟩ => ⟨S1x1024x898, .f32⟩
  | .hbm, ⟨10, _⟩ => ⟨S1x1024x898, .f32⟩
  | .hbm, ⟨11, _⟩ => ⟨S_, .f32⟩
  | .hbm, ⟨12, _⟩ => ⟨S1x1024x898, .f32⟩
  | .hbm, ⟨13, _⟩ => ⟨S1x1024x898, .f32⟩
  | .hbm, ⟨14, _⟩ => ⟨S1x1024x898, .f32⟩
  | .hbm, ⟨15, _⟩ => ⟨S_, .f32⟩
  | .hbm, ⟨16, _⟩ => ⟨S1x1024x898, .f32⟩
  | .hbm, ⟨17, _⟩ => ⟨S1x1024x898, .f32⟩
  | .hbm, ⟨18, _⟩ => ⟨S1x1024x898, .f32⟩
  | .hbm, ⟨19, _⟩ => ⟨S_, .f32⟩
  | .hbm, ⟨20, _⟩ => ⟨S1x1024x898, .f32⟩
  | .hbm, ⟨21, _⟩ => ⟨S1x1024x898, .f32⟩
  | .hbm, ⟨22, _⟩ => ⟨S_, .f32⟩
  | .hbm, ⟨23, _⟩ => ⟨S1x1024x898, .f32⟩
  | .hbm, ⟨24, _⟩ => ⟨S1x1024x898, .f32⟩
  | .hbm, ⟨25, _⟩ => ⟨S1x1024x898, .f32⟩
  | .hbm, ⟨26, _⟩ => ⟨S_, .f32⟩
  | .hbm, ⟨27, _⟩ => ⟨S1x1024x898, .f32⟩
  | .hbm, ⟨28, _⟩ => ⟨S1x1024x898, .f32⟩
  | .hbm, ⟨29, _⟩ => ⟨S1x1024x898, .f32⟩
  | .hbm, ⟨30, _⟩ => ⟨S_, .f32⟩
  | .hbm, ⟨31, _⟩ => ⟨S1x1024x898, .f32⟩
  | .hbm, ⟨32, _⟩ => ⟨S1x1024x898, .f32⟩
  | .hbm, ⟨33, _⟩ => ⟨S1x1024x898, .f32⟩
  | .hbm, ⟨34, _⟩ => ⟨S_, .f32⟩
  | .hbm, ⟨35, _⟩ => ⟨S1x1024x898, .f32⟩
  | .hbm, ⟨36, _⟩ => ⟨S1x1024x898, .f32⟩
  | _, _ => ⟨S1x1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S1x256x256 : Shape := ⟨3, ![1, 256, 256]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S1x256x256, .f32⟩
  | .hbm, ⟨6, _⟩ => ⟨S1x256x256, .f32⟩
  | .hbm, ⟨7, _⟩ => ⟨S1x256x256, .f32⟩
  | .hbm, ⟨8, _⟩ => ⟨S1x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvRefIdeal.lean ====
abbrev S1x256x256 : Shape := ⟨3, ![1, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S_, .f32⟩
  | .hbm, ⟨5, _⟩ => ⟨S1x256x256, .f32⟩
  | .hbm, ⟨6, _⟩ => ⟨S1x256x256, .f32⟩
  | .hbm, ⟨7, _⟩ => ⟨S_, .f32⟩
  | .hbm, ⟨8, _⟩ => ⟨S1x256x256, .f32⟩
  | .hbm, ⟨9, _⟩ => ⟨S1x256x256, .f32⟩
  | .hbm, ⟨10, _⟩ => ⟨S1x256x256, .f32⟩
  | .hbm, ⟨11, _⟩ => ⟨S_, .f32⟩
  | .hbm, ⟨12, _⟩ => ⟨S1x256x256, .f32⟩
  | .hbm, ⟨13, _⟩ => ⟨S1x256x256, .f32⟩
  | .hbm, ⟨14, _⟩ => ⟨S1x256x256, .f32⟩
  | .hbm, ⟨15, _⟩ => ⟨S_, .f32⟩
  | .hbm, ⟨16, _⟩ => ⟨S1x256x256, .f32⟩
  | .hbm, ⟨17, _⟩ => ⟨S1x256x256, .f32⟩
  | .hbm, ⟨18, _⟩ => ⟨S1x256x256, .f32⟩
  | .hbm, ⟨19, _⟩ => ⟨S_, .f32⟩
  | .hbm, ⟨20, _⟩ => ⟨S1x256x256, .f32⟩
  | .hbm, ⟨21, _⟩ => ⟨S1x256x256, .f32⟩
  | .hbm, ⟨22, _⟩ => ⟨S_, .f32⟩
  | .hbm, ⟨23, _⟩ => ⟨S1x256x256, .f32⟩
  | .hbm, ⟨24, _⟩ => ⟨S1x256x256, .f32⟩
  | .hbm, ⟨25, _⟩ => ⟨S1x256x256, .f32⟩
  | .hbm, ⟨26, _⟩ => ⟨S_, .f32⟩
  | .hbm, ⟨27, _⟩ => ⟨S1x256x256, .f32⟩
  | .hbm, ⟨28, _⟩ => ⟨S1x256x256, .f32⟩
  | .hbm, ⟨29, _⟩ => ⟨S1x256x256, .f32⟩
  | .hbm, ⟨30, _⟩ => ⟨S_, .f32⟩
  | .hbm, ⟨31, _⟩ => ⟨S1x256x256, .f32⟩
  | .hbm, ⟨32, _⟩ => ⟨S1x256x256, .f32⟩
  | .hbm, ⟨33, _⟩ => ⟨S1x256x256, .f32⟩
  | .hbm, ⟨34, _⟩ => ⟨S_, .f32⟩
  | .hbm, ⟨35, _⟩ => ⟨S1x256x256, .f32⟩
  | .hbm, ⟨36, _⟩ => ⟨S1x256x256, .f32⟩
  | _, _ => ⟨S1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x1024x1408 : Shape := ⟨3, ![2, 1024, 1408]⟩
abbrev S1x1024x1408 : Shape := ⟨3, ![1, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 12
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x704x1024 : Shape := ⟨3, ![2, 704, 1024]⟩
abbrev S1x704x1024 : Shape := ⟨3, ![1, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1x704x1024, .f32⟩
  | .hbm, ⟨5, _⟩ => ⟨S704x1024, .f32⟩
  | .hbm, ⟨6, _⟩ => ⟨S1x704x1024, .f32⟩
  | .hbm, ⟨7, _⟩ => ⟨S704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x1024 : Shape := ⟨2, ![16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSlots.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSlotsRefIdeal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.FfnBody.lean ====
module

public import proofs.«01_k».proof.Proof.Gen.KernelIdeal.Skeleton
public import proofs.«01_k».proof.Proof.Gen.KernelIdeal.Frame
public import Idealize.ShloMosaic.Lib.Pipeline.Value

/-! The body of the gated MLP's backward kernel, run once for each way its one branch goes: what its stores
    leave in the two output blocks, in the carried rows and in the two padded copies. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The branch that clears the filter's gradient: taken at the first row tile visited. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 11 = 0 :=
  (by decide +kernel : ∀ t : Fin grid0.N, first (grid0.coords t) ↔ t.val % 11 = 0)

/-- At the first row tile visited the rows below are zeros, whatever the carried rows hold. -/
theorem below_first {i : grid0.Coords} (h : first i) (v : Vec F S8x1408 .f32) :
    k0_pay7 (BitVec.ofNat 32 (i 1).val) v = k0_pay16 := by
  have hi : (i 1).val = 0 :=
    (by decide : ∀ n : Fin 11, Scalar.cmpi .ne (Scalar.extui (Scalar.cmpi .eq (BitVec.ofNat 32 n.val) 0#32)) 0#32 = 1#1 → n.val = 0) (i 1) h
  unfold k0_pay7 k0_pay16
  rw [hi]
  exact shapeCast_self _ _

end Cert.KernelIdeal.Ffn

end
-- ==== Proof.FfnFirst.lean ====
module

public import proofs.«01_k».proof.Proof.FfnBody

/-! The run of the body at the first row tile a column visits. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The body at the first row tile visited: the carried rows `xs` are read and not used. -/
noncomputable def runFirst (c : Dev nD) (i : grid0.Coords) (a2 : Memref sig .tc .vmem S384x1024 .f32) (h2 : a2.IsWhole) (a3 : Memref sig .tc .vmem S1408x1024 .bf16) (h3 : a3.IsWhole) (a4 : Memref sig .tc .vmem S384x1408 .bf16) (h4 : a4.IsWhole) (a5 : Memref sig .tc .vmem S384x1408 .bf16) (h5 : a5.IsWhole) (a6 : Memref sig .tc .vmem S384x1408 .bf16) (h6 : a6.IsWhole) (a7 : Memref sig .tc .vmem S8x1408 .bf16) (h7 : a7.IsWhole) (a8 : Memref sig .tc .vmem S8x1408 .f32) (h8 : a8.IsWhole) (a9 : Memref sig .tc .vmem S384x2816 .bf16) (h9 : a9.IsWhole) (a10 : Memref sig .tc .vmem S8x1408 .f32) (h10 : a10.IsWhole) (a11 : Memref sig .tc .vmem S8x1408 .f32) (h11 : a11.IsWhole) (a12 : Memref sig .tc .vmem S392x1408 .f32) (h12 : a12.IsWhole) (a13 : Memref sig .tc .vmem S392x1408 .f32) (h13 : a13.IsWhole) (hc : first i)
    (x0 : Vec F S384x1024 .f32) (x1 : Vec F S1408x1024 .bf16) (x2 : Vec F S384x1408 .bf16) (x3 : Vec F S384x1408 .bf16) (x4 : Vec F S384x1408 .bf16) (x5 : Vec F S8x1408 .bf16) (x6 : Vec F S8x1408 .f32) (xs : Vec F S8x1408 .f32) :
    Σ' (L9 : List (View.Piece (Elt F) S384x2816 .bf16)), Σ' (L10 : List (View.Piece (Elt F) S8x1408 .f32)), Σ' (L11 : List (View.Piece (Elt F) S8x1408 .f32)), Σ' (L12 : List (View.Piece (Elt F) S392x1408 .f32)), { L13 : List (View.Piece (Elt F) S392x1408 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d) ∗ owns (c : Thread nD τ) a11 fullShare xs ∗ (∃ d, owns (c : Thread nD τ) a12 fullShare d) ∗ (∃ d, owns (c : Thread nD τ) a13 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13)) -∗ K ⟨⟩))
          ⊢ wp frame (wpE (defs₀ (F := F)) Variants.none c none) E (cc0_ffn0_down_dx i a2 h2 a3 h3 a4 h4 a5 h5 a6 h6 a7 h7 a8 h8 a9 h9 a10 h10 a11 h11 a12 h12 a13 h13) K } := by
  refine ⟨?_, ?_, ?_, ?_, ?_, fun E K => ?run⟩
  case run =>
    simp only [cc0_ffn0_down_dx_eq_skeleton]; unfold cc0_ffn0_down_dx_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%d13, %f13, -, H13⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h11.eq_unread hf11
    sl_exec (disch := sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    isplitl [H12]; · iexists _; iexact H12
    iexists _; iexact H13

/-- At the first row tile visited nothing that is stored depends on what the carried rows held. -/
theorem runFirst_carry (c : Dev nD) (i : grid0.Coords) (a2 : Memref sig .tc .vmem S384x1024 .f32) (h2 : a2.IsWhole) (a3 : Memref sig .tc .vmem S1408x1024 .bf16) (h3 : a3.IsWhole) (a4 : Memref sig .tc .vmem S384x1408 .bf16) (h4 : a4.IsWhole) (a5 : Memref sig .tc .vmem S384x1408 .bf16) (h5 : a5.IsWhole) (a6 : Memref sig .tc .vmem S384x1408 .bf16) (h6 : a6.IsWhole) (a7 : Memref sig .tc .vmem S8x1408 .bf16) (h7 : a7.IsWhole) (a8 : Memref sig .tc .vmem S8x1408 .f32) (h8 : a8.IsWhole) (a9 : Memref sig .tc .vmem S384x2816 .bf16) (h9 : a9.IsWhole) (a10 : Memref sig .tc .vmem S8x1408 .f32) (h10 : a10.IsWhole) (a11 : Memref sig .tc .vmem S8x1408 .f32) (h11 : a11.IsWhole) (a12 : Memref sig .tc .vmem S392x1408 .f32) (h12 : a12.IsWhole) (a13 : Memref sig .tc .vmem S392x1408 .f32) (h13 : a13.IsWhole) (hc : first i)
    (x0 : Vec F S384x1024 .f32) (x1 : Vec F S1408x1024 .bf16) (x2 : Vec F S384x1408 .bf16) (x3 : Vec F S384x1408 .bf16) (x4 : Vec F S384x1408 .bf16) (x5 : Vec F S8x1408 .bf16) (x6 : Vec F S8x1408 .f32) (xs ys : Vec F S8x1408 .f32) :
    (runFirst c i a2 h2 a3 h3 a4 h4 a5 h5 a6 h6 a7 h7 a8 h8 a9 h9 a10 h10 a11 h11 a12 h12 a13 h13 hc x0 x1 x2 x3 x4 x5 x6 xs).1 = (runFirst c i a2 h2 a3 h3 a4 h4 a5 h5 a6 h6 a7 h7 a8 h8 a9 h9 a10 h10 a11 h11 a12 h12 a13 h13 hc x0 x1 x2 x3 x4 x5 x6 ys).1
    ∧ (runFirst c i a2 h2 a3 h3 a4 h4 a5 h5 a6 h6 a7 h7 a8 h8 a9 h9 a10 h10 a11 h11 a12 h12 a13 h13 hc x0 x1 x2 x3 x4 x5 x6 xs).2.1 = (runFirst c i a2 h2 a3 h3 a4 h4 a5 h5 a6 h6 a7 h7 a8 h8 a9 h9 a10 h10 a11 h11 a12 h12 a13 h13 hc x0 x1 x2 x3 x4 x5 x6 ys).2.1
    ∧ (runFirst c i a2 h2 a3 h3 a4 h4 a5 h5 a6 h6 a7 h7 a8 h8 a9 h9 a10 h10 a11 h11 a12 h12 a13 h13 hc x0 x1 x2 x3 x4 x5 x6 xs).2.2.1 = (runFirst c i a2 h2 a3 h3 a4 h4 a5 h5 a6 h6 a7 h7 a8 h8 a9 h9 a10 h10 a11 h11 a12 h12 a13 h13 hc x0 x1 x2 x3 x4 x5 x6 ys).2.2.1 := by
  refine ⟨?_, ?_, ?_⟩
  · dsimp only [runFirst]
    sl_unfold_words
    simp only [below_first hc]
  · dsimp only [runFirst]
  · dsimp only [runFirst]

end Cert.KernelIdeal.Ffn

end
-- ==== Proof.FfnNext.lean ====
module

public import proofs.«01_k».proof.Proof.FfnFirst

/-! The run of the body at a later row tile. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The body at a later row tile: it reads the carried rows `xs` and adds to the accumulator `xo`. -/
noncomputable def runNext (c : Dev nD) (i : grid0.Coords) (a2 : Memref sig .tc .vmem S384x1024 .f32) (h2 : a2.IsWhole) (a3 : Memref sig .tc .vmem S1408x1024 .bf16) (h3 : a3.IsWhole) (a4 : Memref sig .tc .vmem S384x1408 .bf16) (h4 : a4.IsWhole) (a5 : Memref sig .tc .vmem S384x1408 .bf16) (h5 : a5.IsWhole) (a6 : Memref sig .tc .vmem S384x1408 .bf16) (h6 : a6.IsWhole) (a7 : Memref sig .tc .vmem S8x1408 .bf16) (h7 : a7.IsWhole) (a8 : Memref sig .tc .vmem S8x1408 .f32) (h8 : a8.IsWhole) (a9 : Memref sig .tc .vmem S384x2816 .bf16) (h9 : a9.IsWhole) (a10 : Memref sig .tc .vmem S8x1408 .f32) (h10 : a10.IsWhole) (a11 : Memref sig .tc .vmem S8x1408 .f32) (h11 : a11.IsWhole) (a12 : Memref sig .tc .vmem S392x1408 .f32) (h12 : a12.IsWhole) (a13 : Memref sig .tc .vmem S392x1408 .f32) (h13 : a13.IsWhole) (hc : ¬first i)
    (x0 : Vec F S384x1024 .f32) (x1 : Vec F S1408x1024 .bf16) (x2 : Vec F S384x1408 .bf16) (x3 : Vec F S384x1408 .bf16) (x4 : Vec F S384x1408 .bf16) (x5 : Vec F S8x1408 .bf16) (x6 : Vec F S8x1408 .f32) (xo : Vec F S8x1408 .f32) (xs : Vec F S8x1408 .f32) :
    Σ' (L9 : List (View.Piece (Elt F) S384x2816 .bf16)), Σ' (L10 : List (View.Piece (Elt F) S8x1408 .f32)), Σ' (L11 : List (View.Piece (Elt F) S8x1408 .f32)), Σ' (L12 : List (View.Piece (Elt F) S392x1408 .f32)), { L13 : List (View.Piece (Elt F) S392x1408 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ owns (c : Thread nD τ) a10 fullShare xo ∗ owns (c : Thread nD τ) a11 fullShare xs ∗ (∃ d, owns (c : Thread nD τ) a12 fullShare d) ∗ (∃ d, owns (c : Thread nD τ) a13 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13)) -∗ K ⟨⟩))
          ⊢ wp frame (wpE (defs₀ (F := F)) Variants.none c none) E (cc0_ffn0_down_dx i a2 h2 a3 h3 a4 h4 a5 h5 a6 h6 a7 h7 a8 h8 a9 h9 a10 h10 a11 h11 a12 h12 a13 h13) K } := by
  refine ⟨?_, ?_, ?_, ?_, ?_, fun E K => ?run⟩
  case run =>
    simp only [cc0_ffn0_down_dx_eq_skeleton]; unfold cc0_ffn0_down_dx_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h10.eq_unread hf10
    obtain rfl := h11.eq_unread hf11
    sl_exec (disch := sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    isplitl [H12]; · iexists _; iexact H12
    iexists _; iexact H13

end Cert.KernelIdeal.Ffn

end
-- ==== Proof.FfnRun.lean ====
module

public import proofs.«01_k».proof.Proof.FfnNext
public import Idealize.ShloMosaic.Lib.Claim

/-! The kernel's launch: what each grid point leaves in the two output blocks and in the carried rows, the body's
    triple at every point, and the run of the whole program. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers a point works on -/

abbrev buf0 (t : Fin cfg0.N) : Memref sig .tc .vmem S384x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1408x1024 .bf16 := win0_1.stage (cfg0.slots t 1)
abbrev whole1 (t : Fin cfg0.N) : (buf1 t).IsWhole := hstage0_1 ((cfg0.slots t 1).cast nbuf0_1)
abbrev buf2 (t : Fin cfg0.N) : Memref sig .tc .vmem S384x1408 .bf16 := win0_2.stage (cfg0.slots t 2)
abbrev whole2 (t : Fin cfg0.N) : (buf2 t).IsWhole := hstage0_2 ((cfg0.slots t 2).cast nbuf0_2)
abbrev buf3 (t : Fin cfg0.N) : Memref sig .tc .vmem S384x1408 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S384x1408 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S8x1408 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S8x1408 .f32 := win0_6.stage (cfg0.slots t 6)
abbrev whole6 (t : Fin cfg0.N) : (buf6 t).IsWhole := hstage0_6 ((cfg0.slots t 6).cast nbuf0_6)
abbrev buf7 (t : Fin cfg0.N) : Memref sig .tc .vmem S384x2816 .bf16 := win0_7.stage (cfg0.slots t 7)
abbrev whole7 (t : Fin cfg0.N) : (buf7 t).IsWhole := hstage0_7 ((cfg0.slots t 7).cast nbuf0_7)
abbrev buf8 (t : Fin cfg0.N) : Memref sig .tc .vmem S8x1408 .f32 := win0_8.stage (cfg0.slots t 8)
abbrev whole8 (t : Fin cfg0.N) : (buf8 t).IsWhole := hstage0_8 ((cfg0.slots t 8).cast nbuf0_8)
/-- The carried rows, the padded gradient and the padded gate. -/
abbrev rowsM : Memref sig .tc .vmem S8x1408 .f32 := Memref.whole cc0_scratch0
abbrev gradM : Memref sig .tc .vmem S392x1408 .f32 := Memref.whole cc0_scratch1
abbrev gateM : Memref sig .tc .vmem S392x1408 .f32 := Memref.whole cc0_scratch2
/-- The views through which the contents of the output blocks and of the carried rows are stated. -/
abbrev duV : View sig .tc .vmem S384x2816 .bf16 := (Memref.whole cc0_stg7_0 : Memref sig .tc .vmem S384x2816 .bf16).view
abbrev dwV : View sig .tc .vmem S8x1408 .f32 := (Memref.whole cc0_stg8_0 : Memref sig .tc .vmem S8x1408 .f32).view
abbrev rowsV : View sig .tc .vmem S8x1408 .f32 := rowsM.view

/-- Between points the launch's own buffers are the three scratch arrays and the generator register. -/
theorem idle_eq (c : Dev nD) :
    (Pipeline.ΦA spec0 c : sProp 𝕄)
      = iprop(iprop((∃ d, owns (c : Thread nD τ) rowsM fullShare d) ∗ (∃ d, owns (c : Thread nD τ) gradM fullShare d) ∗ (∃ d, owns (c : Thread nD τ) gateM fullShare d)) ∗ (∃ r, prngReg c r)) := by
  unfold Pipeline.ΦA; rw [scopedRest0_eq]; simp only [rowsM, gradM, gateM, owns_whole]; try rfl

/-! ## What a point leaves -/

/-- The run at a first row tile, the carried rows at `xs`. -/
abbrev firstAt (c : Dev nD) (t : Fin cfg0.N) (h : t.val % 11 = 0) (xs : Vec F S8x1408 .f32) :=
  runFirst c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) rowsM (Memref.isWhole_whole _) gradM (Memref.isWhole_whole _) gateM (Memref.isWhole_whole _) ((first_iff t).mpr h) (iblk m c 0 t) (iblk m c 1 t) (iblk m c 2 t) (iblk m c 3 t) (iblk m c 4 t) (iblk m c 5 t) (iblk m c 6 t) xs

/-- The run at a later row tile, the accumulator at `xo` and the carried rows at `xs`. -/
abbrev nextAt (c : Dev nD) (t : Fin cfg0.N) (h : ¬t.val % 11 = 0) (xo xs : Vec F S8x1408 .f32) :=
  runNext c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) rowsM (Memref.isWhole_whole _) gradM (Memref.isWhole_whole _) gateM (Memref.isWhole_whole _) (fun hf => h ((first_iff t).mp hf)) (iblk m c 0 t) (iblk m c 1 t) (iblk m c 2 t) (iblk m c 3 t) (iblk m c 4 t) (iblk m c 5 t) (iblk m c 6 t) xo xs

theorem first_du_cover (c : Dev nD) (t : Fin cfg0.N) (h : t.val % 11 = 0) (xs : Vec F S8x1408 .f32) (y : S384x2816.Idx) : ∃ pc ∈ (firstAt m c t h xs).1, y ∈ pc.1.set :=
  View.cover_of_tiledL (firstAt m c t h xs).1 S384x1408.size (by sl_kernel_rfl) y
theorem first_dw_cover (c : Dev nD) (t : Fin cfg0.N) (h : t.val % 11 = 0) (xs : Vec F S8x1408 .f32) (y : S8x1408.Idx) : ∃ pc ∈ (firstAt m c t h xs).2.1, y ∈ pc.1.set :=
  View.cover_of_tiledL (firstAt m c t h xs).2.1 S8x1408.size (by sl_kernel_rfl) y
theorem first_rows_cover (c : Dev nD) (t : Fin cfg0.N) (h : t.val % 11 = 0) (xs : Vec F S8x1408 .f32) (y : S8x1408.Idx) : ∃ pc ∈ (firstAt m c t h xs).2.2.1, y ∈ pc.1.set :=
  View.cover_of_tiledL (firstAt m c t h xs).2.2.1 S8x1408.size (by sl_kernel_rfl) y
theorem next_du_cover (c : Dev nD) (t : Fin cfg0.N) (h : ¬t.val % 11 = 0) (xo xs : Vec F S8x1408 .f32) (y : S384x2816.Idx) : ∃ pc ∈ (nextAt m c t h xo xs).1, y ∈ pc.1.set :=
  View.cover_of_tiledL (nextAt m c t h xo xs).1 S384x1408.size (by sl_kernel_rfl) y
theorem next_dw_cover (c : Dev nD) (t : Fin cfg0.N) (h : ¬t.val % 11 = 0) (xo xs : Vec F S8x1408 .f32) (y : S8x1408.Idx) : ∃ pc ∈ (nextAt m c t h xo xs).2.1, y ∈ pc.1.set :=
  View.cover_of_tiledL (nextAt m c t h xo xs).2.1 S8x1408.size (by sl_kernel_rfl) y
theorem next_rows_cover (c : Dev nD) (t : Fin cfg0.N) (h : ¬t.val % 11 = 0) (xo xs : Vec F S8x1408 .f32) (y : S8x1408.Idx) : ∃ pc ∈ (nextAt m c t h xo xs).2.2.1, y ∈ pc.1.set :=
  View.cover_of_tiledL (nextAt m c t h xo xs).2.2.1 S8x1408.size (by sl_kernel_rfl) y

/-- The output blocks and the carried rows after a first row tile. -/
def firstOut (c : Dev nD) (t : Fin cfg0.N) (h : t.val % 11 = 0) : Vec F S384x2816 .bf16 × Vec F S8x1408 .f32 × Vec F S8x1408 .f32 :=
  (duV.read (Elt F) (duV.writes (Elt F) duV.junk (firstAt m c t h k0_pay16).1),
   dwV.read (Elt F) (dwV.writes (Elt F) dwV.junk (firstAt m c t h k0_pay16).2.1),
   rowsV.read (Elt F) (rowsV.writes (Elt F) rowsV.junk (firstAt m c t h k0_pay16).2.2.1))

/-- The output blocks and the carried rows after a next row tile. -/
def nextOut (c : Dev nD) (t : Fin cfg0.N) (h : ¬t.val % 11 = 0) (xo xs : Vec F S8x1408 .f32) : Vec F S384x2816 .bf16 × Vec F S8x1408 .f32 × Vec F S8x1408 .f32 :=
  (duV.read (Elt F) (duV.writes (Elt F) duV.junk (nextAt m c t h xo xs).1),
   dwV.read (Elt F) (dwV.writes (Elt F) dwV.junk (nextAt m c t h xo xs).2.1),
   rowsV.read (Elt F) (rowsV.writes (Elt F) rowsV.junk (nextAt m c t h xo xs).2.2.1))

theorem firstAt_carry (c : Dev nD) (t : Fin cfg0.N) (h : t.val % 11 = 0) (xs ys : Vec F S8x1408 .f32) :
    (firstAt m c t h xs).1 = (firstAt m c t h ys).1 ∧ (firstAt m c t h xs).2.1 = (firstAt m c t h ys).2.1 ∧ (firstAt m c t h xs).2.2.1 = (firstAt m c t h ys).2.2.1 :=
  runFirst_carry c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) rowsM (Memref.isWhole_whole _) gradM (Memref.isWhole_whole _) gateM (Memref.isWhole_whole _) ((first_iff t).mpr h) (iblk m c 0 t) (iblk m c 1 t) (iblk m c 2 t) (iblk m c 3 t) (iblk m c 4 t) (iblk m c 5 t) (iblk m c 6 t) xs ys

theorem first_du_eq (c : Dev nD) (t : Fin cfg0.N) (h : t.val % 11 = 0) (xs : Vec F S8x1408 .f32) :
    duV.read (Elt F) (duV.writes (Elt F) duV.junk (firstAt m c t h xs).1) = duV.read (Elt F) (duV.writes (Elt F) duV.junk (firstAt m c t h k0_pay16).1) := by
  rw [(firstAt_carry m c t h xs k0_pay16).1]

theorem first_dw_eq (c : Dev nD) (t : Fin cfg0.N) (h : t.val % 11 = 0) (xs : Vec F S8x1408 .f32) :
    dwV.read (Elt F) (dwV.writes (Elt F) dwV.junk (firstAt m c t h xs).2.1) = dwV.read (Elt F) (dwV.writes (Elt F) dwV.junk (firstAt m c t h k0_pay16).2.1) := by
  rw [(firstAt_carry m c t h xs k0_pay16).2.1]

theorem first_rows_eq (c : Dev nD) (t : Fin cfg0.N) (h : t.val % 11 = 0) (xs : Vec F S8x1408 .f32) :
    rowsV.read (Elt F) (rowsV.writes (Elt F) rowsV.junk (firstAt m c t h xs).2.2.1) = rowsV.read (Elt F) (rowsV.writes (Elt F) rowsV.junk (firstAt m c t h k0_pay16).2.2.1) := by
  rw [(firstAt_carry m c t h xs k0_pay16).2.2]

/-- What the output blocks and the carried rows hold after point `n`. -/
def outsAt (c : Dev nD) : (n : ℕ) → n < cfg0.N → Vec F S384x2816 .bf16 × Vec F S8x1408 .f32 × Vec F S8x1408 .f32
  | 0, hn => firstOut m c ⟨0, hn⟩ (Nat.zero_mod _)
  | n + 1, hn =>
    if h : (n + 1) % 11 = 0 then firstOut m c ⟨n + 1, hn⟩ h
    else nextOut m c ⟨n + 1, hn⟩ h (outsAt c n (Nat.lt_of_succ_lt hn)).2.1 (outsAt c n (Nat.lt_of_succ_lt hn)).2.2

theorem outsAt_first (c : Dev nD) (t : Fin cfg0.N) (h : t.val % 11 = 0) : outsAt m c t.val t.isLt = firstOut m c t h := by
  obtain ⟨n, hn⟩ := t
  cases n with
  | zero => rfl
  | succ n => exact dif_pos h

theorem outsAt_next (c : Dev nD) (t : Fin cfg0.N) (h : ¬t.val % 11 = 0) :
    outsAt m c t.val t.isLt = nextOut m c t h (outsAt m c (t.val - 1) (by omega)).2.1 (outsAt m c (t.val - 1) (by omega)).2.2 := by
  obtain ⟨n, hn⟩ := t
  cases n with
  | zero => exact absurd (Nat.zero_mod _) h
  | succ n => exact dif_neg h

/-- Before point `n`: the carried rows at what the point before left, the two padded copies at anything. -/
def between (c : Dev nD) : (n : ℕ) → n ≤ cfg0.N → sProp 𝕄
  | 0, _ => Pipeline.ΦA spec0 c
  | n + 1, hn => iprop(iprop(owns (c : Thread nD τ) rowsM fullShare (outsAt m c n hn).2.2 ∗ (∃ d, owns (c : Thread nD τ) gradM fullShare d) ∗ (∃ d, owns (c : Thread nD τ) gateM fullShare d)) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(iprop(owns (c : Thread nD τ) rowsM fullShare (outsAt m c (n - 1) (by omega)).2.2 ∗ (∃ d, owns (c : Thread nD τ) gradM fullShare d) ∗ (∃ d, owns (c : Thread nD τ) gateM fullShare d)) ∗ (∃ r, prngReg c r)) := by
  cases n with
  | zero => exact absurd rfl hz
  | succ n => rfl

theorem between_succ (c : Dev nD) (n : ℕ) (hn : n < cfg0.N) :
    between m c (n + 1) hn = iprop(iprop(owns (c : Thread nD τ) rowsM fullShare (outsAt m c n hn).2.2 ∗ (∃ d, owns (c : Thread nD τ) gradM fullShare d) ∗ (∃ d, owns (c : Thread nD τ) gateM fullShare d)) ∗ (∃ r, prngReg c r)) := rfl

/-- Before any point the carried rows hold something. -/
theorem between_some (c : Dev nD) (n : ℕ) (h : n ≤ cfg0.N) :
    between m c n h ⊢ iprop(iprop((∃ d, owns (c : Thread nD τ) rowsM fullShare d) ∗ (∃ d, owns (c : Thread nD τ) gradM fullShare d) ∗ (∃ d, owns (c : Thread nD τ) gateM fullShare d)) ∗ (∃ r, prngReg c r)) := by
  cases n with
  | zero => rw [between_zero m c 0 h rfl, idle_eq]
  | succ n =>
    rw [between_pos m c _ h (Nat.succ_ne_zero n)]
    iintro ⟨⟨H0, H1, H2⟩, Hg⟩
    isplitl [H0 H1 H2]
    · isplitl [H0]
      · iexists _; iexact H0
      isplitl [H1]; · iexact H1
      iexact H2
    iexact Hg

/-! ## The pipeline's proof data -/

/-- The arrays as the launch finds them; after a point each input's buffer at its block and the outputs at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
/-- At a later row tile the accumulator's buffer still holds what the point before left. -/
theorem before_8 (c : Dev nD) (t : Fin cfg0.N) (h : ¬t.val % 11 = 0) (d) :
    (dats m 0 c).before 8 t d = (outsAt m c (t.val - 1) (Nat.lt_of_le_of_lt (Nat.sub_le _ _) t.isLt)).2.1 := by
  have hN : t.val < 22 := lt_of_lt_of_eq t.isLt (show cfg0.N = 22 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8]
  rw [show (dats m 0 c).Φ t.succ = between m c (t.val + 1) t.isLt from rfl, between_succ]
  rw [phi_castSucc m c t]
  have hN : t.val < 22 := lt_of_lt_of_eq t.isLt (show cfg0.N = 22 from N_0)
  by_cases h : t.val % 11 = 0
  · refine (Idealize.SL.BI.Laws.sep_mono_left (between_some m c _ _)).trans ?_
    rw [outsAt_first m c t h]
    unfold firstOut; dsimp only
    iintro ⟨⟨⟨⟨%s0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h s0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, H6, ⟨%e7, H7⟩, ⟨%e8, H8⟩, ⟨%es0, HS0⟩, ⟨%fT1, HS1⟩, ⟨%fT2, HS2⟩⟩
    isplitl [HS0 HS1 HS2 Hg]
    · isplitl [HS0 HS1 HS2]
      · isplitl [HS0]
        · unfold owns; iexists _; isplitr
          swap; · iexact HS0
          ipureintro; exact (View.read_writes_of_cover _ _ rowsV rowsV.junk _ (first_rows_cover m c t h s0)).trans (first_rows_eq m c t h s0)
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact (View.read_writes_of_cover _ _ duV duV.junk _ (first_du_cover m c t h s0)).trans (first_du_eq m c t h s0)
    unfold owns; iexists _; isplitr
    swap; · iexact H8
    ipureintro; exact (View.read_writes_of_cover _ _ dwV dwV.junk _ (first_dw_cover m c t h s0)).trans (first_dw_eq m c t h s0)
  · have hz : t.val ≠ 0 := by omega
    rw [between_pos m c t.val _ hz]
    rw [outsAt_next m c t h]
    simp only [before_8 m c t h]
    unfold nextOut; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((nextAt m c t h _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    isplitl [HS2]; · iexact HS2
    iintro ⟨H0, H1, H2, H3, H4, H5, H6, ⟨%e7, H7⟩, ⟨%e8, H8⟩, ⟨%es0, HS0⟩, ⟨%fT1, HS1⟩, ⟨%fT2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (next_rows_cover m c t h _ _)
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (next_du_cover m c t h _ _)
    unfold owns; iexists _; isplitr
    swap; · iexact H8
    ipureintro; exact View.read_writes_of_cover _ _ _ _ _ (next_dw_cover m c t h _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]

theorem hout (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl, idle_eq]
  exact between_some m c _ _

/-! ## The run -/

set_option backward.isDefEq.respectTransparency.types false in
/-- Every execution ends with the arrays at what the proof data says and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Ffn

end
-- ==== Proof.FfnRef.lean ====
module

public import proofs.«01_k».proof.Proof.Gen.ReferenceIdeal.Run
public import Idealize.ShloMosaic.Lib.Pipeline.ValueKit

/-! The reference's two results, written piece by piece as functions of its five arguments. -/

@[expose] public section

set_option maxRecDepth 8192

noncomputable section

namespace Cert.ReferenceIdeal.Ffn

open Cert.ReferenceIdeal Cert.ReferenceIdeal.Gen
open Idealize.ShloMosaic Idealize.ShloMosaic.TcCoe Idealize.ShloMosaic.Tactic

abbrev Wide := FVec Ideal S4224x2816 .f32

/-- Zero and one, everywhere. -/
abbrev zeroS : FVec Ideal S_ .f32 := constant S_ .f32 0x00000000#32
abbrev zeros : Wide := broadcastInDim S4224x2816 ![] bcast_S_S4224x2816 zeroS
abbrev ones : Wide := broadcastInDim S4224x2816 ![] bcast_S_S4224x2816 (constant S_ .f32 0x3F800000#32)

/-- The gate with two rows of zeros above it. -/
abbrev above (gate : Wide) : FVec Ideal S4226x2816 .f32 :=
  concatenate S4226x2816 0 [⟨S2x2816, broadcastInDim S2x2816 ![] bcast_S_S2x2816 zeroS⟩, ⟨S4224x2816, gate⟩] concatenates_S2x2816_S4224x2816_S4226x2816_d0

/-- The gate moved down by two rows, by one row and not at all. -/
abbrev shift0 (gate : Wide) : Wide := extractStridedSlice S4224x2816 ![0, 0] (above gate) slices_S4226x2816_S4224x2816_0_0
abbrev shift1 (gate : Wide) : Wide := extractStridedSlice S4224x2816 ![1, 0] (above gate) slices_S4226x2816_S4224x2816_1_0
abbrev shift2 (gate : Wide) : Wide := extractStridedSlice S4224x2816 ![2, 0] (above gate) slices_S4226x2816_S4224x2816_2_0

/-- A row of the filter, on every row of the array. -/
abbrev rowUp (r : FVec Ideal S1x2816 .f32) : Wide :=
  broadcastInDim S4224x2816 ![0, 1] bcast_S1x2816_S4224x2816_0_1 (broadcastInDim S1x2816 ![1] bcast_S2816_S1x2816_1 (shapeCast _ r shapeCasts_S1x2816_S2816))
abbrev tap0 (w : FVec Ideal S3x2816 .f32) : Wide := rowUp (extractStridedSlice S1x2816 ![0, 0] w slices_S3x2816_S1x2816_0_0)
abbrev tap1 (w : FVec Ideal S3x2816 .f32) : Wide := rowUp (extractStridedSlice S1x2816 ![1, 0] w slices_S3x2816_S1x2816_1_0)
abbrev tap2 (w : FVec Ideal S3x2816 .f32) : Wide := rowUp (extractStridedSlice S1x2816 ![2, 0] w slices_S3x2816_S1x2816_2_0)

/-- The filtered gate. -/
def filtered (gate : Wide) (w : FVec Ideal S3x2816 .f32) : Wide :=
  addf (addf (addf zeros (mulf (tap0 w) (shift0 gate))) (mulf (tap1 w) (shift1 gate))) (mulf (tap2 w) (shift2 gate))

/-- The logistic function of an array. -/
def logistic (x : Wide) : Wide := Host.divf ones (addf ones (Host.exp (Host.negf x)))

/-- The incoming gradient taken back through the down projection. -/
def back (ct : FVec Ideal S4224x1024 .f32) (wd : FVec Ideal S2816x1024 .f32) : Wide :=
  Host.dotGeneral (F := Ideal) dot_S4224x1024_S2816x1024_S4224x2816_1_1_0_0_n_n none ct wd

/-- The gradient at the filtered gate `x`, the gradient at the product being `da`. -/
def gateGrad (x val da : Wide) : Wide :=
  addf (mulf (mulf da val) (logistic x)) (mulf (mulf x (mulf da val)) (mulf (logistic x) (subf ones (logistic x))))

/-- The gradient at the value half. -/
def valGrad (x da : Wide) : Wide := mulf (mulf x (logistic x)) da

/-- The filter's transpose. -/
def unfilter (g : Wide) (w : FVec Ideal S3x2816 .f32) : Wide :=
  extractStridedSlice S4224x2816 ![2, 0]
    (addf (addf (pad S4226x2816 ![2, 0] ![0, 0] ![0, 0] (mulf (tap2 w) g) zeroS pads_S4224x2816_S4226x2816_200_000 h_S_)
        (pad S4226x2816 ![1, 0] ![1, 0] ![0, 0] (mulf (tap1 w) g) zeroS pads_S4224x2816_S4226x2816_110_000 h_S_))
      (pad S4226x2816 ![0, 0] ![2, 0] ![0, 0] (mulf (tap0 w) g) zeroS pads_S4224x2816_S4226x2816_020_000 h_S_))
    slices_S4226x2816_S4224x2816_2_0

/-- The two halves' gradients, laid side by side in blocks of 1408 columns. -/
def sideBySide (dg dv : Wide) : FVec Ideal S4224x5632 .bf16 :=
  truncf .bf16 (concatenate S4224x5632 1
    [⟨S4224x1408, extractStridedSlice S4224x1408 ![0, 0] dg slices_S4224x2816_S4224x1408_0_0⟩,
     ⟨S4224x1408, extractStridedSlice S4224x1408 ![0, 0] dv slices_S4224x2816_S4224x1408_0_0⟩,
     ⟨S4224x1408, extractStridedSlice S4224x1408 ![0, 1408] dg slices_S4224x2816_S4224x1408_0_1408⟩,
     ⟨S4224x1408, extractStridedSlice S4224x1408 ![0, 1408] dv slices_S4224x2816_S4224x1408_0_1408⟩]
    concatenates_S4224x1408_S4224x1408_S4224x1408_S4224x1408_S4224x5632_d1) bitsLt_bf16_f32

/-- The sum of an array's rows, as one row. -/
def rowSum (x : Wide) : FVec Ideal S1x2816 .f32 :=
  broadcastInDim S1x2816 ![1] bcast_S2816_S1x2816_1 (Host.reduceAdd (shapeCast S1x2816 (Host.reduceAdd x zeroS reducesTo_S4224x2816_S2816_d0 h_S_) shapeCasts_S2816_S1x2816) zeroS reducesTo_S1x2816_S2816_d0 h_S_)

/-- The filter's gradient: row `q` sums the gradient against the gate moved down by `2 - q` rows. -/
def filterGrad (g gate : Wide) : FVec Ideal S8x2816 .f32 :=
  pad S8x2816 ![0, 0] ![5, 0] ![0, 0]
    (addf (addf (pad S3x2816 ![2, 0] ![0, 0] ![0, 0] (rowSum (mulf g (shift2 gate))) zeroS pads_S1x2816_S3x2816_200_000 h_S_)
        (pad S3x2816 ![1, 0] ![1, 0] ![0, 0] (rowSum (mulf g (shift1 gate))) zeroS pads_S1x2816_S3x2816_110_000 h_S_))
      (pad S3x2816 ![0, 0] ![2, 0] ![0, 0] (rowSum (mulf g (shift0 gate))) zeroS pads_S1x2816_S3x2816_020_000 h_S_))
    (sitofp .f32 (constantI S_ 32 0#32)) pads_S3x2816_S8x2816_050_000 h_S_

variable (m : (ℓ : Loc nD τ sig) → Buf (Elt Ideal) ℓ) (c : Dev nD)

/-- The gradient at the filtered gate, from the arguments. -/
abbrev gradOf (gate val : Wide) (wd : FVec Ideal S2816x1024 .f32) (w : FVec Ideal S3x2816 .f32) (ct : FVec Ideal S4224x1024 .f32) : Wide :=
  gateGrad (filtered gate w) val (back ct wd)

/-- The first result. -/
theorem res_du : Value.res_main_v70 m c =
    sideBySide (unfilter (gradOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg3)))
      (valGrad (filtered (m ((c.tc : Thread nD τ).loc main_arg0)) (m ((c.tc : Thread nD τ).loc main_arg3))) (back (m ((c.tc : Thread nD τ).loc main_arg4)) (m ((c.tc : Thread nD τ).loc main_arg2)))) := by
  unfold Value.res_main_v70; rfl

/-- The second result. -/
theorem res_dw : Value.res_main_v71 m c =
    filterGrad (gradOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0)) := by
  unfold Value.res_main_v71; rfl

end Cert.ReferenceIdeal.Ffn

end
-- ==== Proof.FfnEntry.lean ====
module

public import proofs.«01_k».proof.Proof.FfnRun
public import proofs.«01_k».proof.Proof.FfnRef
public import Idealize.ShloMosaic.Lib.Pipeline.ValueKit

/-! The blocks a grid point reads, at an index: each is a part of one of the five arguments, or of the filtered gate. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Cert.ReferenceIdeal.Ffn (filtered)

variable (m : (ℓ : Loc nD τ sig) → Buf (Elt Ideal) ℓ) (c : Dev nD)

/-- The block every window is at: point `t` is column half `t / 11` and row tile `10 - t % 11`. -/
theorem idx : ∀ t : Fin cfg0.N, win0_0.index t = ![10 - t.val % 11, 0] ∧ win0_1.index t = ![t.val / 11, 0]
    ∧ win0_2.index t = ![10 - t.val % 11, t.val / 11] ∧ win0_3.index t = ![10 - t.val % 11, t.val / 11]
    ∧ win0_4.index t = ![10 - t.val % 11, t.val / 11] ∧ win0_5.index t = ![48 * (10 - t.val % 11) - 1, t.val / 11]
    ∧ win0_6.index t = ![0, t.val / 11] ∧ win0_7.index t = ![10 - t.val % 11, t.val / 11] ∧ win0_8.index t = ![0, t.val / 11] := by
  decide +kernel

theorem lt22 (t : Fin cfg0.N) : t.val < 22 := lt_of_lt_of_eq t.isLt (show cfg0.N = 22 from N_0)

/-- The array row of a tile's row `i`, and the array column of a half's column `k`. -/
def row (t : Fin cfg0.N) (i : Fin 384) : Fin 4224 := ⟨384 * (10 - t.val % 11) + i.val, by have := i.isLt; omega⟩
def col (t : Fin cfg0.N) (k : Fin 1408) : Fin 2816 := ⟨1408 * (t.val / 11) + k.val, by have := k.isLt; have := lt22 t; omega⟩

abbrev gateA : FVec Ideal S4224x2816 .f32 := m ((c.tc : Thread nD τ).loc main_arg0)
abbrev valA : FVec Ideal S4224x2816 .f32 := m ((c.tc : Thread nD τ).loc main_arg1)
abbrev downA : FVec Ideal S2816x1024 .f32 := m ((c.tc : Thread nD τ).loc main_arg2)
abbrev convA : FVec Ideal S3x2816 .f32 := m ((c.tc : Thread nD τ).loc main_arg3)
abbrev ctA : FVec Ideal S4224x1024 .f32 := m ((c.tc : Thread nD τ).loc main_arg4)

theorem V_gc : (V m c main_v26 : FVec Ideal S4224x2816 .bf16) = filtered (gateA m c) (convA m c) := by
  entry_read
  rfl
theorem V_down : (V m c main_v25 : FVec Ideal S2816x1024 .bf16) = downA m c := by
  entry_read
  rfl
theorem V_val : (V m c main_v27 : FVec Ideal S4224x2816 .bf16) = valA m c := by
  entry_read
  rfl
theorem V_gate : (V m c main_v28 : FVec Ideal S4224x2816 .bf16) = gateA m c := by
  entry_read
  rfl
/-- The filter with five rows of zeros below. -/
theorem V_conv (q : Fin 8) (k : Fin 2816) (h : q.val < 3) : (V m c main_v24 : FVec Ideal S8x2816 .f32) (ix2 q k) = convA m c (ix2 ⟨q.val, h⟩ k) := by
  have e : (V m c main_v24 : FVec Ideal S8x2816 .f32) = pad S8x2816 ![0, 0] ![5, 0] ![0, 0] (convA m c) (sitofp .f32 (constantI S_ 32 0#32)) pads_S3x2816_S8x2816_050_000 h_S_ := by
    entry_read
    rfl
  rw [e]
  pointwise
  exact dif_pos h

theorem blk0 (t : Fin cfg0.N) (i : Fin 384) (x : Fin 1024) : iblk m c 0 t (ix2 i x) = ctA m c (ix2 (row t i) x) := by
  unfold row
  blk_ext [iblk, V_main_arg4, idx t]
theorem blk1 (t : Fin cfg0.N) (k : Fin 1408) (x : Fin 1024) : iblk m c 1 t (ix2 k x) = downA m c (ix2 (col t k) x) := by
  unfold col
  rw [← V_down]
  blk_ext [iblk, idx t]
theorem blk2 (t : Fin cfg0.N) (i : Fin 384) (k : Fin 1408) : iblk m c 2 t (ix2 i k) = filtered (gateA m c) (convA m c) (ix2 (row t i) (col t k)) := by
  unfold col row
  rw [← V_gc]
  blk_ext [iblk, idx t]
theorem blk3 (t : Fin cfg0.N) (i : Fin 384) (k : Fin 1408) : iblk m c 3 t (ix2 i k) = valA m c (ix2 (row t i) (col t k)) := by
  unfold col row
  rw [← V_val]
  blk_ext [iblk, idx t]
theorem blk4 (t : Fin cfg0.N) (i : Fin 384) (k : Fin 1408) : iblk m c 4 t (ix2 i k) = gateA m c (ix2 (row t i) (col t k)) := by
  unfold col row
  rw [← V_gate]
  blk_ext [iblk, idx t]
/-- The eight rows of the gate above the tile, when there are any. -/
theorem blk5 (t : Fin cfg0.N) (h : t.val % 11 < 10) (r : Fin 8) (k : Fin 1408) :
    iblk m c 5 t (ix2 r k) = gateA m c (ix2 ⟨384 * (10 - t.val % 11) - 8 + r.val, by have := r.isLt; omega⟩ (col t k)) := by
  unfold col
  rw [← V_gate]
  blk_ext [iblk, idx t]
theorem blk6 (t : Fin cfg0.N) (q : Fin 8) (k : Fin 1408) (h : q.val < 3) : iblk m c 6 t (ix2 q k) = convA m c (ix2 ⟨q.val, h⟩ (col t k)) := by
  rw [← V_conv m c q (col t k) h]
  unfold col
  blk_ext [iblk, idx t]

end Cert.KernelIdeal.Ffn

end
-- ==== Proof.FfnScalar.lean ====
module

public import Idealize.ShloMosaic.Lib.Pipeline.ValueKit

/-! The gate's derivative in two forms, over the extended reals: `s * (1 + c * (1 - s))` and `s + c * (s * (1 - s))`,
    each times a finite factor. -/

@[expose] public section

noncomputable section

namespace Cert.Ffn

open Idealize.ShloMosaic

/-- The logistic function. -/
def sig1 (x : EReal) : EReal := Ideal.div 1 (1 + Ideal.exp (-x))

theorem sig1_coe (x : ℝ) : ∃ s : ℝ, sig1 (x : EReal) = (s : EReal) := by
  have h : (1 + Real.exp (-x) : ℝ) ≠ 0 := by have := Real.exp_pos (-x); positivity
  refine ⟨1 * (1 / (1 + Real.exp (-x))), ?_⟩
  have e : (1 : EReal) + Ideal.exp (-(x : EReal)) = ((1 + Real.exp (-x) : ℝ) : EReal) := by
    rw [← EReal.coe_neg, Ideal.exp_coe]; push_cast; rfl
  unfold sig1
  rw [e, Ideal.div_coe h, EReal.coe_mul]; rfl

theorem sig1_top : sig1 ⊤ = 1 := by
  unfold sig1
  rw [EReal.neg_top, Ideal.exp_bot, add_zero, ← EReal.coe_one, Ideal.div_coe one_ne_zero]
  norm_num

theorem sig1_bot : sig1 ⊥ = 0 := by
  unfold sig1
  rw [EReal.neg_bot, Ideal.exp_top, EReal.add_top_of_ne_bot (by decide)]
  unfold Ideal.div
  rw [if_neg (by decide), EReal.inv_top, mul_zero]

/-- The two forms agree under a finite factor, whatever the gate. -/
theorem grad_forms (g : ℝ) (c : EReal) :
    (g : EReal) * (sig1 c * (1 + c * (1 - sig1 c))) = g * sig1 c + (c * g) * (sig1 c * (1 - sig1 c)) := by
  induction c using EReal.rec with
  | bot => simp [sig1_bot]
  | top =>
    have e : (1 : EReal) - 1 = 0 := by rw [← EReal.coe_one, ← EReal.coe_sub]; norm_num
    simp [sig1_top, e]
  | coe c =>
    obtain ⟨s, hs⟩ := sig1_coe c
    rw [hs]
    norm_cast
    ring

/-- A sum of products of finite factors is finite. -/
theorem sum_finite {n : ℕ} (f g : Fin n → EReal) (hf : ∀ x, ∃ r : ℝ, f x = r) (hg : ∀ x, ∃ r : ℝ, g x = r) :
    ∃ r : ℝ, ∑ x, f x * g x = r := by
  choose f' hf using hf
  choose g' hg using hg
  refine ⟨∑ x, f' x * g' x, ?_⟩
  simp only [hf, hg, ← EReal.coe_mul]
  exact (map_sum (⟨⟨((↑) : ℝ → EReal), EReal.coe_zero⟩, EReal.coe_add⟩ : ℝ →+ EReal) _ _).symm

/-- A magnitude below infinity is finite. -/
theorem finite_of_abs_lt {x : EReal} (h : max x (-x) < ⊤) : ∃ r : ℝ, x = r := by
  induction x using EReal.rec with
  | bot => exact absurd h (by simp)
  | top => exact absurd h (by simp)
  | coe r => exact ⟨r, rfl⟩

end Cert.Ffn

end
-- ==== Proof.FfnPay.lean ====
module

public import proofs.«01_k».proof.Proof.Gen.KernelIdeal.Skeleton
public import Idealize.ShloMosaic.Lib.Pipeline.ValueKit
public import Idealize.ShloMosaic.Lib.Pipeline.ReadBack
public import Idealize.ShloMosaic.Lib.Ring
public import proofs.«01_k».proof.Proof.FfnScalar

/-! The kernel's arithmetic on one block, read at an index. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Cert.Ffn (sig1)

theorem dgc_apply (a : Vec Ideal S384x1024 .f32) (w : Vec Ideal S1408x1024 .bf16) (gc val : Vec Ideal S384x1408 .bf16) (i : Fin 384) (k : Fin 1408) :
    k0_pay4 a w gc val (ix2 i k) = (∑ x : Fin 1024, a (ix2 i x) * w (ix2 k x)) * val (ix2 i k) * (sig1 (gc (ix2 i k)) * (1 + gc (ix2 i k) * (1 - sig1 (gc (ix2 i k))))) := by
  unfold sig1
  pointwise [k0_pay4, k0_pay3, k0_pay2]
  simp only [zero_sub]

theorem dval_apply (a : Vec Ideal S384x1024 .f32) (w : Vec Ideal S1408x1024 .bf16) (gc : Vec Ideal S384x1408 .bf16) (i : Fin 384) (k : Fin 1408) :
    k0_pay5 a w gc (ix2 i k) = (∑ x : Fin 1024, a (ix2 i x) * w (ix2 k x)) * (gc (ix2 i k) * sig1 (gc (ix2 i k))) := by
  unfold sig1
  pointwise [k0_pay5, k0_pay3, k0_pay2]
  simp only [zero_sub]

theorem dx_apply (w0 w1 w2 : Vec Ideal S1x1408 .f32) (g0 g1 g2 : Vec Ideal S384x1408 .f32) (i : Fin 384) (k : Fin 1408) :
    k0_pay15 k0_pay11 w0 g0 w1 g1 w2 g2 (ix2 i k) = w0 (ix2 0 k) * g0 (ix2 i k) + w1 (ix2 0 k) * g1 (ix2 i k) + w2 (ix2 0 k) * g2 (ix2 i k) := by
  pointwise [k0_pay15, k0_pay11]

theorem rows_apply (g : FVec Ideal S384x1408 .f32) (r : Fin 8) (k : Fin 1408) : k0_pay8 g (ix2 r k) = g (ix2 ⟨r.val, by have := r.isLt; omega⟩ k) := by
  pointwise [k0_pay8]

theorem dw_apply (g x0 x1 x2 : Vec Ideal S384x1408 .f32) (acc : Vec Ideal S8x1408 .f32) (q : Fin 8) (k : Fin 1408) :
    k0_pay1 (k0_pay12 g x0) (k0_pay13 g x1) (k0_pay14 g x2) acc (ix2 q k) = acc (ix2 q k)
      + if q.val = 0 then ∑ i : Fin 384, g (ix2 i k) * x0 (ix2 i k) else if q.val = 1 then ∑ i : Fin 384, g (ix2 i k) * x1 (ix2 i k) else if q.val = 2 then ∑ i : Fin 384, g (ix2 i k) * x2 (ix2 i k) else 0 := by
  pointwise [k0_pay1, k0_pay12, k0_pay13, k0_pay14]
  congr 1
  have := q.isLt
  split_ifs <;> first | rfl | omega

theorem grad_apply (g : FVec Ideal S384x1408 .f32) : k0_pay6 g = g := by
  unfold k0_pay6; exact shapeCast_self _ _
theorem ug_apply (g : Vec Ideal S384x1408 .bf16) (i : Fin 384) (k : Fin 1408) : k0_pay10 g (ix2 i k) = g (ix2 i k) := by
  pointwise [k0_pay10]
theorem carry_apply (n : ℕ) (hn : 0 < n) (h : n < 11) (xs : Vec Ideal S8x1408 .f32) : k0_pay7 (BitVec.ofNat 32 n) xs = xs := by
  unfold k0_pay7
  have : ∀ n : Fin 11, 0 < n.val → Scalar.cmpi .sgt (BitVec.ofNat 32 n.val) 0#32 = 1#1 := by decide
  rw [this ⟨n, h⟩ hn]
  exact shapeCast_self _ _
theorem halo_apply (n : ℕ) (h : n < 11) (xs : Vec Ideal S8x1408 .bf16) (r : Fin 8) (k : Fin 1408) :
   k0_pay9 (Scalar.subi 10#32 (BitVec.ofNat 32 n)) xs (ix2 r k) = if n < 10 then xs (ix2 r k) else 0 := by
  have : ∀ n : Fin 11, Scalar.cmpi .sgt (Scalar.subi 10#32 (BitVec.ofNat 32 n.val)) 0#32 = if n.val < 10 then 1#1 else 0#1 := by decide
  unfold k0_pay9
  rw [this ⟨n, h⟩]
  by_cases h' : n < 10
  · simp only [h', if_true]
    refine (congrFun (shapeCast_self _ _) _).trans ?_
    show shapeCast S8x1408 xs shapeCasts_S8x1408_S8x1408 (ix2 r k) = _
    exact congrFun (shapeCast_self _ _) _
  · simp only [h', if_false]
    refine (congrFun (shapeCast_self _ _) _).trans ?_
    show Ideal.ofBits .f32 0#32 = (0 : EReal)
    exact Ideal.ofBits_zero_f32

/-- Eight rows under a tile's 384, read `sh` rows down. -/
theorem below_read (b : Vec Ideal S8x1408 .f32) (g : Vec Ideal S384x1408 .f32) (sh : ℕ) (hs : sh ≤ 8) (inb) (i : Fin 384) (k : Fin 1408) :
    (View.whole cc0_scratch1).readCov (Val := Elt Ideal)
        [⟨Rect.unit (s := S392x1408) ![384, 0] ![8, 1408] inb_S392x1408_S8x1408_384_0, b⟩, ⟨Rect.unit (s := S392x1408) ![0, 0] ![384, 1408] inb_S392x1408_S384x1408_0_0, g⟩]
        (Rect.unit (s := S392x1408) ![sh, 0] ![384, 1408] inb).toLoadRect (ix2 i k)
      = if h : i.val + sh < 384 then g (ix2 ⟨i.val + sh, h⟩ k) else b (ix2 ⟨i.val + sh - 384, by have := i.isLt; omega⟩ k) := by
  rw [View.readCov_eq_canon']
  canon_tiles x h using View.cover_of_tiledBy _ ![8, 1408] (by sl_kernel_rfl) _
  · replace h0 : sh + 1 * i.val = 384 + (x 0).val := h0
    replace h1 : 0 + 1 * k.val = (x 1).val := h1
    rw [dif_neg (by omega)]
    blk_ext
  · replace h0 : sh + 1 * i.val = (x 0).val := h0
    replace h1 : 0 + 1 * k.val = (x 1).val := h1
    rw [dif_pos (by omega)]
    blk_ext

/-- Eight rows above a tile's 384, read `o` rows down. -/
theorem above_read (b : Vec Ideal S8x1408 .f32) (g : Vec Ideal S384x1408 .f32) (o : ℕ) (hs : o ≤ 8) (inb) (i : Fin 384) (k : Fin 1408) :
    (View.whole cc0_scratch2).readCov (Val := Elt Ideal)
        [⟨Rect.unit (s := S392x1408) ![8, 0] ![384, 1408] inb_S392x1408_S384x1408_8_0, g⟩, ⟨Rect.unit (s := S392x1408) ![0, 0] ![8, 1408] inb_S392x1408_S8x1408_0_0, b⟩]
        (Rect.unit (s := S392x1408) ![o, 0] ![384, 1408] inb).toLoadRect (ix2 i k)
      = if h : i.val + o < 8 then b (ix2 ⟨i.val + o, h⟩ k) else g (ix2 ⟨i.val + o - 8, by have := i.isLt; omega⟩ k) := by
  rw [View.readCov_eq_canon']
  canon_tiles x h using View.cover_of_tiledBy _ ![8, 1408] (by sl_kernel_rfl) _
  · replace h0 : o + 1 * i.val = 8 + (x 0).val := h0
    replace h1 : 0 + 1 * k.val = (x 1).val := h1
    rw [dif_neg (by omega)]
    blk_ext
  · replace h0 : o + 1 * i.val = (x 0).val := h0
    replace h1 : 0 + 1 * k.val = (x 1).val := h1
    rw [dif_pos (by omega)]
    blk_ext

end Cert.KernelIdeal.Ffn

end
-- ==== Proof.FfnRefAt.lean ====
module

public import proofs.«01_k».proof.Proof.FfnRef
public import proofs.«01_k».proof.Proof.FfnScalar

/-! The reference's results at an index. -/

@[expose] public section

set_option maxRecDepth 8192

noncomputable section

namespace Cert.ReferenceIdeal.Ffn

open Cert.ReferenceIdeal Cert.ReferenceIdeal.Gen
open Idealize.ShloMosaic Idealize.ShloMosaic.TcCoe Idealize.ShloMosaic.Tactic
open Cert.Ffn

theorem back_at (ct wd) (r : Fin 4224) (k : Fin 2816) : back ct wd (ix2 r k) = ∑ x : Fin 1024, ct (ix2 r x) * wd (ix2 k x) := by
  pointwise [back]

theorem logistic_at (x : Wide) (r : Fin 4224) (k : Fin 2816) : logistic x (ix2 r k) = sig1 (x (ix2 r k)) := by
  unfold sig1
  pointwise [logistic]

/-- The gate's gradient. -/
theorem gateGrad_at (f val da : Wide) (r : Fin 4224) (k : Fin 2816) :
    gateGrad f val da (ix2 r k) = da (ix2 r k) * val (ix2 r k) * sig1 (f (ix2 r k))
      + f (ix2 r k) * (da (ix2 r k) * val (ix2 r k)) * (sig1 (f (ix2 r k)) * (1 - sig1 (f (ix2 r k)))) := by
  rw [← logistic_at]
  pointwise [gateGrad]

theorem valGrad_at (f da : Wide) (r : Fin 4224) (k : Fin 2816) : valGrad f da (ix2 r k) = f (ix2 r k) * sig1 (f (ix2 r k)) * da (ix2 r k) := by
  rw [← logistic_at]
  pointwise [valGrad]

theorem unfilter_at (g : Wide) (w) (r : Fin 4224) (k : Fin 2816) :
    unfilter g w (ix2 r k) = w (ix2 2 k) * g (ix2 r k)
      + (if h : r.val + 1 < 4224 then w (ix2 1 k) * g (ix2 ⟨r.val + 1, h⟩ k) else 0)
      + if h : r.val + 2 < 4224 then w (ix2 0 k) * g (ix2 ⟨r.val + 2, h⟩ k) else 0 := by
  pointwise [unfilter]
  have hr := r.isLt
  congr 1
  · congr 1
    split_ifs with h1 h2 h2
    · congr 3; apply Fin.ext; show 2 + r.val - 1 = r.val + 1; omega
    · omega
    · omega
    · rfl
  · split_ifs with h1 h2 h2
    · congr 3; apply Fin.ext; show 2 + r.val = r.val + 2; omega
    · omega
    · omega
    · rfl

/-- The column of the value and gate halves that column `k` of the laid out gradient holds. -/
theorem sideBySide_gate (g v : Wide) (r : Fin 4224) (k : Fin 5632) (j : Fin 2) (x : Fin 1408) (h : k.val = 2816 * j.val + x.val) :
    sideBySide g v (ix2 r k) = g (ix2 r ⟨1408 * j.val + x.val, by have := j.isLt; have := x.isLt; omega⟩) := by
  pointwise [sideBySide]
  have hj := j.isLt
  have hx := x.isLt
  split_ifs <;> first | omega | exact congrArg _ (congrArg (ix2 r) (Fin.ext (by dsimp only; omega)))

theorem sideBySide_val (g v : Wide) (r : Fin 4224) (k : Fin 5632) (j : Fin 2) (x : Fin 1408) (h : k.val = 2816 * j.val + 1408 + x.val) :
    sideBySide g v (ix2 r k) = v (ix2 r ⟨1408 * j.val + x.val, by have := j.isLt; have := x.isLt; omega⟩) := by
  pointwise [sideBySide]
  have hj := j.isLt
  have hx := x.isLt
  split_ifs <;> first | omega | exact congrArg _ (congrArg (ix2 r) (Fin.ext (by dsimp only; omega)))

/-- The gate `s` rows up, zero above the first row. -/
def upRow (gate : Wide) (s : ℕ) (r : Fin 4224) (k : Fin 2816) : EReal :=
  if h : s ≤ r.val then gate (ix2 ⟨r.val - s, by have := r.isLt; omega⟩ k) else 0

theorem shift2_at (gate : Wide) (r : Fin 4224) (k : Fin 2816) : shift2 gate (ix2 r k) = upRow gate 0 r k := by
  unfold upRow
  rw [dif_pos (Nat.zero_le _)]
  pointwise [shift2, above]

theorem shift1_at (gate : Wide) (r : Fin 4224) (k : Fin 2816) : shift1 gate (ix2 r k) = upRow gate 1 r k := by
  unfold upRow
  by_cases h : 1 ≤ r.val
  · rw [dif_pos h]
    pointwise [shift1, above]
    rw [dif_neg (by omega)]
    exact congrArg gate (congrArg (ix2 · k) (Fin.ext (by show 1 + r.val - 2 = r.val - 1; omega)))
  · rw [dif_neg h]
    pointwise [shift1, above]
    exact dif_pos (by omega)

theorem shift0_at (gate : Wide) (r : Fin 4224) (k : Fin 2816) : shift0 gate (ix2 r k) = upRow gate 2 r k := by
  unfold upRow
  by_cases h : 2 ≤ r.val
  · rw [dif_pos h]
    pointwise [shift0, above]
    exact dif_neg (by omega)
  · rw [dif_neg h]
    pointwise [shift0, above]
    exact dif_pos (by omega)

/-- A row of sums. -/
theorem rowSum_at (x : Wide) (q : Fin 1) (k : Fin 2816) : rowSum x (ix2 q k) = ∑ r : Fin 4224, x (ix2 r k) := by
  pointwise [rowSum]
  exact Fin.sum_univ_one _

theorem filterGrad_at (g gate : Wide) (q : Fin 8) (k : Fin 2816) :
    filterGrad g gate (ix2 q k) = if q.val < 3 then ∑ r : Fin 4224, g (ix2 r k) * upRow gate (2 - q.val) r k else 0 := by
  have e0 : ∑ r : Fin 4224, g (ix2 r k) * upRow gate 2 r k = rowSum (mulf g (shift0 gate)) (ix2 0 k) := by
    rw [rowSum_at]; refine Finset.sum_congr rfl fun r _ => ?_; rw [← shift0_at]; rfl
  have e1 : ∑ r : Fin 4224, g (ix2 r k) * upRow gate 1 r k = rowSum (mulf g (shift1 gate)) (ix2 0 k) := by
    rw [rowSum_at]; refine Finset.sum_congr rfl fun r _ => ?_; rw [← shift1_at]; rfl
  have e2 : ∑ r : Fin 4224, g (ix2 r k) * upRow gate 0 r k = rowSum (mulf g (shift2 gate)) (ix2 0 k) := by
    rw [rowSum_at]; refine Finset.sum_congr rfl fun r _ => ?_; rw [← shift2_at]; rfl
  unfold filterGrad
  generalize rowSum (mulf g (shift0 gate)) = s0 at *
  generalize rowSum (mulf g (shift1 gate)) = s1 at *
  generalize rowSum (mulf g (shift2 gate)) = s2 at *
  pointwise
  have hq := q.isLt
  rcases (show q.val = 0 ∨ q.val = 1 ∨ q.val = 2 ∨ 3 ≤ q.val by omega) with h | h | h | h
  · rw [dif_pos (by omega), dif_neg (by omega), dif_neg (by omega), dif_pos (by omega), if_pos (by omega)]
    simp only [zero_add, add_zero]
    refine (congrArg s0 (congrArg (ix2 · k) (Fin.ext h))).trans (e0.symm.trans ?_)
    rw [h]
  · rw [dif_pos (by omega), dif_neg (by omega), dif_pos (by omega), dif_neg (by omega), if_pos (by omega)]
    simp only [zero_add, add_zero]
    refine (congrArg s1 (congrArg (ix2 · k) (Fin.ext (by show q.val - 1 = 0; omega)))).trans (e1.symm.trans ?_)
    rw [h]
  · rw [dif_pos (by omega), dif_pos (by omega), dif_neg (by omega), dif_neg (by omega), if_pos (by omega)]
    simp only [zero_add, add_zero]
    refine (congrArg s2 (congrArg (ix2 · k) (Fin.ext (by show q.val - 2 = 0; omega)))).trans (e2.symm.trans ?_)
    rw [h]
  · rw [dif_neg (by omega), if_neg (by omega)]
    show ((((0#32 : BitVec 32).toInt : ℝ)) : EReal) = 0
    simp

end Cert.ReferenceIdeal.Ffn

end
-- ==== Proof.FfnOut.lean ====
module

public import proofs.«01_k».proof.Proof.FfnEntry
public import proofs.«01_k».proof.Proof.FfnPay
public import proofs.«01_k».proof.Proof.FfnRefAt

/-! What a grid point leaves, in terms of its blocks: the two halves of its part of the gradient, its addition to the
    filter's gradient and the rows it carries to the tile above. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Cert.Ffn (sig1)
open Cert.ReferenceIdeal.Ffn (filtered)

variable (m : (ℓ : Loc nD τ sig) → Buf (Elt Ideal) ℓ) (c : Dev nD)

/-- The second grid coordinate of a point. -/
theorem coord1 : ∀ t : Fin cfg0.N, (grid0.coords t 1).val = t.val % 11 := by decide +kernel

/-- The gradient at the filtered gate on a point's block. -/
abbrev gradBlk (t : Fin cfg0.N) : FVec Ideal S384x1408 .f32 := k0_pay4 (iblk m c 0 t) (iblk m c 1 t) (iblk m c 2 t) (iblk m c 3 t)
abbrev valBlk (t : Fin cfg0.N) : FVec Ideal S384x1408 .bf16 := k0_pay5 (iblk m c 0 t) (iblk m c 1 t) (iblk m c 2 t)

/-- Two halves side by side in one block. -/
theorem halves_at (a b : Vec Ideal S384x1408 .bf16) (i : Fin 384) (k : Fin 2816) :
    View.canon (Val := Elt Ideal) [⟨Rect.unit (s := S384x2816) ![0, 0] ![384, 1408] inb_S384x2816_S384x1408_0_0, a⟩, ⟨Rect.unit (s := S384x2816) ![0, 1408] ![384, 1408] inb_S384x2816_S384x1408_0_1408, b⟩] (ix2 i k)
      = if h : k.val < 1408 then a (ix2 i ⟨k.val, h⟩) else b (ix2 i ⟨k.val - 1408, by have := k.isLt; omega⟩) := by
  canon_tiles x h
  · replace h0 : i.val = (x 0).val := h0
    replace h1 : k.val = (x 1).val := h1
    rw [dif_pos (by omega)]
    blk_ext
  · replace h0 : i.val = (x 0).val := h0
    replace h1 : k.val = 1408 + (x 1).val := h1
    rw [dif_neg (by omega)]
    blk_ext

/-- What the claim supposes of the arguments: three of them finite. -/
structure Finite : Prop where
  val : ∀ y, ∃ r : ℝ, valA m c y = r
  down : ∀ y, ∃ r : ℝ, downA m c y = r
  ct : ∀ y, ∃ r : ℝ, ctA m c y = r

/-- The reference's gradient at the filtered gate. -/
def gradA : FVec Ideal S4224x2816 .f32 :=
  Cert.ReferenceIdeal.Ffn.gradOf (gateA m c) (valA m c) (downA m c) (convA m c) (ctA m c)

theorem gradA_at (r : Fin 4224) (k : Fin 2816) : gradA m c (ix2 r k)
    = (∑ x : Fin 1024, ctA m c (ix2 r x) * downA m c (ix2 k x)) * valA m c (ix2 r k) * sig1 (filtered (gateA m c) (convA m c) (ix2 r k))
      + filtered (gateA m c) (convA m c) (ix2 r k) * ((∑ x : Fin 1024, ctA m c (ix2 r x) * downA m c (ix2 k x)) * valA m c (ix2 r k))
        * (sig1 (filtered (gateA m c) (convA m c) (ix2 r k)) * (1 - sig1 (filtered (gateA m c) (convA m c) (ix2 r k)))) := by
  rw [← Cert.ReferenceIdeal.Ffn.back_at]
  exact Cert.ReferenceIdeal.Ffn.gateGrad_at _ _ _ r k

/-- A point's block of that gradient. -/
theorem gradBlk_at (hf : Finite m c) (t : Fin cfg0.N) (i : Fin 384) (k : Fin 1408) :
    gradBlk m c t (ix2 i k) = gradA m c (ix2 (row t i) (col t k)) := by
  refine (dgc_apply _ _ _ _ i k).trans ?_
  simp only [blk0 m c, blk1 m c, blk2 m c, blk3 m c]
  rw [gradA_at]
  obtain ⟨v, hv⟩ := hf.val (ix2 (row t i) (col t k))
  obtain ⟨b, hb⟩ := Cert.Ffn.sum_finite (fun x : Fin 1024 => ctA m c (ix2 (row t i) x)) (fun x => downA m c (ix2 (col t k) x))
    (fun x => hf.ct _) (fun x => hf.down _)
  rw [hv, hb, ← EReal.coe_mul]
  exact Cert.Ffn.grad_forms _ _

/-- Row `n` of that gradient, zero past the last row. -/
def downRow (n : ℕ) (k : Fin 2816) : EReal := if h : n < 4224 then gradA m c (ix2 ⟨n, h⟩ k) else 0

theorem downRow_row (hf : Finite m c) (t : Fin cfg0.N) (i : Fin 384) (k : Fin 1408) :
    gradBlk m c t (ix2 i k) = downRow m c (384 * (10 - t.val % 11) + i.val) (col t k) := by
  rw [gradBlk_at m c hf]
  have := i.isLt
  unfold downRow
  rw [dif_pos (by omega)]
  rfl

theorem unfilter_row (r : Fin 4224) (k : Fin 2816) :
    Cert.ReferenceIdeal.Ffn.unfilter (gradA m c) (convA m c) (ix2 r k)
      = convA m c (ix2 0 k) * downRow m c (r.val + 2) k + convA m c (ix2 1 k) * downRow m c (r.val + 1) k + convA m c (ix2 2 k) * downRow m c r.val k := by
  rw [Cert.ReferenceIdeal.Ffn.unfilter_at]
  have e0 : downRow m c r.val k = gradA m c (ix2 r k) := dif_pos r.isLt
  have e1 : convA m c (ix2 1 k) * downRow m c (r.val + 1) k = if h : r.val + 1 < 4224 then convA m c (ix2 1 k) * gradA m c (ix2 ⟨r.val + 1, h⟩ k) else 0 := by
    unfold downRow; split_ifs
    · rfl
    · exact mul_zero _
  have e2 : convA m c (ix2 0 k) * downRow m c (r.val + 2) k = if h : r.val + 2 < 4224 then convA m c (ix2 0 k) * gradA m c (ix2 ⟨r.val + 2, h⟩ k) else 0 := by
    unfold downRow; split_ifs
    · rfl
    · exact mul_zero _
  rw [e0, ← e1, ← e2]
  abel

theorem ld_row (v : Vec Ideal S8x1408 .f32) (q : Fin 8) (inb) (k : Fin 1408) :
    View.ld v (Rect.unit (s := S8x1408) ![q.val, 0] ![1, 1408] inb) (ix2 0 k) = v (ix2 q k) := by
  show v _ = v _
  refine congrArg v (funext fun a => Fin.ext ?_)
  fin_cases a
  · show q.val + 1 * 0 = q.val; omega
  · show 0 + 1 * k.val = k.val; omega

/-- The gate half of a point's block: the filter's transpose over the tile and the eight rows `b` under it. -/
theorem gate_half (hf : Finite m c) (t : Fin cfg0.N) (b : Vec Ideal S8x1408 .f32)
    (hb : ∀ (r : Fin 8) k, b (ix2 r k) = downRow m c (384 * (10 - t.val % 11) + 384 + r.val) (col t k)) (i : Fin 384) (k : Fin 1408) :
    k0_pay15 k0_pay11 (View.ld (iblk m c 6 t) (Rect.unit (s := S8x1408) ![0, 0] ![1, 1408] inb_S8x1408_S1x1408_0_0))
        ((View.whole cc0_scratch1).readCov (Val := Elt Ideal)
          [⟨Rect.unit (s := S392x1408) ![384, 0] ![8, 1408] inb_S392x1408_S8x1408_384_0, b⟩, ⟨Rect.unit (s := S392x1408) ![0, 0] ![384, 1408] inb_S392x1408_S384x1408_0_0, k0_pay6 (gradBlk m c t)⟩]
          (Rect.unit (s := S392x1408) ![2, 0] ![384, 1408] inb_S392x1408_S384x1408_2_0).toLoadRect)
        (View.ld (iblk m c 6 t) (Rect.unit (s := S8x1408) ![1, 0] ![1, 1408] inb_S8x1408_S1x1408_1_0))
        ((View.whole cc0_scratch1).readCov (Val := Elt Ideal)
          [⟨Rect.unit (s := S392x1408) ![384, 0] ![8, 1408] inb_S392x1408_S8x1408_384_0, b⟩, ⟨Rect.unit (s := S392x1408) ![0, 0] ![384, 1408] inb_S392x1408_S384x1408_0_0, k0_pay6 (gradBlk m c t)⟩]
          (Rect.unit (s := S392x1408) ![1, 0] ![384, 1408] inb_S392x1408_S384x1408_1_0).toLoadRect)
        (View.ld (iblk m c 6 t) (Rect.unit (s := S8x1408) ![2, 0] ![1, 1408] inb_S8x1408_S1x1408_2_0))
        (k0_pay6 (gradBlk m c t)) (ix2 i k)
      = Cert.ReferenceIdeal.Ffn.unfilter (gradA m c) (convA m c) (ix2 (row t i) (col t k)) := by
  have hi := i.isLt
  have e : ∀ s : ℕ, (hs : s ≤ 8) → (if h : i.val + s < 384 then gradBlk m c t (ix2 ⟨i.val + s, h⟩ k) else b (ix2 ⟨i.val + s - 384, by omega⟩ k))
      = downRow m c ((row t i).val + s) (col t k) := by
    intro s hs
    split_ifs with h
    · rw [downRow_row m c hf]; exact congrArg (downRow m c · _) (by show _ = 384 * (10 - t.val % 11) + i.val + s; dsimp only; omega)
    · rw [hb]; exact congrArg (downRow m c · _) (by show _ = 384 * (10 - t.val % 11) + i.val + s; dsimp only; omega)
  rw [dx_apply, below_read b _ 2 (by decide), below_read b _ 1 (by decide), grad_apply, e 2 (by decide), e 1 (by decide), downRow_row m c hf,
    unfilter_row, show downRow m c (384 * (10 - t.val % 11) + i.val) = downRow m c (row t i).val from rfl]
  have l0 := (ld_row (iblk m c 6 t) 0 inb_S8x1408_S1x1408_0_0 k).trans (blk6 m c t 0 k (by decide))
  have l1 := (ld_row (iblk m c 6 t) 1 inb_S8x1408_S1x1408_1_0 k).trans (blk6 m c t 1 k (by decide))
  have l2 := (ld_row (iblk m c 6 t) 2 inb_S8x1408_S1x1408_2_0 k).trans (blk6 m c t 2 k (by decide))
  exact congrArg₂ (· + ·) (congrArg₂ (· + ·) (congrArg (· * _) l0) (congrArg (· * _) l1)) (congrArg (· * _) l2)

/-- The value half. -/
theorem val_half (t : Fin cfg0.N) (i : Fin 384) (k : Fin 1408) :
    valBlk m c t (ix2 i k) = Cert.ReferenceIdeal.Ffn.valGrad (filtered (gateA m c) (convA m c)) (Cert.ReferenceIdeal.Ffn.back (ctA m c) (downA m c)) (ix2 (row t i) (col t k)) := by
  refine (dval_apply _ _ _ i k).trans ?_
  simp only [blk0 m c, blk1 m c, blk2 m c]
  rw [Cert.ReferenceIdeal.Ffn.valGrad_at, Cert.ReferenceIdeal.Ffn.back_at]
  exact mul_comm _ _

/-- A point's part of the gradient, both halves. -/
def duAt (t : Fin cfg0.N) (i : Fin 384) (k : Fin 2816) : EReal :=
  if h : k.val < 1408 then Cert.ReferenceIdeal.Ffn.unfilter (gradA m c) (convA m c) (ix2 (row t i) (col t ⟨k.val, h⟩))
  else Cert.ReferenceIdeal.Ffn.valGrad (filtered (gateA m c) (convA m c)) (Cert.ReferenceIdeal.Ffn.back (ctA m c) (downA m c)) (ix2 (row t i) (col t ⟨k.val - 1408, by have := k.isLt; omega⟩))

theorem first_du (hf : Finite m c) (t : Fin cfg0.N) (h : t.val % 11 = 0) (i : Fin 384) (k : Fin 2816) : (firstOut m c t h).1 (ix2 i k) = duAt m c t i k := by
  unfold firstOut firstAt
  frame_open
  simp (disch := decide) only [↓ View.readCov_skip, ↓ View.readCov_cons_toLoadRect, ↓ View.readCov_fill]
  frame_out
  simp only [read_unread_whole]
  refine (halves_at _ _ i k).trans ?_
  unfold duAt
  split_ifs with hk
  · refine gate_half m c hf t _ (fun r k => ?_) i ⟨k.val, hk⟩
    rw [below_first ((first_iff t).mpr h)]
    refine Eq.trans ?_ (dif_neg (by omega)).symm
    exact Ideal.ofBits_zero_f32
  · exact val_half m c t i _

theorem next_du (hf : Finite m c) (t : Fin cfg0.N) (h : ¬t.val % 11 = 0) (xo xs : Vec Ideal S8x1408 .f32)
    (hx : ∀ (r : Fin 8) k, xs (ix2 r k) = downRow m c (384 * (10 - t.val % 11) + 384 + r.val) (col t k))
    (i : Fin 384) (k : Fin 2816) : (nextOut m c t h xo xs).1 (ix2 i k) = duAt m c t i k := by
  unfold nextOut nextAt
  frame_open
  simp (disch := decide) only [↓ View.readCov_skip, ↓ View.readCov_cons_toLoadRect, ↓ View.readCov_fill]
  frame_out
  simp only [read_unread_whole]
  refine (halves_at _ _ i k).trans ?_
  unfold duAt
  split_ifs with hk
  · refine gate_half m c hf t _ (fun r k => ?_) i ⟨k.val, hk⟩
    rw [carry_apply _ (by rw [coord1]; omega) (by rw [coord1]; omega), hx]
  · exact val_half m c t i _

theorem first_rows (t : Fin cfg0.N) (h : t.val % 11 = 0) : (firstOut m c t h).2.2 = k0_pay8 (gradBlk m c t) := by
  unfold firstOut firstAt
  frame_open
  simp (disch := decide) only [↓ View.readCov_skip, ↓ View.readCov_cons_toLoadRect, ↓ View.readCov_fill]
  frame_out

theorem next_rows (t : Fin cfg0.N) (h : ¬t.val % 11 = 0) (xo xs : Vec Ideal S8x1408 .f32) : (nextOut m c t h xo xs).2.2 = k0_pay8 (gradBlk m c t) := by
  unfold nextOut nextAt
  frame_open
  simp (disch := decide) only [↓ View.readCov_skip, ↓ View.readCov_cons_toLoadRect, ↓ View.readCov_fill]
  frame_out

/-- The rows a point carries to the tile above. -/
theorem rows_at (hf : Finite m c) (t : Fin cfg0.N) (r : Fin 8) (k : Fin 1408) :
    (outsAt m c t.val t.isLt).2.2 (ix2 r k) = downRow m c (384 * (10 - t.val % 11) + r.val) (col t k) := by
  have e : (outsAt m c t.val t.isLt).2.2 = k0_pay8 (gradBlk m c t) := by
    by_cases h : t.val % 11 = 0
    · rw [outsAt_first m c t h, first_rows]
    · rw [outsAt_next m c t h, next_rows]
  rw [e, rows_apply]
  exact downRow_row m c hf t _ k

/-- The point before `t`, in the same half. -/
def before (t : Fin cfg0.N) : Fin cfg0.N := ⟨t.val - 1, by have := t.isLt; omega⟩

theorem col_before (t : Fin cfg0.N) (h : ¬t.val % 11 = 0) (k : Fin 1408) : col (before t) k = col t k := by
  apply Fin.ext; show 1408 * ((t.val - 1) / 11) + k.val = 1408 * (t.val / 11) + k.val; omega

/-- A point's part of the gradient. -/
theorem du_at (hf : Finite m c) (t : Fin cfg0.N) (i : Fin 384) (k : Fin 2816) : (outsAt m c t.val t.isLt).1 (ix2 i k) = duAt m c t i k := by
  by_cases h : t.val % 11 = 0
  · rw [outsAt_first m c t h, first_du m c hf]
  · rw [outsAt_next m c t h, next_du m c hf]
    intro r k
    rw [← col_before t h]
    refine (rows_at m c hf (before t) r k).trans ?_
    exact congrArg (downRow m c · _) (by show 384 * (10 - (t.val - 1) % 11) + r.val = _; omega)

/-- One row of a tile's addition to the filter's gradient. -/
def tapAt (q : ℕ) (n : ℕ) (k : Fin 2816) : EReal :=
  if h : n < 4224 then gradA m c (ix2 ⟨n, h⟩ k) * Cert.ReferenceIdeal.Ffn.upRow (gateA m c) (2 - q) ⟨n, h⟩ k else 0

/-- A tile's addition to row `q` of the filter's gradient. -/
def addAt (q : ℕ) (p : ℕ) (k : Fin 2816) : EReal :=
  if q < 3 then ∑ i ∈ Finset.range 384, tapAt m c q (384 * p + i) k else 0

theorem tap_sum (hf : Finite m c) (t : Fin cfg0.N) (q : ℕ) (hq : q < 3) (k : Fin 1408) (x : Vec Ideal S384x1408 .f32)
    (hx : ∀ i, x (ix2 i k) = Cert.ReferenceIdeal.Ffn.upRow (gateA m c) (2 - q) (row t i) (col t k)) :
    ∑ i : Fin 384, gradBlk m c t (ix2 i k) * x (ix2 i k) = addAt m c q (10 - t.val % 11) (col t k) := by
  unfold addAt
  rw [if_pos hq, Finset.sum_range]
  refine Finset.sum_congr rfl fun i _ => ?_
  rw [hx, gradBlk_at m c hf]
  unfold tapAt
  have := i.isLt
  rw [dif_pos (by omega)]
  rfl

/-- The gate `s` rows up, on a tile: the tile under the eight rows above it. -/
theorem above_at (t : Fin cfg0.N) (s : ℕ) (o : ℕ) (hs : s + o = 8) (hs8 : s ≤ 8) (inb) (i : Fin 384) (k : Fin 1408) :
    (View.whole cc0_scratch2).readCov (Val := Elt Ideal)
        [⟨Rect.unit (s := S392x1408) ![8, 0] ![384, 1408] inb_S392x1408_S384x1408_8_0, k0_pay10 (iblk m c 4 t)⟩,
         ⟨Rect.unit (s := S392x1408) ![0, 0] ![8, 1408] inb_S392x1408_S8x1408_0_0, k0_pay9 (Scalar.subi 10#32 (BitVec.ofNat 32 (grid0.coords t 1).val)) (iblk m c 5 t)⟩]
        (Rect.unit (s := S392x1408) ![o, 0] ![384, 1408] inb).toLoadRect (ix2 i k)
      = Cert.ReferenceIdeal.Ffn.upRow (gateA m c) s (row t i) (col t k) := by
  have hi := i.isLt
  have hr : (row t i).val = 384 * (10 - t.val % 11) + i.val := rfl
  rw [above_read _ _ o (by omega)]
  unfold Cert.ReferenceIdeal.Ffn.upRow
  split_ifs with h1 h2 h2
  · rw [halo_apply _ (by rw [coord1]; omega), coord1, if_pos (by omega), blk5 m c t (by omega)]
    exact congrArg (gateA m c) (congrArg (ix2 · _) (Fin.ext (by dsimp only; omega)))
  · rw [halo_apply _ (by rw [coord1]; omega), coord1, if_neg (by omega)]
  · rw [ug_apply, blk4]
    exact congrArg (gateA m c) (congrArg (ix2 · _) (Fin.ext (by show 384 * (10 - t.val % 11) + _ = _; dsimp only; omega)))
  · omega

/-- A point's addition to the filter's gradient. -/
theorem add_at (hf : Finite m c) (t : Fin cfg0.N) (acc : Vec Ideal S8x1408 .f32) (q : Fin 8) (k : Fin 1408) :
    k0_pay1
      (k0_pay12 (gradBlk m c t) ((View.whole cc0_scratch2).readCov (Val := Elt Ideal)
        [⟨Rect.unit (s := S392x1408) ![8, 0] ![384, 1408] inb_S392x1408_S384x1408_8_0, k0_pay10 (iblk m c 4 t)⟩,
         ⟨Rect.unit (s := S392x1408) ![0, 0] ![8, 1408] inb_S392x1408_S8x1408_0_0, k0_pay9 (Scalar.subi 10#32 (BitVec.ofNat 32 (grid0.coords t 1).val)) (iblk m c 5 t)⟩]
        (Rect.unit (s := S392x1408) ![6, 0] ![384, 1408] inb_S392x1408_S384x1408_6_0).toLoadRect))
      (k0_pay13 (gradBlk m c t) ((View.whole cc0_scratch2).readCov (Val := Elt Ideal)
        [⟨Rect.unit (s := S392x1408) ![8, 0] ![384, 1408] inb_S392x1408_S384x1408_8_0, k0_pay10 (iblk m c 4 t)⟩,
         ⟨Rect.unit (s := S392x1408) ![0, 0] ![8, 1408] inb_S392x1408_S8x1408_0_0, k0_pay9 (Scalar.subi 10#32 (BitVec.ofNat 32 (grid0.coords t 1).val)) (iblk m c 5 t)⟩]
        (Rect.unit (s := S392x1408) ![7, 0] ![384, 1408] inb_S392x1408_S384x1408_7_0).toLoadRect))
      (k0_pay14 (gradBlk m c t) (k0_pay10 (iblk m c 4 t))) acc (ix2 q k)
      = acc (ix2 q k) + addAt m c q.val (10 - t.val % 11) (col t k) := by
  refine (dw_apply _ _ _ _ acc q k).trans (congrArg (acc (ix2 q k) + ·) ?_)
  split_ifs with h0 h1 h2
  · rw [h0]; exact tap_sum m c hf t 0 (by decide) k _ fun i => above_at m c t 2 6 rfl (by decide) _ i k
  · rw [h1]; exact tap_sum m c hf t 1 (by decide) k _ fun i => above_at m c t 1 7 rfl (by decide) _ i k
  · rw [h2]; refine tap_sum m c hf t 2 (by decide) k _ fun i => ?_
    rw [ug_apply, blk4]
    unfold Cert.ReferenceIdeal.Ffn.upRow
    rw [dif_pos (Nat.zero_le _)]
    rfl
  · exact (if_neg (by omega)).symm

theorem first_dw (hf : Finite m c) (t : Fin cfg0.N) (h : t.val % 11 = 0) (q : Fin 8) (k : Fin 1408) :
    (firstOut m c t h).2.1 (ix2 q k) = 0 + addAt m c q.val (10 - t.val % 11) (col t k) := by
  unfold firstOut firstAt
  frame_open
  simp (disch := decide) only [↓ View.readCov_skip, ↓ View.readCov_cons_toLoadRect, ↓ View.readCov_fill]
  frame_out
  refine (add_at m c hf t _ q k).trans (congrArg (· + _) ?_)
  exact Ideal.ofBits_zero_f32

theorem next_dw (hf : Finite m c) (t : Fin cfg0.N) (h : ¬t.val % 11 = 0) (xo xs : Vec Ideal S8x1408 .f32) (q : Fin 8) (k : Fin 1408) :
    (nextOut m c t h xo xs).2.1 (ix2 q k) = xo (ix2 q k) + addAt m c q.val (10 - t.val % 11) (col t k) := by
  unfold nextOut nextAt
  frame_open
  simp (disch := decide) only [↓ View.readCov_skip, ↓ View.readCov_cons_toLoadRect, ↓ View.readCov_fill]
  frame_out
  exact add_at m c hf t _ q k

theorem dw_first (hf : Finite m c) (t : Fin cfg0.N) (h : t.val % 11 = 0) (q : Fin 8) (k : Fin 1408) :
    (outsAt m c t.val t.isLt).2.1 (ix2 q k) = addAt m c q.val (10 - 0) (col t k) := by
  rw [outsAt_first m c t h, first_dw m c hf, zero_add, h]

theorem dw_next (hf : Finite m c) (t : Fin cfg0.N) (h : ¬t.val % 11 = 0) (q : Fin 8) (k : Fin 1408) :
    (outsAt m c t.val t.isLt).2.1 (ix2 q k)
      = (outsAt m c (before t).val (before t).isLt).2.1 (ix2 q k) + addAt m c q.val (10 - t.val % 11) (col t k) := by
  rw [outsAt_next m c t h, next_dw m c hf]
  rfl

/-- The filter's gradient after a point: the tiles from the last row up to this one. -/
theorem dw_upto (hf : Finite m c) (q : Fin 8) (k : Fin 1408) (n : ℕ) : ∀ hn : n < cfg0.N,
    (outsAt m c n hn).2.1 (ix2 q k) = ∑ p ∈ Finset.range (n % 11 + 1), addAt m c q.val (10 - p) (col ⟨n, hn⟩ k) := by
  induction n with
  | zero => exact fun hn => (dw_first m c hf ⟨0, hn⟩ rfl q k).trans (Finset.sum_range_one (fun p => addAt m c q.val (10 - p) (col ⟨0, hn⟩ k))).symm
  | succ n ih =>
    intro hn
    by_cases h : (n + 1) % 11 = 0
    · refine (dw_first m c hf ⟨n + 1, hn⟩ h q k).trans ?_
      rw [h]
      exact (Finset.sum_range_one (fun p => addAt m c q.val (10 - p) (col ⟨n + 1, hn⟩ k))).symm
    · refine (dw_next m c hf ⟨n + 1, hn⟩ h q k).trans ?_
      rw [show (n + 1) % 11 + 1 = (n % 11 + 1) + 1 by omega, Finset.sum_range_succ]
      refine congrArg₂ (· + ·) ?_ ?_
      · refine (ih (Nat.lt_of_succ_lt hn)).trans ?_
        exact Finset.sum_congr rfl fun p _ => congrArg (addAt m c q.val (10 - p)) (col_before ⟨n + 1, hn⟩ h k)
      · exact congrArg (addAt m c q.val · _) (by show 10 - (n + 1) % 11 = 10 - (n % 11 + 1); omega)

/-- Sums over blocks of 384 in a row. -/
theorem sum_blocks (f : ℕ → EReal) (n : ℕ) : ∑ p ∈ Finset.range n, ∑ i ∈ Finset.range 384, f (384 * p + i) = ∑ r ∈ Finset.range (384 * n), f r := by
  induction n with
  | zero => rfl
  | succ n ih => rw [Finset.sum_range_succ, ih, Nat.mul_succ, Finset.sum_range_add]

/-- The filter's gradient after a half's last tile. -/
theorem dw_at (hf : Finite m c) (t : Fin cfg0.N) (h : t.val % 11 = 10) (q : Fin 8) (k : Fin 1408) :
    (outsAt m c t.val t.isLt).2.1 (ix2 q k) = Cert.ReferenceIdeal.Ffn.filterGrad (gradA m c) (gateA m c) (ix2 q (col t k)) := by
  rw [dw_upto m c hf q k t.val t.isLt, h, Cert.ReferenceIdeal.Ffn.filterGrad_at]
  rw [show ∑ p ∈ Finset.range (10 + 1), addAt m c q.val (10 - p) (col t k) = ∑ p ∈ Finset.range 11, addAt m c q.val p (col t k) from
    Finset.sum_range_reflect (fun p => addAt m c q.val p (col t k)) 11]
  unfold addAt
  split_ifs with hq
  · rw [sum_blocks (fun n => tapAt m c q.val n (col t k)) 11, Finset.sum_range]
    refine Finset.sum_congr rfl fun r _ => ?_
    exact dif_pos r.isLt
  · exact Finset.sum_const_zero

end Cert.KernelIdeal.Ffn

end
-- ==== Proof.FfnArr.lean ====
module

public import proofs.«01_k».proof.Proof.FfnOut
public import Idealize.ShloMosaic.Lib.Pipeline.ValueKit

/-! The two result arrays after the run: the blocks the points wrote tile them, and each is a part of what the reference says. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Cert.ReferenceIdeal.Ffn (filtered sideBySide unfilter valGrad back filterGrad)

variable (m : (ℓ : Loc nD τ sig) → Buf (Elt Ideal) ℓ) (c : Dev nD)

/-- The reference's gradient at the product going up. -/
def duRef : FVec Ideal S4224x5632 .bf16 :=
  sideBySide (unfilter (gradA m c) (convA m c)) (valGrad (filtered (gateA m c) (convA m c)) (back (ctA m c) (downA m c)))

/-- A point's part lies in that gradient at the point's block. -/
theorem duAt_eq (t : Fin cfg0.N) (i : Fin 384) (k : Fin 2816) (K : Fin 5632) (hK : K.val = 2816 * (t.val / 11) + k.val) :
    duAt m c t i k = duRef m c (ix2 (row t i) K) := by
  have ht := lt22 t
  unfold duAt duRef
  split_ifs with h
  · exact (Cert.ReferenceIdeal.Ffn.sideBySide_gate _ _ (row t i) K ⟨t.val / 11, by omega⟩ ⟨k.val, h⟩ hK).symm
  · refine (Cert.ReferenceIdeal.Ffn.sideBySide_val _ _ (row t i) K ⟨t.val / 11, by omega⟩ ⟨k.val - 1408, by have := k.isLt; omega⟩ ?_).symm
    dsimp only; omega

/-- The first result array. -/
theorem du_final (hf : Finite m c) : (dats m 0 c).arrAt 7 (cfgs 0).N = duRef m c := by
  refine (dats m 0 c).arrAt_eq_of_covers 7 _ (by decide +kernel) fun t _ y => ?_
  blk_simp
  rw [after_7]
  obtain ⟨i, k, rfl⟩ : ∃ (i : Fin 384) (k : Fin 2816), y = ix2 i k := ⟨y 0, y 1, by ext a; fin_cases a <;> rfl⟩
  refine (du_at m c hf t i k).trans ?_
  have ht := lt22 t
  rw [duAt_eq m c t i k ⟨2816 * (t.val / 11) + k.val, by have := k.isLt; omega⟩ rfl]
  unfold row
  blk_ext [idx t]

/-- The second result array. -/
theorem dw_final (hf : Finite m c) : (dats m 0 c).arrAt 8 (cfgs 0).N = filterGrad (gradA m c) (gateA m c) := by
  refine (dats m 0 c).arrAt_eq_of_covers 8 _ (by decide +kernel) fun t ht y => ?_
  blk_simp
  rw [after_8]
  obtain ⟨q, k, rfl⟩ : ∃ (q : Fin 8) (k : Fin 1408), y = ix2 q k := ⟨y 0, y 1, by ext a; fin_cases a <;> rfl⟩
  refine (dw_at m c hf t ((flush0_8 t).mp ht) q k).trans ?_
  unfold col
  blk_ext [idx t]

end Cert.KernelIdeal.Ffn

end
-- ==== Proof.FfnEq.lean ====
module

public import proofs.«01_k».proof.Defs
public import proofs.«01_k».proof.Proof.FfnArr
public import proofs.«01_k».proof.Proof.Gen.Kernel
public import proofs.«01_k».proof.Proof.Gen.ReferenceIdeal.Run
public import Idealize.ShloMosaic.Lib.Ring
public import Idealize.ShloMosaic.Adequacy
public import Idealize.ShloMosaic.Init

/-! The claims about the gated MLP's backward kernel: the run's frame at both readings of the floats, and the equation
    of its two results with the reference's. -/

@[expose] public section

set_option maxRecDepth 16384

noncomputable section

namespace Cert.Proof.Ffn

open Idealize.ShloMosaic Idealize.ShloMosaic.TcCoe Idealize.SL.Sem
open Idealize.ShloMosaic.Tactic
open Cert.KernelIdeal.Ffn

/-- The predicate's side conditions on shapes. -/
theorem facts_pre : Cert.Pre_finite_operands.Facts where
  bcast_S_S4224x2816 := by decide
  bcast_S_S2816x1024 := by decide
  bcast_S_S4224x1024 := by decide

theorem ofBits_inf : Ideal.ofBits .f32 0x7F800000#32 = ⊤ := by simp [Ideal.ofBits, Ideal.ieee]

/-- A comparison of a magnitude with infinity that came out true: the number is finite. -/
theorem finite_of_cmp (x : EReal) (h : Ideal.cmp .olt (max x (-x)) (Ideal.ofBits .f32 0x7F800000#32) = 1#1) : ∃ r : ℝ, x = r := by
  rw [ofBits_inf] at h
  refine Cert.Ffn.finite_of_abs_lt ?_
  by_contra hn
  have e : Ideal.cmp .olt (max x (-x)) (⊤ : EReal) = 0#1 := by
    unfold Ideal.cmp
    dsimp only
    rw [decide_eq_false hn]
    rfl
  rw [e] at h
  exact absurd h (by decide)

attribute [local instance] facts_pre

/-- What the claim supposes, read at the kernel's arguments. -/
theorem finite_of_pre (m : (ℓ : Loc Cert.KernelIdeal.nD Cert.KernelIdeal.τ Cert.KernelIdeal.sig) → Buf (Elt Ideal) ℓ)
    (h : Cert.Pre_KernelIdeal_finite_operands m) (c : Dev Cert.KernelIdeal.nD) : Finite m c where
  val y := finite_of_cmp _ (congrFun (h c).1 y)
  down y := finite_of_cmp _ (congrFun (h c).2.1 y)
  ct y := finite_of_cmp _ (congrFun (h c).2.2 y)

theorem quiescent_kernelIdeal : Cert.quiescent_KernelIdeal := fun m ρ _ => Cert.KernelIdeal.Ffn.run_frame (F := Ideal) m ρ

/-- What the frame says of a run of the kernel's ideal printing, at any reading of the floats. -/
def Framed (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem framed (F : FTy → Type) [FloatOps F] : Framed F := fun m ρ _ => run_frame m ρ

/-- The two printings are one program, line for line. -/
theorem kernel_framed : Cert.quiescent_Kernel = Framed Bits := by sl_kernel_rfl

theorem quiescent_kernel : Cert.quiescent_Kernel := kernel_framed.mpr (framed Bits)

theorem quiescent_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The run, with the result arrays named. -/
theorem run_named (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (Pipeline.FramePost Cert.KernelIdeal.cfgs (dats m) 0 (Cert.KernelIdeal.Gen.V m)) :=
  (θ_run Cert.KernelIdeal.defs _ _).mono (fun _ h => h.1) (run_main m ρ)

/-- Both results of the reference, over the kernel's arguments. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = gateA m c)
    (h1 : m' ((c.tc : Thread Cert.ReferenceIdeal.nD Cert.ReferenceIdeal.τ).loc Cert.ReferenceIdeal.main_arg1) = valA m c)
    (h2 : m' ((c.tc : Thread Cert.ReferenceIdeal.nD Cert.ReferenceIdeal.τ).loc Cert.ReferenceIdeal.main_arg2) = downA m c)
    (h3 : m' ((c.tc : Thread Cert.ReferenceIdeal.nD Cert.ReferenceIdeal.τ).loc Cert.ReferenceIdeal.main_arg3) = convA m c)
    (h4 : m' ((c.tc : Thread Cert.ReferenceIdeal.nD Cert.ReferenceIdeal.τ).loc Cert.ReferenceIdeal.main_arg4) = ctA m c) :
    Cert.ReferenceIdeal.Value.res_main_v70 m' c = duRef m c
      ∧ Cert.ReferenceIdeal.Value.res_main_v71 m' c = Cert.ReferenceIdeal.Ffn.filterGrad (gradA m c) (gateA m c) := by
  refine ⟨(Cert.ReferenceIdeal.Ffn.res_du m' c).trans ?_, (Cert.ReferenceIdeal.Ffn.res_dw m' c).trans ?_⟩
  · rw [h0, h1, h2, h3, h4]; rfl
  · rw [h0, h1, h2, h3, h4]; rfl

/-- The two results are the reference's. -/
theorem equation : Cert.algebraic_KernelIdeal_ReferenceIdeal_pre_finite_operands := by
  pair_intro
  · run_from run_named m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · run_from Cert.ReferenceIdeal.Value.run m' g'
    · exact (reference_eq m m' c (hagree c).1 (hagree c).2.1 (hagree c).2.2.1 (hagree c).2.2.2.1 (hagree c).2.2.2.2).1.trans (du_final m c (finite_of_pre m hpre c)).symm
    · exact (reference_eq m m' c (hagree c).1 (hagree c).2.1 (hagree c).2.2.1 (hagree c).2.2.2.1 (hagree c).2.2.2.2).2.trans (dw_final m c (finite_of_pre m hpre c)).symm

end Cert.Proof.Ffn

end
-- ==== Proof.Sums.lean ====
module

public import Idealize.ShloMosaic.Lib.Pipeline.ValueKit

/-! A contraction taken in a few parts. -/

@[expose] public section

namespace Cert.Sums

/-- A sum over three runs of 1408 terms is the sum over all 4224. -/
theorem three (f : Fin 4224 → EReal) :
    (∑ k : Fin 1408, f ⟨k.val, by omega⟩) + (∑ k : Fin 1408, f ⟨1408 + k.val, by omega⟩) + (∑ k : Fin 1408, f ⟨2816 + k.val, by omega⟩) = ∑ k, f k := by
  have h1 := Fin.sum_univ_add (a := 1408 + 1408) (b := 1408) f
  have h2 := Fin.sum_univ_add (a := 1408) (b := 1408) (fun k => f (Fin.castAdd 1408 k))
  exact ((congrArg (· + _) h2.symm).trans h1.symm)

/-- A sum over two runs of 1408 terms is the sum over all 2816. -/
theorem two (f : Fin 2816 → EReal) :
    (∑ k : Fin 1408, f ⟨k.val, by omega⟩) + (∑ k : Fin 1408, f ⟨1408 + k.val, by omega⟩) = ∑ k, f k :=
  (Fin.sum_univ_add (a := 1408) (b := 1408) f).symm

/-- A sum over two runs of 768 terms is the sum over all 1536. -/
theorem two768 (f : Fin 1536 → EReal) :
    (∑ k : Fin 768, f ⟨768 * (0 : Fin 2).val + k.val, by omega⟩) + (∑ k : Fin 768, f ⟨768 * (1 : Fin 2).val + k.val, by omega⟩) = ∑ k, f k :=
  (congrArg (· + _) (Finset.sum_congr rfl fun k _ => congrArg f (Fin.ext (by show 768 * 0 + k.val = k.val; omega)))).trans
    (Fin.sum_univ_add (a := 768) (b := 768) f).symm

/-- A sum over three runs of 1280 terms is the sum over all 3840. -/
theorem three1280 (f : Fin 3840 → EReal) :
    (∑ k : Fin 1280, f ⟨1280 * (0 : Fin 3).val + k.val, by omega⟩) + (∑ k : Fin 1280, f ⟨1280 * (1 : Fin 3).val + k.val, by omega⟩)
      + (∑ k : Fin 1280, f ⟨1280 * (2 : Fin 3).val + k.val, by omega⟩) = ∑ k, f k := by
  have h1 := Fin.sum_univ_add (a := 1280 + 1280) (b := 1280) f
  have h2 := Fin.sum_univ_add (a := 1280) (b := 1280) (fun k => f (Fin.castAdd 1280 k))
  rw [h2] at h1
  refine Eq.trans ?_ h1.symm
  refine congrArg₂ (· + ·) (congrArg₂ (· + ·) ?_ ?_) ?_ <;>
    refine Finset.sum_congr rfl fun k _ => congrArg f (Fin.ext ?_)
  · show 1280 * 0 + k.val = k.val; omega
  · show 1280 * 1 + k.val = 1280 + k.val; omega
  · show 1280 * 2 + k.val = 1280 + 1280 + k.val; omega

/-- A sum over four runs of 1408 terms, the two in the middle exchanged, is the sum over all 5632. -/
theorem four (f : Fin 5632 → EReal) :
    (∑ k : Fin 1408, f ⟨1408 * ((0 : Fin 4).val % 2 * 2 + (0 : Fin 4).val / 2) + k.val, by have := (0 : Fin 4).isLt; omega⟩)
      + (∑ k : Fin 1408, f ⟨1408 * ((1 : Fin 4).val % 2 * 2 + (1 : Fin 4).val / 2) + k.val, by have := (1 : Fin 4).isLt; omega⟩)
      + (∑ k : Fin 1408, f ⟨1408 * ((2 : Fin 4).val % 2 * 2 + (2 : Fin 4).val / 2) + k.val, by have := (2 : Fin 4).isLt; omega⟩)
      + (∑ k : Fin 1408, f ⟨1408 * ((3 : Fin 4).val % 2 * 2 + (3 : Fin 4).val / 2) + k.val, by have := (3 : Fin 4).isLt; omega⟩) = ∑ k, f k := by
  have h1 := Fin.sum_univ_add (a := 1408 + 1408 + 1408) (b := 1408) f
  have h2 := Fin.sum_univ_add (a := 1408 + 1408) (b := 1408) (fun k => f (Fin.castAdd 1408 k))
  have h3 := Fin.sum_univ_add (a := 1408) (b := 1408) (fun k => f (Fin.castAdd 1408 (Fin.castAdd 1408 k)))
  rw [h2, h3] at h1
  refine Eq.trans ?_ h1.symm
  refine (congrArg (· + _) (add_right_comm _ _ _)).trans ?_
  refine congrArg₂ (· + ·) (congrArg₂ (· + ·) (congrArg₂ (· + ·) ?_ ?_) ?_) ?_ <;>
    refine Finset.sum_congr rfl fun k _ => congrArg f (Fin.ext ?_)
  · show 1408 * 0 + k.val = k.val; omega
  · show 1408 * 1 + k.val = 1408 + k.val; omega
  · show 1408 * 2 + k.val = 1408 + 1408 + k.val; omega
  · show 1408 * 3 + k.val = 1408 + 1408 + 1408 + k.val; omega

/-- A sum over 1536 terms in runs of 1024, 256 and 256. -/
theorem concat (f : Fin 1536 → EReal) :
    ∑ k, f k = (∑ k : Fin 1024, f ⟨k.val, by omega⟩) + ((∑ k : Fin 256, f ⟨1024 + k.val, by omega⟩) + (∑ k : Fin 256, f ⟨1280 + k.val, by omega⟩)) := by
  have h1 := Fin.sum_univ_add (a := 1024 + 256) (b := 256) f
  have h2 := Fin.sum_univ_add (a := 1024) (b := 256) (fun k => f (Fin.castAdd 256 k))
  exact h1.trans ((congrArg (· + _) h2).trans (add_assoc _ _ _))

end Cert.Sums

end
-- ==== Proof.UpDw.lean ====
module

public import proofs.«01_k».proof.Defs
public import proofs.«01_k».proof.Proof.Gen.UpDw
public import proofs.«01_k».proof.Proof.Gen.UpDwIdeal.Value
public import proofs.«01_k».proof.Proof.Gen.UpDwRefIdeal.Run
public import proofs.«01_k».proof.Proof.Sums
public import Idealize.ShloMosaic.Lib.Pipeline.ValueKit
public import Idealize.ShloMosaic.Lib.Ring
public import Idealize.ShloMosaic.Adequacy
public import Idealize.ShloMosaic.Init

/-! The gradient of the up projection: one product over the rows, taken in three parts of 1408 rows. -/

@[expose] public section

set_option maxRecDepth 16384

noncomputable section

namespace Cert.UpDwIdeal.Prod

open Cert.UpDwIdeal Cert.UpDwIdeal.Gen
open Idealize.ShloMosaic Idealize.ShloMosaic.TcCoe Idealize.ShloMosaic.Tactic

/-! ### The body's arithmetic -/

theorem first_at (a : Vec Ideal S1408x1024 .bf16) (b : Vec Ideal S1408x1408 .bf16) (i : Fin 1024) (j : Fin 1408) :
    k0_pay1 a b (ix2 i j) = ∑ k : Fin 1408, a (ix2 k i) * b (ix2 k j) := by
  pointwise [k0_pay1]

theorem next_at (acc : Vec Ideal S1024x1408 .f32) (a : Vec Ideal S1408x1024 .bf16) (b : Vec Ideal S1408x1408 .bf16) (i : Fin 1024) (j : Fin 1408) :
    k0_pay2 acc a b (ix2 i j) = acc (ix2 i j) + ∑ k : Fin 1408, a (ix2 k i) * b (ix2 k j) := by
  pointwise [k0_pay2]

theorem last_at (acc : Vec Ideal S1024x1408 .f32) (a : Vec Ideal S1408x1024 .bf16) (b : Vec Ideal S1408x1408 .bf16) (i : Fin 1024) (j : Fin 1408) :
    k0_pay3 acc a b (ix3 0 i j) = acc (ix2 i j) + ∑ k : Fin 1408, a (ix2 k i) * b (ix2 k j) := by
  pointwise [k0_pay3]

variable (m : (ℓ : Loc nD τ sig) → Buf (Elt Ideal) ℓ) (c : Dev nD)

abbrev hA : FVec Ideal S4224x1024 .f32 := m ((c.tc : Thread nD τ).loc main_arg0)
abbrev dA : FVec Ideal S4224x5632 .f32 := m ((c.tc : Thread nD τ).loc main_arg1)

/-- The block every window is at. -/
theorem idx : ∀ t : Fin cfg0.N, win0_0.index t = ![t.val % 3, 0] ∧ win0_1.index t = ![t.val % 3, t.val / 3]
    ∧ win0_2.index t = ![if t.val / 3 = 1 then 2 else if t.val / 3 = 2 then 1 else t.val / 3, 0, 0] := by
  decide +kernel

theorem lt12 (t : Fin cfg0.N) : t.val < 12 := lt_of_lt_of_eq t.isLt (show cfg0.N = 12 from N_0)

/-- The device whose columns point `t` computes: the two in the middle change places. -/
def chip (p : ℕ) : ℕ := if p = 1 then 2 else if p = 2 then 1 else p

theorem V_h : (V m c main_v0 : FVec Ideal S4224x1024 .bf16) = hA m c := by
  entry_read
  rfl

/-- Columns gathered by device. -/
def gathered (x : FVec Ideal S4224x5632 .f32) : FVec Ideal S4224x5632 .f32 :=
  shapeCast S4224x5632 (transpose S4224x2x2x1408 [0, 2, 1, 3] (shapeCast S4224x2x2x1408 x shapeCasts_S4224x5632_S4224x2x2x1408) transposes_S4224x2x2x1408_S4224x2x2x1408_0_2_1_3) shapeCasts_S4224x2x2x1408_S4224x5632

theorem V_d (k : Fin 4224) (K J : Fin 5632) (hJ : J.val = 1408 * chip (K.val / 1408) + K.val % 1408) :
    (V m c main_v4 : FVec Ideal S4224x5632 .bf16) (ix2 k K) = dA m c (ix2 k J) := by
  have e : (V m c main_v4 : FVec Ideal S4224x5632 .bf16) = gathered (dA m c) := by
    entry_read
    rfl
  rw [e]
  unfold gathered
  pointwise
  unfold chip at hJ
  refine congrArg _ (congrArg (ix2 k) (Fin.ext ?_))
  dsimp only
  split_ifs at hJ <;> omega

theorem blk0 (t : Fin cfg0.N) (k : Fin 1408) (i : Fin 1024) :
    iblk m c 0 t (ix2 k i) = hA m c (ix2 ⟨1408 * (t.val % 3) + k.val, by omega⟩ i) := by
  rw [← V_h]
  blk_ext [iblk, idx t]

theorem blk1 (t : Fin cfg0.N) (k : Fin 1408) (j : Fin 1408) :
    iblk m c 1 t (ix2 k j) = dA m c (ix2 ⟨1408 * (t.val % 3) + k.val, by omega⟩ ⟨1408 * chip (t.val / 3) + j.val, by have := lt12 t; unfold chip; split_ifs <;> omega⟩) := by
  have := lt12 t
  rw [← V_d m c _ ⟨1408 * (t.val / 3) + j.val, by omega⟩ _ (by
    dsimp only
    rw [show (1408 * (t.val / 3) + j.val) / 1408 = t.val / 3 by omega, show (1408 * (t.val / 3) + j.val) % 1408 = j.val by omega])]
  blk_ext [iblk, idx t]

/-- What one part of the rows contributes to column `J`. -/
def part (s : ℕ) (hs : s < 3) (i : Fin 1024) (J : Fin 5632) : EReal :=
  ∑ k : Fin 1408, hA m c (ix2 ⟨1408 * s + k.val, by omega⟩ i) * dA m c (ix2 ⟨1408 * s + k.val, by omega⟩ J)

/-- The array's column of column `j` at point `t`. -/
def col (t : Fin cfg0.N) (j : Fin 1408) : Fin 5632 := ⟨1408 * chip (t.val / 3) + j.val, by have := lt12 t; unfold chip; split_ifs <;> omega⟩

theorem part_eq (t : Fin cfg0.N) (i : Fin 1024) (j : Fin 1408) :
    (∑ k : Fin 1408, (show FVec Ideal S1408x1024 .bf16 from iblk m c 0 t) (ix2 k i) * (show FVec Ideal S1408x1408 .bf16 from iblk m c 1 t) (ix2 k j))
      = part m c (t.val % 3) (by omega) i (col t j) :=
  Finset.sum_congr rfl fun k _ => congrArg₂ (· * ·) (blk0 m c t k i) (blk1 m c t k j)

theorem after_first (t : Fin cfg0.N) (h : t.val % 3 = 0) (i : Fin 1024) (j : Fin 1408) :
    (outsAt0 m c t.val t.isLt).2 (ix2 i j) = part m c 0 (by omega) i (col t j) := by
  rw [outsAt0_A m c t h (by omega) (by omega)]
  frame_out
  refine (first_at _ _ i j).trans ((part_eq m c t i j).trans ?_)
  congr 1

theorem after_next (t : Fin cfg0.N) (h : t.val % 3 = 1) (i : Fin 1024) (j : Fin 1408) :
    (outsAt0 m c t.val t.isLt).2 (ix2 i j) = (outsAt0 m c (t.val - 1) (Nat.lt_of_le_of_lt (Nat.sub_le _ _) t.isLt)).2 (ix2 i j) + part m c 1 (by omega) i (col t j) := by
  rw [outsAt0_B m c t (by omega) h (by omega)]
  frame_out
  refine (next_at _ _ _ i j).trans (congrArg₂ (· + ·) (congrFun (Memref.IsWhole.read_unread _ _) _) ((part_eq m c t i j).trans ?_))
  congr 1

theorem after_last (t : Fin cfg0.N) (h : t.val % 3 = 2) (i : Fin 1024) (j : Fin 1408) :
    (outsAt0 m c t.val t.isLt).1 (ix3 0 i j) = (outsAt0 m c (t.val - 1) (Nat.lt_of_le_of_lt (Nat.sub_le _ _) t.isLt)).2 (ix2 i j) + part m c 2 (by omega) i (col t j) := by
  rw [outsAt0_C m c t (by omega) (by omega) h]
  frame_out
  refine (last_at _ _ _ i j).trans (congrArg₂ (· + ·) (congrFun (Memref.IsWhole.read_unread _ _) _) ((part_eq m c t i j).trans ?_))
  congr 1

/-- What the last point of a run writes: the whole contraction. -/
theorem written (t : Fin cfg0.N) (h : t.val % 3 = 2) (i : Fin 1024) (j : Fin 1408) :
    (outsAt0 m c t.val t.isLt).1 (ix3 0 i j) = ∑ k : Fin 4224, hA m c (ix2 k i) * dA m c (ix2 k (col t j)) := by
  have h1 : t.val - 1 < cfg0.N := Nat.lt_of_le_of_lt (Nat.sub_le _ _) t.isLt
  have h2 : t.val - 1 - 1 < cfg0.N := Nat.lt_of_le_of_lt (Nat.sub_le _ _) h1
  have c1 : col ⟨t.val - 1, h1⟩ j = col t j := Fin.ext (by
    show 1408 * chip ((t.val - 1) / 3) + j.val = 1408 * chip (t.val / 3) + j.val
    rw [show (t.val - 1) / 3 = t.val / 3 by omega])
  have c2 : col ⟨t.val - 1 - 1, h2⟩ j = col t j := Fin.ext (by
    show 1408 * chip ((t.val - 1 - 1) / 3) + j.val = 1408 * chip (t.val / 3) + j.val
    rw [show (t.val - 1 - 1) / 3 = t.val / 3 by omega])
  have e1 := after_next m c ⟨t.val - 1, h1⟩ (by dsimp only; omega) i j
  have e2 := after_first m c ⟨t.val - 1 - 1, h2⟩ (by dsimp only; omega) i j
  rw [c1] at e1
  rw [c2] at e2
  refine (after_last m c t h i j).trans ((congrArg (· + _) (e1.trans (congrArg (· + _) e2))).trans ?_)
  refine Eq.trans ?_ (Cert.Sums.three _)
  unfold part
  simp only [Nat.mul_zero, Nat.mul_one, Nat.zero_add]

/-- The result, entry by entry. -/
def result : FVec Ideal S4x1024x1408 .bf16 := fun y => ∑ k : Fin 4224, hA m c (ix2 k (y 1)) * dA m c (ix2 k ⟨1408 * (y 0).val + (y 2).val, by
  have h0 : (y 0).val < 4 := (y 0).isLt
  have h2 : (y 2).val < 1408 := (y 2).isLt
  omega⟩)

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1024) (j : Fin 1408), y = ix3 0 i j := ⟨y 1, y 2, by ext a; fin_cases a <;> first | rfl | (have h : (y 0).val < 1 := (y 0).isLt; change (y 0).val = 0; omega)⟩
  refine (written m c t ((flush0_2 t).mp ht) i j).trans ?_
  unfold result
  refine Finset.sum_congr rfl fun k _ => congrArg₂ (· * ·) ?_ ?_
  · blk_ext [idx t]
  · unfold col chip
    blk_ext [idx t]

end Cert.UpDwIdeal.Prod

namespace Cert.UpDwRefIdeal.Prod

open Cert.UpDwRefIdeal Cert.UpDwRefIdeal.Gen
open Idealize.ShloMosaic Idealize.ShloMosaic.TcCoe Idealize.ShloMosaic.Tactic

/-- The reference's result over its arguments. -/
def line (x : FVec Ideal S4224x1024 .f32) (d : FVec Ideal S4224x5632 .f32) : FVec Ideal S4x1024x1408 .bf16 :=
  truncf .bf16 (transpose S4x1024x1408 [1, 0, 2] (shapeCast S1024x4x1408 (transpose S1024x5632 [1, 0] (Host.dotGeneral dot_S4224x5632_S4224x1024_S5632x1024_0_0_1_1_n_n none d x) transposes_S5632x1024_S1024x5632_1_0) shapeCasts_S1024x5632_S1024x4x1408) transposes_S1024x4x1408_S4x1024x1408_1_0_2) bitsLt_bf16_f32

end Cert.UpDwRefIdeal.Prod

namespace Cert.UpDwIdeal.Prod

open Cert.UpDwIdeal Cert.UpDwIdeal.Gen
open Idealize.ShloMosaic Idealize.ShloMosaic.TcCoe Idealize.ShloMosaic.Tactic

theorem reference_eq (m : (ℓ : Loc nD τ sig) → Buf (Elt Ideal) ℓ) (c : Dev nD) : Cert.UpDwRefIdeal.Prod.line (hA m c) (dA m c) = result m c := by
  funext y
  obtain ⟨q, i, j, rfl⟩ : ∃ (q : Fin 4) (i : Fin 1024) (j : Fin 1408), y = ix3 q i j := ⟨y 0, y 1, y 2, by ext a; fin_cases a <;> rfl⟩
  unfold result
  pointwise [Cert.UpDwRefIdeal.Prod.line]
  refine Finset.sum_congr rfl fun k _ => (mul_comm _ _).trans (congrArg₂ (· * ·) ?_ ?_)
  · exact congrArg _ (congrArg (ix2 k) (Fin.ext (by dsimp only <;> omega)))
  · exact congrArg _ (congrArg (ix2 k) (Fin.ext (by dsimp only <;> omega)))

end Cert.UpDwIdeal.Prod

namespace Cert.Proof.UpDw

open Idealize.ShloMosaic Idealize.ShloMosaic.TcCoe Idealize.SL.Sem
open Idealize.ShloMosaic.Tactic
open Cert.UpDwIdeal.Prod

theorem quiescent_kernelIdeal : Cert.quiescent_UpDwIdeal := fun m ρ _ => Cert.UpDwIdeal.Gen.frame (F := Ideal) m ρ

/-- What the frame says of a run of the ideal printing, at any reading of the floats. -/
def Framed (F : FTy → Type) [FloatOps F] : Prop :=
  ∀ (m : (ℓ : Loc Cert.UpDwIdeal.nD Cert.UpDwIdeal.τ Cert.UpDwIdeal.sig) → Buf (Elt F) ℓ) (ρ : Dev Cert.UpDwIdeal.nD → PrngReg), True →
    θ_run (Cert.UpDwIdeal.defs (F := F)) (onTc (τ := Cert.UpDwIdeal.τ) (Cert.UpDwIdeal.main (F := F))) ⟨m, fun _ => 0, ρ⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

theorem framed (F : FTy → Type) [FloatOps F] : Framed F := fun m ρ _ => Cert.UpDwIdeal.Gen.frame m ρ

/-- The two printings are one program, line for line. -/
theorem kernel_framed : Cert.quiescent_UpDw = Framed Bits := by sl_kernel_rfl

theorem quiescent_kernel : Cert.quiescent_UpDw := kernel_framed.mpr (framed Bits)

theorem quiescent_reference : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The result is the reference's. -/
theorem equation : Cert.algebraic_UpDwIdeal_UpDwRefIdeal := by
  pair_intro
  · run_from Cert.UpDwIdeal.Gen.run_main m g
    all_goals first | exact Cert.UpDwIdeal.Gen.V_main_arg0 m c | exact Cert.UpDwIdeal.Gen.V_main_arg1 m c
  · run_from Cert.UpDwRefIdeal.Value.run m' g'
    · exact (reference_eq m c).trans (final m c).symm

end Cert.Proof.UpDw

end
-- ==== Proof.DownDw.lean ====
module

public import proofs.«01_k».proof.Defs
public import proofs.«01_k».proof.Proof.Gen.DownDw
public import proofs.«01_k».proof.Proof.Gen.DownDwIdeal.Value
public import proofs.«01_k».proof.Proof.Gen.DownDwRefIdeal.Run
public import proofs.«01_k».proof.Proof.Sums
public import Idealize.ShloMosaic.Lib.Pipeline.ValueKit
public import Idealize.ShloMosaic.Lib.Ring
public import Idealize.ShloMosaic.Adequacy
public import Idealize.ShloMosaic.Init

/-! The gradient of the down projection: one product over the rows, taken in three parts of 1408 rows. -/

@[expose] public section

set_option maxRecDepth 16384

noncomputable section

namespace Cert.DownDwIdeal.Prod

open Cert.DownDwIdeal Cert.DownDwIdeal.Gen
open Idealize.ShloMosaic Idealize.ShloMosaic.TcCoe Idealize.ShloMosaic.Tactic

/-! ### The body's arithmetic -/

theorem first_at (a : Vec Ideal S1408x1408 .bf16) (b : Vec Ideal S1408x1024 .f32) (i : Fin 1408) (j : Fin 1024) :
    k0_pay1 a b (ix2 i j) = ∑ k : Fin 1408, a (ix2 k i) * b (ix2 k j) := by
  pointwise [k0_pay1]

theorem next_at (acc : Vec Ideal S1408x1024 .f32) (a : Vec Ideal S1408x1408 .bf16) (b : Vec Ideal S1408x1024 .f32) (i : Fin 1408) (j : Fin 1024) :
    k0_pay2 acc a b (ix2 i j) = acc (ix2 i j) + ∑ k : Fin 1408, a (ix2 k i) * b (ix2 k j) := by
  pointwise [k0_pay2]

theorem last_at (acc : Vec Ideal S1408x1024 .f32) (a : Vec Ideal S1408x1408 .bf16) (b : Vec Ideal S1408x1024 .f32) (i : Fin 1408) (j : Fin 1024) :
    k0_pay3 acc a b (ix2 i j) = acc (ix2 i j) + ∑ k : Fin 1408, a (ix2 k i) * b (ix2 k j) := by
  pointwise [k0_pay3]

/-! ### What a point reads -/

variable (m : (ℓ : Loc nD τ sig) → Buf (Elt Ideal) ℓ) (c : Dev nD)

/-- The left factor, and the right one as the call gets it. -/
abbrev hA : FVec Ideal S4224x2816 .f32 := m ((c.tc : Thread nD τ).loc main_arg0)
abbrev bA : FVec Ideal S4224x1024 .f32 := m ((c.tc : Thread nD τ).loc main_arg1)

/-- The block every window is at. -/
theorem idx : ∀ t : Fin cfg0.N, win0_0.index t = ![t.val % 3, t.val / 3] ∧ win0_1.index t = ![t.val % 3, 0]
    ∧ win0_2.index t = ![t.val / 3, 0] := by
  decide +kernel

theorem lt_points (t : Fin cfg0.N) : t.val < 6 := lt_of_lt_of_eq t.isLt (show cfg0.N = 6 from N_0)

/-- The result's row and column of a tile's. -/
def row (t : Fin cfg0.N) (i : Fin 1408) : Fin 2816 := ⟨1408 * (t.val / 3) + i.val, by have := lt_points t; omega⟩
def col (t : Fin cfg0.N) (j : Fin 1024) : Fin 1024 := ⟨1024 * (0) + j.val, by have := lt_points t; omega⟩

theorem V_h : (V m c main_v0 : FVec Ideal S4224x2816 .bf16) = hA m c := by
  entry_read
  rfl

/-- The right factor is an argument. -/
theorem V_b : V m c main_arg1 = bA m c := V_main_arg1 m c

theorem blk0 (t : Fin cfg0.N) (k : Fin 1408) (i : Fin 1408) :
    iblk m c 0 t (ix2 k i) = hA m c (ix2 ⟨1408 * (t.val % 3) + k.val, by omega⟩ (row t i)) := by
  unfold row
  rw [← V_h]
  blk_ext [iblk, idx t]

theorem blk1 (t : Fin cfg0.N) (k : Fin 1408) (j : Fin 1024) :
    iblk m c 1 t (ix2 k j) = bA m c (ix2 ⟨1408 * (t.val % 3) + k.val, by omega⟩ (col t j)) := by
  unfold col
  rw [← V_b]
  blk_ext [iblk, idx t]

/-! ### The product over the rows, in three parts -/

/-- What one part of the rows contributes to an entry. -/
def part (s : ℕ) (hs : s < 3) (I : Fin 2816) (J : Fin 1024) : EReal :=
  ∑ k : Fin 1408, hA m c (ix2 ⟨1408 * s + k.val, by omega⟩ I) * bA m c (ix2 ⟨1408 * s + k.val, by omega⟩ J)

theorem part_eq (t : Fin cfg0.N) (i : Fin 1408) (j : Fin 1024) :
    (∑ k : Fin 1408, (show FVec Ideal S1408x1408 .bf16 from iblk m c 0 t) (ix2 k i) * (show FVec Ideal S1408x1024 .f32 from iblk m c 1 t) (ix2 k j))
      = part m c (t.val % 3) (by omega) (row t i) (col t j) :=
  Finset.sum_congr rfl fun k _ => congrArg₂ (· * ·) (blk0 m c t k i) (blk1 m c t k j)

theorem after_first (t : Fin cfg0.N) (h : t.val % 3 = 0) (i : Fin 1408) (j : Fin 1024) :
    (outsAt0 m c t.val t.isLt).2 (ix2 i j) = part m c 0 (by omega) (row t i) (col t j) := by
  rw [outsAt0_A m c t h (by omega) (by omega)]
  frame_out
  refine (first_at _ _ i j).trans ((part_eq m c t i j).trans ?_)
  congr 1

theorem after_next (t : Fin cfg0.N) (h : t.val % 3 = 1) (i : Fin 1408) (j : Fin 1024) :
    (outsAt0 m c t.val t.isLt).2 (ix2 i j)
      = (outsAt0 m c (t.val - 1) (Nat.lt_of_le_of_lt (Nat.sub_le _ _) t.isLt)).2 (ix2 i j) + part m c 1 (by omega) (row t i) (col t j) := by
  rw [outsAt0_B m c t (by omega) h (by omega)]
  frame_out
  refine (next_at _ _ _ i j).trans (congrArg₂ (· + ·) (congrFun (Memref.IsWhole.read_unread _ _) _) ((part_eq m c t i j).trans ?_))
  congr 1

theorem after_last (t : Fin cfg0.N) (h : t.val % 3 = 2) (i : Fin 1408) (j : Fin 1024) :
    (outsAt0 m c t.val t.isLt).1 (ix2 i j)
      = (outsAt0 m c (t.val - 1) (Nat.lt_of_le_of_lt (Nat.sub_le _ _) t.isLt)).2 (ix2 i j) + part m c 2 (by omega) (row t i) (col t j) := by
  rw [outsAt0_C m c t (by omega) (by omega) h]
  frame_out
  refine (last_at _ _ _ i j).trans (congrArg₂ (· + ·) (congrFun (Memref.IsWhole.read_unread _ _) _) ((part_eq m c t i j).trans ?_))
  congr 1

theorem row_eq (t u : Fin cfg0.N) (h : t.val / 3 = u.val / 3) (i : Fin 1408) : row t i = row u i :=
  Fin.ext (by unfold row; dsimp only <;> omega)
theorem col_eq (t u : Fin cfg0.N) (h : t.val / 3 = u.val / 3) (j : Fin 1024) : col t j = col u j :=
  Fin.ext (by unfold col; dsimp only <;> omega)

/-- What the last point of a run writes: the whole contraction. -/
theorem written (t : Fin cfg0.N) (h : t.val % 3 = 2) (i : Fin 1408) (j : Fin 1024) :
    (outsAt0 m c t.val t.isLt).1 (ix2 i j) = ∑ k : Fin 4224, hA m c (ix2 k (row t i)) * bA m c (ix2 k (col t j)) := by
  have h1 : t.val - 1 < cfg0.N := Nat.lt_of_le_of_lt (Nat.sub_le _ _) t.isLt
  have h2 : t.val - 1 - 1 < cfg0.N := Nat.lt_of_le_of_lt (Nat.sub_le _ _) h1
  have e1 := after_next m c ⟨t.val - 1, h1⟩ (by dsimp only; omega) i j
  have e2 := after_first m c ⟨t.val - 1 - 1, h2⟩ (by dsimp only; omega) i j
  rw [row_eq _ t (by dsimp only; omega), col_eq _ t (by dsimp only; omega)] at e1
  rw [row_eq _ t (by dsimp only; omega), col_eq _ t (by dsimp only; omega)] at e2
  refine (after_last m c t h i j).trans ((congrArg (· + _) (e1.trans (congrArg (· + _) e2))).trans ?_)
  refine Eq.trans ?_ (Cert.Sums.three _)
  unfold part
  simp only [Nat.mul_zero, Nat.mul_one, Nat.zero_add]

/-- The result, entry by entry. -/
def result : FVec Ideal S2816x1024 .bf16 := fun y => ∑ k : Fin 4224, hA m c (ix2 k (y 0)) * bA m c (ix2 k (y 1))

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1408) (j : Fin 1024), y = ix2 i j := ⟨y 0, y 1, by ext a; fin_cases a <;> rfl⟩
  refine (written m c t ((flush0_2 t).mp ht) i j).trans ?_
  unfold result
  refine Finset.sum_congr rfl fun k _ => congrArg₂ (· * ·) ?_ ?_
  · unfold row
    blk_ext [idx t]
  · unfold col
    blk_ext [idx t]

end Cert.DownDwIdeal.Prod

namespace Cert.DownDwRefIdeal.Prod

open Cert.DownDwRefIdeal Cert.DownDwRefIdeal.Gen
open Idealize.ShloMosaic Idealize.ShloMosaic.TcCoe Idealize.ShloMosaic.Tactic

/-- The reference's result over its arguments. -/
def line (x : FVec Ideal S4224x2816 .f32) (d : FVec Ideal S4224x1024 .f32) : FVec Ideal S2816x1024 .bf16 :=
  truncf .bf16 (transpose S2816x1024 [1, 0] (Host.dotGeneral dot_S4224x1024_S4224x2816_S1024x2816_0_0_1_1_n_n none d x) transposes_S1024x2816_S2816x1024_1_0) bitsLt_bf16_f32

end Cert.DownDwRefIdeal.Prod

namespace Cert.DownDwIdeal.Prod

open Cert.DownDwIdeal Cert.DownDwIdeal.Gen
open Idealize.ShloMosaic Idealize.ShloMosaic.TcCoe Idealize.ShloMosaic.Tactic

theorem reference_eq (m : (ℓ : Loc nD τ sig) → Buf (Elt Ideal) ℓ) (c : Dev nD) : Cert.DownDwRefIdeal.Prod.line (hA m c) (bA m c) = result m c := by
  funext y
  obtain ⟨i, j, rfl⟩ : ∃ (i : Fin 2816) (j : Fin 1024), y = ix2 i j := ⟨y 0, y 1, by ext a; fin_cases a <;> rfl⟩
  unfold result
  pointwise [Cert.DownDwRefIdeal.Prod.line]
  exact Finset.sum_congr rfl fun k _ => mul_comm _ _

end Cert.DownDwIdeal.Prod

namespace Cert.Proof.DownDw

open Idealize.ShloMosaic Idealize.ShloMosaic.TcCoe Idealize.SL.Sem
open Idealize.ShloMosaic.Tactic
open Cert.DownDwIdeal.Prod

theorem quiescent_kernelIdeal : Cert.quiescent_DownDwIdeal := fun m ρ _ => Cert.DownDwIdeal.Gen.frame (F := Ideal) m ρ

/-- What the frame says of a run of the ideal printing, at any reading of the floats. -/
def Framed (F : FTy → Type) [FloatOps F] : Prop :=
  ∀ (m : (ℓ : Loc Cert.DownDwIdeal.nD Cert.DownDwIdeal.τ Cert.DownDwIdeal.sig) → Buf (Elt F) ℓ) (ρ : Dev Cert.DownDwIdeal.nD → PrngReg), True →
    θ_run (Cert.DownDwIdeal.defs (F := F)) (onTc (τ := Cert.DownDwIdeal.τ) (Cert.DownDwIdeal.main (F := F))) ⟨m, fun _ => 0, ρ⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

theorem framed (F : FTy → Type) [FloatOps F] : Framed F := fun m ρ _ => Cert.DownDwIdeal.Gen.frame m ρ

/-- The two printings are one program, line for line. -/
theorem kernel_framed : Cert.quiescent_DownDw = Framed Bits := by sl_kernel_rfl

theorem quiescent_kernel : Cert.quiescent_DownDw := kernel_framed.mpr (framed Bits)

theorem quiescent_reference : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The result is the reference's. -/
theorem equation : Cert.algebraic_DownDwIdeal_DownDwRefIdeal := by
  pair_intro
  · run_from Cert.DownDwIdeal.Gen.run_main m g
    all_goals first | exact Cert.DownDwIdeal.Gen.V_main_arg0 m c | exact Cert.DownDwIdeal.Gen.V_main_arg1 m c
  · run_from Cert.DownDwRefIdeal.Value.run m' g'
    · exact (reference_eq m c).trans (final m c).symm

end Cert.Proof.DownDw

end
-- ==== Proof.InDw.lean ====
module

public import proofs.«01_k».proof.Defs
public import proofs.«01_k».proof.Proof.Gen.InDw
public import proofs.«01_k».proof.Proof.Gen.InDwIdeal.Value
public import proofs.«01_k».proof.Proof.Gen.InDwRefIdeal.Run
public import proofs.«01_k».proof.Proof.Sums
public import Idealize.ShloMosaic.Lib.Pipeline.ValueKit
public import Idealize.ShloMosaic.Lib.Ring
public import Idealize.ShloMosaic.Adequacy
public import Idealize.ShloMosaic.Init

/-! The gradient of the mixer's input projection: one product over the rows, taken in three parts of 1408 rows. The columns past
    the projection's own are zeros. -/

@[expose] public section

set_option maxRecDepth 16384

noncomputable section

namespace Cert.InDwIdeal.Prod

open Cert.InDwIdeal Cert.InDwIdeal.Gen
open Idealize.ShloMosaic Idealize.ShloMosaic.TcCoe Idealize.ShloMosaic.Tactic

/-! ### The body's arithmetic -/

theorem first_at (a : Vec Ideal S1408x1024 .bf16) (b : Vec Ideal S1408x768 .bf16) (i : Fin 1024) (j : Fin 768) :
    k0_pay1 a b (ix2 i j) = ∑ k : Fin 1408, a (ix2 k i) * b (ix2 k j) := by
  pointwise [k0_pay1]

theorem next_at (acc : Vec Ideal S1024x768 .f32) (a : Vec Ideal S1408x1024 .bf16) (b : Vec Ideal S1408x768 .bf16) (i : Fin 1024) (j : Fin 768) :
    k0_pay2 acc a b (ix2 i j) = acc (ix2 i j) + ∑ k : Fin 1408, a (ix2 k i) * b (ix2 k j) := by
  pointwise [k0_pay2]

theorem last_at (acc : Vec Ideal S1024x768 .f32) (a : Vec Ideal S1408x1024 .bf16) (b : Vec Ideal S1408x768 .bf16) (i : Fin 1024) (j : Fin 768) :
    k0_pay3 acc a b (ix2 i j) = acc (ix2 i j) + ∑ k : Fin 1408, a (ix2 k i) * b (ix2 k j) := by
  pointwise [k0_pay3]

/-! ### What a point reads -/

variable (m : (ℓ : Loc nD τ sig) → Buf (Elt Ideal) ℓ) (c : Dev nD)

/-- The left factor, and the right one as the call gets it. -/
abbrev hA : FVec Ideal S4224x1024 .f32 := m ((c.tc : Thread nD τ).loc main_arg0)
abbrev dA : FVec Ideal S4224x3592 .f32 := m ((c.tc : Thread nD τ).loc main_arg1)
def bA : FVec Ideal S4224x3840 .f32 := pad S4224x3840 ![0, 0] ![0, 248] ![0, 0] (dA m c) (sitofp .f32 (constantI S_ 32 0#32)) pads_S4224x3592_S4224x3840_000_02480 h_S_

/-- The block every window is at. -/
theorem idx : ∀ t : Fin cfg0.N, win0_0.index t = ![t.val % 3, 0] ∧ win0_1.index t = ![t.val % 3, t.val / 3]
    ∧ win0_2.index t = ![0, t.val / 3] := by
  decide +kernel

theorem lt_points (t : Fin cfg0.N) : t.val < 15 := lt_of_lt_of_eq t.isLt (show cfg0.N = 15 from N_0)

/-- The result's row and column of a tile's. -/
def row (t : Fin cfg0.N) (i : Fin 1024) : Fin 1024 := ⟨1024 * (0) + i.val, by have := lt_points t; omega⟩
def col (t : Fin cfg0.N) (j : Fin 768) : Fin 3840 := ⟨768 * (t.val / 3) + j.val, by have := lt_points t; omega⟩

theorem V_h : (V m c main_v0 : FVec Ideal S4224x1024 .bf16) = hA m c := by
  entry_read
  rfl

theorem V_b : (V m c main_v2 : FVec Ideal S4224x3840 .bf16) = bA m c := by
  entry_read
  rfl

theorem blk0 (t : Fin cfg0.N) (k : Fin 1408) (i : Fin 1024) :
    iblk m c 0 t (ix2 k i) = hA m c (ix2 ⟨1408 * (t.val % 3) + k.val, by omega⟩ (row t i)) := by
  unfold row
  rw [← V_h]
  blk_ext [iblk, idx t]

theorem blk1 (t : Fin cfg0.N) (k : Fin 1408) (j : Fin 768) :
    iblk m c 1 t (ix2 k j) = bA m c (ix2 ⟨1408 * (t.val % 3) + k.val, by omega⟩ (col t j)) := by
  unfold col
  rw [← V_b]
  blk_ext [iblk, idx t]

/-! ### The product over the rows, in three parts -/

/-- What one part of the rows contributes to an entry. -/
def part (s : ℕ) (hs : s < 3) (I : Fin 1024) (J : Fin 3840) : EReal :=
  ∑ k : Fin 1408, hA m c (ix2 ⟨1408 * s + k.val, by omega⟩ I) * bA m c (ix2 ⟨1408 * s + k.val, by omega⟩ J)

theorem part_eq (t : Fin cfg0.N) (i : Fin 1024) (j : Fin 768) :
    (∑ k : Fin 1408, (show FVec Ideal S1408x1024 .bf16 from iblk m c 0 t) (ix2 k i) * (show FVec Ideal S1408x768 .bf16 from iblk m c 1 t) (ix2 k j))
      = part m c (t.val % 3) (by omega) (row t i) (col t j) :=
  Finset.sum_congr rfl fun k _ => congrArg₂ (· * ·) (blk0 m c t k i) (blk1 m c t k j)

theorem after_first (t : Fin cfg0.N) (h : t.val % 3 = 0) (i : Fin 1024) (j : Fin 768) :
    (outsAt0 m c t.val t.isLt).2 (ix2 i j) = part m c 0 (by omega) (row t i) (col t j) := by
  rw [outsAt0_A m c t h (by omega) (by omega)]
  frame_out
  refine (first_at _ _ i j).trans ((part_eq m c t i j).trans ?_)
  congr 1

theorem after_next (t : Fin cfg0.N) (h : t.val % 3 = 1) (i : Fin 1024) (j : Fin 768) :
    (outsAt0 m c t.val t.isLt).2 (ix2 i j)
      = (outsAt0 m c (t.val - 1) (Nat.lt_of_le_of_lt (Nat.sub_le _ _) t.isLt)).2 (ix2 i j) + part m c 1 (by omega) (row t i) (col t j) := by
  rw [outsAt0_B m c t (by omega) h (by omega)]
  frame_out
  refine (next_at _ _ _ i j).trans (congrArg₂ (· + ·) (congrFun (Memref.IsWhole.read_unread _ _) _) ((part_eq m c t i j).trans ?_))
  congr 1

theorem after_last (t : Fin cfg0.N) (h : t.val % 3 = 2) (i : Fin 1024) (j : Fin 768) :
    (outsAt0 m c t.val t.isLt).1 (ix2 i j)
      = (outsAt0 m c (t.val - 1) (Nat.lt_of_le_of_lt (Nat.sub_le _ _) t.isLt)).2 (ix2 i j) + part m c 2 (by omega) (row t i) (col t j) := by
  rw [outsAt0_C m c t (by omega) (by omega) h]
  frame_out
  refine (last_at _ _ _ i j).trans (congrArg₂ (· + ·) (congrFun (Memref.IsWhole.read_unread _ _) _) ((part_eq m c t i j).trans ?_))
  congr 1

theorem row_eq (t u : Fin cfg0.N) (h : t.val / 3 = u.val / 3) (i : Fin 1024) : row t i = row u i :=
  Fin.ext (by unfold row; dsimp only <;> omega)
theorem col_eq (t u : Fin cfg0.N) (h : t.val / 3 = u.val / 3) (j : Fin 768) : col t j = col u j :=
  Fin.ext (by unfold col; dsimp only <;> omega)

/-- What the last point of a run writes: the whole contraction. -/
theorem written (t : Fin cfg0.N) (h : t.val % 3 = 2) (i : Fin 1024) (j : Fin 768) :
    (outsAt0 m c t.val t.isLt).1 (ix2 i j) = ∑ k : Fin 4224, hA m c (ix2 k (row t i)) * bA m c (ix2 k (col t j)) := by
  have h1 : t.val - 1 < cfg0.N := Nat.lt_of_le_of_lt (Nat.sub_le _ _) t.isLt
  have h2 : t.val - 1 - 1 < cfg0.N := Nat.lt_of_le_of_lt (Nat.sub_le _ _) h1
  have e1 := after_next m c ⟨t.val - 1, h1⟩ (by dsimp only; omega) i j
  have e2 := after_first m c ⟨t.val - 1 - 1, h2⟩ (by dsimp only; omega) i j
  rw [row_eq _ t (by dsimp only; omega), col_eq _ t (by dsimp only; omega)] at e1
  rw [row_eq _ t (by dsimp only; omega), col_eq _ t (by dsimp only; omega)] at e2
  refine (after_last m c t h i j).trans ((congrArg (· + _) (e1.trans (congrArg (· + _) e2))).trans ?_)
  refine Eq.trans ?_ (Cert.Sums.three _)
  unfold part
  simp only [Nat.mul_zero, Nat.mul_one, Nat.zero_add]

/-- The result, entry by entry. -/
def result : FVec Ideal S1024x3840 .bf16 := fun y => ∑ k : Fin 4224, hA m c (ix2 k (y 0)) * bA m c (ix2 k (y 1))

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1024) (j : Fin 768), y = ix2 i j := ⟨y 0, y 1, by ext a; fin_cases a <;> rfl⟩
  refine (written m c t ((flush0_2 t).mp ht) i j).trans ?_
  unfold result
  refine Finset.sum_congr rfl fun k _ => congrArg₂ (· * ·) ?_ ?_
  · unfold row
    blk_ext [idx t]
  · unfold col
    blk_ext [idx t]

end Cert.InDwIdeal.Prod

namespace Cert.InDwRefIdeal.Prod

open Cert.InDwRefIdeal Cert.InDwRefIdeal.Gen
open Idealize.ShloMosaic Idealize.ShloMosaic.TcCoe Idealize.ShloMosaic.Tactic

/-- The reference's result over its arguments. -/
def line (x : FVec Ideal S4224x1024 .f32) (d : FVec Ideal S4224x3592 .f32) : FVec Ideal S1024x3840 .bf16 :=
  truncf .bf16 (pad S1024x3840 ![0, 0] ![0, 248] ![0, 0] (transpose S1024x3592 [1, 0] (Host.dotGeneral dot_S4224x3592_S4224x1024_S3592x1024_0_0_1_1_n_n none d x) transposes_S3592x1024_S1024x3592_1_0) (sitofp .f32 (constantI S_ 32 0#32)) pads_S1024x3592_S1024x3840_000_02480 h_S_) bitsLt_bf16_f32

end Cert.InDwRefIdeal.Prod

namespace Cert.InDwIdeal.Prod

open Cert.InDwIdeal Cert.InDwIdeal.Gen
open Idealize.ShloMosaic Idealize.ShloMosaic.TcCoe Idealize.ShloMosaic.Tactic

theorem reference_eq (m : (ℓ : Loc nD τ sig) → Buf (Elt Ideal) ℓ) (c : Dev nD) : Cert.InDwRefIdeal.Prod.line (hA m c) (dA m c) = result m c := by
  funext y
  obtain ⟨i, j, rfl⟩ : ∃ (i : Fin 1024) (j : Fin 3840), y = ix2 i j := ⟨y 0, y 1, by ext a; fin_cases a <;> rfl⟩
  unfold result bA
  pointwise [Cert.InDwRefIdeal.Prod.line]
  by_cases h : j.val < 3592
  · simp only [h, dif_pos]
    exact Finset.sum_congr rfl fun k _ => mul_comm _ _
  · have z : (FloatOps.sitofp FTy.f32 0#32 : Ideal .f32) = (0 : EReal) := by
      show (((0#32 : BitVec 32).toInt : ℝ) : EReal) = 0
      simp
    simp only [h, dif_neg, not_false_eq_true]
    rw [z]
    simp only [mul_zero, Finset.sum_const_zero]

end Cert.InDwIdeal.Prod

namespace Cert.Proof.InDw

open Idealize.ShloMosaic Idealize.ShloMosaic.TcCoe Idealize.SL.Sem
open Idealize.ShloMosaic.Tactic
open Cert.InDwIdeal.Prod

theorem quiescent_kernelIdeal : Cert.quiescent_InDwIdeal := fun m ρ _ => Cert.InDwIdeal.Gen.frame (F := Ideal) m ρ

/-- What the frame says of a run of the ideal printing, at any reading of the floats. -/
def Framed (F : FTy → Type) [FloatOps F] : Prop :=
  ∀ (m : (ℓ : Loc Cert.InDwIdeal.nD Cert.InDwIdeal.τ Cert.InDwIdeal.sig) → Buf (Elt F) ℓ) (ρ : Dev Cert.InDwIdeal.nD → PrngReg), True →
    θ_run (Cert.InDwIdeal.defs (F := F)) (onTc (τ := Cert.InDwIdeal.τ) (Cert.InDwIdeal.main (F := F))) ⟨m, fun _ => 0, ρ⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

theorem framed (F : FTy → Type) [FloatOps F] : Framed F := fun m ρ _ => Cert.InDwIdeal.Gen.frame m ρ

/-- The two printings are one program, line for line. -/
theorem kernel_framed : Cert.quiescent_InDw = Framed Bits := by sl_kernel_rfl

theorem quiescent_kernel : Cert.quiescent_InDw := kernel_framed.mpr (framed Bits)

theorem quiescent_reference : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- The result is the reference's. -/
theorem equation : Cert.algebraic_InDwIdeal_InDwRefIdeal := by
  pair_intro
  · run_from Cert.InDwIdeal.Gen.run_main m g
    all_goals first | exact Cert.InDwIdeal.Gen.V_main_arg0 m c | exact Cert.InDwIdeal.Gen.V_main_arg1 m c
  · run_from Cert.InDwRefIdeal.Value.run m' g'
    · exact (reference_eq m c).trans (final m c).symm

end Cert.Proof.InDw

end
-- ==== Proof.QkvDw.lean ====
module

public import proofs.«01_k».proof.Defs
public import proofs.«01_k».proof.Proof.Gen.QkvDw
public import proofs.«01_k».proof.Proof.Gen.QkvDwIdeal.Value
public import proofs.«01_k».proof.Proof.Gen.QkvDwRefIdeal.Run
public import proofs.«01_k».proof.Proof.Sums
public import Idealize.ShloMosaic.Lib.Pipeline.ValueKit
public import Idealize.ShloMosaic.Lib.Ring
public import Idealize.ShloMosaic.Adequacy
public import Idealize.ShloMosaic.Init

/-! The gradient of the projection to queries, keys and values: one product over the rows, taken in three parts of 1408 rows. -/

@[expose] public section

set_option maxRecDepth 16384

noncomputable section

namespace Cert.QkvDwIdeal.Prod

open Cert.QkvDwIdeal Cert.QkvDwIdeal.Gen
open Idealize.ShloMosaic Idealize.ShloMosaic.TcCoe Idealize.ShloMosaic.Tactic

/-! ### The body's arithmetic -/

theorem first_at (a : Vec Ideal S1408x1024 .bf16) (b : Vec Ideal S1408x768 .bf16) (i : Fin 1024) (j : Fin 768) :
    k0_pay1 a b (ix2 i j) = ∑ k : Fin 1408, a (ix2 k i) * b (ix2 k j) := by
  pointwise [k0_pay1]

theorem next_at (acc : Vec Ideal S1024x768 .f32) (a : Vec Ideal S1408x1024 .bf16) (b : Vec Ideal S1408x768 .bf16) (i : Fin 1024) (j : Fin 768) :
    k0_pay2 acc a b (ix2 i j) = acc (ix2 i j) + ∑ k : Fin 1408, a (ix2 k i) * b (ix2 k j) := by
  pointwise [k0_pay2]

theorem last_at (acc : Vec Ideal S1024x768 .f32) (a : Vec Ideal S1408x1024 .bf16) (b : Vec Ideal S1408x768 .bf16) (i : Fin 1024) (j : Fin 768) :
    k0_pay3 acc a b (ix2 i j) = acc (ix2 i j) + ∑ k : Fin 1408, a (ix2 k i) * b (ix2 k j) := by
  pointwise [k0_pay3]

/-! ### What a point reads -/

variable (m : (ℓ : Loc nD τ sig) → Buf (Elt Ideal) ℓ) (c : Dev nD)

/-- The left factor, and the right one as the call gets it. -/
abbrev hA : FVec Ideal S4224x1024 .f32 := m ((c.tc : Thread nD τ).loc main_arg0)
abbrev qA : FVec Ideal S4224x1024 .f32 := m ((c.tc : Thread nD τ).loc main_arg1)
abbrev kA : FVec Ideal S4224x256 .f32 := m ((c.tc : Thread nD τ).loc main_arg2)
abbrev vA : FVec Ideal S4224x256 .f32 := m ((c.tc : Thread nD τ).loc main_arg3)
def bA : FVec Ideal S4224x1536 .f32 :=
  concatenate S4224x1536 1 [⟨S4224x1024, qA m c⟩, ⟨S4224x512, concatenate S4224x512 1 [⟨S4224x256, kA m c⟩, ⟨S4224x256, vA m c⟩] concatenates_S4224x256_S4224x256_S4224x512_d1⟩] concatenates_S4224x1024_S4224x512_S4224x1536_d1

/-- The block every window is at. -/
theorem idx : ∀ t : Fin cfg0.N, win0_0.index t = ![t.val % 3, 0] ∧ win0_1.index t = ![t.val % 3, t.val / 3]
    ∧ win0_2.index t = ![0, t.val / 3] := by
  decide +kernel

theorem lt_points (t : Fin cfg0.N) : t.val < 6 := lt_of_lt_of_eq t.isLt (show cfg0.N = 6 from N_0)

/-- The result's row and column of a tile's. -/
def row (t : Fin cfg0.N) (i : Fin 1024) : Fin 1024 := ⟨1024 * (0) + i.val, by have := lt_points t; omega⟩
def col (t : Fin cfg0.N) (j : Fin 768) : Fin 1536 := ⟨768 * (t.val / 3) + j.val, by have := lt_points t; omega⟩

theorem V_h : (V m c main_v2 : FVec Ideal S4224x1024 .bf16) = hA m c := by
  entry_read
  rfl

theorem V_b : (V m c main_v3 : FVec Ideal S4224x1536 .bf16) = bA m c := by
  entry_read
  rfl

theorem blk0 (t : Fin cfg0.N) (k : Fin 1408) (i : Fin 1024) :
    iblk m c 0 t (ix2 k i) = hA m c (ix2 ⟨1408 * (t.val % 3) + k.val, by omega⟩ (row t i)) := by
  unfold row
  rw [← V_h]
  blk_ext [iblk, idx t]

theorem blk1 (t : Fin cfg0.N) (k : Fin 1408) (j : Fin 768) :
    iblk m c 1 t (ix2 k j) = bA m c (ix2 ⟨1408 * (t.val % 3) + k.val, by omega⟩ (col t j)) := by
  unfold col
  rw [← V_b]
  blk_ext [iblk, idx t]

/-! ### The product over the rows, in three parts -/

/-- What one part of the rows contributes to an entry. -/
def part (s : ℕ) (hs : s < 3) (I : Fin 1024) (J : Fin 1536) : EReal :=
  ∑ k : Fin 1408, hA m c (ix2 ⟨1408 * s + k.val, by omega⟩ I) * bA m c (ix2 ⟨1408 * s + k.val, by omega⟩ J)

theorem part_eq (t : Fin cfg0.N) (i : Fin 1024) (j : Fin 768) :
    (∑ k : Fin 1408, (show FVec Ideal S1408x1024 .bf16 from iblk m c 0 t) (ix2 k i) * (show FVec Ideal S1408x768 .bf16 from iblk m c 1 t) (ix2 k j))
      = part m c (t.val % 3) (by omega) (row t i) (col t j) :=
  Finset.sum_congr rfl fun k _ => congrArg₂ (· * ·) (blk0 m c t k i) (blk1 m c t k j)

theorem after_first (t : Fin cfg0.N) (h : t.val % 3 = 0) (i : Fin 1024) (j : Fin 768) :
    (outsAt0 m c t.val t.isLt).2 (ix2 i j) = part m c 0 (by omega) (row t i) (col t j) := by
  rw [outsAt0_A m c t h (by omega) (by omega)]
  frame_out
  refine (first_at _ _ i j).trans ((part_eq m c t i j).trans ?_)
  congr 1

theorem after_next (t : Fin cfg0.N) (h : t.val % 3 = 1) (i : Fin 1024) (j : Fin 768) :
    (outsAt0 m c t.val t.isLt).2 (ix2 i j)
      = (outsAt0 m c (t.val - 1) (Nat.lt_of_le_of_lt (Nat.sub_le _ _) t.isLt)).2 (ix2 i j) + part m c 1 (by omega) (row t i) (col t j) := by
  rw [outsAt0_B m c t (by omega) h (by omega)]
  frame_out
  refine (next_at _ _ _ i j).trans (congrArg₂ (· + ·) (congrFun (Memref.IsWhole.read_unread _ _) _) ((part_eq m c t i j).trans ?_))
  congr 1

theorem after_last (t : Fin cfg0.N) (h : t.val % 3 = 2) (i : Fin 1024) (j : Fin 768) :
    (outsAt0 m c t.val t.isLt).1 (ix2 i j)
      = (outsAt0 m c (t.val - 1) (Nat.lt_of_le_of_lt (Nat.sub_le _ _) t.isLt)).2 (ix2 i j) + part m c 2 (by omega) (row t i) (col t j) := by
  rw [outsAt0_C m c t (by omega) (by omega) h]
  frame_out
  refine (last_at _ _ _ i j).trans (congrArg₂ (· + ·) (congrFun (Memref.IsWhole.read_unread _ _) _) ((part_eq m c t i j).trans ?_))
  congr 1

theorem row_eq (t u : Fin cfg0.N) (h : t.val / 3 = u.val / 3) (i : Fin 1024) : row t i = row u i :=
  Fin.ext (by unfold row; dsimp only <;> omega)
theorem col_eq (t u : Fin cfg0.N) (h : t.val / 3 = u.val / 3) (j : Fin 768) : col t j = col u j :=
  Fin.ext (by unfold col; dsimp only <;> omega)

/-- What the last point of a run writes: the whole contraction. -/
theorem written (t : Fin cfg0.N) (h : t.val % 3 = 2) (i : Fin 1024) (j : Fin 768) :
    (outsAt0 m c t.val t.isLt).1 (ix2 i j) = ∑ k : Fin 4224, hA m c (ix2 k (row t i)) * bA m c (ix2 k (col t j)) := by
  have h1 : t.val - 1 < cfg0.N := Nat.lt_of_le_of_lt (Nat.sub_le _ _) t.isLt
  have h2 : t.val - 1 - 1 < cfg0.N := Nat.lt_of_le_of_lt (Nat.sub_le _ _) h1
  have e1 := after_next m c ⟨t.val - 1, h1⟩ (by dsimp only; omega) i j
  have e2 := after_first m c ⟨t.val - 1 - 1, h2⟩ (by dsimp only; omega) i j
  rw [row_eq _ t (by dsimp only; omega), col_eq _ t (by dsimp only; omega)] at e1
  rw [row_eq _ t (by dsimp only; omega), col_eq _ t (by dsimp only; omega)] at e2
  refine (after_last m c t h i j).trans ((congrArg (· + _) (e1.trans (congrArg (· + _) e2))).trans ?_)
  refine Eq.trans ?_ (Cert.Sums.three _)
  unfold part
  simp only [Nat.mul_zero, Nat.mul_one, Nat.zero_add]

/-- The result, entry by entry. -/
def result : FVec Ideal S1024x1536 .bf16 := fun y => ∑ k : Fin 4224, hA m c (ix2 k (y 0)) * bA m c (ix2 k (y 1))

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1024) (j : Fin 768), y = ix2 i j := ⟨y 0, y 1, by ext a; fin_cases a <;> rfl⟩
  refine (written m c t ((flush0_2 t).mp ht) i j).trans ?_
  unfold result
  refine Finset.sum_congr rfl fun k _ => congrArg₂ (· * ·) ?_ ?_
  · unfold row
    blk_ext [idx t]
  · unfold col
    blk_ext [idx t]

end Cert.QkvDwIdeal.Prod

namespace Cert.QkvDwRefIdeal.Prod

open Cert.QkvDwRefIdeal Cert.QkvDwRefIdeal.Gen
open Idealize.ShloMosaic Idealize.ShloMosaic.TcCoe Idealize.ShloMosaic.Tactic

/-- The reference's result over its arguments. -/
def line (x dq : FVec Ideal S4224x1024 .f32) (dk dv : FVec Ideal S4224x256 .f32) : FVec Ideal S1024x1536 .bf16 :=
  truncf .bf16 (concatenate S1024x1536 1 [⟨S1024x1024, transpose S1024x1024 [1, 0] (Host.dotGeneral dot_S4224x1024_S4224x1024_S1024x1024_0_0_1_1_n_n none dq x) transposes_S1024x1024_S1024x1024_1_0⟩,
    ⟨S1024x512, concatenate S1024x512 1 [⟨S1024x256, transpose S1024x256 [1, 0] (Host.dotGeneral dot_S4224x256_S4224x1024_S256x1024_0_0_1_1_n_n none dk x) transposes_S256x1024_S1024x256_1_0⟩,
      ⟨S1024x256, transpose S1024x256 [1, 0] (Host.dotGeneral dot_S4224x256_S4224x1024_S256x1024_0_0_1_1_n_n none dv x) transposes_S256x1024_S1024x256_1_0⟩] concatenates_S1024x256_S1024x256_S1024x512_d1⟩] concatenates_S1024x1024_S1024x512_S1024x1536_d1) bitsLt_bf16_f32

end Cert.QkvDwRefIdeal.Prod

namespace Cert.QkvDwIdeal.Prod

open Cert.QkvDwIdeal Cert.QkvDwIdeal.Gen
open Idealize.ShloMosaic Idealize.ShloMosaic.TcCoe Idealize.ShloMosaic.Tactic

theorem reference_eq (m : (ℓ : Loc nD τ sig) → Buf (Elt Ideal) ℓ) (c : Dev nD) : Cert.QkvDwRefIdeal.Prod.line (hA m c) (qA m c) (kA m c) (vA m c) = result m c := by
  funext y
  obtain ⟨i, j, rfl⟩ : ∃ (i : Fin 1024) (j : Fin 1536), y = ix2 i j := ⟨y 0, y 1, by ext a; fin_cases a <;> rfl⟩
  unfold result bA
  pointwise [Cert.QkvDwRefIdeal.Prod.line]
  by_cases h : j.val < 1024
  · simp only [h, dif_pos]
    exact Finset.sum_congr rfl fun k _ => mul_comm _ _
  · by_cases h' : j.val - 1024 < 256
    · simp only [h, h', dif_pos, dif_neg, not_false_eq_true]
      exact Finset.sum_congr rfl fun k _ => mul_comm _ _
    · simp only [h, h', dif_neg, not_false_eq_true]
      exact Finset.sum_congr rfl fun k _ => mul_comm _ _

end Cert.QkvDwIdeal.Prod

namespace Cert.Proof.QkvDw

open Idealize.ShloMosaic Idealize.ShloMosaic.TcCoe Idealize.SL.Sem
open Idealize.ShloMosaic.Tactic
open Cert.QkvDwIdeal.Prod

theorem quiescent_kernelIdeal : Cert.quiescent_QkvDwIdeal := fun m ρ _ => Cert.QkvDwIdeal.Gen.frame (F := Ideal) m ρ

/-- What the frame says of a run of the ideal printing, at any reading of the floats. -/
def Framed (F : FTy → Type) [FloatOps F] : Prop :=
  ∀ (m : (ℓ : Loc Cert.QkvDwIdeal.nD Cert.QkvDwIdeal.τ Cert.QkvDwIdeal.sig) → Buf (Elt F) ℓ) (ρ : Dev Cert.QkvDwIdeal.nD → PrngReg), True →
    θ_run (Cert.QkvDwIdeal.defs (F := F)) (onTc (τ := Cert.QkvDwIdeal.τ) (Cert.QkvDwIdeal.main (F := F))) ⟨m, fun _ => 0, ρ⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
      ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2)
      ∧ r.2.mem ((c.tc : Thread Cert.QkvDwIdeal.nD Cert.QkvDwIdeal.τ).loc Cert.QkvDwIdeal.main_arg3) = m ((c.tc : Thread Cert.QkvDwIdeal.nD Cert.QkvDwIdeal.τ).loc Cert.QkvDwIdeal.main_arg3))
      ∧ r.2.sem = fun _ => 0)

theorem framed (F : FTy → Type) [FloatOps F] : Framed F := fun m ρ _ => Cert.QkvDwIdeal.Gen.frame m ρ

/-- The two printings are one program, line for line. -/
theorem kernel_framed : Cert.quiescent_QkvDw = Framed Bits := by sl_kernel_rfl

theorem quiescent_kernel : Cert.quiescent_QkvDw := kernel_framed.mpr (framed Bits)

theorem quiescent_reference : Cert.quiescent_QkvDwRefIdeal := fun m ρ _ =>
  (θ_run Cert.QkvDwRefIdeal.defs _ _).mono (fun r h => ⟨fun c => (h c).2, sem_eq_zero_of_no_sems (by decide) r.2⟩)
    (Cert.QkvDwRefIdeal.Value.run (F := Ideal) m ρ)

/-- The result is the reference's. -/
theorem equation : Cert.algebraic_QkvDwIdeal_QkvDwRefIdeal := by
  pair_intro
  · run_from Cert.QkvDwIdeal.Gen.run_main m g
    all_goals first | exact Cert.QkvDwIdeal.Gen.V_main_arg0 m c | exact Cert.QkvDwIdeal.Gen.V_main_arg1 m c | exact Cert.QkvDwIdeal.Gen.V_main_arg2 m c | exact Cert.QkvDwIdeal.Gen.V_main_arg3 m c
  · run_from Cert.QkvDwRefIdeal.Value.run m' g'
    · rw [(hagree c).2.2.2]
      exact (reference_eq m c).trans (final m c).symm

end Cert.Proof.QkvDw

end
-- ==== Proof.OutDw.lean ====
module

public import proofs.«01_k».proof.Defs
public import proofs.«01_k».proof.Proof.Gen.OutDw
public import proofs.«01_k».proof.Proof.Gen.OutDwIdeal.Value
public import proofs.«01_k».proof.Proof.Gen.OutDwRefIdeal.Run
public import proofs.«01_k».proof.Proof.Sums
public import Idealize.ShloMosaic.Lib.Pipeline.ValueKit
public import Idealize.ShloMosaic.Lib.Ring
public import Idealize.ShloMosaic.Adequacy
public import Idealize.ShloMosaic.Init

/-! The gradient of an output projection: one product over the rows, taken in three parts of 1408 rows. -/

@[expose] public section

set_option maxRecDepth 16384

noncomputable section

namespace Cert.OutDwIdeal.Prod

open Cert.OutDwIdeal Cert.OutDwIdeal.Gen
open Idealize.ShloMosaic Idealize.ShloMosaic.TcCoe Idealize.ShloMosaic.Tactic

/-! ### The body's arithmetic -/

theorem first_at (a : Vec Ideal S1408x1024 .bf16) (b : Vec Ideal S1408x1024 .f32) (i : Fin 1024) (j : Fin 1024) :
    k0_pay1 a b (ix2 i j) = ∑ k : Fin 1408, a (ix2 k i) * b (ix2 k j) := by
  pointwise [k0_pay1]

theorem next_at (acc : Vec Ideal S1024x1024 .f32) (a : Vec Ideal S1408x1024 .bf16) (b : Vec Ideal S1408x1024 .f32) (i : Fin 1024) (j : Fin 1024) :
    k0_pay2 acc a b (ix2 i j) = acc (ix2 i j) + ∑ k : Fin 1408, a (ix2 k i) * b (ix2 k j) := by
  pointwise [k0_pay2]

theorem last_at (acc : Vec Ideal S1024x1024 .f32) (a : Vec Ideal S1408x1024 .bf16) (b : Vec Ideal S1408x1024 .f32) (i : Fin 1024) (j : Fin 1024) :
    k0_pay3 acc a b (ix2 i j) = acc (ix2 i j) + ∑ k : Fin 1408, a (ix2 k i) * b (ix2 k j) := by
  pointwise [k0_pay3]

/-! ### What a point reads -/

variable (m : (ℓ : Loc nD τ sig) → Buf (Elt Ideal) ℓ) (c : Dev nD)

/-- The left factor, and the right one as the call gets it. -/
abbrev hA : FVec Ideal S4224x1024 .f32 := m ((c.tc : Thread nD τ).loc main_arg0)
abbrev bA : FVec Ideal S4224x1024 .f32 := m ((c.tc : Thread nD τ).loc main_arg1)

/-- The block every window is at. -/
theorem idx : ∀ t : Fin cfg0.N, win0_0.index t = ![t.val % 3, 0] ∧ win0_1.index t = ![t.val % 3, 0]
    ∧ win0_2.index t = ![0, 0] := by
  decide +kernel

theorem lt_points (t : Fin cfg0.N) : t.val < 3 := lt_of_lt_of_eq t.isLt (show cfg0.N = 3 from N_0)

/-- The result's row and column of a tile's. -/
def row (t : Fin cfg0.N) (i : Fin 1024) : Fin 1024 := ⟨1024 * (0) + i.val, by have := lt_points t; omega⟩
def col (t : Fin cfg0.N) (j : Fin 1024) : Fin 1024 := ⟨1024 * (0) + j.val, by have := lt_points t; omega⟩

theorem V_h : (V m c main_v0 : FVec Ideal S4224x1024 .bf16) = hA m c := by
  entry_read
  rfl

/-- The right factor is an argument. -/
theorem V_b : V m c main_arg1 = bA m c := V_main_arg1 m c

theorem blk0 (t : Fin cfg0.N) (k : Fin 1408) (i : Fin 1024) :
    iblk m c 0 t (ix2 k i) = hA m c (ix2 ⟨1408 * (t.val % 3) + k.val, by omega⟩ (row t i)) := by
  unfold row
  rw [← V_h]
  blk_ext [iblk, idx t]

theorem blk1 (t : Fin cfg0.N) (k : Fin 1408) (j : Fin 1024) :
    iblk m c 1 t (ix2 k j) = bA m c (ix2 ⟨1408 * (t.val % 3) + k.val, by omega⟩ (col t j)) := by
  unfold col
  rw [← V_b]
  blk_ext [iblk, idx t]

/-! ### The product over the rows, in three parts -/

/-- What one part of the rows contributes to an entry. -/
def part (s : ℕ) (hs : s < 3) (I : Fin 1024) (J : Fin 1024) : EReal :=
  ∑ k : Fin 1408, hA m c (ix2 ⟨1408 * s + k.val, by omega⟩ I) * bA m c (ix2 ⟨1408 * s + k.val, by omega⟩ J)

theorem part_eq (t : Fin cfg0.N) (i : Fin 1024) (j : Fin 1024) :
    (∑ k : Fin 1408, (show FVec Ideal S1408x1024 .bf16 from iblk m c 0 t) (ix2 k i) * (show FVec Ideal S1408x1024 .f32 from iblk m c 1 t) (ix2 k j))
      = part m c (t.val % 3) (by omega) (row t i) (col t j) :=
  Finset.sum_congr rfl fun k _ => congrArg₂ (· * ·) (blk0 m c t k i) (blk1 m c t k j)

theorem after_first (t : Fin cfg0.N) (h : t.val % 3 = 0) (i : Fin 1024) (j : Fin 1024) :
    (outsAt0 m c t.val t.isLt).2 (ix2 i j) = part m c 0 (by omega) (row t i) (col t j) := by
  rw [outsAt0_A m c t h (by omega) (by omega)]
  frame_out
  refine (first_at _ _ i j).trans ((part_eq m c t i j).trans ?_)
  congr 1

theorem after_next (t : Fin cfg0.N) (h : t.val % 3 = 1) (i : Fin 1024) (j : Fin 1024) :
    (outsAt0 m c t.val t.isLt).2 (ix2 i j)
      = (outsAt0 m c (t.val - 1) (Nat.lt_of_le_of_lt (Nat.sub_le _ _) t.isLt)).2 (ix2 i j) + part m c 1 (by omega) (row t i) (col t j) := by
  rw [outsAt0_B m c t (by omega) h (by omega)]
  frame_out
  refine (next_at _ _ _ i j).trans (congrArg₂ (· + ·) (congrFun (Memref.IsWhole.read_unread _ _) _) ((part_eq m c t i j).trans ?_))
  congr 1

theorem after_last (t : Fin cfg0.N) (h : t.val % 3 = 2) (i : Fin 1024) (j : Fin 1024) :
    (outsAt0 m c t.val t.isLt).1 (ix2 i j)
      = (outsAt0 m c (t.val - 1) (Nat.lt_of_le_of_lt (Nat.sub_le _ _) t.isLt)).2 (ix2 i j) + part m c 2 (by omega) (row t i) (col t j) := by
  rw [outsAt0_C m c t (by omega) (by omega) h]
  frame_out
  refine (last_at _ _ _ i j).trans (congrArg₂ (· + ·) (congrFun (Memref.IsWhole.read_unread _ _) _) ((part_eq m c t i j).trans ?_))
  congr 1

theorem row_eq (t u : Fin cfg0.N) (h : t.val / 3 = u.val / 3) (i : Fin 1024) : row t i = row u i :=
  Fin.ext (by unfold row; dsimp only <;> omega)
theorem col_eq (t u : Fin cfg0.N) (h : t.val / 3 = u.val / 3) (j : Fin 1024) : col t j = col u j :=
  Fin.ext (by unfold col; dsimp only <;> omega)

/-- What the last point of a run writes: the whole contraction. -/
theorem written (t : Fin cfg0.N) (h : t.val % 3 = 2) (i : Fin 1024) (j : Fin 1024) :
    (outsAt0 m c t.val t.isLt).1 (ix2 i j) = ∑ k : Fin 4224, hA m c (ix2 k (row t i)) * bA m c (ix2 k (col t j)) := by
  have h1 : t.val - 1 < cfg0.N := Nat.lt_of_le_of_lt (Nat.sub_le _ _) t.isLt
  have h2 : t.val - 1 - 1 < cfg0.N := Nat.lt_of_le_of_lt (Nat.sub_le _ _) h1
  have e1 := after_next m c ⟨t.val - 1, h1⟩ (by dsimp only; omega) i j
  have e2 := after_first m c ⟨t.val - 1 - 1, h2⟩ (by dsimp only; omega) i j
  rw [row_eq _ t (by dsimp only; omega), col_eq _ t (by dsimp only; omega)] at e1
  rw [row_eq _ t (by dsimp only; omega), col_eq _ t (by dsimp only; omega)] at e2
  refine (after_last m c t h i j).trans ((congrArg (· + _) (e1.trans (congrArg (· + _) e2))).trans ?_)
  refine Eq.trans ?_ (Cert.Sums.three _)
  unfold part
  simp only [Nat.mul_zero, Nat.mul_one, Nat.zero_add]

/-- The result, entry by entry. -/
def result : FVec Ideal S1024x1024 .bf16 := fun y => ∑ k : Fin 4224, hA m c (ix2 k (y 0)) * bA m c (ix2 k (y 1))

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1024) (j : Fin 1024), y = ix2 i j := ⟨y 0, y 1, by ext a; fin_cases a <;> rfl⟩
  refine (written m c t ((flush0_2 t).mp ht) i j).trans ?_
  unfold result
  refine Finset.sum_congr rfl fun k _ => congrArg₂ (· * ·) ?_ ?_
  · unfold row
    blk_ext [idx t]
  · unfold col
    blk_ext [idx t]

end Cert.OutDwIdeal.Prod

namespace Cert.OutDwRefIdeal.Prod

open Cert.OutDwRefIdeal Cert.OutDwRefIdeal.Gen
open Idealize.ShloMosaic Idealize.ShloMosaic.TcCoe Idealize.ShloMosaic.Tactic

/-- The reference's result over its arguments. -/
def line (x : FVec Ideal S4224x1024 .f32) (d : FVec Ideal S4224x1024 .f32) : FVec Ideal S1024x1024 .bf16 :=
  truncf .bf16 (transpose S1024x1024 [1, 0] (Host.dotGeneral dot_S4224x1024_S4224x1024_S1024x1024_0_0_1_1_n_n none d x) transposes_S1024x1024_S1024x1024_1_0) bitsLt_bf16_f32

end Cert.OutDwRefIdeal.Prod

namespace Cert.OutDwIdeal.Prod

open Cert.OutDwIdeal Cert.OutDwIdeal.Gen
open Idealize.ShloMosaic Idealize.ShloMosaic.TcCoe Idealize.ShloMosaic.Tactic

theorem reference_eq (m : (ℓ : Loc nD τ sig) → Buf (Elt Ideal) ℓ) (c : Dev nD) : Cert.OutDwRefIdeal.Prod.line (hA m c) (bA m c) = result m c := by
  funext y
  obtain ⟨i, j, rfl⟩ : ∃ (i : Fin 1024) (j : Fin 1024), y = ix2 i j := ⟨y 0, y 1, by ext a; fin_cases a <;> rfl⟩
  unfold result
  pointwise [Cert.OutDwRefIdeal.Prod.line]
  exact Finset.sum_congr rfl fun k _ => mul_comm _ _

end Cert.OutDwIdeal.Prod

namespace Cert.Proof.OutDw

open Idealize.ShloMosaic Idealize.ShloMosaic.TcCoe Idealize.SL.Sem
open Idealize.ShloMosaic.Tactic
open Cert.OutDwIdeal.Prod

theorem quiescent_kernelIdeal : Cert.quiescent_OutDwIdeal := fun m ρ _ => Cert.OutDwIdeal.Gen.frame (F := Ideal) m ρ

/-- What the frame says of a run of the ideal printing, at any reading of the floats. -/
def Framed (F : FTy → Type) [FloatOps F] : Prop :=
  ∀ (m : (ℓ : Loc Cert.OutDwIdeal.nD Cert.OutDwIdeal.τ Cert.OutDwIdeal.sig) → Buf (Elt F) ℓ) (ρ : Dev Cert.OutDwIdeal.nD → PrngReg), True →
    θ_run (Cert.OutDwIdeal.defs (F := F)) (onTc (τ := Cert.OutDwIdeal.τ) (Cert.OutDwIdeal.main (F := F))) ⟨m, fun _ => 0, ρ⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

theorem framed (F : FTy → Type) [FloatOps F] : Framed F := fun m ρ _ => Cert.OutDwIdeal.Gen.frame m ρ

/-- The two printings are one program, line for line. -/
theorem kernel_framed : Cert.quiescent_OutDw = Framed Bits := by sl_kernel_rfl

theorem quiescent_kernel : Cert.quiescent_OutDw := kernel_framed.mpr (framed Bits)

theorem quiescent_reference : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The result is the reference's. -/
theorem equation : Cert.algebraic_OutDwIdeal_OutDwRefIdeal := by
  pair_intro
  · run_from Cert.OutDwIdeal.Gen.run_main m g
    all_goals first | exact Cert.OutDwIdeal.Gen.V_main_arg0 m c | exact Cert.OutDwIdeal.Gen.V_main_arg1 m c
  · run_from Cert.OutDwRefIdeal.Value.run m' g'
    · exact (reference_eq m c).trans (final m c).symm

end Cert.Proof.OutDw

end
-- ==== Proof.MixOutDx.lean ====
module

public import proofs.«01_k».proof.Defs
public import proofs.«01_k».proof.Proof.Gen.MixOutDx
public import proofs.«01_k».proof.Proof.Gen.MixOutDxIdeal.Value
public import proofs.«01_k».proof.Proof.Gen.MixOutDxRefIdeal.Run
public import Idealize.ShloMosaic.Lib.Pipeline.ValueKit
public import Idealize.ShloMosaic.Lib.Ring
public import Idealize.ShloMosaic.Adequacy
public import Idealize.ShloMosaic.Init

/-! The gradient with respect to the mixer's output: the cotangent times the output weights, transposed. -/

@[expose] public section

set_option maxRecDepth 16384

noncomputable section

namespace Cert.MixOutDxIdeal.Prod

open Cert.MixOutDxIdeal Cert.MixOutDxIdeal.Gen
open Idealize.ShloMosaic Idealize.ShloMosaic.TcCoe Idealize.ShloMosaic.Tactic

/-! ### The body's arithmetic -/

theorem pay_at (a : Vec Ideal S1408x1024 .f32) (b : Vec Ideal S1024x1024 .bf16) (i : Fin 1408) (j : Fin 1024) :
    k0_pay1 a b (ix2 i j) = ∑ k : Fin 1024, a (ix2 i k) * b (ix2 j k) := by
  pointwise [k0_pay1]

variable (m : (ℓ : Loc nD τ sig) → Buf (Elt Ideal) ℓ) (c : Dev nD)

abbrev bA : FVec Ideal S1024x1024 .f32 := m ((c.tc : Thread nD τ).loc main_arg0)
abbrev aA : FVec Ideal S4224x1024 .f32 := m ((c.tc : Thread nD τ).loc main_arg1)

/-- The block every window is at. -/
theorem idx : ∀ t : Fin cfg0.N, win0_0.index t = ![t.val, 0] ∧ win0_1.index t = ![0, 0] ∧ win0_2.index t = ![t.val, 0] := by
  decide +kernel

theorem lt_n (t : Fin cfg0.N) : t.val < 3 := lt_of_lt_of_eq t.isLt (show cfg0.N = 3 from N_0)

theorem V_b : (V m c main_v0 : FVec Ideal S1024x1024 .bf16) = bA m c := by
  entry_read
  rfl

theorem V_a : V m c main_arg1 = aA m c := V_main_arg1 m c

/-- The array's row of row `i` at point `t`. -/
def row (t : Fin cfg0.N) (i : Fin 1408) : Fin 4224 := ⟨1408 * (t.val) + i.val, by have := lt_n t; omega⟩

/-- The array's column of column `j` at point `t`. -/
def col (t : Fin cfg0.N) (j : Fin 1024) : Fin 1024 := ⟨1024 * (0) + j.val, by have := lt_n t; omega⟩

theorem blk0 (t : Fin cfg0.N) (i : Fin 1408) (k : Fin 1024) :
    iblk m c 0 t (ix2 i k) = aA m c (ix2 (row t i) k) := by
  rw [← V_a]
  unfold row
  blk_ext [iblk, idx t]

theorem blk1 (t : Fin cfg0.N) (k : Fin 1024) (j : Fin 1024) :
    iblk m c 1 t (ix2 j k) = bA m c (ix2 (col t j) k) := by
  rw [← V_b]
  unfold col
  blk_ext [iblk, idx t]

/-- What a point writes. -/
theorem written (t : Fin cfg0.N) (i : Fin 1408) (j : Fin 1024) :
    outsAt0 m c t (ix2 i j) = ∑ k : Fin 1024, aA m c (ix2 (row t i) k) * bA m c (ix2 (col t j) k) := by
  unfold outsAt0
  frame_out
  exact (pay_at _ _ i j).trans (Finset.sum_congr rfl fun k _ => congrArg₂ (· * ·) (blk0 m c t i k) (blk1 m c t k j))

/-- The result, entry by entry. -/
def result : FVec Ideal S4224x1024 .f32 := fun y => ∑ k : Fin 1024, aA m c (ix2 (y 0) k) * bA m c (ix2 (y 1) k)

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1408) (j : Fin 1024), y = ix2 i j := ⟨y 0, y 1, by ext a; fin_cases a <;> rfl⟩
  refine (written m c t i j).trans ?_
  unfold result
  refine Finset.sum_congr rfl fun k _ => congrArg₂ (· * ·) ?_ ?_
  · unfold row
    blk_ext [idx t]
  · unfold col
    blk_ext [idx t]

end Cert.MixOutDxIdeal.Prod

namespace Cert.MixOutDxRefIdeal.Prod

open Cert.MixOutDxRefIdeal Cert.MixOutDxRefIdeal.Gen
open Idealize.ShloMosaic Idealize.ShloMosaic.TcCoe Idealize.ShloMosaic.Tactic

/-- The reference's result over its arguments. -/
def line (w : FVec Ideal S1024x1024 .f32) (d : FVec Ideal S4224x1024 .f32) : FVec Ideal S4224x1024 .f32 :=
  Host.dotGeneral dot_S4224x1024_S1024x1024_S4224x1024_1_1_0_0_n_n none d w

end Cert.MixOutDxRefIdeal.Prod

namespace Cert.MixOutDxIdeal.Prod

open Cert.MixOutDxIdeal Cert.MixOutDxIdeal.Gen
open Idealize.ShloMosaic Idealize.ShloMosaic.TcCoe Idealize.ShloMosaic.Tactic

theorem reference_eq (m : (ℓ : Loc nD τ sig) → Buf (Elt Ideal) ℓ) (c : Dev nD) : Cert.MixOutDxRefIdeal.Prod.line (bA m c) (aA m c) = result m c := by
  funext y
  obtain ⟨i, j, rfl⟩ : ∃ (i : Fin 4224) (j : Fin 1024), y = ix2 i j := ⟨y 0, y 1, by ext a; fin_cases a <;> rfl⟩
  unfold result
  pointwise [Cert.MixOutDxRefIdeal.Prod.line]

end Cert.MixOutDxIdeal.Prod

namespace Cert.Proof.MixOutDx

open Idealize.ShloMosaic Idealize.ShloMosaic.TcCoe Idealize.SL.Sem
open Idealize.ShloMosaic.Tactic
open Cert.MixOutDxIdeal.Prod

theorem quiescent_kernelIdeal : Cert.quiescent_MixOutDxIdeal := fun m ρ _ => Cert.MixOutDxIdeal.Gen.frame (F := Ideal) m ρ

/-- What the frame says of a run of the ideal printing, at any reading of the floats. -/
def Framed (F : FTy → Type) [FloatOps F] : Prop :=
  ∀ (m : (ℓ : Loc Cert.MixOutDxIdeal.nD Cert.MixOutDxIdeal.τ Cert.MixOutDxIdeal.sig) → Buf (Elt F) ℓ) (ρ : Dev Cert.MixOutDxIdeal.nD → PrngReg), True →
    θ_run (Cert.MixOutDxIdeal.defs (F := F)) (onTc (τ := Cert.MixOutDxIdeal.τ) (Cert.MixOutDxIdeal.main (F := F))) ⟨m, fun _ => 0, ρ⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

theorem framed (F : FTy → Type) [FloatOps F] : Framed F := fun m ρ _ => Cert.MixOutDxIdeal.Gen.frame m ρ

/-- The two printings are one program, line for line. -/
theorem kernel_framed : Cert.quiescent_MixOutDx = Framed Bits := by sl_kernel_rfl

theorem quiescent_kernel : Cert.quiescent_MixOutDx := kernel_framed.mpr (framed Bits)

theorem quiescent_reference : Cert.quiescent_MixOutDxRefIdeal := fun m ρ _ =>
  (θ_run Cert.MixOutDxRefIdeal.defs _ _).mono (fun r h => ⟨fun c => (h c).2, sem_eq_zero_of_no_sems (by decide) r.2⟩)
    (Cert.MixOutDxRefIdeal.Value.run (F := Ideal) m ρ)

/-- The result is the reference's. -/
theorem equation : Cert.algebraic_MixOutDxIdeal_MixOutDxRefIdeal := by
  pair_intro
  · run_from Cert.MixOutDxIdeal.Gen.run_main m g
    all_goals first | exact Cert.MixOutDxIdeal.Gen.V_main_arg0 m c | exact Cert.MixOutDxIdeal.Gen.V_main_arg1 m c
  · run_from Cert.MixOutDxRefIdeal.Value.run m' g'
    · exact (reference_eq m c).trans (final m c).symm

end Cert.Proof.MixOutDx

end
-- ==== Proof.SwaOutDx.lean ====
module

public import proofs.«01_k».proof.Defs
public import proofs.«01_k».proof.Proof.Gen.SwaOutDx
public import proofs.«01_k».proof.Proof.Gen.SwaOutDxIdeal.Value
public import proofs.«01_k».proof.Proof.Gen.SwaOutDxRefIdeal.Run
public import Idealize.ShloMosaic.Lib.Pipeline.ValueKit
public import Idealize.ShloMosaic.Lib.Ring
public import Idealize.ShloMosaic.Adequacy
public import Idealize.ShloMosaic.Init

/-! The gradient with respect to the attention's output: the cotangent times the output weights, transposed. -/

@[expose] public section

set_option maxRecDepth 16384

noncomputable section

namespace Cert.SwaOutDxIdeal.Prod

open Cert.SwaOutDxIdeal Cert.SwaOutDxIdeal.Gen
open Idealize.ShloMosaic Idealize.ShloMosaic.TcCoe Idealize.ShloMosaic.Tactic

/-! ### The body's arithmetic -/

theorem pay_at (a : Vec Ideal S1408x1024 .f32) (b : Vec Ideal S1024x1024 .bf16) (i : Fin 1408) (j : Fin 1024) :
    k0_pay1 a b (ix2 i j) = ∑ k : Fin 1024, a (ix2 i k) * b (ix2 j k) := by
  pointwise [k0_pay1]

variable (m : (ℓ : Loc nD τ sig) → Buf (Elt Ideal) ℓ) (c : Dev nD)

abbrev bA : FVec Ideal S1024x1024 .f32 := m ((c.tc : Thread nD τ).loc main_arg0)
abbrev aA : FVec Ideal S4224x1024 .f32 := m ((c.tc : Thread nD τ).loc main_arg1)

/-- The block every window is at. -/
theorem idx : ∀ t : Fin cfg0.N, win0_0.index t = ![t.val, 0] ∧ win0_1.index t = ![0, 0] ∧ win0_2.index t = ![t.val, 0] := by
  decide +kernel

theorem lt_n (t : Fin cfg0.N) : t.val < 3 := lt_of_lt_of_eq t.isLt (show cfg0.N = 3 from N_0)

theorem V_b : (V m c main_v0 : FVec Ideal S1024x1024 .bf16) = bA m c := by
  entry_read
  rfl

theorem V_a : V m c main_arg1 = aA m c := V_main_arg1 m c

/-- The array's row of row `i` at point `t`. -/
def row (t : Fin cfg0.N) (i : Fin 1408) : Fin 4224 := ⟨1408 * (t.val) + i.val, by have := lt_n t; omega⟩

/-- The array's column of column `j` at point `t`. -/
def col (t : Fin cfg0.N) (j : Fin 1024) : Fin 1024 := ⟨1024 * (0) + j.val, by have := lt_n t; omega⟩

theorem blk0 (t : Fin cfg0.N) (i : Fin 1408) (k : Fin 1024) :
    iblk m c 0 t (ix2 i k) = aA m c (ix2 (row t i) k) := by
  rw [← V_a]
  unfold row
  blk_ext [iblk, idx t]

theorem blk1 (t : Fin cfg0.N) (k : Fin 1024) (j : Fin 1024) :
    iblk m c 1 t (ix2 j k) = bA m c (ix2 (col t j) k) := by
  rw [← V_b]
  unfold col
  blk_ext [iblk, idx t]

/-- What a point writes. -/
theorem written (t : Fin cfg0.N) (i : Fin 1408) (j : Fin 1024) :
    outsAt0 m c t (ix2 i j) = ∑ k : Fin 1024, aA m c (ix2 (row t i) k) * bA m c (ix2 (col t j) k) := by
  unfold outsAt0
  frame_out
  exact (pay_at _ _ i j).trans (Finset.sum_congr rfl fun k _ => congrArg₂ (· * ·) (blk0 m c t i k) (blk1 m c t k j))

/-- The result, entry by entry. -/
def result : FVec Ideal S4224x1024 .bf16 := fun y => ∑ k : Fin 1024, aA m c (ix2 (y 0) k) * bA m c (ix2 (y 1) k)

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1408) (j : Fin 1024), y = ix2 i j := ⟨y 0, y 1, by ext a; fin_cases a <;> rfl⟩
  refine (written m c t i j).trans ?_
  unfold result
  refine Finset.sum_congr rfl fun k _ => congrArg₂ (· * ·) ?_ ?_
  · unfold row
    blk_ext [idx t]
  · unfold col
    blk_ext [idx t]

end Cert.SwaOutDxIdeal.Prod

namespace Cert.SwaOutDxRefIdeal.Prod

open Cert.SwaOutDxRefIdeal Cert.SwaOutDxRefIdeal.Gen
open Idealize.ShloMosaic Idealize.ShloMosaic.TcCoe Idealize.ShloMosaic.Tactic

/-- The reference's result over its arguments. -/
def line (w : FVec Ideal S1024x1024 .f32) (d : FVec Ideal S4224x1024 .f32) : FVec Ideal S4224x1024 .bf16 :=
  truncf .bf16 (Host.dotGeneral dot_S4224x1024_S1024x1024_S4224x1024_1_1_0_0_n_n none d w) bitsLt_bf16_f32

end Cert.SwaOutDxRefIdeal.Prod

namespace Cert.SwaOutDxIdeal.Prod

open Cert.SwaOutDxIdeal Cert.SwaOutDxIdeal.Gen
open Idealize.ShloMosaic Idealize.ShloMosaic.TcCoe Idealize.ShloMosaic.Tactic

theorem reference_eq (m : (ℓ : Loc nD τ sig) → Buf (Elt Ideal) ℓ) (c : Dev nD) : Cert.SwaOutDxRefIdeal.Prod.line (bA m c) (aA m c) = result m c := by
  funext y
  obtain ⟨i, j, rfl⟩ : ∃ (i : Fin 4224) (j : Fin 1024), y = ix2 i j := ⟨y 0, y 1, by ext a; fin_cases a <;> rfl⟩
  unfold result
  pointwise [Cert.SwaOutDxRefIdeal.Prod.line]

end Cert.SwaOutDxIdeal.Prod

namespace Cert.Proof.SwaOutDx

open Idealize.ShloMosaic Idealize.ShloMosaic.TcCoe Idealize.SL.Sem
open Idealize.ShloMosaic.Tactic
open Cert.SwaOutDxIdeal.Prod

theorem quiescent_kernelIdeal : Cert.quiescent_SwaOutDxIdeal := fun m ρ _ => Cert.SwaOutDxIdeal.Gen.frame (F := Ideal) m ρ

/-- What the frame says of a run of the ideal printing, at any reading of the floats. -/
def Framed (F : FTy → Type) [FloatOps F] : Prop :=
  ∀ (m : (ℓ : Loc Cert.SwaOutDxIdeal.nD Cert.SwaOutDxIdeal.τ Cert.SwaOutDxIdeal.sig) → Buf (Elt F) ℓ) (ρ : Dev Cert.SwaOutDxIdeal.nD → PrngReg), True →
    θ_run (Cert.SwaOutDxIdeal.defs (F := F)) (onTc (τ := Cert.SwaOutDxIdeal.τ) (Cert.SwaOutDxIdeal.main (F := F))) ⟨m, fun _ => 0, ρ⟩ (fun r => (∀ c : Dev Cert.SwaOutDxIdeal.nD,
      r.2.mem ((c.tc : Thread Cert.SwaOutDxIdeal.nD Cert.SwaOutDxIdeal.τ).loc Cert.SwaOutDxIdeal.main_arg0) = m ((c.tc : Thread Cert.SwaOutDxIdeal.nD Cert.SwaOutDxIdeal.τ).loc Cert.SwaOutDxIdeal.main_arg0)
      ∧ r.2.mem ((c.tc : Thread Cert.SwaOutDxIdeal.nD Cert.SwaOutDxIdeal.τ).loc Cert.SwaOutDxIdeal.main_arg1) = m ((c.tc : Thread Cert.SwaOutDxIdeal.nD Cert.SwaOutDxIdeal.τ).loc Cert.SwaOutDxIdeal.main_arg1))
      ∧ r.2.sem = fun _ => 0)

theorem framed (F : FTy → Type) [FloatOps F] : Framed F := fun m ρ _ => Cert.SwaOutDxIdeal.Gen.frame m ρ

/-- The two printings are one program, line for line. -/
theorem kernel_framed : Cert.quiescent_SwaOutDx = Framed Bits := by sl_kernel_rfl

theorem quiescent_kernel : Cert.quiescent_SwaOutDx := kernel_framed.mpr (framed Bits)

theorem quiescent_reference : Cert.quiescent_SwaOutDxRefIdeal := fun m ρ _ =>
  (θ_run Cert.SwaOutDxRefIdeal.defs _ _).mono (fun r h => ⟨fun c => (h c).2, sem_eq_zero_of_no_sems (by decide) r.2⟩)
    (Cert.SwaOutDxRefIdeal.Value.run (F := Ideal) m ρ)

/-- The result is the reference's. -/
theorem equation : Cert.algebraic_SwaOutDxIdeal_SwaOutDxRefIdeal := by
  pair_intro
  · run_from Cert.SwaOutDxIdeal.Gen.run_main m g
    all_goals first | exact Cert.SwaOutDxIdeal.Gen.V_main_arg0 m c | exact Cert.SwaOutDxIdeal.Gen.V_main_arg1 m c
  · run_from Cert.SwaOutDxRefIdeal.Value.run m' g'
    · exact (reference_eq m c).trans (final m c).symm

end Cert.Proof.SwaOutDx

end
-- ==== Proof.MixIn.lean ====
module

public import proofs.«01_k».proof.Defs
public import proofs.«01_k».proof.Proof.Gen.MixIn
public import proofs.«01_k».proof.Proof.Gen.MixInIdeal.Value
public import proofs.«01_k».proof.Proof.Gen.MixInRefIdeal.Run
public import Idealize.ShloMosaic.Lib.Pipeline.ValueKit
public import Idealize.ShloMosaic.Lib.Ring
public import Idealize.ShloMosaic.Adequacy
public import Idealize.ShloMosaic.Init

/-! The mixer's input projection. The columns past the projection's own are zeros. -/

@[expose] public section

set_option maxRecDepth 16384

noncomputable section

namespace Cert.MixInIdeal.Prod

open Cert.MixInIdeal Cert.MixInIdeal.Gen
open Idealize.ShloMosaic Idealize.ShloMosaic.TcCoe Idealize.ShloMosaic.Tactic

/-! ### The body's arithmetic -/

theorem pay_at (a : Vec Ideal S1408x1024 .bf16) (b : Vec Ideal S1024x768 .bf16) (i : Fin 1408) (j : Fin 768) :
    k0_pay1 a b (ix2 i j) = ∑ k : Fin 1024, a (ix2 i k) * b (ix2 k j) := by
  pointwise [k0_pay1]

variable (m : (ℓ : Loc nD τ sig) → Buf (Elt Ideal) ℓ) (c : Dev nD)

abbrev aA : FVec Ideal S4224x1024 .f32 := m ((c.tc : Thread nD τ).loc main_arg0)
abbrev wA : FVec Ideal S1024x3592 .f32 := m ((c.tc : Thread nD τ).loc main_arg1)
def bA : FVec Ideal S1024x3840 .f32 := pad S1024x3840 ![0, 0] ![0, 248] ![0, 0] (wA m c) (sitofp .f32 (constantI S_ 32 0#32)) pads_S1024x3592_S1024x3840_000_02480 h_S_

/-- The block every window is at. -/
theorem idx : ∀ t : Fin cfg0.N, win0_0.index t = ![t.val / 5, 0] ∧ win0_1.index t = ![0, t.val % 5] ∧ win0_2.index t = ![t.val / 5, t.val % 5] := by
  decide +kernel

theorem lt_n (t : Fin cfg0.N) : t.val < 15 := lt_of_lt_of_eq t.isLt (show cfg0.N = 15 from N_0)

theorem V_a : (V m c main_v0 : FVec Ideal S4224x1024 .bf16) = aA m c := by
  entry_read
  rfl

theorem V_b : (V m c main_v2 : FVec Ideal S1024x3840 .bf16) = bA m c := by
  entry_read
  rfl

/-- The array's row of row `i` at point `t`. -/
def row (t : Fin cfg0.N) (i : Fin 1408) : Fin 4224 := ⟨1408 * (t.val / 5) + i.val, by have := lt_n t; omega⟩

/-- The array's column of column `j` at point `t`. -/
def col (t : Fin cfg0.N) (j : Fin 768) : Fin 3840 := ⟨768 * (t.val % 5) + j.val, by have := lt_n t; omega⟩

theorem blk0 (t : Fin cfg0.N) (i : Fin 1408) (k : Fin 1024) :
    iblk m c 0 t (ix2 i k) = aA m c (ix2 (row t i) k) := by
  rw [← V_a]
  unfold row
  blk_ext [iblk, idx t]

theorem blk1 (t : Fin cfg0.N) (k : Fin 1024) (j : Fin 768) :
    iblk m c 1 t (ix2 k j) = bA m c (ix2 k (col t j)) := by
  rw [← V_b]
  unfold col
  blk_ext [iblk, idx t]

/-- What a point writes. -/
theorem written (t : Fin cfg0.N) (i : Fin 1408) (j : Fin 768) :
    outsAt0 m c t (ix2 i j) = ∑ k : Fin 1024, aA m c (ix2 (row t i) k) * bA m c (ix2 k (col t j)) := by
  unfold outsAt0
  frame_out
  exact (pay_at _ _ i j).trans (Finset.sum_congr rfl fun k _ => congrArg₂ (· * ·) (blk0 m c t i k) (blk1 m c t k j))

/-- The result, entry by entry. -/
def result : FVec Ideal S4224x3840 .f32 := fun y => ∑ k : Fin 1024, aA m c (ix2 (y 0) k) * bA m c (ix2 k (y 1))

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1408) (j : Fin 768), y = ix2 i j := ⟨y 0, y 1, by ext a; fin_cases a <;> rfl⟩
  refine (written m c t i j).trans ?_
  unfold result
  refine Finset.sum_congr rfl fun k _ => congrArg₂ (· * ·) ?_ ?_
  · unfold row
    blk_ext [idx t]
  · unfold col
    blk_ext [idx t]

end Cert.MixInIdeal.Prod

namespace Cert.MixInRefIdeal.Prod

open Cert.MixInRefIdeal Cert.MixInRefIdeal.Gen
open Idealize.ShloMosaic Idealize.ShloMosaic.TcCoe Idealize.ShloMosaic.Tactic

/-- The reference's result over its arguments. -/
def line (h : FVec Ideal S4224x1024 .f32) (w : FVec Ideal S1024x3592 .f32) : FVec Ideal S4224x3840 .f32 :=
  pad S4224x3840 ![0, 0] ![0, 248] ![0, 0] (Host.dotGeneral dot_S4224x1024_S1024x3592_S4224x3592_1_0_0_1_n_n none h w) (sitofp .f32 (constantI S_ 32 0#32)) pads_S4224x3592_S4224x3840_000_02480 h_S_

end Cert.MixInRefIdeal.Prod

namespace Cert.MixInIdeal.Prod

open Cert.MixInIdeal Cert.MixInIdeal.Gen
open Idealize.ShloMosaic Idealize.ShloMosaic.TcCoe Idealize.ShloMosaic.Tactic

theorem reference_eq (m : (ℓ : Loc nD τ sig) → Buf (Elt Ideal) ℓ) (c : Dev nD) : Cert.MixInRefIdeal.Prod.line (aA m c) (wA m c) = result m c := by
  funext y
  obtain ⟨i, j, rfl⟩ : ∃ (i : Fin 4224) (j : Fin 3840), y = ix2 i j := ⟨y 0, y 1, by ext a; fin_cases a <;> rfl⟩
  unfold result bA
  pointwise [Cert.MixInRefIdeal.Prod.line]
  by_cases h : j.val < 3592
  · simp only [h, dif_pos]
  · have z : (FloatOps.sitofp FTy.f32 0#32 : Ideal .f32) = (0 : EReal) := by
      show (((0#32 : BitVec 32).toInt : ℝ) : EReal) = 0
      simp
    simp only [h, dif_neg, not_false_eq_true]
    rw [z]
    simp only [mul_zero, Finset.sum_const_zero]

end Cert.MixInIdeal.Prod

namespace Cert.Proof.MixIn

open Idealize.ShloMosaic Idealize.ShloMosaic.TcCoe Idealize.SL.Sem
open Idealize.ShloMosaic.Tactic
open Cert.MixInIdeal.Prod

theorem quiescent_kernelIdeal : Cert.quiescent_MixInIdeal := fun m ρ _ => Cert.MixInIdeal.Gen.frame (F := Ideal) m ρ

/-- What the frame says of a run of the ideal printing, at any reading of the floats. -/
def Framed (F : FTy → Type) [FloatOps F] : Prop :=
  ∀ (m : (ℓ : Loc Cert.MixInIdeal.nD Cert.MixInIdeal.τ Cert.MixInIdeal.sig) → Buf (Elt F) ℓ) (ρ : Dev Cert.MixInIdeal.nD → PrngReg), True →
    θ_run (Cert.MixInIdeal.defs (F := F)) (onTc (τ := Cert.MixInIdeal.τ) (Cert.MixInIdeal.main (F := F))) ⟨m, fun _ => 0, ρ⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

theorem framed (F : FTy → Type) [FloatOps F] : Framed F := fun m ρ _ => Cert.MixInIdeal.Gen.frame m ρ

/-- The two printings are one program, line for line. -/
theorem kernel_framed : Cert.quiescent_MixIn = Framed Bits := by sl_kernel_rfl

theorem quiescent_kernel : Cert.quiescent_MixIn := kernel_framed.mpr (framed Bits)

theorem quiescent_reference : Cert.quiescent_MixInRefIdeal := fun m ρ _ =>
  (θ_run Cert.MixInRefIdeal.defs _ _).mono (fun r h => ⟨fun c => (h c).2, sem_eq_zero_of_no_sems (by decide) r.2⟩)
    (Cert.MixInRefIdeal.Value.run (F := Ideal) m ρ)

/-- The result is the reference's. -/
theorem equation : Cert.algebraic_MixInIdeal_MixInRefIdeal := by
  pair_intro
  · run_from Cert.MixInIdeal.Gen.run_main m g
    all_goals first | exact Cert.MixInIdeal.Gen.V_main_arg0 m c | exact Cert.MixInIdeal.Gen.V_main_arg1 m c
  · run_from Cert.MixInRefIdeal.Value.run m' g'
    · exact (reference_eq m c).trans (final m c).symm

end Cert.Proof.MixIn

end
-- ==== Proof.Qkv.lean ====
module

public import proofs.«01_k».proof.Defs
public import proofs.«01_k».proof.Proof.Gen.Qkv
public import proofs.«01_k».proof.Proof.Gen.QkvIdeal.Value
public import proofs.«01_k».proof.Proof.Gen.QkvRefIdeal.Run
public import Idealize.ShloMosaic.Lib.Pipeline.ValueKit
public import Idealize.ShloMosaic.Lib.Ring
public import Idealize.ShloMosaic.Adequacy
public import Idealize.ShloMosaic.Init

/-! The projection to queries, keys and values. -/

@[expose] public section

set_option maxRecDepth 16384

noncomputable section

namespace Cert.QkvIdeal.Prod

open Cert.QkvIdeal Cert.QkvIdeal.Gen
open Idealize.ShloMosaic Idealize.ShloMosaic.TcCoe Idealize.ShloMosaic.Tactic

/-! ### The body's arithmetic -/

theorem pay_at (a : Vec Ideal S1408x1024 .bf16) (b : Vec Ideal S1024x768 .bf16) (i : Fin 1408) (j : Fin 768) :
    k0_pay1 a b (ix2 i j) = ∑ k : Fin 1024, a (ix2 i k) * b (ix2 k j) := by
  pointwise [k0_pay1]

variable (m : (ℓ : Loc nD τ sig) → Buf (Elt Ideal) ℓ) (c : Dev nD)

abbrev aA : FVec Ideal S4224x1024 .f32 := m ((c.tc : Thread nD τ).loc main_arg0)
abbrev qA : FVec Ideal S1024x1024 .f32 := m ((c.tc : Thread nD τ).loc main_arg1)
abbrev kA : FVec Ideal S1024x256 .f32 := m ((c.tc : Thread nD τ).loc main_arg2)
abbrev vA : FVec Ideal S1024x256 .f32 := m ((c.tc : Thread nD τ).loc main_arg3)
def bA : FVec Ideal S1024x1536 .f32 :=
  concatenate S1024x1536 1 [⟨S1024x1024, qA m c⟩, ⟨S1024x512, concatenate S1024x512 1 [⟨S1024x256, kA m c⟩, ⟨S1024x256, vA m c⟩] concatenates_S1024x256_S1024x256_S1024x512_d1⟩] concatenates_S1024x1024_S1024x512_S1024x1536_d1

/-- The block every window is at. -/
theorem idx : ∀ t : Fin cfg0.N, win0_0.index t = ![t.val / 2, 0] ∧ win0_1.index t = ![0, t.val % 2] ∧ win0_2.index t = ![t.val / 2, t.val % 2] := by
  decide +kernel

theorem lt_n (t : Fin cfg0.N) : t.val < 6 := lt_of_lt_of_eq t.isLt (show cfg0.N = 6 from N_0)

theorem V_a : (V m c main_v2 : FVec Ideal S4224x1024 .bf16) = aA m c := by
  entry_read
  rfl

theorem V_b : (V m c main_v3 : FVec Ideal S1024x1536 .bf16) = bA m c := by
  entry_read
  rfl

/-- The array's row of row `i` at point `t`. -/
def row (t : Fin cfg0.N) (i : Fin 1408) : Fin 4224 := ⟨1408 * (t.val / 2) + i.val, by have := lt_n t; omega⟩

/-- The array's column of column `j` at point `t`. -/
def col (t : Fin cfg0.N) (j : Fin 768) : Fin 1536 := ⟨768 * (t.val % 2) + j.val, by have := lt_n t; omega⟩

theorem blk0 (t : Fin cfg0.N) (i : Fin 1408) (k : Fin 1024) :
    iblk m c 0 t (ix2 i k) = aA m c (ix2 (row t i) k) := by
  rw [← V_a]
  unfold row
  blk_ext [iblk, idx t]

theorem blk1 (t : Fin cfg0.N) (k : Fin 1024) (j : Fin 768) :
    iblk m c 1 t (ix2 k j) = bA m c (ix2 k (col t j)) := by
  rw [← V_b]
  unfold col
  blk_ext [iblk, idx t]

/-- What a point writes. -/
theorem written (t : Fin cfg0.N) (i : Fin 1408) (j : Fin 768) :
    outsAt0 m c t (ix2 i j) = ∑ k : Fin 1024, aA m c (ix2 (row t i) k) * bA m c (ix2 k (col t j)) := by
  unfold outsAt0
  frame_out
  exact (pay_at _ _ i j).trans (Finset.sum_congr rfl fun k _ => congrArg₂ (· * ·) (blk0 m c t i k) (blk1 m c t k j))

/-- The result, entry by entry. -/
def result : FVec Ideal S4224x1536 .f32 := fun y => ∑ k : Fin 1024, aA m c (ix2 (y 0) k) * bA m c (ix2 k (y 1))

theorem final : (dats m 0 c).arrAt 2 (cfgs 0).N = result m c := by
  refine (dats m 0 c).arrAt_eq_of_covers 2 _ (by decide +kernel) fun t ht y => ?_
  blk_simp
  rw [after0_2]
  obtain ⟨i, j, rfl⟩ : ∃ (i : Fin 1408) (j : Fin 768), y = ix2 i j := ⟨y 0, y 1, by ext a; fin_cases a <;> rfl⟩
  refine (written m c t i j).trans ?_
  unfold result
  refine Finset.sum_congr rfl fun k _ => congrArg₂ (· * ·) ?_ ?_
  · unfold row
    blk_ext [idx t]
  · unfold col
    blk_ext [idx t]

end Cert.QkvIdeal.Prod

namespace Cert.QkvRefIdeal.Prod

open Cert.QkvRefIdeal Cert.QkvRefIdeal.Gen
open Idealize.ShloMosaic Idealize.ShloMosaic.TcCoe Idealize.ShloMosaic.Tactic

/-- The reference's result over its arguments. -/
def line (h : FVec Ideal S4224x1024 .f32) (wq : FVec Ideal S1024x1024 .f32) (wk wv : FVec Ideal S1024x256 .f32) : FVec Ideal S4224x1536 .f32 :=
  concatenate S4224x1536 1 [⟨S4224x1024, Host.dotGeneral dot_S4224x1024_S1024x1024_S4224x1024_1_0_0_1_n_n none h wq⟩,
    ⟨S4224x512, concatenate S4224x512 1 [⟨S4224x256, Host.dotGeneral dot_S4224x1024_S1024x256_S4224x256_1_0_0_1_n_n none h wk⟩,
      ⟨S4224x256, Host.dotGeneral dot_S4224x1024_S1024x256_S4224x256_1_0_0_1_n_n none h wv⟩] concatenates_S4224x256_S4224x256_S4224x512_d1⟩] concatenates_S4224x1024_S4224x512_S4224x1536_d1

end Cert.QkvRefIdeal.Prod

namespace Cert.QkvIdeal.Prod

open Cert.QkvIdeal Cert.QkvIdeal.Gen
open Idealize.ShloMosaic Idealize.ShloMosaic.TcCoe Idealize.ShloMosaic.Tactic

theorem reference_eq (m : (ℓ : Loc nD τ sig) → Buf (Elt Ideal) ℓ) (c : Dev nD) : Cert.QkvRefIdeal.Prod.line (aA m c) (qA m c) (kA m c) (vA m c) = result m c := by
  funext y
  obtain ⟨i, j, rfl⟩ : ∃ (i : Fin 4224) (j : Fin 1536), y = ix2 i j := ⟨y 0, y 1, by ext a; fin_cases a <;> rfl⟩
  unfold result bA
  pointwise [Cert.QkvRefIdeal.Prod.line]
  by_cases h : j.val < 1024
  · simp only [h, dif_pos]
  · by_cases h' : j.val - 1024 < 256
    · simp only [h, h', dif_pos, dif_neg, not_false_eq_true]
    · simp only [h, h', dif_neg, not_false_eq_true]

end Cert.QkvIdeal.Prod

namespace Cert.Proof.Qkv

open Idealize.ShloMosaic Idealize.ShloMosaic.TcCoe Idealize.SL.Sem
open Idealize.ShloMosaic.Tactic
open Cert.QkvIdeal.Prod

theorem quiescent_kernelIdeal : Cert.quiescent_QkvIdeal := fun m ρ _ => Cert.QkvIdeal.Gen.frame (F := Ideal) m ρ

/-- What the frame says of a run of the ideal printing, at any reading of the floats. -/
def Framed (F : FTy → Type) [FloatOps F] : Prop :=
  ∀ (m : (ℓ : Loc Cert.QkvIdeal.nD Cert.QkvIdeal.τ Cert.QkvIdeal.sig) → Buf (Elt F) ℓ) (ρ : Dev Cert.QkvIdeal.nD → PrngReg), True →
    θ_run (Cert.QkvIdeal.defs (F := F)) (onTc (τ := Cert.QkvIdeal.τ) (Cert.QkvIdeal.main (F := F))) ⟨m, fun _ => 0, ρ⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

theorem framed (F : FTy → Type) [FloatOps F] : Framed F := fun m ρ _ => Cert.QkvIdeal.Gen.frame m ρ

/-- The two printings are one program, line for line. -/
theorem kernel_framed : Cert.quiescent_Qkv = Framed Bits := by sl_kernel_rfl

theorem quiescent_kernel : Cert.quiescent_Qkv := kernel_framed.mpr (framed Bits)

theorem quiescent_reference : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- The result is the reference's. -/
theorem equation : Cert.algebraic_QkvIdeal_QkvRefIdeal := by
  pair_intro
  · run_from Cert.QkvIdeal.Gen.run_main m g
    all_goals first | exact Cert.QkvIdeal.Gen.V_main_arg0 m c | exact Cert.QkvIdeal.Gen.V_main_arg1 m c | exact Cert.QkvIdeal.Gen.V_main_arg2 m c | exact Cert.QkvIdeal.Gen.V_main_arg3 m c
  · run_from Cert.QkvRefIdeal.Value.run m' g'
    · rw [(hagree c).2.2.2]
      exact (reference_eq m c).trans (final m c).symm

end Cert.Proof.Qkv

end
-- ==== Proof.Norm.lean ====
module

public import Idealize.ShloMosaic.Lib.Pipeline.ValueKit

/-! The normalisation of a row by its root mean square, entry by entry. -/

@[expose] public section

noncomputable section

namespace Cert.Norm

open Idealize.ShloMosaic

/-- A row's mean of squares, a small constant added. -/
def spread (x : Fin 1024 → EReal) : EReal :=
  Ideal.div (∑ k, x k * x k) (Ideal.ofBits .f32 0x44800000#32) + Ideal.ofBits .f32 0x358637BD#32

/-- What a row is multiplied with. -/
def scale (x : Fin 1024 → EReal) : EReal := Ideal.rsqrt (spread x)

/-- An entry of the normalised row, times its weight. -/
def normed (x w : Fin 1024 → EReal) (j : Fin 1024) : EReal := x j * scale x * w j

end Cert.Norm

end

end
-- ==== Proof.OutNorm.lean ====
module

public import proofs.«01_k».proof.Defs
public import proofs.«01_k».proof.Proof.Gen.OutNorm
public import proofs.«01_k».proof.Proof.Gen.OutNormIdeal.Value
public import proofs.«01_k».proof.Proof.Gen.OutNormRefIdeal.Run
public import proofs.«01_k».proof.Proof.Norm
public import Idealize.ShloMosaic.Lib.Pipeline.ValueKit
public import Idealize.ShloMosaic.Lib.Ring
public import Idealize.ShloMosaic.Adequacy
public import Idealize.ShloMosaic.Init

/-! An output projection added to the residual stream, and the normalised stream after it. -/

@[expose] public section

set_option maxRecDepth 16384

noncomputable section

namespace Cert.OutNormIdeal.Prod

open Cert.OutNormIdeal Cert.OutNormIdeal.Gen
open Idealize.ShloMosaic Idealize.ShloMosaic.TcCoe Idealize.ShloMosaic.Tactic

/-! ### The body's arithmetic -/

theorem sum_at (a : Vec Ideal S704x1024 .bf16) (b : Vec Ideal S1024x1024 .bf16) (h : Vec Ideal S704x1024 .f32) (i : Fin 704) (j : Fin 1024) :
    k0_pay1 a b h (ix2 i j) = (∑ k : Fin 1024, a (ix2 i k) * b (ix2 k j)) + h (ix2 i j) := by
  pointwise [k0_pay1]

theorem normed_at (a : Vec Ideal S704x1024 .bf16) (b : Vec Ideal S1024x1024 .bf16) (h : Vec Ideal S704x1024 .f32) (w : Vec Ideal S1x1024 .f32) (i : Fin 704) (j : Fin 1024) :
    k0_pay2 a b h w (ix2 i j) = Cert.Norm.normed (fun l => k0_pay1 a b h (ix2 i l)) (fun l => w (ix2 0 l)) j := by
  unfold Cert.Norm.normed Cert.Norm.scale Cert.Norm.spread
  pointwise [k0_pay2]

variable (m : (ℓ : Loc nD τ sig) → Buf (Elt Ideal) ℓ) (c : Dev nD)

abbrev aA : FVec Ideal S4224x1024 .f32 := m ((c.tc : Thread nD τ).loc main_arg0)
abbrev bA : FVec Ideal S1024x1024 .f32 := m ((c.tc : Thread nD τ).loc main_arg1)
abbrev hA : FVec Ideal S4224x1024 .f32 := m ((c.tc : Thread nD τ).loc main_arg2)
abbrev nA : FVec Ideal S1024 .f32 := m ((c.tc : Thread nD τ).loc main_arg3)

/-- The block every window is at. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by
  decide +kernel

theorem lt_points (t : Fin cfg0.N) : t.val < 6 := lt_of_lt_of_eq t.isLt (show cfg0.N = 6 from N_0)

theorem V_a : (V m c main_v0 : FVec Ideal S4224x1024 .bf16) = aA m c := by
  entry_read
  rfl

theorem V_b : (V m c main_v1 : FVec Ideal S1024x1024 .bf16) = bA m c := by
  entry_read
  rfl

theorem V_h : V m c main_arg2 = hA m c := V_main_arg2 m c

theorem V_n : (V m c main_v2 : FVec Ideal S1x1024 .f32) = broadcastInDim S1x1024 ![1] bcast_S1024_S1x1024_1 (nA m c) := by
  entry_read
  rfl

theorem V_n_at (j : Fin 1024) : (V m c main_v2 : FVec Ideal S1x1024 .f32) (ix2 0 j) = nA m c (ix1 j) := by
  rw [V_n]
  pointwise

/-- The array's row of row `i` at point `t`. -/
def row (t : Fin cfg0.N) (i : Fin 704) : Fin 4224 := ⟨704 * (t.val) + i.val, by have := lt_points t; omega⟩

theorem blk0 (t : Fin cfg0.N) (i : Fin 704) (k : Fin 1024) :
    iblk m c 0 t (ix2 i k) = aA m c (ix2 (row t i) ⟨1024 * (0) + k.val, by omega⟩) := by
  rw [← V_a]
  unfold row
  blk_ext [iblk, idx t]

theorem blk1 (t : Fin cfg0.N) (k : Fin 1024) (j : Fin 1024) :
    iblk m c 1 t (ix2 k j) = bA m c (ix2 ⟨1024 * (0) + k.val, by omega⟩ j) := by
  rw [← V_b]
  blk_ext [iblk, idx t]

theorem blk2 (t : Fin cfg0.N) (i : Fin 704) (j : Fin 1024) : iblk m c 2 t (ix2 i j) = hA m c (ix2 (row t i) j) := by
  rw [← V_h]
  unfold row
  blk_ext [iblk, idx t]

theorem blk3 (t : Fin cfg0.N) (j : Fin 1024) : iblk m c 3 t (ix2 0 j) = nA m c (ix1 j) := by
  rw [← V_n_at]
  blk_ext [iblk, idx t]

/-- The stream after the projection, entry by entry. -/
def stream (I : Fin 4224) (J : Fin 1024) : EReal :=
  (∑ k : Fin 1024, aA m c (ix2 I k) * bA m c (ix2 k J)) + hA m c (ix2 I J)

theorem stream_of (t : Fin cfg0.N) (i : Fin 704) (j : Fin 1024) :
    k0_pay1 (iblk m c 0 t) (iblk m c 1 t) (iblk m c 2 t) (ix2 i j) = stream m c (row t i) j := by
  refine (sum_at _ _ _ i j).trans ?_
  unfold stream
  refine congrArg₂ (· + ·) (Finset.sum_congr rfl fun k _ => congrArg₂ (· * ·) ((blk0 m c t i k).trans ?_) ((blk1 m c t k j).trans ?_)) (blk2 m c t i j)
  · exact congrArg (fun l => aA m c (ix2 (row t i) l)) (Fin.ext (by dsimp only <;> omega))
  · exact congrArg (fun l => bA m c (ix2 l j)) (Fin.ext (by dsimp only <;> omega))

/-- What a point writes. -/
theorem written4 (t : Fin cfg0.N) (i : Fin 704) (j : Fin 1024) : (outsAt0 m c t).1 (ix2 i j) = stream m c (row t i) j := by
  unfold outsAt0
  frame_out
  exact stream_of m c t i j

theorem written5 (t : Fin cfg0.N) (i : Fin 704) (j : Fin 1024) :
    (outsAt0 m c t).2 (ix2 i j) = Cert.Norm.normed (fun l => stream m c (row t i) l) (fun l => nA m c (ix1 l)) j := by
  unfold outsAt0
  frame_out
  exact (normed_at _ _ _ _ i j).trans (congrArg₂ (fun x w => Cert.Norm.normed x w j) (funext fun l => stream_of m c t i l) (funext fun l => blk3 m c t l))

/-- The results, entry by entry. -/
def result4 : FVec Ideal S4224x1024 .f32 := fun y => stream m c (y 0) (y 1)
def result5 : FVec Ideal S4224x1024 .bf16 := fun y => Cert.Norm.normed (fun l => stream m c (y 0) l) (fun l => nA m c (ix1 l)) (y 1)

theorem final4 : (dats m 0 c).arrAt 4 (cfgs 0).N = result4 m c := by
  refine (dats m 0 c).arrAt_eq_of_covers 4 _ (by decide +kernel) fun t ht y => ?_
  blk_simp
  rw [after0_4]
  obtain ⟨i, j, rfl⟩ : ∃ (i : Fin 704) (j : Fin 1024), y = ix2 i j := ⟨y 0, y 1, by ext a; fin_cases a <;> rfl⟩
  refine (written4 m c t i j).trans ?_
  refine (show _ = result4 m c (ix2 (row t i) j) from rfl).trans ?_
  unfold row
  blk_ext [idx t]

theorem final5 : (dats m 0 c).arrAt 5 (cfgs 0).N = result5 m c := by
  refine (dats m 0 c).arrAt_eq_of_covers 5 _ (by decide +kernel) fun t ht y => ?_
  blk_simp
  rw [after0_5]
  obtain ⟨i, j, rfl⟩ : ∃ (i : Fin 704) (j : Fin 1024), y = ix2 i j := ⟨y 0, y 1, by ext a; fin_cases a <;> rfl⟩
  refine (written5 m c t i j).trans ?_
  refine (show _ = result5 m c (ix2 (row t i) j) from rfl).trans ?_
  unfold row
  blk_ext [idx t]

end Cert.OutNormIdeal.Prod

namespace Cert.OutNormRefIdeal.Prod

open Cert.OutNormRefIdeal Cert.OutNormRefIdeal.Gen
open Idealize.ShloMosaic Idealize.ShloMosaic.TcCoe Idealize.ShloMosaic.Tactic

/-- The reference's results over its arguments. -/
def line0 (a : FVec Ideal S4224x1024 .f32) (w : FVec Ideal S1024x1024 .f32) (h : FVec Ideal S4224x1024 .f32) : FVec Ideal S4224x1024 .f32 :=
  addf h (Host.dotGeneral dot_S4224x1024_S1024x1024_S4224x1024_1_0_0_1_n_n none a w)

def line1 (x : FVec Ideal S4224x1024 .f32) (n : FVec Ideal S1024 .f32) : FVec Ideal S4224x1024 .bf16 :=
  truncf .bf16 (mulf (mulf x (broadcastInDim S4224x1024 ![0, 1] bcast_S4224x1_S4224x1024_0_1 (Host.rsqrt (addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 n))) bitsLt_bf16_f32

theorem line1_at (x : FVec Ideal S4224x1024 .f32) (n : FVec Ideal S1024 .f32) (i : Fin 4224) (j : Fin 1024) :
    line1 x n (ix2 i j) = Cert.Norm.normed (fun l => x (ix2 i l)) (fun l => n (ix1 l)) j := by
  unfold Cert.Norm.normed Cert.Norm.scale Cert.Norm.spread
  pointwise [line1]

end Cert.OutNormRefIdeal.Prod

namespace Cert.OutNormIdeal.Prod

open Cert.OutNormIdeal Cert.OutNormIdeal.Gen
open Idealize.ShloMosaic Idealize.ShloMosaic.TcCoe Idealize.ShloMosaic.Tactic

variable (m : (ℓ : Loc nD τ sig) → Buf (Elt Ideal) ℓ) (c : Dev nD)

theorem line0_at (i : Fin 4224) (j : Fin 1024) : Cert.OutNormRefIdeal.Prod.line0 (aA m c) (bA m c) (hA m c) (ix2 i j) = stream m c i j := by
  unfold stream
  refine Eq.trans ?_ (add_comm _ _)
  pointwise [Cert.OutNormRefIdeal.Prod.line0]

theorem reference_eq0 : Cert.OutNormRefIdeal.Prod.line0 (aA m c) (bA m c) (hA m c) = result4 m c := by
  funext y
  obtain ⟨i, j, rfl⟩ : ∃ (i : Fin 4224) (j : Fin 1024), y = ix2 i j := ⟨y 0, y 1, by ext a; fin_cases a <;> rfl⟩
  exact line0_at m c i j

theorem reference_eq1 : Cert.OutNormRefIdeal.Prod.line1 (Cert.OutNormRefIdeal.Prod.line0 (aA m c) (bA m c) (hA m c)) (nA m c) = result5 m c := by
  funext y
  obtain ⟨i, j, rfl⟩ : ∃ (i : Fin 4224) (j : Fin 1024), y = ix2 i j := ⟨y 0, y 1, by ext a; fin_cases a <;> rfl⟩
  exact (Cert.OutNormRefIdeal.Prod.line1_at _ _ i j).trans (congrArg (fun x => Cert.Norm.normed x (fun l => nA m c (ix1 l)) j) (funext fun l => line0_at m c i l))

end Cert.OutNormIdeal.Prod

namespace Cert.Proof.OutNorm

open Idealize.ShloMosaic Idealize.ShloMosaic.TcCoe Idealize.SL.Sem
open Idealize.ShloMosaic.Tactic
open Cert.OutNormIdeal.Prod

theorem quiescent_kernelIdeal : Cert.quiescent_OutNormIdeal := fun m ρ _ => Cert.OutNormIdeal.Gen.frame (F := Ideal) m ρ

/-- What the frame says of a run of the ideal printing, at any reading of the floats. -/
def Framed (F : FTy → Type) [FloatOps F] : Prop :=
  ∀ (m : (ℓ : Loc Cert.OutNormIdeal.nD Cert.OutNormIdeal.τ Cert.OutNormIdeal.sig) → Buf (Elt F) ℓ) (ρ : Dev Cert.OutNormIdeal.nD → PrngReg), True →
    θ_run (Cert.OutNormIdeal.defs (F := F)) (onTc (τ := Cert.OutNormIdeal.τ) (Cert.OutNormIdeal.main (F := F))) ⟨m, fun _ => 0, ρ⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

theorem framed (F : FTy → Type) [FloatOps F] : Framed F := fun m ρ _ => Cert.OutNormIdeal.Gen.frame m ρ

/-- The two printings are one program, line for line. -/
theorem kernel_framed : Cert.quiescent_OutNorm = Framed Bits := by sl_kernel_rfl

theorem quiescent_kernel : Cert.quiescent_OutNorm := kernel_framed.mpr (framed Bits)

theorem quiescent_reference : Cert.quiescent_OutNormRefIdeal := fun m ρ _ =>
  (θ_run Cert.OutNormRefIdeal.defs _ _).mono (fun r h => ⟨fun c => (h c).2.2, sem_eq_zero_of_no_sems (by decide) r.2⟩)
    (Cert.OutNormRefIdeal.Value.run (F := Ideal) m ρ)

/-- The results are the reference's. -/
theorem equation : Cert.algebraic_OutNormIdeal_OutNormRefIdeal := by
  pair_intro
  · run_from Cert.OutNormIdeal.Gen.run_main m g
    all_goals first | exact Cert.OutNormIdeal.Gen.V_main_arg0 m c | exact Cert.OutNormIdeal.Gen.V_main_arg1 m c | exact Cert.OutNormIdeal.Gen.V_main_arg2 m c | exact Cert.OutNormIdeal.Gen.V_main_arg3 m c
  · run_from Cert.OutNormRefIdeal.Value.run m' g'
    · exact (reference_eq0 m c).trans (final4 m c).symm
    · exact (reference_eq1 m c).trans (final5 m c).symm

end Cert.Proof.OutNorm

end
-- ==== Proof.DownNorm.lean ====
module

public import proofs.«01_k».proof.Defs
public import proofs.«01_k».proof.Proof.Gen.DownNorm
public import proofs.«01_k».proof.Proof.Gen.DownNormIdeal.Value
public import proofs.«01_k».proof.Proof.Gen.DownNormRefIdeal.Run
public import proofs.«01_k».proof.Proof.Norm
public import proofs.«01_k».proof.Proof.Sums
public import Idealize.ShloMosaic.Lib.Pipeline.ValueKit
public import Idealize.ShloMosaic.Lib.Ring
public import Idealize.ShloMosaic.Adequacy
public import Idealize.ShloMosaic.Init

/-! The down projection added to the residual stream, and the normalised stream after it. The projection is one
    product over the hidden columns, taken in two parts of 1408. -/

@[expose] public section

set_option maxRecDepth 16384

noncomputable section

namespace Cert.DownNormIdeal.Prod

open Cert.DownNormIdeal Cert.DownNormIdeal.Gen
open Idealize.ShloMosaic Idealize.ShloMosaic.TcCoe Idealize.ShloMosaic.Tactic

/-! ### The body's arithmetic -/

theorem first_at (a : Vec Ideal S704x1408 .bf16) (b : Vec Ideal S1408x1024 .bf16) (i : Fin 704) (j : Fin 1024) : k0_pay1 a b (ix2 i j) = ∑ k : Fin 1408, a (ix2 i k) * b (ix2 k j) := by
  pointwise [k0_pay1]

theorem sum_at (acc : Vec Ideal S704x1024 .f32) (a : Vec Ideal S704x1408 .bf16) (b : Vec Ideal S1408x1024 .bf16) (h : Vec Ideal S704x1024 .f32) (i : Fin 704) (j : Fin 1024) :
    k0_pay3 acc a b h (ix2 i j) = acc (ix2 i j) + (∑ k : Fin 1408, a (ix2 i k) * b (ix2 k j)) + h (ix2 i j) := by
  pointwise [k0_pay3]

theorem normed_at (acc : Vec Ideal S704x1024 .f32) (a : Vec Ideal S704x1408 .bf16) (b : Vec Ideal S1408x1024 .bf16) (h : Vec Ideal S704x1024 .f32) (w : Vec Ideal S1x1024 .f32) (i : Fin 704) (j : Fin 1024) :
    k0_pay4 acc a b h w (ix2 i j) = Cert.Norm.normed (fun l => k0_pay3 acc a b h (ix2 i l)) (fun l => w (ix2 0 l)) j := by
  unfold Cert.Norm.normed Cert.Norm.scale Cert.Norm.spread
  pointwise [k0_pay4]

variable (m : (ℓ : Loc nD τ sig) → Buf (Elt Ideal) ℓ) (c : Dev nD)

abbrev aA : FVec Ideal S4224x2816 .f32 := m ((c.tc : Thread nD τ).loc main_arg0)
abbrev bA : FVec Ideal S2816x1024 .f32 := m ((c.tc : Thread nD τ).loc main_arg1)
abbrev hA : FVec Ideal S4224x1024 .f32 := m ((c.tc : Thread nD τ).loc main_arg2)
abbrev nA : FVec Ideal S1024 .f32 := m ((c.tc : Thread nD τ).loc main_arg3)

/-- The block every window is at. -/
theorem idx : ∀ t : Fin cfg0.N, win0_0.index t = ![t.val / 2, t.val % 2] ∧ win0_1.index t = ![t.val % 2, 0] ∧ win0_2.index t = ![t.val / 2, 0]
    ∧ win0_3.index t = ![0, 0] ∧ win0_4.index t = ![t.val / 2, 0] ∧ win0_5.index t = ![t.val / 2, 0] := by
  decide +kernel

theorem lt_points (t : Fin cfg0.N) : t.val < 12 := lt_of_lt_of_eq t.isLt (show cfg0.N = 12 from N_0)

theorem V_a : (V m c main_v0 : FVec Ideal S4224x2816 .bf16) = aA m c := by
  entry_read
  rfl

theorem V_b : (V m c main_v1 : FVec Ideal S2816x1024 .bf16) = bA m c := by
  entry_read
  rfl

theorem V_h : V m c main_arg2 = hA m c := V_main_arg2 m c

theorem V_n : (V m c main_v2 : FVec Ideal S1x1024 .f32) = broadcastInDim S1x1024 ![1] bcast_S1024_S1x1024_1 (nA m c) := by
  entry_read
  rfl

theorem V_n_at (j : Fin 1024) : (V m c main_v2 : FVec Ideal S1x1024 .f32) (ix2 0 j) = nA m c (ix1 j) := by
  rw [V_n]
  pointwise

/-- The array's row of row `i` at point `t`. -/
def row (t : Fin cfg0.N) (i : Fin 704) : Fin 4224 := ⟨704 * (t.val / 2) + i.val, by have := lt_points t; omega⟩

theorem blk0 (t : Fin cfg0.N) (i : Fin 704) (k : Fin 1408) :
    iblk m c 0 t (ix2 i k) = aA m c (ix2 (row t i) ⟨1408 * (t.val % 2) + k.val, by omega⟩) := by
  rw [← V_a]
  unfold row
  blk_ext [iblk, idx t]

theorem blk1 (t : Fin cfg0.N) (k : Fin 1408) (j : Fin 1024) :
    iblk m c 1 t (ix2 k j) = bA m c (ix2 ⟨1408 * (t.val % 2) + k.val, by omega⟩ j) := by
  rw [← V_b]
  blk_ext [iblk, idx t]

theorem blk2 (t : Fin cfg0.N) (i : Fin 704) (j : Fin 1024) : iblk m c 2 t (ix2 i j) = hA m c (ix2 (row t i) j) := by
  rw [← V_h]
  unfold row
  blk_ext [iblk, idx t]

theorem blk3 (t : Fin cfg0.N) (j : Fin 1024) : iblk m c 3 t (ix2 0 j) = nA m c (ix1 j) := by
  rw [← V_n_at]
  blk_ext [iblk, idx t]

/-- The stream after the projection, entry by entry. -/
def stream (I : Fin 4224) (J : Fin 1024) : EReal :=
  (∑ k : Fin 2816, aA m c (ix2 I k) * bA m c (ix2 k J)) + hA m c (ix2 I J)

/-- What one part of the hidden columns contributes to an entry. -/
def part (s : ℕ) (hs : s < 2) (I : Fin 4224) (J : Fin 1024) : EReal :=
  ∑ k : Fin 1408, aA m c (ix2 I ⟨1408 * s + k.val, by omega⟩) * bA m c (ix2 ⟨1408 * s + k.val, by omega⟩ J)

theorem part_eq (t : Fin cfg0.N) (i : Fin 704) (j : Fin 1024) :
    (∑ k : Fin 1408, (show FVec Ideal S704x1408 .bf16 from iblk m c 0 t) (ix2 i k) * (show FVec Ideal S1408x1024 .bf16 from iblk m c 1 t) (ix2 k j))
      = part m c (t.val % 2) (by omega) (row t i) j :=
  Finset.sum_congr rfl fun k _ => congrArg₂ (· * ·) (blk0 m c t i k) (blk1 m c t k j)

theorem after_first (t : Fin cfg0.N) (h : t.val % 2 = 0) (i : Fin 704) (j : Fin 1024) :
    (outsAt0 m c t.val t.isLt).2.2 (ix2 i j) = part m c 0 (by omega) (row t i) j := by
  rw [outsAt0_A m c t h (by omega)]
  frame_out
  refine (first_at _ _ i j).trans ((part_eq m c t i j).trans ?_)
  congr 1

theorem row_eq (t u : Fin cfg0.N) (h : t.val / 2 = u.val / 2) (i : Fin 704) : row t i = row u i :=
  Fin.ext (by unfold row; dsimp only <;> omega)

theorem stream_of (t : Fin cfg0.N) (h : t.val % 2 = 1) (acc : Vec Ideal S704x1024 .f32)
    (ha : acc = (outsAt0 m c (t.val - 1) (Nat.lt_of_le_of_lt (Nat.sub_le _ _) t.isLt)).2.2) (i : Fin 704) (j : Fin 1024) :
    k0_pay3 acc (iblk m c 0 t) (iblk m c 1 t) (iblk m c 2 t) (ix2 i j) = stream m c (row t i) j := by
  have h1 : t.val - 1 < cfg0.N := Nat.lt_of_le_of_lt (Nat.sub_le _ _) t.isLt
  have e1 := after_first m c ⟨t.val - 1, h1⟩ (by dsimp only; omega) i j
  rw [row_eq _ t (by dsimp only; omega)] at e1
  refine (sum_at _ _ _ _ i j).trans ?_
  unfold stream
  refine congrArg₂ (· + ·) (Eq.trans ?_ (Cert.Sums.two _)) (blk2 m c t i j)
  refine congrArg₂ (· + ·) ((congrFun ha _).trans (e1.trans ?_)) ((part_eq m c t i j).trans ?_)
  · unfold part
    simp only [Nat.mul_zero, Nat.zero_add]
  · unfold part
    simp only [h, Nat.mul_one]

/-- What the second point of a run writes. -/
theorem written4 (t : Fin cfg0.N) (h : t.val % 2 = 1) (i : Fin 704) (j : Fin 1024) :
    (outsAt0 m c t.val t.isLt).1 (ix2 i j) = stream m c (row t i) j := by
  rw [outsAt0_B m c t (by omega) h]
  frame_out
  exact stream_of m c t h _ (Memref.IsWhole.read_unread _ _) i j

theorem written5 (t : Fin cfg0.N) (h : t.val % 2 = 1) (i : Fin 704) (j : Fin 1024) :
    (outsAt0 m c t.val t.isLt).2.1 (ix2 i j) = Cert.Norm.normed (fun l => stream m c (row t i) l) (fun l => nA m c (ix1 l)) j := by
  rw [outsAt0_B m c t (by omega) h]
  frame_out
  exact (normed_at _ _ _ _ _ i j).trans (congrArg₂ (fun x w => Cert.Norm.normed x w j)
    (funext fun l => stream_of m c t h _ (Memref.IsWhole.read_unread _ _) i l) (funext fun l => blk3 m c t l))

/-- The results, entry by entry. -/
def result4 : FVec Ideal S4224x1024 .f32 := fun y => stream m c (y 0) (y 1)
def result5 : FVec Ideal S4224x1024 .bf16 := fun y => Cert.Norm.normed (fun l => stream m c (y 0) l) (fun l => nA m c (ix1 l)) (y 1)

theorem final4 : (dats m 0 c).arrAt 4 (cfgs 0).N = result4 m c := by
  refine (dats m 0 c).arrAt_eq_of_covers 4 _ (by decide +kernel) fun t ht y => ?_
  blk_simp
  rw [after0_4]
  obtain ⟨i, j, rfl⟩ : ∃ (i : Fin 704) (j : Fin 1024), y = ix2 i j := ⟨y 0, y 1, by ext a; fin_cases a <;> rfl⟩
  refine (written4 m c t ((flush0_4 t).mp ht) i j).trans ?_
  refine (show _ = result4 m c (ix2 (row t i) j) from rfl).trans ?_
  unfold row
  blk_ext [idx t]

theorem final5 : (dats m 0 c).arrAt 5 (cfgs 0).N = result5 m c := by
  refine (dats m 0 c).arrAt_eq_of_covers 5 _ (by decide +kernel) fun t ht y => ?_
  blk_simp
  rw [after0_5]
  obtain ⟨i, j, rfl⟩ : ∃ (i : Fin 704) (j : Fin 1024), y = ix2 i j := ⟨y 0, y 1, by ext a; fin_cases a <;> rfl⟩
  refine (written5 m c t ((flush0_5 t).mp ht) i j).trans ?_
  refine (show _ = result5 m c (ix2 (row t i) j) from rfl).trans ?_
  unfold row
  blk_ext [idx t]

end Cert.DownNormIdeal.Prod

namespace Cert.DownNormRefIdeal.Prod

open Cert.DownNormRefIdeal Cert.DownNormRefIdeal.Gen
open Idealize.ShloMosaic Idealize.ShloMosaic.TcCoe Idealize.ShloMosaic.Tactic

/-- The reference's results over its arguments. -/
def line0 (a : FVec Ideal S4224x2816 .f32) (w : FVec Ideal S2816x1024 .f32) (h : FVec Ideal S4224x1024 .f32) : FVec Ideal S4224x1024 .f32 :=
  addf h (Host.dotGeneral dot_S4224x2816_S2816x1024_S4224x1024_1_0_0_1_n_n none a w)

def line1 (x : FVec Ideal S4224x1024 .f32) (n : FVec Ideal S1024 .f32) : FVec Ideal S4224x1024 .bf16 :=
  truncf .bf16 (mulf (mulf x (broadcastInDim S4224x1024 ![0, 1] bcast_S4224x1_S4224x1024_0_1 (Host.rsqrt (addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 n))) bitsLt_bf16_f32

theorem line1_at (x : FVec Ideal S4224x1024 .f32) (n : FVec Ideal S1024 .f32) (i : Fin 4224) (j : Fin 1024) :
    line1 x n (ix2 i j) = Cert.Norm.normed (fun l => x (ix2 i l)) (fun l => n (ix1 l)) j := by
  unfold Cert.Norm.normed Cert.Norm.scale Cert.Norm.spread
  pointwise [line1]

end Cert.DownNormRefIdeal.Prod

namespace Cert.DownNormIdeal.Prod

open Cert.DownNormIdeal Cert.DownNormIdeal.Gen
open Idealize.ShloMosaic Idealize.ShloMosaic.TcCoe Idealize.ShloMosaic.Tactic

variable (m : (ℓ : Loc nD τ sig) → Buf (Elt Ideal) ℓ) (c : Dev nD)

theorem line0_at (i : Fin 4224) (j : Fin 1024) : Cert.DownNormRefIdeal.Prod.line0 (aA m c) (bA m c) (hA m c) (ix2 i j) = stream m c i j := by
  unfold stream
  refine Eq.trans ?_ (add_comm _ _)
  pointwise [Cert.DownNormRefIdeal.Prod.line0]

theorem reference_eq0 : Cert.DownNormRefIdeal.Prod.line0 (aA m c) (bA m c) (hA m c) = result4 m c := by
  funext y
  obtain ⟨i, j, rfl⟩ : ∃ (i : Fin 4224) (j : Fin 1024), y = ix2 i j := ⟨y 0, y 1, by ext a; fin_cases a <;> rfl⟩
  exact line0_at m c i j

theorem reference_eq1 : Cert.DownNormRefIdeal.Prod.line1 (Cert.DownNormRefIdeal.Prod.line0 (aA m c) (bA m c) (hA m c)) (nA m c) = result5 m c := by
  funext y
  obtain ⟨i, j, rfl⟩ : ∃ (i : Fin 4224) (j : Fin 1024), y = ix2 i j := ⟨y 0, y 1, by ext a; fin_cases a <;> rfl⟩
  exact (Cert.DownNormRefIdeal.Prod.line1_at _ _ i j).trans (congrArg (fun x => Cert.Norm.normed x (fun l => nA m c (ix1 l)) j) (funext fun l => line0_at m c i l))

end Cert.DownNormIdeal.Prod

namespace Cert.Proof.DownNorm

open Idealize.ShloMosaic Idealize.ShloMosaic.TcCoe Idealize.SL.Sem
open Idealize.ShloMosaic.Tactic
open Cert.DownNormIdeal.Prod

theorem quiescent_kernelIdeal : Cert.quiescent_DownNormIdeal := fun m ρ _ => Cert.DownNormIdeal.Gen.frame (F := Ideal) m ρ

/-- What the frame says of a run of the ideal printing, at any reading of the floats. -/
def Framed (F : FTy → Type) [FloatOps F] : Prop :=
  ∀ (m : (ℓ : Loc Cert.DownNormIdeal.nD Cert.DownNormIdeal.τ Cert.DownNormIdeal.sig) → Buf (Elt F) ℓ) (ρ : Dev Cert.DownNormIdeal.nD → PrngReg), True →
    θ_run (Cert.DownNormIdeal.defs (F := F)) (onTc (τ := Cert.DownNormIdeal.τ) (Cert.DownNormIdeal.main (F := F))) ⟨m, fun _ => 0, ρ⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ r.2.sem = fun _ => 0)

theorem framed (F : FTy → Type) [FloatOps F] : Framed F := fun m ρ _ => Cert.DownNormIdeal.Gen.frame m ρ

/-- The two printings are one program, line for line. -/
theorem kernel_framed : Cert.quiescent_DownNorm = Framed Bits := by sl_kernel_rfl

theorem quiescent_kernel : Cert.quiescent_DownNorm := kernel_framed.mpr (framed Bits)

theorem quiescent_reference : Cert.quiescent_DownNormRefIdeal := fun m ρ _ =>
  (θ_run Cert.DownNormRefIdeal.defs _ _).mono (fun r h => ⟨fun c => (h c).2.2, sem_eq_zero_of_no_sems (by decide) r.2⟩)
    (Cert.DownNormRefIdeal.Value.run (F := Ideal) m ρ)

/-- The results are the reference's. -/
theorem equation : Cert.algebraic_DownNormIdeal_DownNormRefIdeal := by
  pair_intro
  · run_from Cert.DownNormIdeal.Gen.run_main m g
    all_goals first | exact Cert.DownNormIdeal.Gen.V_main_arg0 m c | exact Cert.DownNormIdeal.Gen.V_main_arg1 m c | exact Cert.DownNormIdeal.Gen.V_main_arg2 m c | exact Cert.DownNormIdeal.Gen.V_main_arg3 m c
  · run_from Cert.DownNormRefIdeal.Value.run m' g'
    · exact (reference_eq0 m c).trans (final4 m c).symm
    · exact (reference_eq1 m c).trans (final5 m c).symm

end Cert.Proof.DownNorm

end
-- ==== Proof.RmsBwd.lean ====
module

public import proofs.«01_k».proof.Proof.Norm

/-! The gradient of the normalisation of a row: two ways of writing it agree, at every value the entries may take. -/

@[expose] public section

noncomputable section

namespace Cert.Norm

open Idealize.ShloMosaic

theorem ofBits_width : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_small : ∃ e : ℝ, 0 < e ∧ Ideal.ofBits .f32 0x358637BD#32 = (e : EReal) := by
  refine ⟨_, ?_, by simp [Ideal.ofBits, Ideal.ieee, -EReal.coe_mul]; rfl⟩
  norm_num

theorem sq_nonneg' (x : EReal) : 0 ≤ x * x := by
  induction x with
  | bot => simp
  | top => simp
  | coe r => exact_mod_cast mul_self_nonneg r

/-- The spread is a positive real, or infinite. -/
theorem spread_cases (x : Fin 1024 → EReal) : spread x = ⊤ ∨ ∃ v : ℝ, 0 < v ∧ spread x = (v : EReal) := by
  obtain ⟨e, he, h⟩ := ofBits_small
  have hs : 0 ≤ ∑ k, x k * x k := Finset.sum_nonneg fun k _ => sq_nonneg' (x k)
  unfold spread
  rw [h, ofBits_width, Ideal.div_coe (by norm_num)]
  generalize (∑ k, x k * x k) = S at hs
  induction S with
  | bot => simp at hs
  | top =>
    left
    rw [EReal.top_mul_coe_of_pos (by norm_num)]
    exact EReal.top_add_coe e
  | coe r =>
    right
    have hr : (0 : ℝ) ≤ r := by exact_mod_cast hs
    exact ⟨r * (1 / 1024) + e, by positivity, by push_cast; rfl⟩

/-- A nonnegative real goes into a sum. -/
theorem mul_sum' (r : ℝ) (hr : 0 ≤ r) {n : ℕ} (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (by exact_mod_cast hr) (EReal.coe_ne_top r), ih]

/-- An entry of the gradient as the kernel writes it, `g` the cotangent times the weights. -/
def dx (x g : Fin 1024 → EReal) (j : Fin 1024) : EReal :=
  scale x * (g j - x j * scale x * Ideal.div (∑ l, g l * (x l * scale x)) (Ideal.ofBits .f32 0x44800000#32))

/-- The factor of the second part of the gradient as the reference writes it. -/
def factor (x g : Fin 1024 → EReal) : EReal :=
  Ideal.div ((∑ l, x l * g l) * (Ideal.ofBits .f32 0xBF000000#32 * Ideal.div (scale x) (spread x))) (Ideal.ofBits .f32 0x44800000#32)

theorem add_self (a : EReal) : a + a = ((2 : ℝ) : EReal) * a := by
  have : ((2 : ℝ) : EReal) = ((1 : ℝ) : EReal) + ((1 : ℝ) : EReal) := by norm_cast
  rw [this, EReal.right_distrib_of_nonneg (by norm_num) (by norm_num)]
  simp

theorem dx_eq (A : EReal) (x g : Fin 1024 → EReal) (j : Fin 1024) :
    A + g j * scale x + x j * factor x g + factor x g * x j = A + dx x g j := by
  rcases spread_cases x with h | ⟨v, hv, h⟩
  · have h0 : scale x = 0 := by unfold scale; rw [h]; rfl
    unfold dx factor
    rw [h0, h, ofBits_width, Ideal.div_coe (by norm_num)]
    simp [Ideal.div]
  · have hs : scale x = (((Real.sqrt v)⁻¹ : ℝ) : EReal) := by
      unfold scale
      rw [h, Ideal.rsqrt_coe, if_neg (not_lt.mpr hv.le), if_neg hv.ne']
    have hr : 0 < (Real.sqrt v)⁻¹ := inv_pos.mpr (Real.sqrt_pos.mpr hv)
    have hv' : 1 / v = (Real.sqrt v)⁻¹ * (Real.sqrt v)⁻¹ := by
      rw [← mul_inv, Real.mul_self_sqrt hv.le, one_div]
    unfold dx factor
    rw [hs, h, ofBits_width, ofBits_neg_half, Ideal.div_coe hv.ne', Ideal.div_coe (by norm_num), Ideal.div_coe (by norm_num), hv']
    generalize (Real.sqrt v)⁻¹ = r at hr
    have hsum : (∑ l, g l * (x l * (r : EReal))) = (r : EReal) * ∑ l, x l * g l := by
      rw [mul_sum' r hr.le]
      exact Finset.sum_congr rfl fun l _ => by rw [← mul_assoc, mul_comm, mul_comm (g l)]
    rw [hsum]
    generalize (∑ l, x l * g l) = T
    have hn : (r : EReal) ≠ ⊤ := EReal.coe_ne_top r
    have hc : ∀ a b : EReal, (r : EReal) * (a - b) = a * (r : EReal) + -((r : EReal) * b) := fun a b => by
      rw [sub_eq_add_neg, EReal.left_distrib_of_nonneg_of_ne_top (by exact_mod_cast hr.le) hn, mul_neg, mul_comm a]
    rw [hc, ← add_assoc, add_assoc (A + _)]
    congr 1
    rw [mul_comm _ (x j), add_self]
    have e1 : ((2 : ℝ) : EReal) * (x j * (T * (((-(1 / 2) : ℝ) : EReal) * ((r : EReal) * ((r * r : ℝ) : EReal))) * ((1 / 1024 : ℝ) : EReal)))
        = (x j * T) * (((2 : ℝ) : EReal) * ((-(1 / 2) : ℝ) : EReal) * ((r : EReal) * ((r * r : ℝ) : EReal)) * ((1 / 1024 : ℝ) : EReal)) := by
      ac_rfl
    have e2 : (r : EReal) * (x j * (r : EReal) * ((r : EReal) * T * ((1 / 1024 : ℝ) : EReal)))
        = (x j * T) * ((r : EReal) * ((r : EReal) * (r : EReal)) * ((1 / 1024 : ℝ) : EReal)) := by
      ac_rfl
    rw [e1, e2, ← mul_neg]
    congr 1
    norm_cast
    ring

end Cert.Norm

end

end
-- ==== Proof.UpDx.lean ====
module

public import proofs.«01_k».proof.Defs
public import proofs.«01_k».proof.Proof.Gen.UpDx
public import proofs.«01_k».proof.Proof.Gen.UpDxIdeal.Value
public import proofs.«01_k».proof.Proof.Gen.UpDxRefIdeal.Run
public import proofs.«01_k».proof.Proof.RmsBwd
public import proofs.«01_k».proof.Proof.Sums
public import Idealize.ShloMosaic.Lib.Pipeline.ValueKit
public import Idealize.ShloMosaic.Lib.Ring
public import Idealize.ShloMosaic.Adequacy
public import Idealize.ShloMosaic.Init

/-! The gradient of the normalised stream under the up projection, and of the normalisation's weights. The cotangent times
    the weights is one product over the hidden columns, taken in four parts of 1408; the columns of a part are those of one
    shard of the weights. -/

@[expose] public section

set_option maxRecDepth 16384

noncomputable section

namespace Cert.UpDxIdeal.Prod

open Cert.UpDxIdeal Cert.UpDxIdeal.Gen
open Idealize.ShloMosaic Idealize.ShloMosaic.TcCoe Idealize.ShloMosaic.Tactic

/-! ### The body's arithmetic -/

theorem first_at (a : Vec Ideal S704x1408 .bf16) (b : Vec Ideal S1x1024x1408 .bf16) (i : Fin 704) (j : Fin 1024) : k0_pay1 a b (ix2 i j) = ∑ k : Fin 1408, a (ix2 i k) * b (ix3 0 j k) := by
  pointwise [k0_pay1]

theorem next_at (acc : Vec Ideal S704x1024 .f32) (a : Vec Ideal S704x1408 .bf16) (b : Vec Ideal S1x1024x1408 .bf16) (i : Fin 704) (j : Fin 1024) :
    k0_pay2 acc a b (ix2 i j) = acc (ix2 i j) + ∑ k : Fin 1408, a (ix2 i k) * b (ix3 0 j k) := by
  pointwise [k0_pay2]

theorem last_at (acc : Vec Ideal S704x1024 .f32) (a : Vec Ideal S704x1408 .bf16) (b : Vec Ideal S1x1024x1408 .bf16) (i : Fin 704) (j : Fin 1024) :
    k0_pay6 acc a b (ix2 i j) = acc (ix2 i j) + ∑ k : Fin 1408, a (ix2 i k) * b (ix3 0 j k) := by
  pointwise [k0_pay6]

/-- The rows before the 112th are padding. -/
theorem mask_at (q : Fin 6) (i : Fin 704) :
    k0_pay10 (BitVec.ofNat 32 q.val) (ix2 i 0) = if 112 ≤ 704 * q.val + i.val then 1#1 else 0#1 := by
  pointwise [k0_pay10]
  revert q i
  decide +kernel

theorem scaled_at (h : Vec Ideal S704x1024 .f32) (i : Fin 704) (j : Fin 1024) :
    k0_pay8 h (ix2 i j) = h (ix2 i j) * Cert.Norm.scale (fun l => h (ix2 i l)) := by
  unfold Cert.Norm.scale Cert.Norm.spread
  pointwise [k0_pay8, k0_pay7]

theorem out_at (acc : Vec Ideal S704x1024 .f32) (a : Vec Ideal S704x1408 .bf16) (b : Vec Ideal S1x1024x1408 .bf16) (h r : Vec Ideal S704x1024 .f32) (w : Vec Ideal S1x1024 .f32) (q : Fin 6) (z : BitVec 32) (hz : z = BitVec.ofNat 32 q.val)
    (i : Fin 704) (j : Fin 1024) :
    k0_pay3 r (k0_pay9 acc a b h w) (k0_pay10 z) (ix2 i j)
      = if 112 ≤ 704 * q.val + i.val then
          r (ix2 i j) + Cert.Norm.dx (fun l => h (ix2 i l)) (fun l => k0_pay6 acc a b (ix2 i l) * w (ix2 0 l)) j
        else 0 := by
  have hm := mask_at q i
  rw [← hz] at hm
  by_cases h1 : 112 ≤ 704 * q.val + i.val
  · rw [if_pos h1] at hm ⊢
    unfold Cert.Norm.dx Cert.Norm.scale Cert.Norm.spread
    pointwise [k0_pay3, k0_pay9, k0_pay8, k0_pay7]
    rw [hm]
    exact if_pos rfl
  · rw [if_neg h1] at hm ⊢
    pointwise [k0_pay3, k0_pay9, k0_pay8, k0_pay7]
    rw [hm]
    exact if_neg (by decide)

theorem zero_at (j : Fin 1024) : (k0_pay4 : FVec Ideal S1x1024 .f32) (ix2 0 j) = 0 := by
  pointwise [k0_pay4]

theorem row_at (g x : FVec Ideal S704x1024 .f32) (p : Vec Ideal S1x1024 .f32) (j : Fin 1024) :
    k0_pay5 g x p (ix2 0 j) = p (ix2 0 j) + ∑ i : Fin 704, g (ix2 i j) * x (ix2 i j) := by
  pointwise [k0_pay5]

/-! ### What a point reads -/

variable (m : (ℓ : Loc nD τ sig) → Buf (Elt Ideal) ℓ) (c : Dev nD)

abbrev dA : FVec Ideal S4224x5632 .f32 := m ((c.tc : Thread nD τ).loc main_arg0)
abbrev wA : FVec Ideal S1024x5632 .f32 := m ((c.tc : Thread nD τ).loc main_arg1)
abbrev hA : FVec Ideal S4224x1024 .f32 := m ((c.tc : Thread nD τ).loc main_arg2)
abbrev nA : FVec Ideal S1024 .f32 := m ((c.tc : Thread nD τ).loc main_arg3)
abbrev rA : FVec Ideal S4224x1024 .f32 := m ((c.tc : Thread nD τ).loc main_arg4)

/-- The shard of a part, and a column of a part among all columns. -/
def chip (s : Fin 4) : Fin 4 := ⟨s.val % 2 * 2 + s.val / 2, by omega⟩
def col (s : Fin 4) (k : Fin 1408) : Fin 5632 := ⟨1408 * (chip s).val + k.val, by omega⟩

theorem V_d (i : Fin 4224) (s : Fin 4) (k : Fin 1408) :
    (V m c main_v6 : FVec Ideal S4224x5632 .bf16) (ix2 i ⟨1408 * s.val + k.val, by omega⟩) = dA m c (ix2 i (col s k)) := by
  have e : (V m c main_v6 : FVec Ideal S4224x5632 .bf16)
      = truncf .bf16 (shapeCast S4224x5632 (transpose S4224x2x2x1408 [0, 2, 1, 3] (shapeCast S4224x2x2x1408 (dA m c) shapeCasts_S4224x5632_S4224x2x2x1408) transposes_S4224x2x2x1408_S4224x2x2x1408_0_2_1_3) shapeCasts_S4224x2x2x1408_S4224x5632) bitsLt_bf16_f32 := by
    entry_read
    rfl
  rw [e]
  unfold col chip
  pointwise
  refine congrArg (dA m c) (congrArg (ix2 i) (Fin.ext ?_))
  dsimp only <;> omega

theorem V_w (s : Fin 4) (j : Fin 1024) (k : Fin 1408) :
    (V m c main_v2 : FVec Ideal S4x1024x1408 .bf16) (ix3 (chip s) j k) = wA m c (ix2 j (col s k)) := by
  have e : (V m c main_v2 : FVec Ideal S4x1024x1408 .bf16)
      = truncf .bf16 (transpose S4x1024x1408 [1, 0, 2] (shapeCast S1024x4x1408 (wA m c) shapeCasts_S1024x5632_S1024x4x1408) transposes_S1024x4x1408_S4x1024x1408_1_0_2) bitsLt_bf16_f32 := by
    entry_read
    rfl
  rw [e]
  unfold col
  pointwise
  refine congrArg (wA m c) (congrArg (ix2 j) (Fin.ext ?_))
  dsimp only <;> omega

theorem V_h : V m c main_arg2 = hA m c := V_main_arg2 m c

theorem V_r : V m c main_arg4 = rA m c := V_main_arg4 m c

theorem V_n_at (j : Fin 1024) : (V m c main_v7 : FVec Ideal S1x1024 .f32) (ix2 0 j) = nA m c (ix1 j) := by
  have e : (V m c main_v7 : FVec Ideal S1x1024 .f32) = broadcastInDim S1x1024 ![1] bcast_S1024_S1x1024_1 (nA m c) := by
    entry_read
    rfl
  rw [e]
  pointwise

theorem lt_points (t : Fin cfg0.N) : t.val < 24 := lt_of_lt_of_eq t.isLt (show cfg0.N = 24 from N_0)

/-- The part a point takes, and its tile of rows. -/
def kk (t : Fin cfg0.N) : Fin 4 := ⟨t.val % 4, by omega⟩
def tile (t : Fin cfg0.N) : Fin 6 := ⟨t.val / 4, by have := lt_points t; omega⟩

/-- The block every window is at. -/
theorem idx : ∀ t : Fin cfg0.N, win0_0.index t = ![(tile t).val, (kk t).val] ∧ win0_1.index t = ![(chip (kk t)).val, 0, 0] ∧ win0_2.index t = ![(tile t).val, 0]
    ∧ win0_3.index t = ![(tile t).val, 0] ∧ win0_4.index t = ![0, 0] ∧ win0_5.index t = ![(tile t).val, 0] ∧ win0_6.index t = ![0, 0] := by
  decide +kernel

theorem coord : ∀ t : Fin cfg0.N, ((grid0.coords t) 0).val = (tile t).val := by decide +kernel

/-- The array's row of a tile's row `i`. -/
def row (q : Fin 6) (i : Fin 704) : Fin 4224 := ⟨704 * q.val + i.val, by omega⟩

theorem blk2 (t : Fin cfg0.N) (i : Fin 704) (j : Fin 1024) : iblk m c 2 t (ix2 i j) = hA m c (ix2 (row (tile t) i) j) := by
  rw [← V_h]
  unfold row
  blk_ext [iblk, idx t]

theorem blk3 (t : Fin cfg0.N) (i : Fin 704) (j : Fin 1024) : iblk m c 3 t (ix2 i j) = rA m c (ix2 (row (tile t) i) j) := by
  rw [← V_r]
  unfold row
  blk_ext [iblk, idx t]

theorem blk4 (t : Fin cfg0.N) (j : Fin 1024) : iblk m c 4 t (ix2 0 j) = nA m c (ix1 j) := by
  rw [← V_n_at]
  blk_ext [iblk, idx t]

theorem blk0 (t : Fin cfg0.N) (i : Fin 704) (k : Fin 1408) :
    iblk m c 0 t (ix2 i k) = dA m c (ix2 (row (tile t) i) (col (kk t) k)) := by
  rw [← V_d]
  unfold row
  blk_ext [iblk, idx t]

theorem blk1 (t : Fin cfg0.N) (j : Fin 1024) (k : Fin 1408) :
    iblk m c 1 t (ix3 0 j k) = wA m c (ix2 j (col (kk t) k)) := by
  rw [← V_w]
  blk_ext [iblk, idx t]

/-! ### The cotangent times the weights, in parts -/

/-- What one part of the columns contributes to an entry. -/
def part (s : Fin 4) (I : Fin 4224) (J : Fin 1024) : EReal :=
  ∑ k : Fin 1408, dA m c (ix2 I (col s k)) * wA m c (ix2 J (col s k))

/-- An entry of the cotangent times the weights. -/
def grad (I : Fin 4224) (J : Fin 1024) : EReal := ∑ k : Fin 5632, dA m c (ix2 I k) * wA m c (ix2 J k)

theorem grad_eq (I : Fin 4224) (J : Fin 1024) : part m c 0 I J + part m c 1 I J + part m c 2 I J + part m c 3 I J = grad m c I J := by
  unfold part grad
  exact Cert.Sums.four fun k => dA m c (ix2 I k) * wA m c (ix2 J k)

theorem part_eq (t : Fin cfg0.N) (i : Fin 704) (j : Fin 1024) :
    (∑ k : Fin 1408, (show FVec Ideal S704x1408 .bf16 from iblk m c 0 t) (ix2 i k) * (show FVec Ideal S1x1024x1408 .bf16 from iblk m c 1 t) (ix3 0 j k))
      = part m c (kk t) (row (tile t) i) j :=
  Finset.sum_congr rfl fun k _ => congrArg₂ (· * ·) (blk0 m c t i k) (blk1 m c t j k)

theorem after_first (t : Fin cfg0.N) (h : t.val % 4 = 0) (i : Fin 704) (j : Fin 1024) :
    (outsAt0 m c t.val t.isLt).2.2 (ix2 i j) = part m c (kk t) (row (tile t) i) j := by
  rw [outsAt0_A m c t h (by omega) (by omega) ]
  frame_out
  exact (first_at _ _ i j).trans (part_eq m c t i j)

theorem kept_first (t : Fin cfg0.N) (h : t.val % 4 = 0) : (outsAt0 m c t.val t.isLt).2.1 = (outsAt0 m c (t.val - 1) (Nat.lt_of_le_of_lt (Nat.sub_le _ _) t.isLt)).2.1 := by
  rw [outsAt0_A m c t h (by omega) (by omega) ]
  rfl

theorem after_next (t : Fin cfg0.N) (h : 1 ≤ t.val % 4 ∧ t.val % 4 ≤ 2) (i : Fin 704) (j : Fin 1024) :
    (outsAt0 m c t.val t.isLt).2.2 (ix2 i j) = (outsAt0 m c (t.val - 1) (Nat.lt_of_le_of_lt (Nat.sub_le _ _) t.isLt)).2.2 (ix2 i j) + part m c (kk t) (row (tile t) i) j := by
  rw [outsAt0_B m c t (by omega) h (by omega)]
  frame_out
  exact (next_at _ _ _ i j).trans (congrArg₂ (· + ·) (congrFun (Memref.IsWhole.read_unread _ _) _) (part_eq m c t i j))

theorem kept_next (t : Fin cfg0.N) (h : 1 ≤ t.val % 4 ∧ t.val % 4 ≤ 2) : (outsAt0 m c t.val t.isLt).2.1 = (outsAt0 m c (t.val - 1) (Nat.lt_of_le_of_lt (Nat.sub_le _ _) t.isLt)).2.1 := by
  rw [outsAt0_B m c t (by omega) h (by omega)]
  rfl

theorem tile_eq (t u : Fin cfg0.N) (h : t.val / 4 = u.val / 4) : tile t = tile u := Fin.ext h
theorem kk_eq (t : Fin cfg0.N) (s : Fin 4) (h : t.val % 4 = s.val) : kk t = s := Fin.ext h

/-- At the last point of a run the whole contraction is formed. -/
theorem grad_of (t : Fin cfg0.N) (h : t.val % 4 = 3) (acc : Vec Ideal S704x1024 .f32) (ha : acc = (outsAt0 m c (t.val - 1) (Nat.lt_of_le_of_lt (Nat.sub_le _ _) t.isLt)).2.2) (i : Fin 704) (j : Fin 1024) :
    k0_pay6 acc (iblk m c 0 t) (iblk m c 1 t) (ix2 i j) = grad m c (row (tile t) i) j := by
  have l1 : t.val - 1 < cfg0.N := Nat.lt_of_le_of_lt (Nat.sub_le _ _) t.isLt
  have e1 := after_next m c ⟨t.val - 1, l1⟩ (by dsimp only; omega) i j
  rw [tile_eq _ t (by dsimp only; omega), kk_eq _ 2 (by show (t.val - 1) % 4 = 2; omega)] at e1
  have l2 : t.val - 1 - 1 < cfg0.N := Nat.lt_of_le_of_lt (Nat.sub_le _ _) l1
  have e2 := after_next m c ⟨t.val - 1 - 1, l2⟩ (by dsimp only; omega) i j
  rw [tile_eq _ t (by dsimp only; omega), kk_eq _ 1 (by show (t.val - 1 - 1) % 4 = 1; omega)] at e2
  have l3 : t.val - 1 - 1 - 1 < cfg0.N := Nat.lt_of_le_of_lt (Nat.sub_le _ _) l2
  have e3 := after_first m c ⟨t.val - 1 - 1 - 1, l3⟩ (by dsimp only; omega) i j
  rw [tile_eq _ t (by dsimp only; omega), kk_eq _ 0 (by show (t.val - 1 - 1 - 1) % 4 = 0; omega)] at e3
  refine (last_at _ _ _ i j).trans (Eq.trans ?_ (grad_eq m c _ j))
  refine congrArg₂ (· + ·) ((congrFun ha _).trans (e1.trans (congrArg (· + _) (e2.trans (congrArg (· + _) e3))))) ((part_eq m c t i j).trans ?_)
  rw [kk_eq t 3 h]

/-- The gradient of the stream, entry by entry: padding rows get zero. -/
def stream (I : Fin 4224) (J : Fin 1024) : EReal :=
  if 112 ≤ I.val then rA m c (ix2 I J) + Cert.Norm.dx (fun l => hA m c (ix2 I l)) (fun l => grad m c I l * nA m c (ix1 l)) J else 0

theorem stream_of (t : Fin cfg0.N) (h : t.val % 4 = 3) (acc : Vec Ideal S704x1024 .f32) (ha : acc = (outsAt0 m c (t.val - 1) (Nat.lt_of_le_of_lt (Nat.sub_le _ _) t.isLt)).2.2) (z : BitVec 32)
    (hz : z = BitVec.ofNat 32 ((grid0.coords t) 0).val) (i : Fin 704) (j : Fin 1024) :
    k0_pay3 (iblk m c 3 t) (k0_pay9 acc (iblk m c 0 t) (iblk m c 1 t) (iblk m c 2 t) (iblk m c 4 t)) (k0_pay10 z) (ix2 i j) = stream m c (row (tile t) i) j := by
  refine (out_at acc (iblk m c 0 t) (iblk m c 1 t) (iblk m c 2 t) (iblk m c 3 t) (iblk m c 4 t) (tile t) z (hz.trans (congrArg (BitVec.ofNat 32) (coord t))) i j).trans ?_
  unfold stream
  refine if_congr Iff.rfl (congrArg₂ (· + ·) (blk3 m c t i j) ?_) rfl
  refine congrArg₂ (fun x g => Cert.Norm.dx x g j) (funext fun l => blk2 m c t i l) (funext fun l => ?_)
  exact congrArg₂ (· * ·) (grad_of m c t h acc ha i l) (blk4 m c t l)

/-- What the last point of a run writes. -/
theorem written5 (t : Fin cfg0.N) (h : t.val % 4 = 3) (i : Fin 704) (j : Fin 1024) :
    (outsAt0 m c t.val t.isLt).1 (ix2 i j) = stream m c (row (tile t) i) j := by
  by_cases h3 : t.val < 4
  · rw [outsAt0_C m c t (by omega) (by omega) h h3]
    frame_out
    exact stream_of m c t h _ (Memref.IsWhole.read_unread _ _) _ rfl i j
  · rw [outsAt0_D m c t (by omega) (by omega) h h3]
    frame_out
    exact stream_of m c t h _ (Memref.IsWhole.read_unread _ _) _ rfl i j

/-! ### The gradient of the weights, tile by tile -/

/-- What row `n` contributes. -/
def weight (J : Fin 1024) (n : ℕ) : EReal :=
  if hn : n < 4224 then grad m c ⟨n, hn⟩ J * (hA m c (ix2 ⟨n, hn⟩ J) * Cert.Norm.scale (fun l => hA m c (ix2 ⟨n, hn⟩ l))) else 0

theorem tile_of (t : Fin cfg0.N) (h : t.val % 4 = 3) (acc : Vec Ideal S704x1024 .f32) (ha : acc = (outsAt0 m c (t.val - 1) (Nat.lt_of_le_of_lt (Nat.sub_le _ _) t.isLt)).2.2) (p : Vec Ideal S1x1024 .f32) (j : Fin 1024) :
    k0_pay5 (k0_pay6 acc (iblk m c 0 t) (iblk m c 1 t)) (k0_pay8 (iblk m c 2 t)) p (ix2 0 j)
      = p (ix2 0 j) + ∑ n ∈ Finset.range 704, weight m c j (704 * (t.val / 4) + n) := by
  refine (row_at _ _ p j).trans (congrArg (p (ix2 0 j) + ·) ?_)
  rw [Finset.sum_range]
  refine Finset.sum_congr rfl fun i _ => ?_
  have hn : 704 * (t.val / 4) + i.val < 4224 := by have := lt_points t; omega
  unfold weight
  rw [dif_pos hn]
  refine congrArg₂ (· * ·) (grad_of m c t h acc ha i j) ((scaled_at _ i j).trans ?_)
  exact congrArg₂ (fun a x => a * Cert.Norm.scale x) (blk2 m c t i j) (funext fun l => blk2 m c t i l)

theorem row_first (t : Fin cfg0.N) (h : t.val % 4 = 3) (h3 : t.val < 4) (j : Fin 1024) :
    (outsAt0 m c t.val t.isLt).2.1 (ix2 0 j) = ∑ n ∈ Finset.range 704, weight m c j (704 * (t.val / 4) + n) := by
  rw [outsAt0_C m c t (by omega) (by omega) h h3]
  frame_out
  refine (tile_of m c t h _ (Memref.IsWhole.read_unread _ _) _ j).trans ?_
  exact (congrArg (· + _) (zero_at j)).trans (zero_add _)

theorem row_next (t : Fin cfg0.N) (h : t.val % 4 = 3) (h3 : ¬t.val < 4) (j : Fin 1024) :
    (outsAt0 m c t.val t.isLt).2.1 (ix2 0 j)
      = (outsAt0 m c (t.val - 1) (Nat.lt_of_le_of_lt (Nat.sub_le _ _) t.isLt)).2.1 (ix2 0 j) + ∑ n ∈ Finset.range 704, weight m c j (704 * (t.val / 4) + n) := by
  rw [outsAt0_D m c t (by omega) (by omega) h h3]
  frame_out
  exact tile_of m c t h _ (Memref.IsWhole.read_unread _ _) _ j

/-- The row after a tile's last point: the rows of all tiles so far. -/
theorem rows : ∀ (q : ℕ) (n : ℕ) (hn : n < cfg0.N), n = 4 * q + 3 → ∀ j : Fin 1024,
    (outsAt0 m c n hn).2.1 (ix2 0 j) = ∑ n ∈ Finset.range (704 * (q + 1)), weight m c j n := by
  intro q
  induction q with
  | zero =>
    intro n hn e j
    refine (row_first m c ⟨n, hn⟩ (by dsimp only; omega) (by dsimp only; omega) j).trans ?_
    dsimp only
    rw [show n / 4 = 0 by omega]
    simp only [Nat.mul_zero, Nat.zero_add, Nat.mul_one]
  | succ q ih =>
    intro n hn e j
    refine (row_next m c ⟨n, hn⟩ (by dsimp only; omega) (by dsimp only; omega) j).trans ?_
    have hp := ih (n - 4) (by omega) (by omega) j
    dsimp only
    rw [show n / 4 = q + 1 by omega, Nat.mul_add 704 (q + 1) 1, Nat.mul_one, Finset.sum_range_add]
    refine congrArg (· + _) (Eq.trans ?_ hp)
    have k1 := congrFun (kept_next m c ⟨n - 1, by omega⟩ (by dsimp only; omega)) (ix2 0 j)
    dsimp only at k1
    have k2 := congrFun (kept_next m c ⟨n - 1 - 1, by omega⟩ (by dsimp only; omega)) (ix2 0 j)
    dsimp only at k2
    have k3 := congrFun (kept_first m c ⟨n - 1 - 1 - 1, by omega⟩ (by dsimp only; omega)) (ix2 0 j)
    dsimp only at k3
    refine k1.trans (k2.trans (k3.trans (?_)))
    congr 1

theorem written6 (t : Fin cfg0.N) (h : t.val % 24 = 23) (j : Fin 1024) :
    (outsAt0 m c t.val t.isLt).2.1 (ix2 0 j) = ∑ n : Fin 4224, weight m c j n.val := by
  rw [rows m c 5 t.val t.isLt (by have := lt_points t; omega) j, Finset.sum_range]

/-- The results, entry by entry. -/
def result5 : FVec Ideal S4224x1024 .f32 := fun y => stream m c (y 0) (y 1)
def result6 : FVec Ideal S1x1024 .f32 := fun y => ∑ n : Fin 4224, weight m c (y 1) n.val

theorem final5 : (dats m 0 c).arrAt 5 (cfgs 0).N = result5 m c := by
  refine (dats m 0 c).arrAt_eq_of_covers 5 _ (by decide +kernel) fun t ht y => ?_
  blk_simp
  rw [after0_5]
  obtain ⟨i, j, rfl⟩ : ∃ (i : Fin 704) (j : Fin 1024), y = ix2 i j := ⟨y 0, y 1, by ext a; fin_cases a <;> rfl⟩
  refine (written5 m c t ((flush0_5 t).mp ht) i j).trans ?_
  refine (show _ = result5 m c (ix2 (row (tile t) i) j) from rfl).trans ?_
  unfold row
  blk_ext [idx t]

theorem final6 : (dats m 0 c).arrAt 6 (cfgs 0).N = result6 m c := by
  refine (dats m 0 c).arrAt_eq_of_covers 6 _ (by decide +kernel) fun t ht y => ?_
  blk_simp
  rw [after0_6]
  obtain ⟨i, j, rfl⟩ : ∃ (i : Fin 1) (j : Fin 1024), y = ix2 i j := ⟨y 0, y 1, by ext a; fin_cases a <;> rfl⟩
  obtain rfl : i = 0 := Subsingleton.elim _ _
  refine (written6 m c t ((flush0_6 t).mp ht) j).trans ?_
  refine (show _ = result6 m c (ix2 0 j) from rfl).trans ?_
  blk_ext [idx t]

end Cert.UpDxIdeal.Prod

namespace Cert.UpDxRefIdeal.Prod

open Cert.UpDxRefIdeal Cert.UpDxRefIdeal.Gen
open Idealize.ShloMosaic Idealize.ShloMosaic.TcCoe Idealize.ShloMosaic.Tactic

/-- The factor of a row in the second part of the gradient, over the cotangent times the weights, the stream and the
    normalisation's weights. -/
def factor (g h : FVec Ideal S4224x1024 .f32) (n : FVec Ideal S1024 .f32) : FVec Ideal S4224x1024 .f32 :=
  broadcastInDim S4224x1024 ![0] bcast_S4224_S4224x1024_0 (Host.reduceAdd (Host.divf (mulf (shapeCast _ (Host.reduceAdd (mulf h (mulf g (broadcastInDim S4224x1024 ![0, 1] bcast_S1x1024_S4224x1024_0_1 (broadcastInDim S1x1024 ![1] bcast_S1024_S1x1024_1 n)))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)

/-- The gradient of the stream before its padding rows are cleared. -/
def body (g h : FVec Ideal S4224x1024 .f32) (n : FVec Ideal S1024 .f32) (r : FVec Ideal S4224x1024 .f32) : FVec Ideal S4224x1024 .f32 :=
  addf (addf (addf r (mulf (mulf g (broadcastInDim S4224x1024 ![0, 1] bcast_S1x1024_S4224x1024_0_1 (broadcastInDim S1x1024 ![1] bcast_S1024_S1x1024_1 n))) (broadcastInDim S4224x1024 ![0, 1] bcast_S4224x1_S4224x1024_0_1 (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))))))) (mulf h (factor g h n))) (mulf (factor g h n) h)

def line0 (g h : FVec Ideal S4224x1024 .f32) (n : FVec Ideal S1024 .f32) (r : FVec Ideal S4224x1024 .f32) : FVec Ideal S4224x1024 .f32 :=
  concatenate S4224x1024 0 [⟨S112x1024, (broadcastInDim S112x1024 ![] bcast_S_S112x1024 (constant S_ .f32 0x00000000#32))⟩, ⟨S4112x1024, (extractStridedSlice S4112x1024 ![112, 0] (body g h n r) slices_S4224x1024_S4112x1024_112_0)⟩] concatenates_S112x1024_S4112x1024_S4224x1024_d0

/-- The gradient of the normalisation's weights. -/
def line1 (g h : FVec Ideal S4224x1024 .f32) : FVec Ideal S1x1024 .f32 :=
  broadcastInDim S1x1024 ![1] bcast_S1024_S1x1024_1 (Host.reduceAdd (shapeCast _ (Host.reduceAdd (mulf (mulf h (broadcastInDim S4224x1024 ![0, 1] bcast_S4224x1_S4224x1024_0_1 (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) g) (constant S_ .f32 0x00000000#32) reducesTo_S4224x1024_S1024_d0 h_S_) shapeCasts_S1024_S1x1024) (constant S_ .f32 0x00000000#32) reducesTo_S1x1024_S1024_d0 h_S_)

theorem factor_at (g h : FVec Ideal S4224x1024 .f32) (n : FVec Ideal S1024 .f32) (i : Fin 4224) (j : Fin 1024) :
    factor g h n (ix2 i j) = Cert.Norm.factor (fun l => h (ix2 i l)) (fun l => g (ix2 i l) * n (ix1 l)) := by
  unfold Cert.Norm.factor Cert.Norm.scale Cert.Norm.spread
  pointwise [factor]
  exact Fin.sum_univ_one _

theorem body_at (g h : FVec Ideal S4224x1024 .f32) (n : FVec Ideal S1024 .f32) (r : FVec Ideal S4224x1024 .f32) (i : Fin 4224) (j : Fin 1024) :
    body g h n r (ix2 i j) = r (ix2 i j) + Cert.Norm.dx (fun l => h (ix2 i l)) (fun l => g (ix2 i l) * n (ix1 l)) j := by
  refine Eq.trans ?_ (Cert.Norm.dx_eq _ _ _ _)
  rw [← factor_at g h n i j]
  unfold Cert.Norm.scale Cert.Norm.spread
  pointwise [body]

theorem line0_at (g h : FVec Ideal S4224x1024 .f32) (n : FVec Ideal S1024 .f32) (r : FVec Ideal S4224x1024 .f32) (i : Fin 4224) (j : Fin 1024) :
    line0 g h n r (ix2 i j) = if 112 ≤ i.val then body g h n r (ix2 i j) else 0 := by
  pointwise [line0]
  by_cases hi : i.val < 112
  · exact (dif_pos hi).trans (if_neg (by omega)).symm
  · refine (dif_neg hi).trans (Eq.trans ?_ (if_pos (by omega)).symm)
    refine congrArg (body g h n r) (congrArg (fun a => ix2 a j) (Fin.ext ?_))
    dsimp only <;> omega

theorem line1_at (g h : FVec Ideal S4224x1024 .f32) (j : Fin 1024) :
    line1 g h (ix2 0 j) = ∑ i : Fin 4224, g (ix2 i j) * (h (ix2 i j) * Cert.Norm.scale (fun l => h (ix2 i l))) := by
  refine Eq.trans ?_ (Finset.sum_congr rfl fun i _ => mul_comm _ _)
  unfold Cert.Norm.scale Cert.Norm.spread
  pointwise [line1]
  exact Fin.sum_univ_one _

end Cert.UpDxRefIdeal.Prod

namespace Cert.UpDxIdeal.Prod

open Cert.UpDxIdeal Cert.UpDxIdeal.Gen
open Idealize.ShloMosaic Idealize.ShloMosaic.TcCoe Idealize.ShloMosaic.Tactic

variable (m : (ℓ : Loc nD τ sig) → Buf (Elt Ideal) ℓ) (c : Dev nD)

/-- The reference's product of the cotangent with the weights. -/
def refGrad : FVec Ideal S4224x1024 .f32 := Host.dotGeneral Cert.UpDxRefIdeal.dot_S4224x5632_S1024x5632_S4224x1024_1_1_0_0_n_n none (dA m c) (wA m c)

theorem refGrad_at (i : Fin 4224) (j : Fin 1024) : refGrad m c (ix2 i j) = grad m c i j := by
  unfold refGrad grad
  pointwise

theorem reference_eq0 : Cert.UpDxRefIdeal.Prod.line0 (refGrad m c) (hA m c) (nA m c) (rA m c) = result5 m c := by
  funext y
  obtain ⟨i, j, rfl⟩ : ∃ (i : Fin 4224) (j : Fin 1024), y = ix2 i j := ⟨y 0, y 1, by ext a; fin_cases a <;> rfl⟩
  refine (Cert.UpDxRefIdeal.Prod.line0_at _ _ _ _ i j).trans (if_congr Iff.rfl ((Cert.UpDxRefIdeal.Prod.body_at _ _ _ _ i j).trans ?_) rfl)
  exact congrArg (fun g => rA m c (ix2 i j) + Cert.Norm.dx (fun l => hA m c (ix2 i l)) g j) (funext fun l => congrArg (· * nA m c (ix1 l)) (refGrad_at m c i l))

theorem reference_eq1 : Cert.UpDxRefIdeal.Prod.line1 (refGrad m c) (hA m c) = result6 m c := by
  funext y
  obtain ⟨i, j, rfl⟩ : ∃ (i : Fin 1) (j : Fin 1024), y = ix2 i j := ⟨y 0, y 1, by ext a; fin_cases a <;> rfl⟩
  obtain rfl : i = 0 := Subsingleton.elim _ _
  refine (Cert.UpDxRefIdeal.Prod.line1_at _ _ j).trans (Finset.sum_congr rfl fun i _ => ?_)
  refine (congrArg (· * _) (refGrad_at m c i j)).trans ?_
  show _ = weight m c j i.val
  unfold weight
  rw [dif_pos i.isLt]

end Cert.UpDxIdeal.Prod

namespace Cert.Proof.UpDx

open Idealize.ShloMosaic Idealize.ShloMosaic.TcCoe Idealize.SL.Sem
open Idealize.ShloMosaic.Tactic
open Cert.UpDxIdeal.Prod

theorem quiescent_kernelIdeal : Cert.quiescent_UpDxIdeal := fun m ρ _ => Cert.UpDxIdeal.Gen.frame (F := Ideal) m ρ

/-- What the frame says of a run of the ideal printing, at any reading of the floats. -/
def Framed (F : FTy → Type) [FloatOps F] : Prop :=
  ∀ (m : (ℓ : Loc Cert.UpDxIdeal.nD Cert.UpDxIdeal.τ Cert.UpDxIdeal.sig) → Buf (Elt F) ℓ) (ρ : Dev Cert.UpDxIdeal.nD → PrngReg), True →
    θ_run (Cert.UpDxIdeal.defs (F := F)) (onTc (τ := Cert.UpDxIdeal.τ) (Cert.UpDxIdeal.main (F := F))) ⟨m, fun _ => 0, ρ⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

theorem framed (F : FTy → Type) [FloatOps F] : Framed F := fun m ρ _ => Cert.UpDxIdeal.Gen.frame m ρ

/-- The two printings are one program, line for line. -/
theorem kernel_framed : Cert.quiescent_UpDx = Framed Bits := by sl_kernel_rfl

theorem quiescent_kernel : Cert.quiescent_UpDx := kernel_framed.mpr (framed Bits)

theorem quiescent_reference : Cert.quiescent_UpDxRefIdeal := fun m ρ _ =>
  (θ_run Cert.UpDxRefIdeal.defs _ _).mono (fun r h => ⟨fun c => (h c).2.2, sem_eq_zero_of_no_sems (by decide) r.2⟩)
    (Cert.UpDxRefIdeal.Value.run (F := Ideal) m ρ)

/-- The results are the reference's. -/
theorem equation : Cert.algebraic_UpDxIdeal_UpDxRefIdeal := by
  pair_intro
  · run_from Cert.UpDxIdeal.Gen.run_main m g
    all_goals first | exact Cert.UpDxIdeal.Gen.V_main_arg0 m c | exact Cert.UpDxIdeal.Gen.V_main_arg1 m c | exact Cert.UpDxIdeal.Gen.V_main_arg2 m c | exact Cert.UpDxIdeal.Gen.V_main_arg3 m c | exact Cert.UpDxIdeal.Gen.V_main_arg4 m c
  · run_from Cert.UpDxRefIdeal.Value.run m' g'
    · refine (show _ = Cert.UpDxRefIdeal.Prod.line0 (Host.dotGeneral Cert.UpDxRefIdeal.dot_S4224x5632_S1024x5632_S4224x1024_1_1_0_0_n_n none (m' ((c.tc : Thread Cert.UpDxRefIdeal.nD Cert.UpDxRefIdeal.τ).loc Cert.UpDxRefIdeal.main_arg0)) (m' ((c.tc : Thread Cert.UpDxRefIdeal.nD Cert.UpDxRefIdeal.τ).loc Cert.UpDxRefIdeal.main_arg1))) (m' ((c.tc : Thread Cert.UpDxRefIdeal.nD Cert.UpDxRefIdeal.τ).loc Cert.UpDxRefIdeal.main_arg2)) (m' ((c.tc : Thread Cert.UpDxRefIdeal.nD Cert.UpDxRefIdeal.τ).loc Cert.UpDxRefIdeal.main_arg3)) (m' ((c.tc : Thread Cert.UpDxRefIdeal.nD Cert.UpDxRefIdeal.τ).loc Cert.UpDxRefIdeal.main_arg4)) from rfl).trans ?_
      rw [(hagree c).1, (hagree c).2.1, (hagree c).2.2.1, (hagree c).2.2.2.1, (hagree c).2.2.2.2]
      exact (reference_eq0 m c).trans (final5 m c).symm
    · exact (reference_eq1 m c).trans (final6 m c).symm

end Cert.Proof.UpDx

end
-- ==== Proof.InDx.lean ====
module

public import proofs.«01_k».proof.Defs
public import proofs.«01_k».proof.Proof.Gen.InDx
public import proofs.«01_k».proof.Proof.Gen.InDxIdeal.Value
public import proofs.«01_k».proof.Proof.Gen.InDxRefIdeal.Run
public import proofs.«01_k».proof.Proof.RmsBwd
public import proofs.«01_k».proof.Proof.Sums
public import Idealize.ShloMosaic.Lib.Pipeline.ValueKit
public import Idealize.ShloMosaic.Lib.Ring
public import Idealize.ShloMosaic.Adequacy
public import Idealize.ShloMosaic.Init

/-! The gradient of the normalised stream under the mixer's input projection, and of the normalisation's weights. The
    cotangent times the weights is one product over the projection's columns, padded with zeros and taken in three parts of 1280. -/

@[expose] public section

set_option maxRecDepth 16384

noncomputable section

namespace Cert.InDxIdeal.Prod

open Cert.InDxIdeal Cert.InDxIdeal.Gen
open Idealize.ShloMosaic Idealize.ShloMosaic.TcCoe Idealize.ShloMosaic.Tactic

/-! ### The body's arithmetic -/

theorem first_at (a : Vec Ideal S704x1280 .bf16) (b : Vec Ideal S1024x1280 .bf16) (i : Fin 704) (j : Fin 1024) : k0_pay1 a b (ix2 i j) = ∑ k : Fin 1280, a (ix2 i k) * b (ix2 j k) := by
  pointwise [k0_pay1]

theorem next_at (acc : Vec Ideal S704x1024 .f32) (a : Vec Ideal S704x1280 .bf16) (b : Vec Ideal S1024x1280 .bf16) (i : Fin 704) (j : Fin 1024) :
    k0_pay2 acc a b (ix2 i j) = acc (ix2 i j) + ∑ k : Fin 1280, a (ix2 i k) * b (ix2 j k) := by
  pointwise [k0_pay2]

theorem last_at (acc : Vec Ideal S704x1024 .f32) (a : Vec Ideal S704x1280 .bf16) (b : Vec Ideal S1024x1280 .bf16) (i : Fin 704) (j : Fin 1024) :
    k0_pay6 acc a b (ix2 i j) = acc (ix2 i j) + ∑ k : Fin 1280, a (ix2 i k) * b (ix2 j k) := by
  pointwise [k0_pay6]

/-- The rows before the 112th are padding. -/
theorem mask_at (q : Fin 6) (i : Fin 704) :
    k0_pay9 (BitVec.ofNat 32 q.val) (ix2 i 0) = if 112 ≤ 704 * q.val + i.val then 1#1 else 0#1 := by
  pointwise [k0_pay9]
  revert q i
  decide +kernel

theorem scaled_at (h : Vec Ideal S704x1024 .f32) (i : Fin 704) (j : Fin 1024) :
    k0_pay8 h (ix2 i j) = h (ix2 i j) * Cert.Norm.scale (fun l => h (ix2 i l)) := by
  unfold Cert.Norm.scale Cert.Norm.spread
  pointwise [k0_pay8, k0_pay7]

theorem out_at (acc : Vec Ideal S704x1024 .f32) (a : Vec Ideal S704x1280 .bf16) (b : Vec Ideal S1024x1280 .bf16) (h r : Vec Ideal S704x1024 .f32) (w : Vec Ideal S1x1024 .f32) (q : Fin 6) (z : BitVec 32) (hz : z = BitVec.ofNat 32 q.val)
    (i : Fin 704) (j : Fin 1024) :
    k0_pay3 (k0_pay9 z) (k0_pay10 acc a b h r w) (ix2 i j)
      = if 112 ≤ 704 * q.val + i.val then
          r (ix2 i j) + Cert.Norm.dx (fun l => h (ix2 i l)) (fun l => k0_pay6 acc a b (ix2 i l) * w (ix2 0 l)) j
        else 0 := by
  have hm := mask_at q i
  rw [← hz] at hm
  by_cases h1 : 112 ≤ 704 * q.val + i.val
  · rw [if_pos h1] at hm ⊢
    unfold Cert.Norm.dx Cert.Norm.scale Cert.Norm.spread
    pointwise [k0_pay3, k0_pay10, k0_pay8, k0_pay7]
    rw [hm]
    exact if_pos rfl
  · rw [if_neg h1] at hm ⊢
    pointwise [k0_pay3, k0_pay10, k0_pay8, k0_pay7]
    rw [hm]
    exact if_neg (by decide)

theorem zero_at (j : Fin 1024) : (k0_pay4 : FVec Ideal S1x1024 .f32) (ix2 0 j) = 0 := by
  pointwise [k0_pay4]

theorem row_at (g x : FVec Ideal S704x1024 .f32) (p : Vec Ideal S1x1024 .f32) (j : Fin 1024) :
    k0_pay5 g x p (ix2 0 j) = p (ix2 0 j) + ∑ i : Fin 704, g (ix2 i j) * x (ix2 i j) := by
  pointwise [k0_pay5]

/-! ### What a point reads -/

variable (m : (ℓ : Loc nD τ sig) → Buf (Elt Ideal) ℓ) (c : Dev nD)

abbrev d0A : FVec Ideal S4224x3592 .f32 := m ((c.tc : Thread nD τ).loc main_arg0)
abbrev w0A : FVec Ideal S1024x3592 .f32 := m ((c.tc : Thread nD τ).loc main_arg1)
abbrev hA : FVec Ideal S4224x1024 .f32 := m ((c.tc : Thread nD τ).loc main_arg2)
abbrev nA : FVec Ideal S1024 .f32 := m ((c.tc : Thread nD τ).loc main_arg3)
abbrev rA : FVec Ideal S4224x1024 .f32 := m ((c.tc : Thread nD τ).loc main_arg4)

/-- The two factors, zeros after their last column. -/
def dA : FVec Ideal S4224x3840 .f32 := pad S4224x3840 ![0, 0] ![0, 248] ![0, 0] (d0A m c) (sitofp .f32 (constantI S_ 32 0#32)) pads_S4224x3592_S4224x3840_000_02480 h_S_
def wA : FVec Ideal S1024x3840 .f32 := pad S1024x3840 ![0, 0] ![0, 248] ![0, 0] (w0A m c) (sitofp .f32 (constantI S_ 32 0#32)) pads_S1024x3592_S1024x3840_000_02480 h_S_

/-- A column of a part among all columns. -/
def col (s : Fin 3) (k : Fin 1280) : Fin 3840 := ⟨1280 * s.val + k.val, by omega⟩

theorem V_d : (V m c main_v1 : FVec Ideal S4224x3840 .bf16) = dA m c := by
  entry_read
  rfl

theorem V_w : (V m c main_v3 : FVec Ideal S1024x3840 .bf16) = wA m c := by
  entry_read
  rfl

theorem V_h : V m c main_arg2 = hA m c := V_main_arg2 m c

theorem V_r : V m c main_arg4 = rA m c := V_main_arg4 m c

theorem V_n_at (j : Fin 1024) : (V m c main_v4 : FVec Ideal S1x1024 .f32) (ix2 0 j) = nA m c (ix1 j) := by
  have e : (V m c main_v4 : FVec Ideal S1x1024 .f32) = broadcastInDim S1x1024 ![1] bcast_S1024_S1x1024_1 (nA m c) := by
    entry_read
    rfl
  rw [e]
  pointwise

theorem lt_points (t : Fin cfg0.N) : t.val < 18 := lt_of_lt_of_eq t.isLt (show cfg0.N = 18 from N_0)

/-- The part a point takes, and its tile of rows. -/
def kk (t : Fin cfg0.N) : Fin 3 := ⟨t.val % 3, by omega⟩
def tile (t : Fin cfg0.N) : Fin 6 := ⟨t.val / 3, by have := lt_points t; omega⟩

/-- The block every window is at. -/
theorem idx : ∀ t : Fin cfg0.N, win0_0.index t = ![(tile t).val, (kk t).val] ∧ win0_1.index t = ![0, (kk t).val] ∧ win0_2.index t = ![(tile t).val, 0]
    ∧ win0_3.index t = ![(tile t).val, 0] ∧ win0_4.index t = ![0, 0] ∧ win0_5.index t = ![(tile t).val, 0] ∧ win0_6.index t = ![0, 0] := by
  decide +kernel

theorem coord : ∀ t : Fin cfg0.N, ((grid0.coords t) 0).val = (tile t).val := by decide +kernel

/-- The array's row of a tile's row `i`. -/
def row (q : Fin 6) (i : Fin 704) : Fin 4224 := ⟨704 * q.val + i.val, by omega⟩

theorem blk2 (t : Fin cfg0.N) (i : Fin 704) (j : Fin 1024) : iblk m c 2 t (ix2 i j) = hA m c (ix2 (row (tile t) i) j) := by
  rw [← V_h]
  unfold row
  blk_ext [iblk, idx t]

theorem blk3 (t : Fin cfg0.N) (i : Fin 704) (j : Fin 1024) : iblk m c 3 t (ix2 i j) = rA m c (ix2 (row (tile t) i) j) := by
  rw [← V_r]
  unfold row
  blk_ext [iblk, idx t]

theorem blk4 (t : Fin cfg0.N) (j : Fin 1024) : iblk m c 4 t (ix2 0 j) = nA m c (ix1 j) := by
  rw [← V_n_at]
  blk_ext [iblk, idx t]

theorem blk0 (t : Fin cfg0.N) (i : Fin 704) (k : Fin 1280) :
    iblk m c 0 t (ix2 i k) = dA m c (ix2 (row (tile t) i) (col (kk t) k)) := by
  rw [← V_d]
  unfold row col
  blk_ext [iblk, idx t]

theorem blk1 (t : Fin cfg0.N) (j : Fin 1024) (k : Fin 1280) :
    iblk m c 1 t (ix2 j k) = wA m c (ix2 j (col (kk t) k)) := by
  rw [← V_w]
  unfold col
  blk_ext [iblk, idx t]

/-! ### The cotangent times the weights, in parts -/

/-- What one part of the columns contributes to an entry. -/
def part (s : Fin 3) (I : Fin 4224) (J : Fin 1024) : EReal :=
  ∑ k : Fin 1280, dA m c (ix2 I (col s k)) * wA m c (ix2 J (col s k))

/-- An entry of the cotangent times the weights. -/
def grad (I : Fin 4224) (J : Fin 1024) : EReal := ∑ k : Fin 3840, dA m c (ix2 I k) * wA m c (ix2 J k)

theorem grad_eq (I : Fin 4224) (J : Fin 1024) : part m c 0 I J + part m c 1 I J + part m c 2 I J = grad m c I J := by
  unfold part grad
  exact Cert.Sums.three1280 fun k => dA m c (ix2 I k) * wA m c (ix2 J k)

theorem part_eq (t : Fin cfg0.N) (i : Fin 704) (j : Fin 1024) :
    (∑ k : Fin 1280, (show FVec Ideal S704x1280 .bf16 from iblk m c 0 t) (ix2 i k) * (show FVec Ideal S1024x1280 .bf16 from iblk m c 1 t) (ix2 j k))
      = part m c (kk t) (row (tile t) i) j :=
  Finset.sum_congr rfl fun k _ => congrArg₂ (· * ·) (blk0 m c t i k) (blk1 m c t j k)

theorem after_first (t : Fin cfg0.N) (h : t.val % 3 = 0) (i : Fin 704) (j : Fin 1024) :
    (outsAt0 m c t.val t.isLt).2.2 (ix2 i j) = part m c (kk t) (row (tile t) i) j := by
  rw [outsAt0_A m c t h (by omega) (by omega) ]
  frame_out
  exact (first_at _ _ i j).trans (part_eq m c t i j)

theorem kept_first (t : Fin cfg0.N) (h : t.val % 3 = 0) : (outsAt0 m c t.val t.isLt).2.1 = (outsAt0 m c (t.val - 1) (Nat.lt_of_le_of_lt (Nat.sub_le _ _) t.isLt)).2.1 := by
  rw [outsAt0_A m c t h (by omega) (by omega) ]
  rfl

theorem after_next (t : Fin cfg0.N) (h : t.val % 3 = 1) (i : Fin 704) (j : Fin 1024) :
    (outsAt0 m c t.val t.isLt).2.2 (ix2 i j) = (outsAt0 m c (t.val - 1) (Nat.lt_of_le_of_lt (Nat.sub_le _ _) t.isLt)).2.2 (ix2 i j) + part m c (kk t) (row (tile t) i) j := by
  rw [outsAt0_B m c t (by omega) h (by omega)]
  frame_out
  exact (next_at _ _ _ i j).trans (congrArg₂ (· + ·) (congrFun (Memref.IsWhole.read_unread _ _) _) (part_eq m c t i j))

theorem kept_next (t : Fin cfg0.N) (h : t.val % 3 = 1) : (outsAt0 m c t.val t.isLt).2.1 = (outsAt0 m c (t.val - 1) (Nat.lt_of_le_of_lt (Nat.sub_le _ _) t.isLt)).2.1 := by
  rw [outsAt0_B m c t (by omega) h (by omega)]
  rfl

theorem tile_eq (t u : Fin cfg0.N) (h : t.val / 3 = u.val / 3) : tile t = tile u := Fin.ext h
theorem kk_eq (t : Fin cfg0.N) (s : Fin 3) (h : t.val % 3 = s.val) : kk t = s := Fin.ext h

/-- At the last point of a run the whole contraction is formed. -/
theorem grad_of (t : Fin cfg0.N) (h : t.val % 3 = 2) (acc : Vec Ideal S704x1024 .f32) (ha : acc = (outsAt0 m c (t.val - 1) (Nat.lt_of_le_of_lt (Nat.sub_le _ _) t.isLt)).2.2) (i : Fin 704) (j : Fin 1024) :
    k0_pay6 acc (iblk m c 0 t) (iblk m c 1 t) (ix2 i j) = grad m c (row (tile t) i) j := by
  have l1 : t.val - 1 < cfg0.N := Nat.lt_of_le_of_lt (Nat.sub_le _ _) t.isLt
  have e1 := after_next m c ⟨t.val - 1, l1⟩ (by dsimp only; omega) i j
  rw [tile_eq _ t (by dsimp only; omega), kk_eq _ 1 (by show (t.val - 1) % 3 = 1; omega)] at e1
  have l2 : t.val - 1 - 1 < cfg0.N := Nat.lt_of_le_of_lt (Nat.sub_le _ _) l1
  have e2 := after_first m c ⟨t.val - 1 - 1, l2⟩ (by dsimp only; omega) i j
  rw [tile_eq _ t (by dsimp only; omega), kk_eq _ 0 (by show (t.val - 1 - 1) % 3 = 0; omega)] at e2
  refine (last_at _ _ _ i j).trans (Eq.trans ?_ (grad_eq m c _ j))
  refine congrArg₂ (· + ·) ((congrFun ha _).trans (e1.trans (congrArg (· + _) e2))) ((part_eq m c t i j).trans ?_)
  rw [kk_eq t 2 h]

/-- The gradient of the stream, entry by entry: padding rows get zero. -/
def stream (I : Fin 4224) (J : Fin 1024) : EReal :=
  if 112 ≤ I.val then rA m c (ix2 I J) + Cert.Norm.dx (fun l => hA m c (ix2 I l)) (fun l => grad m c I l * nA m c (ix1 l)) J else 0

theorem stream_of (t : Fin cfg0.N) (h : t.val % 3 = 2) (acc : Vec Ideal S704x1024 .f32) (ha : acc = (outsAt0 m c (t.val - 1) (Nat.lt_of_le_of_lt (Nat.sub_le _ _) t.isLt)).2.2) (z : BitVec 32)
    (hz : z = BitVec.ofNat 32 ((grid0.coords t) 0).val) (i : Fin 704) (j : Fin 1024) :
    k0_pay3 (k0_pay9 z) (k0_pay10 acc (iblk m c 0 t) (iblk m c 1 t) (iblk m c 2 t) (iblk m c 3 t) (iblk m c 4 t)) (ix2 i j) = stream m c (row (tile t) i) j := by
  refine (out_at acc (iblk m c 0 t) (iblk m c 1 t) (iblk m c 2 t) (iblk m c 3 t) (iblk m c 4 t) (tile t) z (hz.trans (congrArg (BitVec.ofNat 32) (coord t))) i j).trans ?_
  unfold stream
  refine if_congr Iff.rfl (congrArg₂ (· + ·) (blk3 m c t i j) ?_) rfl
  refine congrArg₂ (fun x g => Cert.Norm.dx x g j) (funext fun l => blk2 m c t i l) (funext fun l => ?_)
  exact congrArg₂ (· * ·) (grad_of m c t h acc ha i l) (blk4 m c t l)

/-- What the last point of a run writes. -/
theorem written5 (t : Fin cfg0.N) (h : t.val % 3 = 2) (i : Fin 704) (j : Fin 1024) :
    (outsAt0 m c t.val t.isLt).1 (ix2 i j) = stream m c (row (tile t) i) j := by
  by_cases h3 : t.val < 3
  · rw [outsAt0_C m c t (by omega) (by omega) h h3]
    frame_out
    exact stream_of m c t h _ (Memref.IsWhole.read_unread _ _) _ rfl i j
  · rw [outsAt0_D m c t (by omega) (by omega) h h3]
    frame_out
    exact stream_of m c t h _ (Memref.IsWhole.read_unread _ _) _ rfl i j

/-! ### The gradient of the weights, tile by tile -/

/-- What row `n` contributes. -/
def weight (J : Fin 1024) (n : ℕ) : EReal :=
  if hn : n < 4224 then grad m c ⟨n, hn⟩ J * (hA m c (ix2 ⟨n, hn⟩ J) * Cert.Norm.scale (fun l => hA m c (ix2 ⟨n, hn⟩ l))) else 0

theorem tile_of (t : Fin cfg0.N) (h : t.val % 3 = 2) (acc : Vec Ideal S704x1024 .f32) (ha : acc = (outsAt0 m c (t.val - 1) (Nat.lt_of_le_of_lt (Nat.sub_le _ _) t.isLt)).2.2) (p : Vec Ideal S1x1024 .f32) (j : Fin 1024) :
    k0_pay5 (k0_pay6 acc (iblk m c 0 t) (iblk m c 1 t)) (k0_pay8 (iblk m c 2 t)) p (ix2 0 j)
      = p (ix2 0 j) + ∑ n ∈ Finset.range 704, weight m c j (704 * (t.val / 3) + n) := by
  refine (row_at _ _ p j).trans (congrArg (p (ix2 0 j) + ·) ?_)
  rw [Finset.sum_range]
  refine Finset.sum_congr rfl fun i _ => ?_
  have hn : 704 * (t.val / 3) + i.val < 4224 := by have := lt_points t; omega
  unfold weight
  rw [dif_pos hn]
  refine congrArg₂ (· * ·) (grad_of m c t h acc ha i j) ((scaled_at _ i j).trans ?_)
  exact congrArg₂ (fun a x => a * Cert.Norm.scale x) (blk2 m c t i j) (funext fun l => blk2 m c t i l)

theorem row_first (t : Fin cfg0.N) (h : t.val % 3 = 2) (h3 : t.val < 3) (j : Fin 1024) :
    (outsAt0 m c t.val t.isLt).2.1 (ix2 0 j) = ∑ n ∈ Finset.range 704, weight m c j (704 * (t.val / 3) + n) := by
  rw [outsAt0_C m c t (by omega) (by omega) h h3]
  frame_out
  refine (tile_of m c t h _ (Memref.IsWhole.read_unread _ _) _ j).trans ?_
  exact (congrArg (· + _) (zero_at j)).trans (zero_add _)

theorem row_next (t : Fin cfg0.N) (h : t.val % 3 = 2) (h3 : ¬t.val < 3) (j : Fin 1024) :
    (outsAt0 m c t.val t.isLt).2.1 (ix2 0 j)
      = (outsAt0 m c (t.val - 1) (Nat.lt_of_le_of_lt (Nat.sub_le _ _) t.isLt)).2.1 (ix2 0 j) + ∑ n ∈ Finset.range 704, weight m c j (704 * (t.val / 3) + n) := by
  rw [outsAt0_D m c t (by omega) (by omega) h h3]
  frame_out
  exact tile_of m c t h _ (Memref.IsWhole.read_unread _ _) _ j

/-- The row after a tile's last point: the rows of all tiles so far. -/
theorem rows : ∀ (q : ℕ) (n : ℕ) (hn : n < cfg0.N), n = 3 * q + 2 → ∀ j : Fin 1024,
    (outsAt0 m c n hn).2.1 (ix2 0 j) = ∑ n ∈ Finset.range (704 * (q + 1)), weight m c j n := by
  intro q
  induction q with
  | zero =>
    intro n hn e j
    refine (row_first m c ⟨n, hn⟩ (by dsimp only; omega) (by dsimp only; omega) j).trans ?_
    dsimp only
    rw [show n / 3 = 0 by omega]
    simp only [Nat.mul_zero, Nat.zero_add, Nat.mul_one]
  | succ q ih =>
    intro n hn e j
    refine (row_next m c ⟨n, hn⟩ (by dsimp only; omega) (by dsimp only; omega) j).trans ?_
    have hp := ih (n - 3) (by omega) (by omega) j
    dsimp only
    rw [show n / 3 = q + 1 by omega, Nat.mul_add 704 (q + 1) 1, Nat.mul_one, Finset.sum_range_add]
    refine congrArg (· + _) (Eq.trans ?_ hp)
    have k1 := congrFun (kept_next m c ⟨n - 1, by omega⟩ (by dsimp only; omega)) (ix2 0 j)
    dsimp only at k1
    have k2 := congrFun (kept_first m c ⟨n - 1 - 1, by omega⟩ (by dsimp only; omega)) (ix2 0 j)
    dsimp only at k2
    refine k1.trans (k2.trans (?_))
    congr 1

theorem written6 (t : Fin cfg0.N) (h : t.val % 18 = 17) (j : Fin 1024) :
    (outsAt0 m c t.val t.isLt).2.1 (ix2 0 j) = ∑ n : Fin 4224, weight m c j n.val := by
  rw [rows m c 5 t.val t.isLt (by have := lt_points t; omega) j, Finset.sum_range]

/-- The results, entry by entry. -/
def result5 : FVec Ideal S4224x1024 .f32 := fun y => stream m c (y 0) (y 1)
def result6 : FVec Ideal S1x1024 .f32 := fun y => ∑ n : Fin 4224, weight m c (y 1) n.val

theorem final5 : (dats m 0 c).arrAt 5 (cfgs 0).N = result5 m c := by
  refine (dats m 0 c).arrAt_eq_of_covers 5 _ (by decide +kernel) fun t ht y => ?_
  blk_simp
  rw [after0_5]
  obtain ⟨i, j, rfl⟩ : ∃ (i : Fin 704) (j : Fin 1024), y = ix2 i j := ⟨y 0, y 1, by ext a; fin_cases a <;> rfl⟩
  refine (written5 m c t ((flush0_5 t).mp ht) i j).trans ?_
  refine (show _ = result5 m c (ix2 (row (tile t) i) j) from rfl).trans ?_
  unfold row
  blk_ext [idx t]

theorem final6 : (dats m 0 c).arrAt 6 (cfgs 0).N = result6 m c := by
  refine (dats m 0 c).arrAt_eq_of_covers 6 _ (by decide +kernel) fun t ht y => ?_
  blk_simp
  rw [after0_6]
  obtain ⟨i, j, rfl⟩ : ∃ (i : Fin 1) (j : Fin 1024), y = ix2 i j := ⟨y 0, y 1, by ext a; fin_cases a <;> rfl⟩
  obtain rfl : i = 0 := Subsingleton.elim _ _
  refine (written6 m c t ((flush0_6 t).mp ht) j).trans ?_
  refine (show _ = result6 m c (ix2 0 j) from rfl).trans ?_
  blk_ext [idx t]

end Cert.InDxIdeal.Prod

namespace Cert.InDxRefIdeal.Prod

open Cert.InDxRefIdeal Cert.InDxRefIdeal.Gen
open Idealize.ShloMosaic Idealize.ShloMosaic.TcCoe Idealize.ShloMosaic.Tactic

/-- The factor of a row in the second part of the gradient, over the cotangent times the weights, the stream and the
    normalisation's weights. -/
def factor (g h : FVec Ideal S4224x1024 .f32) (n : FVec Ideal S1024 .f32) : FVec Ideal S4224x1024 .f32 :=
  broadcastInDim S4224x1024 ![0] bcast_S4224_S4224x1024_0 (Host.reduceAdd (Host.divf (mulf (shapeCast _ (Host.reduceAdd (mulf h (mulf g (broadcastInDim S4224x1024 ![0, 1] bcast_S1x1024_S4224x1024_0_1 (broadcastInDim S1x1024 ![1] bcast_S1024_S1x1024_1 n)))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)

/-- The gradient of the stream before its padding rows are cleared. -/
def body (g h : FVec Ideal S4224x1024 .f32) (n : FVec Ideal S1024 .f32) (r : FVec Ideal S4224x1024 .f32) : FVec Ideal S4224x1024 .f32 :=
  addf (addf (addf r (mulf (mulf g (broadcastInDim S4224x1024 ![0, 1] bcast_S1x1024_S4224x1024_0_1 (broadcastInDim S1x1024 ![1] bcast_S1024_S1x1024_1 n))) (broadcastInDim S4224x1024 ![0, 1] bcast_S4224x1_S4224x1024_0_1 (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))))))) (mulf h (factor g h n))) (mulf (factor g h n) h)

def line0 (g h : FVec Ideal S4224x1024 .f32) (n : FVec Ideal S1024 .f32) (r : FVec Ideal S4224x1024 .f32) : FVec Ideal S4224x1024 .f32 :=
  concatenate S4224x1024 0 [⟨S112x1024, (broadcastInDim S112x1024 ![] bcast_S_S112x1024 (constant S_ .f32 0x00000000#32))⟩, ⟨S4112x1024, (extractStridedSlice S4112x1024 ![112, 0] (body g h n r) slices_S4224x1024_S4112x1024_112_0)⟩] concatenates_S112x1024_S4112x1024_S4224x1024_d0

/-- The gradient of the normalisation's weights. -/
def line1 (g h : FVec Ideal S4224x1024 .f32) : FVec Ideal S1x1024 .f32 :=
  broadcastInDim S1x1024 ![1] bcast_S1024_S1x1024_1 (Host.reduceAdd (shapeCast _ (Host.reduceAdd (mulf (mulf h (broadcastInDim S4224x1024 ![0, 1] bcast_S4224x1_S4224x1024_0_1 (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) g) (constant S_ .f32 0x00000000#32) reducesTo_S4224x1024_S1024_d0 h_S_) shapeCasts_S1024_S1x1024) (constant S_ .f32 0x00000000#32) reducesTo_S1x1024_S1024_d0 h_S_)

theorem factor_at (g h : FVec Ideal S4224x1024 .f32) (n : FVec Ideal S1024 .f32) (i : Fin 4224) (j : Fin 1024) :
    factor g h n (ix2 i j) = Cert.Norm.factor (fun l => h (ix2 i l)) (fun l => g (ix2 i l) * n (ix1 l)) := by
  unfold Cert.Norm.factor Cert.Norm.scale Cert.Norm.spread
  pointwise [factor]
  exact Fin.sum_univ_one _

theorem body_at (g h : FVec Ideal S4224x1024 .f32) (n : FVec Ideal S1024 .f32) (r : FVec Ideal S4224x1024 .f32) (i : Fin 4224) (j : Fin 1024) :
    body g h n r (ix2 i j) = r (ix2 i j) + Cert.Norm.dx (fun l => h (ix2 i l)) (fun l => g (ix2 i l) * n (ix1 l)) j := by
  refine Eq.trans ?_ (Cert.Norm.dx_eq _ _ _ _)
  rw [← factor_at g h n i j]
  unfold Cert.Norm.scale Cert.Norm.spread
  pointwise [body]

theorem line0_at (g h : FVec Ideal S4224x1024 .f32) (n : FVec Ideal S1024 .f32) (r : FVec Ideal S4224x1024 .f32) (i : Fin 4224) (j : Fin 1024) :
    line0 g h n r (ix2 i j) = if 112 ≤ i.val then body g h n r (ix2 i j) else 0 := by
  pointwise [line0]
  by_cases hi : i.val < 112
  · exact (dif_pos hi).trans (if_neg (by omega)).symm
  · refine (dif_neg hi).trans (Eq.trans ?_ (if_pos (by omega)).symm)
    refine congrArg (body g h n r) (congrArg (fun a => ix2 a j) (Fin.ext ?_))
    dsimp only <;> omega

theorem line1_at (g h : FVec Ideal S4224x1024 .f32) (j : Fin 1024) :
    line1 g h (ix2 0 j) = ∑ i : Fin 4224, g (ix2 i j) * (h (ix2 i j) * Cert.Norm.scale (fun l => h (ix2 i l))) := by
  refine Eq.trans ?_ (Finset.sum_congr rfl fun i _ => mul_comm _ _)
  unfold Cert.Norm.scale Cert.Norm.spread
  pointwise [line1]
  exact Fin.sum_univ_one _

end Cert.InDxRefIdeal.Prod

namespace Cert.InDxIdeal.Prod

open Cert.InDxIdeal Cert.InDxIdeal.Gen
open Idealize.ShloMosaic Idealize.ShloMosaic.TcCoe Idealize.ShloMosaic.Tactic

variable (m : (ℓ : Loc nD τ sig) → Buf (Elt Ideal) ℓ) (c : Dev nD)

/-- The reference's product of the cotangent with the weights. -/
def refGrad : FVec Ideal S4224x1024 .f32 := Host.dotGeneral Cert.InDxRefIdeal.dot_S4224x3592_S1024x3592_S4224x1024_1_1_0_0_n_n none (d0A m c) (w0A m c)

theorem refGrad_at (i : Fin 4224) (j : Fin 1024) : refGrad m c (ix2 i j) = grad m c i j := by
  have z : (FloatOps.sitofp FTy.f32 0#32 : Ideal .f32) = (0 : EReal) := by
    show (((0#32 : BitVec 32).toInt : ℝ) : EReal) = 0
    simp
  unfold refGrad grad dA wA
  pointwise
  refine (add_zero _).symm.trans (congrArg (_ + ·) (Finset.sum_eq_zero fun k _ => ?_).symm)
  rw [z, mul_zero]

theorem reference_eq0 : Cert.InDxRefIdeal.Prod.line0 (refGrad m c) (hA m c) (nA m c) (rA m c) = result5 m c := by
  funext y
  obtain ⟨i, j, rfl⟩ : ∃ (i : Fin 4224) (j : Fin 1024), y = ix2 i j := ⟨y 0, y 1, by ext a; fin_cases a <;> rfl⟩
  refine (Cert.InDxRefIdeal.Prod.line0_at _ _ _ _ i j).trans (if_congr Iff.rfl ((Cert.InDxRefIdeal.Prod.body_at _ _ _ _ i j).trans ?_) rfl)
  exact congrArg (fun g => rA m c (ix2 i j) + Cert.Norm.dx (fun l => hA m c (ix2 i l)) g j) (funext fun l => congrArg (· * nA m c (ix1 l)) (refGrad_at m c i l))

theorem reference_eq1 : Cert.InDxRefIdeal.Prod.line1 (refGrad m c) (hA m c) = result6 m c := by
  funext y
  obtain ⟨i, j, rfl⟩ : ∃ (i : Fin 1) (j : Fin 1024), y = ix2 i j := ⟨y 0, y 1, by ext a; fin_cases a <;> rfl⟩
  obtain rfl : i = 0 := Subsingleton.elim _ _
  refine (Cert.InDxRefIdeal.Prod.line1_at _ _ j).trans (Finset.sum_congr rfl fun i _ => ?_)
  refine (congrArg (· * _) (refGrad_at m c i j)).trans ?_
  show _ = weight m c j i.val
  unfold weight
  rw [dif_pos i.isLt]

end Cert.InDxIdeal.Prod

namespace Cert.Proof.InDx

open Idealize.ShloMosaic Idealize.ShloMosaic.TcCoe Idealize.SL.Sem
open Idealize.ShloMosaic.Tactic
open Cert.InDxIdeal.Prod

theorem quiescent_kernelIdeal : Cert.quiescent_InDxIdeal := fun m ρ _ => Cert.InDxIdeal.Gen.frame (F := Ideal) m ρ

/-- What the frame says of a run of the ideal printing, at any reading of the floats. -/
def Framed (F : FTy → Type) [FloatOps F] : Prop :=
  ∀ (m : (ℓ : Loc Cert.InDxIdeal.nD Cert.InDxIdeal.τ Cert.InDxIdeal.sig) → Buf (Elt F) ℓ) (ρ : Dev Cert.InDxIdeal.nD → PrngReg), True →
    θ_run (Cert.InDxIdeal.defs (F := F)) (onTc (τ := Cert.InDxIdeal.τ) (Cert.InDxIdeal.main (F := F))) ⟨m, fun _ => 0, ρ⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

theorem framed (F : FTy → Type) [FloatOps F] : Framed F := fun m ρ _ => Cert.InDxIdeal.Gen.frame m ρ

/-- The two printings are one program, line for line. -/
theorem kernel_framed : Cert.quiescent_InDx = Framed Bits := by sl_kernel_rfl

theorem quiescent_kernel : Cert.quiescent_InDx := kernel_framed.mpr (framed Bits)

theorem quiescent_reference : Cert.quiescent_InDxRefIdeal := fun m ρ _ =>
  (θ_run Cert.InDxRefIdeal.defs _ _).mono (fun r h => ⟨fun c => (h c).2.2, sem_eq_zero_of_no_sems (by decide) r.2⟩)
    (Cert.InDxRefIdeal.Value.run (F := Ideal) m ρ)

/-- The results are the reference's. -/
theorem equation : Cert.algebraic_InDxIdeal_InDxRefIdeal := by
  pair_intro
  · run_from Cert.InDxIdeal.Gen.run_main m g
    all_goals first | exact Cert.InDxIdeal.Gen.V_main_arg0 m c | exact Cert.InDxIdeal.Gen.V_main_arg1 m c | exact Cert.InDxIdeal.Gen.V_main_arg2 m c | exact Cert.InDxIdeal.Gen.V_main_arg3 m c | exact Cert.InDxIdeal.Gen.V_main_arg4 m c
  · run_from Cert.InDxRefIdeal.Value.run m' g'
    · refine (show _ = Cert.InDxRefIdeal.Prod.line0 (Host.dotGeneral Cert.InDxRefIdeal.dot_S4224x3592_S1024x3592_S4224x1024_1_1_0_0_n_n none (m' ((c.tc : Thread Cert.InDxRefIdeal.nD Cert.InDxRefIdeal.τ).loc Cert.InDxRefIdeal.main_arg0)) (m' ((c.tc : Thread Cert.InDxRefIdeal.nD Cert.InDxRefIdeal.τ).loc Cert.InDxRefIdeal.main_arg1))) (m' ((c.tc : Thread Cert.InDxRefIdeal.nD Cert.InDxRefIdeal.τ).loc Cert.InDxRefIdeal.main_arg2)) (m' ((c.tc : Thread Cert.InDxRefIdeal.nD Cert.InDxRefIdeal.τ).loc Cert.InDxRefIdeal.main_arg3)) (m' ((c.tc : Thread Cert.InDxRefIdeal.nD Cert.InDxRefIdeal.τ).loc Cert.InDxRefIdeal.main_arg4)) from rfl).trans ?_
      rw [(hagree c).1, (hagree c).2.1, (hagree c).2.2.1, (hagree c).2.2.2.1, (hagree c).2.2.2.2]
      exact (reference_eq0 m c).trans (final5 m c).symm
    · exact (reference_eq1 m c).trans (final6 m c).symm

end Cert.Proof.InDx

end
-- ==== Proof.QkvDx.lean ====
module

public import proofs.«01_k».proof.Defs
public import proofs.«01_k».proof.Proof.Gen.QkvDx
public import proofs.«01_k».proof.Proof.Gen.QkvDxIdeal.Value
public import proofs.«01_k».proof.Proof.Gen.QkvDxRefIdeal.Run
public import proofs.«01_k».proof.Proof.RmsBwd
public import proofs.«01_k».proof.Proof.Sums
public import Idealize.ShloMosaic.Lib.Pipeline.ValueKit
public import Idealize.ShloMosaic.Lib.Ring
public import Idealize.ShloMosaic.Adequacy
public import Idealize.ShloMosaic.Init

/-! The gradient of the normalised stream under the projection to queries, keys and values, and of the normalisation's
    weights. The cotangent times the weights is one product over the columns of the three, taken in two parts of 768. -/

@[expose] public section

set_option maxRecDepth 16384

noncomputable section

namespace Cert.QkvDxIdeal.Prod

open Cert.QkvDxIdeal Cert.QkvDxIdeal.Gen
open Idealize.ShloMosaic Idealize.ShloMosaic.TcCoe Idealize.ShloMosaic.Tactic

/-! ### The body's arithmetic -/

theorem first_at (a : Vec Ideal S704x768 .bf16) (b : Vec Ideal S1024x768 .bf16) (i : Fin 704) (j : Fin 1024) : k0_pay1 a b (ix2 i j) = ∑ k : Fin 768, a (ix2 i k) * b (ix2 j k) := by
  pointwise [k0_pay1]

theorem next_at (acc : Vec Ideal S704x1024 .f32) (a : Vec Ideal S704x768 .bf16) (b : Vec Ideal S1024x768 .bf16) (i : Fin 704) (j : Fin 1024) :
    k0_pay2 acc a b (ix2 i j) = acc (ix2 i j) + ∑ k : Fin 768, a (ix2 i k) * b (ix2 j k) := by
  pointwise [k0_pay2]

theorem last_at (acc : Vec Ideal S704x1024 .f32) (a : Vec Ideal S704x768 .bf16) (b : Vec Ideal S1024x768 .bf16) (i : Fin 704) (j : Fin 1024) :
    k0_pay6 acc a b (ix2 i j) = acc (ix2 i j) + ∑ k : Fin 768, a (ix2 i k) * b (ix2 j k) := by
  pointwise [k0_pay6]

/-- The rows before the 112th are padding. -/
theorem mask_at (q : Fin 6) (i : Fin 704) :
    k0_pay9 (BitVec.ofNat 32 q.val) (ix2 i 0) = if 112 ≤ 704 * q.val + i.val then 1#1 else 0#1 := by
  pointwise [k0_pay9]
  revert q i
  decide +kernel

theorem scaled_at (h : Vec Ideal S704x1024 .f32) (i : Fin 704) (j : Fin 1024) :
    k0_pay8 h (ix2 i j) = h (ix2 i j) * Cert.Norm.scale (fun l => h (ix2 i l)) := by
  unfold Cert.Norm.scale Cert.Norm.spread
  pointwise [k0_pay8, k0_pay7]

theorem out_at (acc : Vec Ideal S704x1024 .f32) (a : Vec Ideal S704x768 .bf16) (b : Vec Ideal S1024x768 .bf16) (h r : Vec Ideal S704x1024 .f32) (w : Vec Ideal S1x1024 .f32) (q : Fin 6) (z : BitVec 32) (hz : z = BitVec.ofNat 32 q.val)
    (i : Fin 704) (j : Fin 1024) :
    k0_pay3 (k0_pay9 z) (k0_pay10 acc a b h r w) (ix2 i j)
      = if 112 ≤ 704 * q.val + i.val then
          r (ix2 i j) + Cert.Norm.dx (fun l => h (ix2 i l)) (fun l => k0_pay6 acc a b (ix2 i l) * w (ix2 0 l)) j
        else 0 := by
  have hm := mask_at q i
  rw [← hz] at hm
  by_cases h1 : 112 ≤ 704 * q.val + i.val
  · rw [if_pos h1] at hm ⊢
    unfold Cert.Norm.dx Cert.Norm.scale Cert.Norm.spread
    pointwise [k0_pay3, k0_pay10, k0_pay8, k0_pay7]
    rw [hm]
    exact if_pos rfl
  · rw [if_neg h1] at hm ⊢
    pointwise [k0_pay3, k0_pay10, k0_pay8, k0_pay7]
    rw [hm]
    exact if_neg (by decide)

theorem zero_at (j : Fin 1024) : (k0_pay4 : FVec Ideal S1x1024 .f32) (ix2 0 j) = 0 := by
  pointwise [k0_pay4]

theorem row_at (g x : FVec Ideal S704x1024 .f32) (p : Vec Ideal S1x1024 .f32) (j : Fin 1024) :
    k0_pay5 g x p (ix2 0 j) = p (ix2 0 j) + ∑ i : Fin 704, g (ix2 i j) * x (ix2 i j) := by
  pointwise [k0_pay5]

/-! ### What a point reads -/

variable (m : (ℓ : Loc nD τ sig) → Buf (Elt Ideal) ℓ) (c : Dev nD)

abbrev dqA : FVec Ideal S4224x1024 .f32 := m ((c.tc : Thread nD τ).loc main_arg0)
abbrev dkA : FVec Ideal S4224x256 .f32 := m ((c.tc : Thread nD τ).loc main_arg1)
abbrev dvA : FVec Ideal S4224x256 .f32 := m ((c.tc : Thread nD τ).loc main_arg2)
abbrev wqA : FVec Ideal S1024x1024 .f32 := m ((c.tc : Thread nD τ).loc main_arg3)
abbrev wkA : FVec Ideal S1024x256 .f32 := m ((c.tc : Thread nD τ).loc main_arg4)
abbrev wvA : FVec Ideal S1024x256 .f32 := m ((c.tc : Thread nD τ).loc main_arg5)
abbrev hA : FVec Ideal S4224x1024 .f32 := m ((c.tc : Thread nD τ).loc main_arg6)
abbrev nA : FVec Ideal S1024 .f32 := m ((c.tc : Thread nD τ).loc main_arg7)
abbrev rA : FVec Ideal S4224x1024 .f32 := m ((c.tc : Thread nD τ).loc main_arg8)

/-- The two factors, the columns of the three one after another. -/
def dA : FVec Ideal S4224x1536 .f32 :=
  concatenate S4224x1536 1 [⟨S4224x1024, dqA m c⟩, ⟨S4224x512, concatenate S4224x512 1 [⟨S4224x256, dkA m c⟩, ⟨S4224x256, dvA m c⟩] concatenates_S4224x256_S4224x256_S4224x512_d1⟩] concatenates_S4224x1024_S4224x512_S4224x1536_d1
def wA : FVec Ideal S1024x1536 .f32 :=
  concatenate S1024x1536 1 [⟨S1024x1024, wqA m c⟩, ⟨S1024x512, concatenate S1024x512 1 [⟨S1024x256, wkA m c⟩, ⟨S1024x256, wvA m c⟩] concatenates_S1024x256_S1024x256_S1024x512_d1⟩] concatenates_S1024x1024_S1024x512_S1024x1536_d1

/-- A column of a part among all columns. -/
def col (s : Fin 2) (k : Fin 768) : Fin 1536 := ⟨768 * s.val + k.val, by omega⟩

theorem V_d : (V m c main_v4 : FVec Ideal S4224x1536 .bf16) = dA m c := by
  entry_read
  rfl

theorem V_w : (V m c main_v5 : FVec Ideal S1024x1536 .bf16) = wA m c := by
  entry_read
  rfl

theorem V_h : V m c main_arg6 = hA m c := V_main_arg6 m c

theorem V_r : V m c main_arg8 = rA m c := V_main_arg8 m c

theorem V_n_at (j : Fin 1024) : (V m c main_v6 : FVec Ideal S1x1024 .f32) (ix2 0 j) = nA m c (ix1 j) := by
  have e : (V m c main_v6 : FVec Ideal S1x1024 .f32) = broadcastInDim S1x1024 ![1] bcast_S1024_S1x1024_1 (nA m c) := by
    entry_read
    rfl
  rw [e]
  pointwise

theorem lt_points (t : Fin cfg0.N) : t.val < 12 := lt_of_lt_of_eq t.isLt (show cfg0.N = 12 from N_0)

/-- The part a point takes, and its tile of rows. -/
def kk (t : Fin cfg0.N) : Fin 2 := ⟨t.val % 2, by omega⟩
def tile (t : Fin cfg0.N) : Fin 6 := ⟨t.val / 2, by have := lt_points t; omega⟩

/-- The block every window is at. -/
theorem idx : ∀ t : Fin cfg0.N, win0_0.index t = ![(tile t).val, (kk t).val] ∧ win0_1.index t = ![0, (kk t).val] ∧ win0_2.index t = ![(tile t).val, 0]
    ∧ win0_3.index t = ![(tile t).val, 0] ∧ win0_4.index t = ![0, 0] ∧ win0_5.index t = ![(tile t).val, 0] ∧ win0_6.index t = ![0, 0] := by
  decide +kernel

theorem coord : ∀ t : Fin cfg0.N, ((grid0.coords t) 0).val = (tile t).val := by decide +kernel

/-- The array's row of a tile's row `i`. -/
def row (q : Fin 6) (i : Fin 704) : Fin 4224 := ⟨704 * q.val + i.val, by omega⟩

theorem blk2 (t : Fin cfg0.N) (i : Fin 704) (j : Fin 1024) : iblk m c 2 t (ix2 i j) = hA m c (ix2 (row (tile t) i) j) := by
  rw [← V_h]
  unfold row
  blk_ext [iblk, idx t]

theorem blk3 (t : Fin cfg0.N) (i : Fin 704) (j : Fin 1024) : iblk m c 3 t (ix2 i j) = rA m c (ix2 (row (tile t) i) j) := by
  rw [← V_r]
  unfold row
  blk_ext [iblk, idx t]

theorem blk4 (t : Fin cfg0.N) (j : Fin 1024) : iblk m c 4 t (ix2 0 j) = nA m c (ix1 j) := by
  rw [← V_n_at]
  blk_ext [iblk, idx t]

theorem blk0 (t : Fin cfg0.N) (i : Fin 704) (k : Fin 768) :
    iblk m c 0 t (ix2 i k) = dA m c (ix2 (row (tile t) i) (col (kk t) k)) := by
  rw [← V_d]
  unfold row col
  blk_ext [iblk, idx t]

theorem blk1 (t : Fin cfg0.N) (j : Fin 1024) (k : Fin 768) :
    iblk m c 1 t (ix2 j k) = wA m c (ix2 j (col (kk t) k)) := by
  rw [← V_w]
  unfold col
  blk_ext [iblk, idx t]

/-! ### The cotangent times the weights, in parts -/

/-- What one part of the columns contributes to an entry. -/
def part (s : Fin 2) (I : Fin 4224) (J : Fin 1024) : EReal :=
  ∑ k : Fin 768, dA m c (ix2 I (col s k)) * wA m c (ix2 J (col s k))

/-- An entry of the cotangent times the weights. -/
def grad (I : Fin 4224) (J : Fin 1024) : EReal := ∑ k : Fin 1536, dA m c (ix2 I k) * wA m c (ix2 J k)

theorem grad_eq (I : Fin 4224) (J : Fin 1024) : part m c 0 I J + part m c 1 I J = grad m c I J := by
  unfold part grad
  exact Cert.Sums.two768 fun k => dA m c (ix2 I k) * wA m c (ix2 J k)

theorem part_eq (t : Fin cfg0.N) (i : Fin 704) (j : Fin 1024) :
    (∑ k : Fin 768, (show FVec Ideal S704x768 .bf16 from iblk m c 0 t) (ix2 i k) * (show FVec Ideal S1024x768 .bf16 from iblk m c 1 t) (ix2 j k))
      = part m c (kk t) (row (tile t) i) j :=
  Finset.sum_congr rfl fun k _ => congrArg₂ (· * ·) (blk0 m c t i k) (blk1 m c t j k)

theorem after_first (t : Fin cfg0.N) (h : t.val % 2 = 0) (i : Fin 704) (j : Fin 1024) :
    (outsAt0 m c t.val t.isLt).2.2 (ix2 i j) = part m c (kk t) (row (tile t) i) j := by
  rw [outsAt0_A m c t h (by omega) ]
  frame_out
  exact (first_at _ _ i j).trans (part_eq m c t i j)

theorem kept_first (t : Fin cfg0.N) (h : t.val % 2 = 0) : (outsAt0 m c t.val t.isLt).2.1 = (outsAt0 m c (t.val - 1) (Nat.lt_of_le_of_lt (Nat.sub_le _ _) t.isLt)).2.1 := by
  rw [outsAt0_A m c t h (by omega) ]
  rfl

theorem tile_eq (t u : Fin cfg0.N) (h : t.val / 2 = u.val / 2) : tile t = tile u := Fin.ext h
theorem kk_eq (t : Fin cfg0.N) (s : Fin 2) (h : t.val % 2 = s.val) : kk t = s := Fin.ext h

/-- At the last point of a run the whole contraction is formed. -/
theorem grad_of (t : Fin cfg0.N) (h : t.val % 2 = 1) (acc : Vec Ideal S704x1024 .f32) (ha : acc = (outsAt0 m c (t.val - 1) (Nat.lt_of_le_of_lt (Nat.sub_le _ _) t.isLt)).2.2) (i : Fin 704) (j : Fin 1024) :
    k0_pay6 acc (iblk m c 0 t) (iblk m c 1 t) (ix2 i j) = grad m c (row (tile t) i) j := by
  have l1 : t.val - 1 < cfg0.N := Nat.lt_of_le_of_lt (Nat.sub_le _ _) t.isLt
  have e1 := after_first m c ⟨t.val - 1, l1⟩ (by dsimp only; omega) i j
  rw [tile_eq _ t (by dsimp only; omega), kk_eq _ 0 (by show (t.val - 1) % 2 = 0; omega)] at e1
  refine (last_at _ _ _ i j).trans (Eq.trans ?_ (grad_eq m c _ j))
  refine congrArg₂ (· + ·) ((congrFun ha _).trans e1) ((part_eq m c t i j).trans ?_)
  rw [kk_eq t 1 h]

/-- The gradient of the stream, entry by entry: padding rows get zero. -/
def stream (I : Fin 4224) (J : Fin 1024) : EReal :=
  if 112 ≤ I.val then rA m c (ix2 I J) + Cert.Norm.dx (fun l => hA m c (ix2 I l)) (fun l => grad m c I l * nA m c (ix1 l)) J else 0

theorem stream_of (t : Fin cfg0.N) (h : t.val % 2 = 1) (acc : Vec Ideal S704x1024 .f32) (ha : acc = (outsAt0 m c (t.val - 1) (Nat.lt_of_le_of_lt (Nat.sub_le _ _) t.isLt)).2.2) (z : BitVec 32)
    (hz : z = BitVec.ofNat 32 ((grid0.coords t) 0).val) (i : Fin 704) (j : Fin 1024) :
    k0_pay3 (k0_pay9 z) (k0_pay10 acc (iblk m c 0 t) (iblk m c 1 t) (iblk m c 2 t) (iblk m c 3 t) (iblk m c 4 t)) (ix2 i j) = stream m c (row (tile t) i) j := by
  refine (out_at acc (iblk m c 0 t) (iblk m c 1 t) (iblk m c 2 t) (iblk m c 3 t) (iblk m c 4 t) (tile t) z (hz.trans (congrArg (BitVec.ofNat 32) (coord t))) i j).trans ?_
  unfold stream
  refine if_congr Iff.rfl (congrArg₂ (· + ·) (blk3 m c t i j) ?_) rfl
  refine congrArg₂ (fun x g => Cert.Norm.dx x g j) (funext fun l => blk2 m c t i l) (funext fun l => ?_)
  exact congrArg₂ (· * ·) (grad_of m c t h acc ha i l) (blk4 m c t l)

/-- What the last point of a run writes. -/
theorem written5 (t : Fin cfg0.N) (h : t.val % 2 = 1) (i : Fin 704) (j : Fin 1024) :
    (outsAt0 m c t.val t.isLt).1 (ix2 i j) = stream m c (row (tile t) i) j := by
  by_cases h3 : t.val < 2
  · rw [outsAt0_B m c t (by omega) h h3]
    frame_out
    exact stream_of m c t h _ (Memref.IsWhole.read_unread _ _) _ rfl i j
  · rw [outsAt0_C m c t (by omega) h h3]
    frame_out
    exact stream_of m c t h _ (Memref.IsWhole.read_unread _ _) _ rfl i j

/-! ### The gradient of the weights, tile by tile -/

/-- What row `n` contributes. -/
def weight (J : Fin 1024) (n : ℕ) : EReal :=
  if hn : n < 4224 then grad m c ⟨n, hn⟩ J * (hA m c (ix2 ⟨n, hn⟩ J) * Cert.Norm.scale (fun l => hA m c (ix2 ⟨n, hn⟩ l))) else 0

theorem tile_of (t : Fin cfg0.N) (h : t.val % 2 = 1) (acc : Vec Ideal S704x1024 .f32) (ha : acc = (outsAt0 m c (t.val - 1) (Nat.lt_of_le_of_lt (Nat.sub_le _ _) t.isLt)).2.2) (p : Vec Ideal S1x1024 .f32) (j : Fin 1024) :
    k0_pay5 (k0_pay6 acc (iblk m c 0 t) (iblk m c 1 t)) (k0_pay8 (iblk m c 2 t)) p (ix2 0 j)
      = p (ix2 0 j) + ∑ n ∈ Finset.range 704, weight m c j (704 * (t.val / 2) + n) := by
  refine (row_at _ _ p j).trans (congrArg (p (ix2 0 j) + ·) ?_)
  rw [Finset.sum_range]
  refine Finset.sum_congr rfl fun i _ => ?_
  have hn : 704 * (t.val / 2) + i.val < 4224 := by have := lt_points t; omega
  unfold weight
  rw [dif_pos hn]
  refine congrArg₂ (· * ·) (grad_of m c t h acc ha i j) ((scaled_at _ i j).trans ?_)
  exact congrArg₂ (fun a x => a * Cert.Norm.scale x) (blk2 m c t i j) (funext fun l => blk2 m c t i l)

theorem row_first (t : Fin cfg0.N) (h : t.val % 2 = 1) (h3 : t.val < 2) (j : Fin 1024) :
    (outsAt0 m c t.val t.isLt).2.1 (ix2 0 j) = ∑ n ∈ Finset.range 704, weight m c j (704 * (t.val / 2) + n) := by
  rw [outsAt0_B m c t (by omega) h h3]
  frame_out
  refine (tile_of m c t h _ (Memref.IsWhole.read_unread _ _) _ j).trans ?_
  exact (congrArg (· + _) (zero_at j)).trans (zero_add _)

theorem row_next (t : Fin cfg0.N) (h : t.val % 2 = 1) (h3 : ¬t.val < 2) (j : Fin 1024) :
    (outsAt0 m c t.val t.isLt).2.1 (ix2 0 j)
      = (outsAt0 m c (t.val - 1) (Nat.lt_of_le_of_lt (Nat.sub_le _ _) t.isLt)).2.1 (ix2 0 j) + ∑ n ∈ Finset.range 704, weight m c j (704 * (t.val / 2) + n) := by
  rw [outsAt0_C m c t (by omega) h h3]
  frame_out
  exact tile_of m c t h _ (Memref.IsWhole.read_unread _ _) _ j

/-- The row after a tile's last point: the rows of all tiles so far. -/
theorem rows : ∀ (q : ℕ) (n : ℕ) (hn : n < cfg0.N), n = 2 * q + 1 → ∀ j : Fin 1024,
    (outsAt0 m c n hn).2.1 (ix2 0 j) = ∑ n ∈ Finset.range (704 * (q + 1)), weight m c j n := by
  intro q
  induction q with
  | zero =>
    intro n hn e j
    refine (row_first m c ⟨n, hn⟩ (by dsimp only; omega) (by dsimp only; omega) j).trans ?_
    dsimp only
    rw [show n / 2 = 0 by omega]
    simp only [Nat.mul_zero, Nat.zero_add, Nat.mul_one]
  | succ q ih =>
    intro n hn e j
    refine (row_next m c ⟨n, hn⟩ (by dsimp only; omega) (by dsimp only; omega) j).trans ?_
    have hp := ih (n - 2) (by omega) (by omega) j
    dsimp only
    rw [show n / 2 = q + 1 by omega, Nat.mul_add 704 (q + 1) 1, Nat.mul_one, Finset.sum_range_add]
    refine congrArg (· + _) (Eq.trans ?_ hp)
    have k1 := congrFun (kept_first m c ⟨n - 1, by omega⟩ (by dsimp only; omega)) (ix2 0 j)
    dsimp only at k1
    refine k1.trans (?_)
    congr 1

theorem written6 (t : Fin cfg0.N) (h : t.val % 12 = 11) (j : Fin 1024) :
    (outsAt0 m c t.val t.isLt).2.1 (ix2 0 j) = ∑ n : Fin 4224, weight m c j n.val := by
  rw [rows m c 5 t.val t.isLt (by have := lt_points t; omega) j, Finset.sum_range]

/-- The results, entry by entry. -/
def result5 : FVec Ideal S4224x1024 .f32 := fun y => stream m c (y 0) (y 1)
def result6 : FVec Ideal S1x1024 .f32 := fun y => ∑ n : Fin 4224, weight m c (y 1) n.val

theorem final5 : (dats m 0 c).arrAt 5 (cfgs 0).N = result5 m c := by
  refine (dats m 0 c).arrAt_eq_of_covers 5 _ (by decide +kernel) fun t ht y => ?_
  blk_simp
  rw [after0_5]
  obtain ⟨i, j, rfl⟩ : ∃ (i : Fin 704) (j : Fin 1024), y = ix2 i j := ⟨y 0, y 1, by ext a; fin_cases a <;> rfl⟩
  refine (written5 m c t ((flush0_5 t).mp ht) i j).trans ?_
  refine (show _ = result5 m c (ix2 (row (tile t) i) j) from rfl).trans ?_
  unfold row
  blk_ext [idx t]

theorem final6 : (dats m 0 c).arrAt 6 (cfgs 0).N = result6 m c := by
  refine (dats m 0 c).arrAt_eq_of_covers 6 _ (by decide +kernel) fun t ht y => ?_
  blk_simp
  rw [after0_6]
  obtain ⟨i, j, rfl⟩ : ∃ (i : Fin 1) (j : Fin 1024), y = ix2 i j := ⟨y 0, y 1, by ext a; fin_cases a <;> rfl⟩
  obtain rfl : i = 0 := Subsingleton.elim _ _
  refine (written6 m c t ((flush0_6 t).mp ht) j).trans ?_
  refine (show _ = result6 m c (ix2 0 j) from rfl).trans ?_
  blk_ext [idx t]

end Cert.QkvDxIdeal.Prod

namespace Cert.QkvDxRefIdeal.Prod

open Cert.QkvDxRefIdeal Cert.QkvDxRefIdeal.Gen
open Idealize.ShloMosaic Idealize.ShloMosaic.TcCoe Idealize.ShloMosaic.Tactic

/-- The factor of a row in the second part of the gradient, over the cotangent times the weights, the stream and the
    normalisation's weights. -/
def factor (g h : FVec Ideal S4224x1024 .f32) (n : FVec Ideal S1024 .f32) : FVec Ideal S4224x1024 .f32 :=
  broadcastInDim S4224x1024 ![0] bcast_S4224_S4224x1024_0 (Host.reduceAdd (Host.divf (mulf (shapeCast _ (Host.reduceAdd (mulf h (mulf g (broadcastInDim S4224x1024 ![0, 1] bcast_S1x1024_S4224x1024_0_1 (broadcastInDim S1x1024 ![1] bcast_S1024_S1x1024_1 n)))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)

/-- The gradient of the stream before its padding rows are cleared. -/
def body (g h : FVec Ideal S4224x1024 .f32) (n : FVec Ideal S1024 .f32) (r : FVec Ideal S4224x1024 .f32) : FVec Ideal S4224x1024 .f32 :=
  addf (addf (addf r (mulf (mulf g (broadcastInDim S4224x1024 ![0, 1] bcast_S1x1024_S4224x1024_0_1 (broadcastInDim S1x1024 ![1] bcast_S1024_S1x1024_1 n))) (broadcastInDim S4224x1024 ![0, 1] bcast_S4224x1_S4224x1024_0_1 (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))))))) (mulf h (factor g h n))) (mulf (factor g h n) h)

def line0 (g h : FVec Ideal S4224x1024 .f32) (n : FVec Ideal S1024 .f32) (r : FVec Ideal S4224x1024 .f32) : FVec Ideal S4224x1024 .f32 :=
  concatenate S4224x1024 0 [⟨S112x1024, (broadcastInDim S112x1024 ![] bcast_S_S112x1024 (constant S_ .f32 0x00000000#32))⟩, ⟨S4112x1024, (extractStridedSlice S4112x1024 ![112, 0] (body g h n r) slices_S4224x1024_S4112x1024_112_0)⟩] concatenates_S112x1024_S4112x1024_S4224x1024_d0

/-- The gradient of the normalisation's weights. -/
def line1 (g h : FVec Ideal S4224x1024 .f32) : FVec Ideal S1x1024 .f32 :=
  broadcastInDim S1x1024 ![1] bcast_S1024_S1x1024_1 (Host.reduceAdd (shapeCast _ (Host.reduceAdd (mulf (mulf h (broadcastInDim S4224x1024 ![0, 1] bcast_S4224x1_S4224x1024_0_1 (Host.rsqrt (addf (Host.divf (broadcastInDim S4224x1 ![0] bcast_S4224_S4224x1_0 (Host.reduceAdd (mulf h h) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) g) (constant S_ .f32 0x00000000#32) reducesTo_S4224x1024_S1024_d0 h_S_) shapeCasts_S1024_S1x1024) (constant S_ .f32 0x00000000#32) reducesTo_S1x1024_S1024_d0 h_S_)

theorem factor_at (g h : FVec Ideal S4224x1024 .f32) (n : FVec Ideal S1024 .f32) (i : Fin 4224) (j : Fin 1024) :
    factor g h n (ix2 i j) = Cert.Norm.factor (fun l => h (ix2 i l)) (fun l => g (ix2 i l) * n (ix1 l)) := by
  unfold Cert.Norm.factor Cert.Norm.scale Cert.Norm.spread
  pointwise [factor]
  exact Fin.sum_univ_one _

theorem body_at (g h : FVec Ideal S4224x1024 .f32) (n : FVec Ideal S1024 .f32) (r : FVec Ideal S4224x1024 .f32) (i : Fin 4224) (j : Fin 1024) :
    body g h n r (ix2 i j) = r (ix2 i j) + Cert.Norm.dx (fun l => h (ix2 i l)) (fun l => g (ix2 i l) * n (ix1 l)) j := by
  refine Eq.trans ?_ (Cert.Norm.dx_eq _ _ _ _)
  rw [← factor_at g h n i j]
  unfold Cert.Norm.scale Cert.Norm.spread
  pointwise [body]

theorem line0_at (g h : FVec Ideal S4224x1024 .f32) (n : FVec Ideal S1024 .f32) (r : FVec Ideal S4224x1024 .f32) (i : Fin 4224) (j : Fin 1024) :
    line0 g h n r (ix2 i j) = if 112 ≤ i.val then body g h n r (ix2 i j) else 0 := by
  pointwise [line0]
  by_cases hi : i.val < 112
  · exact (dif_pos hi).trans (if_neg (by omega)).symm
  · refine (dif_neg hi).trans (Eq.trans ?_ (if_pos (by omega)).symm)
    refine congrArg (body g h n r) (congrArg (fun a => ix2 a j) (Fin.ext ?_))
    dsimp only <;> omega

theorem line1_at (g h : FVec Ideal S4224x1024 .f32) (j : Fin 1024) :
    line1 g h (ix2 0 j) = ∑ i : Fin 4224, g (ix2 i j) * (h (ix2 i j) * Cert.Norm.scale (fun l => h (ix2 i l))) := by
  refine Eq.trans ?_ (Finset.sum_congr rfl fun i _ => mul_comm _ _)
  unfold Cert.Norm.scale Cert.Norm.spread
  pointwise [line1]
  exact Fin.sum_univ_one _

end Cert.QkvDxRefIdeal.Prod

namespace Cert.QkvDxIdeal.Prod

open Cert.QkvDxIdeal Cert.QkvDxIdeal.Gen
open Idealize.ShloMosaic Idealize.ShloMosaic.TcCoe Idealize.ShloMosaic.Tactic

variable (m : (ℓ : Loc nD τ sig) → Buf (Elt Ideal) ℓ) (c : Dev nD)

/-- The reference's product of the cotangent with the weights. -/
def refGrad : FVec Ideal S4224x1024 .f32 := addf (addf (Host.dotGeneral Cert.QkvDxRefIdeal.dot_S4224x256_S1024x256_S4224x1024_1_1_0_0_n_n none (dvA m c) (wvA m c)) (Host.dotGeneral Cert.QkvDxRefIdeal.dot_S4224x256_S1024x256_S4224x1024_1_1_0_0_n_n none (dkA m c) (wkA m c))) (Host.dotGeneral Cert.QkvDxRefIdeal.dot_S4224x1024_S1024x1024_S4224x1024_1_1_0_0_n_n none (dqA m c) (wqA m c))

theorem refGrad_at (i : Fin 4224) (j : Fin 1024) : refGrad m c (ix2 i j) = grad m c i j := by
  unfold refGrad grad dA wA
  pointwise
  refine Eq.trans ?_ (Cert.Sums.concat _).symm
  refine Eq.trans (add_comm _ _) (congrArg₂ (· + ·) (Finset.sum_congr rfl fun k _ => ?_) ((add_comm _ _).trans
    (congrArg₂ (· + ·) (Finset.sum_congr rfl fun k _ => ?_) (Finset.sum_congr rfl fun k _ => ?_))))
  · have hk : k.val < 1024 := k.isLt
    simp only [hk, dif_pos]
  · have hk : ¬1024 + k.val < 1024 := by omega
    have hk' : 1024 + k.val - 1024 < 256 := by omega
    simp only [hk, hk', dif_pos, dif_neg, not_false_eq_true]
    have e : (⟨1024 + k.val - 1024, hk'⟩ : Fin 256) = k := Fin.ext (by dsimp only; omega)
    rw [e]
  · have hk : ¬1280 + k.val < 1024 := by omega
    have hk' : ¬1280 + k.val - 1024 < 256 := by omega
    simp only [hk, hk', dif_neg, not_false_eq_true]
    have e : (⟨1280 + k.val - 1024 - 256, by omega⟩ : Fin 256) = k := Fin.ext (by dsimp only; omega)
    rw [e]

theorem reference_eq0 : Cert.QkvDxRefIdeal.Prod.line0 (refGrad m c) (hA m c) (nA m c) (rA m c) = result5 m c := by
  funext y
  obtain ⟨i, j, rfl⟩ : ∃ (i : Fin 4224) (j : Fin 1024), y = ix2 i j := ⟨y 0, y 1, by ext a; fin_cases a <;> rfl⟩
  refine (Cert.QkvDxRefIdeal.Prod.line0_at _ _ _ _ i j).trans (if_congr Iff.rfl ((Cert.QkvDxRefIdeal.Prod.body_at _ _ _ _ i j).trans ?_) rfl)
  exact congrArg (fun g => rA m c (ix2 i j) + Cert.Norm.dx (fun l => hA m c (ix2 i l)) g j) (funext fun l => congrArg (· * nA m c (ix1 l)) (refGrad_at m c i l))

theorem reference_eq1 : Cert.QkvDxRefIdeal.Prod.line1 (refGrad m c) (hA m c) = result6 m c := by
  funext y
  obtain ⟨i, j, rfl⟩ : ∃ (i : Fin 1) (j : Fin 1024), y = ix2 i j := ⟨y 0, y 1, by ext a; fin_cases a <;> rfl⟩
  obtain rfl : i = 0 := Subsingleton.elim _ _
  refine (Cert.QkvDxRefIdeal.Prod.line1_at _ _ j).trans (Finset.sum_congr rfl fun i _ => ?_)
  refine (congrArg (· * _) (refGrad_at m c i j)).trans ?_
  show _ = weight m c j i.val
  unfold weight
  rw [dif_pos i.isLt]

end Cert.QkvDxIdeal.Prod

namespace Cert.Proof.QkvDx

open Idealize.ShloMosaic Idealize.ShloMosaic.TcCoe Idealize.SL.Sem
open Idealize.ShloMosaic.Tactic
open Cert.QkvDxIdeal.Prod

theorem quiescent_kernelIdeal : Cert.quiescent_QkvDxIdeal := fun m ρ _ => Cert.QkvDxIdeal.Gen.frame (F := Ideal) m ρ

/-- What the frame says of a run of the ideal printing, at any reading of the floats. -/
def Framed (F : FTy → Type) [FloatOps F] : Prop :=
  ∀ (m : (ℓ : Loc Cert.QkvDxIdeal.nD Cert.QkvDxIdeal.τ Cert.QkvDxIdeal.sig) → Buf (Elt F) ℓ) (ρ : Dev Cert.QkvDxIdeal.nD → PrngReg), True →
    θ_run (Cert.QkvDxIdeal.defs (F := F)) (onTc (τ := Cert.QkvDxIdeal.τ) (Cert.QkvDxIdeal.main (F := F))) ⟨m, fun _ => 0, ρ⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
      ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
      ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4)
      ∧ r.2.mem ((c.tc : Thread Cert.QkvDxIdeal.nD Cert.QkvDxIdeal.τ).loc Cert.QkvDxIdeal.main_arg5) = m ((c.tc : Thread Cert.QkvDxIdeal.nD Cert.QkvDxIdeal.τ).loc Cert.QkvDxIdeal.main_arg5)
      ∧ r.2.mem ((c.tc : Thread Cert.QkvDxIdeal.nD Cert.QkvDxIdeal.τ).loc Cert.QkvDxIdeal.main_arg6) = m ((c.tc : Thread Cert.QkvDxIdeal.nD Cert.QkvDxIdeal.τ).loc Cert.QkvDxIdeal.main_arg6)
      ∧ r.2.mem ((c.tc : Thread Cert.QkvDxIdeal.nD Cert.QkvDxIdeal.τ).loc Cert.QkvDxIdeal.main_arg7) = m ((c.tc : Thread Cert.QkvDxIdeal.nD Cert.QkvDxIdeal.τ).loc Cert.QkvDxIdeal.main_arg7)
      ∧ r.2.mem ((c.tc : Thread Cert.QkvDxIdeal.nD Cert.QkvDxIdeal.τ).loc Cert.QkvDxIdeal.main_arg8) = m ((c.tc : Thread Cert.QkvDxIdeal.nD Cert.QkvDxIdeal.τ).loc Cert.QkvDxIdeal.main_arg8))
      ∧ r.2.sem = fun _ => 0)

theorem framed (F : FTy → Type) [FloatOps F] : Framed F := fun m ρ _ => Cert.QkvDxIdeal.Gen.frame m ρ

/-- The two printings are one program, line for line. -/
theorem kernel_framed : Cert.quiescent_QkvDx = Framed Bits := by sl_kernel_rfl

theorem quiescent_kernel : Cert.quiescent_QkvDx := kernel_framed.mpr (framed Bits)

theorem quiescent_reference : Cert.quiescent_QkvDxRefIdeal := fun m ρ _ =>
  (θ_run Cert.QkvDxRefIdeal.defs _ _).mono (fun r h => ⟨fun c => (h c).2.2, sem_eq_zero_of_no_sems (by decide) r.2⟩)
    (Cert.QkvDxRefIdeal.Value.run (F := Ideal) m ρ)

/-- The results are the reference's. -/
theorem equation : Cert.algebraic_QkvDxIdeal_QkvDxRefIdeal := by
  pair_intro
  · run_from Cert.QkvDxIdeal.Gen.run_main m g
    all_goals first | exact Cert.QkvDxIdeal.Gen.V_main_arg0 m c | exact Cert.QkvDxIdeal.Gen.V_main_arg1 m c | exact Cert.QkvDxIdeal.Gen.V_main_arg2 m c | exact Cert.QkvDxIdeal.Gen.V_main_arg3 m c | exact Cert.QkvDxIdeal.Gen.V_main_arg4 m c | exact Cert.QkvDxIdeal.Gen.V_main_arg5 m c | exact Cert.QkvDxIdeal.Gen.V_main_arg6 m c | exact Cert.QkvDxIdeal.Gen.V_main_arg7 m c | exact Cert.QkvDxIdeal.Gen.V_main_arg8 m c
  · run_from Cert.QkvDxRefIdeal.Value.run m' g'
    · refine (show _ = Cert.QkvDxRefIdeal.Prod.line0 (addf (addf (Host.dotGeneral Cert.QkvDxRefIdeal.dot_S4224x256_S1024x256_S4224x1024_1_1_0_0_n_n none (m' ((c.tc : Thread Cert.QkvDxRefIdeal.nD Cert.QkvDxRefIdeal.τ).loc Cert.QkvDxRefIdeal.main_arg2)) (m' ((c.tc : Thread Cert.QkvDxRefIdeal.nD Cert.QkvDxRefIdeal.τ).loc Cert.QkvDxRefIdeal.main_arg5))) (Host.dotGeneral Cert.QkvDxRefIdeal.dot_S4224x256_S1024x256_S4224x1024_1_1_0_0_n_n none (m' ((c.tc : Thread Cert.QkvDxRefIdeal.nD Cert.QkvDxRefIdeal.τ).loc Cert.QkvDxRefIdeal.main_arg1)) (m' ((c.tc : Thread Cert.QkvDxRefIdeal.nD Cert.QkvDxRefIdeal.τ).loc Cert.QkvDxRefIdeal.main_arg4)))) (Host.dotGeneral Cert.QkvDxRefIdeal.dot_S4224x1024_S1024x1024_S4224x1024_1_1_0_0_n_n none (m' ((c.tc : Thread Cert.QkvDxRefIdeal.nD Cert.QkvDxRefIdeal.τ).loc Cert.QkvDxRefIdeal.main_arg0)) (m' ((c.tc : Thread Cert.QkvDxRefIdeal.nD Cert.QkvDxRefIdeal.τ).loc Cert.QkvDxRefIdeal.main_arg3)))) (m' ((c.tc : Thread Cert.QkvDxRefIdeal.nD Cert.QkvDxRefIdeal.τ).loc Cert.QkvDxRefIdeal.main_arg6)) (m' ((c.tc : Thread Cert.QkvDxRefIdeal.nD Cert.QkvDxRefIdeal.τ).loc Cert.QkvDxRefIdeal.main_arg7)) (m' ((c.tc : Thread Cert.QkvDxRefIdeal.nD Cert.QkvDxRefIdeal.τ).loc Cert.QkvDxRefIdeal.main_arg8)) from rfl).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (reference_eq0 m c).trans (final5 m c).symm
    · exact (reference_eq1 m c).trans (final6 m c).symm

end Cert.Proof.QkvDx

end
-- ==== Proof.Loss.lean ====
module

public import proofs.«01_k».proof.Defs
public import proofs.«01_k».proof.Proof.Gen.Loss
public import proofs.«01_k».proof.Proof.Gen.LossIdeal.Value
public import proofs.«01_k».proof.Proof.Gen.LossRefIdeal.Run
public import proofs.«01_k».proof.Proof.RmsBwd
public import proofs.«01_k».proof.Proof.Sums
public import Idealize.ShloMosaic.Lib.Pipeline.ValueKit
public import Idealize.ShloMosaic.Lib.Ring
public import Idealize.ShloMosaic.Adequacy
public import Idealize.ShloMosaic.Init

/-! The last down projection added to the residual stream, the loss against the target, and the loss's gradient. The
    projection is one product over the hidden columns, taken in two parts of 1408; the loss accumulates over the tiles. -/

@[expose] public section

set_option maxRecDepth 16384

noncomputable section

namespace Cert.LossIdeal.Prod

open Cert.LossIdeal Cert.LossIdeal.Gen
open Idealize.ShloMosaic Idealize.ShloMosaic.TcCoe Idealize.ShloMosaic.Tactic

/-! ### The body's arithmetic -/

theorem first_at (a : Vec Ideal S704x1408 .bf16) (b : Vec Ideal S1408x1024 .bf16) (i : Fin 704) (j : Fin 1024) : k0_pay1 a b (ix2 i j) = ∑ k : Fin 1408, a (ix2 i k) * b (ix2 k j) := by
  pointwise [k0_pay1]

/-- The target's rows as a tile uses them: in the first tile the window starts at the target's first row, which is the
    tile's row 128. -/
def shifted (q : Fin 6) (x : FVec Ideal S704x1024 .f32) (i : Fin 704) (j : Fin 1024) : EReal :=
  if q.val = 0 then x (ix2 ⟨(i.val + 576) % 704, by omega⟩ j) else x (ix2 i j)

/-- The rows before the 128th carry no loss. -/
theorem mask_at (q : Fin 6) (i : Fin 704) :
    IntOp.cmpi .sge (IntOp.addi (Scalar.muli (BitVec.ofNat 32 q.val) 704#32) (BitVec.ofNat 32 i.val)) 128#32
      = if 128 ≤ 704 * q.val + i.val then 1#1 else 0#1 := by
  revert q i
  decide +kernel

theorem first_tile (q : Fin 6) : Scalar.cmpi .eq (Scalar.muli (BitVec.ofNat 32 q.val) 704#32) 0#32 = if q.val = 0 then 1#1 else 0#1 := by
  revert q
  decide +kernel

/-- The difference to the target, zero before row 128. -/
theorem diff_at (q : Fin 6) (z : BitVec 32) (hz : z = BitVec.ofNat 32 q.val) (acc : Vec Ideal S704x1024 .f32) (a : Vec Ideal S704x1408 .bf16) (b : Vec Ideal S1408x1024 .bf16) (h x : Vec Ideal S704x1024 .f32) (i : Fin 704) (j : Fin 1024) :
    k0_pay5 z acc a b h x (ix2 i j)
      = if 128 ≤ 704 * q.val + i.val then acc (ix2 i j) + (∑ k : Fin 1408, a (ix2 i k) * b (ix2 k j)) + h (ix2 i j) - shifted q x i j else 0 := by
  subst hz
  have hm := mask_at q i
  have hf := first_tile q
  pointwise [k0_pay5]
  rw [hm, hf]
  by_cases h1 : 128 ≤ 704 * q.val + i.val
  · rw [if_pos h1, if_pos h1]
    refine (show Scalar.select 1#1 _ _ = _ from if_pos rfl).trans (congrArg₂ (· - ·) rfl ?_)
    unfold shifted
    by_cases h2 : q.val = 0
    · rw [if_pos h2, if_pos h2]
      refine (show Scalar.select 1#1 _ _ = _ from if_pos rfl).trans ?_
      by_cases h3 : i.val < 128
      · exact (dif_pos h3).trans (congrArg (fun r => x (ix2 r j)) (Fin.ext (by show 576 + i.val = (i.val + 576) % 704; omega)))
      · exact (dif_neg h3).trans (congrArg (fun r => x (ix2 r j)) (Fin.ext (by show i.val - 128 = (i.val + 576) % 704; omega)))
    · rw [if_neg h2, if_neg h2]
      exact (show Scalar.select 0#1 _ _ = _ from if_neg (by decide))
  · rw [if_neg h1, if_neg h1]
    exact (show Scalar.select 0#1 _ _ = _ from if_neg (by decide))

theorem grad_at (z : BitVec 32) (acc : Vec Ideal S704x1024 .f32) (a : Vec Ideal S704x1408 .bf16) (b : Vec Ideal S1408x1024 .bf16) (h x : Vec Ideal S704x1024 .f32) (i : Fin 704) (j : Fin 1024) :
    k0_pay6 z acc a b h x (ix2 i j) = k0_pay5 z acc a b h x (ix2 i j) * Ideal.ofBits .f32 0x3A800000#32 := by
  pointwise [k0_pay6]

theorem tile_at (z : BitVec 32) (acc : Vec Ideal S704x1024 .f32) (a : Vec Ideal S704x1408 .bf16) (b : Vec Ideal S1408x1024 .bf16) (h x : Vec Ideal S704x1024 .f32) (l : Fin 128) (p : Vec Ideal S1x128 .f32) :
    k0_pay4 (k0_pay7 z acc a b h x) p (ix2 0 l)
      = p (ix2 0 l) + (∑ i : Fin 704, ∑ j : Fin 1024, k0_pay5 z acc a b h x (ix2 i j) * k0_pay5 z acc a b h x (ix2 i j)) * Ideal.ofBits .f32 0x3A000000#32 := by
  pointwise [k0_pay4, k0_pay7]

theorem zero_at (l : Fin 128) : (k0_pay3 : FVec Ideal S1x128 .f32) (ix2 0 l) = 0 := by
  pointwise [k0_pay3]

variable (m : (ℓ : Loc nD τ sig) → Buf (Elt Ideal) ℓ) (c : Dev nD)

abbrev aA : FVec Ideal S4224x2816 .f32 := m ((c.tc : Thread nD τ).loc main_arg0)
abbrev bA : FVec Ideal S2816x1024 .f32 := m ((c.tc : Thread nD τ).loc main_arg1)
abbrev hA : FVec Ideal S4224x1024 .f32 := m ((c.tc : Thread nD τ).loc main_arg2)
abbrev yA : FVec Ideal S4096x1024 .f32 := m ((c.tc : Thread nD τ).loc main_arg3)

/-- The block every window is at; of the target it is the window's first row. -/
theorem idx : ∀ t : Fin cfg0.N, win0_0.index t = ![t.val / 2, t.val % 2] ∧ win0_1.index t = ![t.val % 2, 0] ∧ win0_2.index t = ![t.val / 2, 0]
    ∧ win0_3.index t = ![704 * (t.val / 2) - 128, 0] ∧ win0_4.index t = ![t.val / 2, 0] ∧ win0_5.index t = ![0, 0] := by
  decide +kernel

theorem lt_points (t : Fin cfg0.N) : t.val < 12 := lt_of_lt_of_eq t.isLt (show cfg0.N = 12 from N_0)

def tile (t : Fin cfg0.N) : Fin 6 := ⟨t.val / 2, by have := lt_points t; omega⟩

theorem coord : ∀ t : Fin cfg0.N, ((grid0.coords t) 0).val = (tile t).val := by decide +kernel

theorem V_a : (V m c main_v0 : FVec Ideal S4224x2816 .bf16) = aA m c := by
  entry_read
  rfl

theorem V_b : (V m c main_v1 : FVec Ideal S2816x1024 .bf16) = bA m c := by
  entry_read
  rfl

theorem V_h : V m c main_arg2 = hA m c := V_main_arg2 m c

theorem V_y : V m c main_arg3 = yA m c := V_main_arg3 m c

/-- The array's row of row `i` at point `t`. -/
def row (t : Fin cfg0.N) (i : Fin 704) : Fin 4224 := ⟨704 * (t.val / 2) + i.val, by have := lt_points t; omega⟩

theorem blk0 (t : Fin cfg0.N) (i : Fin 704) (k : Fin 1408) :
    iblk m c 0 t (ix2 i k) = aA m c (ix2 (row t i) ⟨1408 * (t.val % 2) + k.val, by omega⟩) := by
  rw [← V_a]
  unfold row
  blk_ext [iblk, idx t]

theorem blk1 (t : Fin cfg0.N) (k : Fin 1408) (j : Fin 1024) :
    iblk m c 1 t (ix2 k j) = bA m c (ix2 ⟨1408 * (t.val % 2) + k.val, by omega⟩ j) := by
  rw [← V_b]
  blk_ext [iblk, idx t]

theorem blk2 (t : Fin cfg0.N) (i : Fin 704) (j : Fin 1024) : iblk m c 2 t (ix2 i j) = hA m c (ix2 (row t i) j) := by
  rw [← V_h]
  unfold row
  blk_ext [iblk, idx t]

theorem blk3 (t : Fin cfg0.N) (i : Fin 704) (j : Fin 1024) :
    iblk m c 3 t (ix2 i j) = yA m c (ix2 ⟨704 * (t.val / 2) - 128 + i.val, by have := lt_points t; omega⟩ j) := by
  rw [← V_y]
  have e := (idx t).2.2.2.1
  blk_ext [iblk, idx t]
  · refine Eq.trans (b := win0_3.index t 0 + i.val) ?_ ?_
    · first
        | rfl
        | (show win0_3.index t 0 + 1 * i.val = _; omega)
        | (show win0_3.index t 0 + i.val * 1 = _; omega)
    · rw [e]
      rfl
  · refine Eq.trans (b := win0_3.index t 1 + j.val) ?_ ?_
    · first
        | rfl
        | (show win0_3.index t 1 + 1 * j.val = _; omega)
        | (show win0_3.index t 1 + j.val * 1 = _; omega)
    · rw [e]
      exact Nat.zero_add _

/-- The target's row of a row that carries loss. -/
theorem shifted_at (t : Fin cfg0.N) (i : Fin 704) (j : Fin 1024) (hi : 128 ≤ (row t i).val) :
    shifted (tile t) (iblk m c 3 t) i j = yA m c (ix2 ⟨(row t i).val - 128, by have := (row t i).isLt; omega⟩ j) := by
  have hi' : 128 ≤ 704 * (t.val / 2) + i.val := hi
  unfold shifted
  by_cases h : (tile t).val = 0
  · have h' : t.val / 2 = 0 := h
    rw [if_pos h]
    refine (blk3 m c t _ j).trans (congrArg (fun r => yA m c (ix2 r j)) (Fin.ext ?_))
    show 704 * (t.val / 2) - 128 + (i.val + 576) % 704 = 704 * (t.val / 2) + i.val - 128
    omega
  · have h' : ¬t.val / 2 = 0 := h
    rw [if_neg h]
    refine (blk3 m c t _ j).trans (congrArg (fun r => yA m c (ix2 r j)) (Fin.ext ?_))
    show 704 * (t.val / 2) - 128 + i.val = 704 * (t.val / 2) + i.val - 128
    omega

/-- The stream after the projection, entry by entry. -/
def stream (I : Fin 4224) (J : Fin 1024) : EReal :=
  (∑ k : Fin 2816, aA m c (ix2 I k) * bA m c (ix2 k J)) + hA m c (ix2 I J)

/-- The difference to the target of an entry that carries loss, and zero of the others. -/
def diff (I : Fin 4224) (J : Fin 1024) : EReal :=
  if h : 128 ≤ I.val then stream m c I J - yA m c (ix2 ⟨I.val - 128, by omega⟩ J) else 0

/-- What one part of the hidden columns contributes to an entry. -/
def part (s : ℕ) (hs : s < 2) (I : Fin 4224) (J : Fin 1024) : EReal :=
  ∑ k : Fin 1408, aA m c (ix2 I ⟨1408 * s + k.val, by omega⟩) * bA m c (ix2 ⟨1408 * s + k.val, by omega⟩ J)

theorem part_eq (t : Fin cfg0.N) (i : Fin 704) (j : Fin 1024) :
    (∑ k : Fin 1408, (show FVec Ideal S704x1408 .bf16 from iblk m c 0 t) (ix2 i k) * (show FVec Ideal S1408x1024 .bf16 from iblk m c 1 t) (ix2 k j))
      = part m c (t.val % 2) (by omega) (row t i) j :=
  Finset.sum_congr rfl fun k _ => congrArg₂ (· * ·) (blk0 m c t i k) (blk1 m c t k j)

theorem after_first (t : Fin cfg0.N) (h : t.val % 2 = 0) (i : Fin 704) (j : Fin 1024) :
    (outsAt0 m c t.val t.isLt).2.2 (ix2 i j) = part m c 0 (by omega) (row t i) j := by
  rw [outsAt0_A m c t h (by omega)]
  frame_out
  refine (first_at _ _ i j).trans ((part_eq m c t i j).trans ?_)
  congr 1

theorem kept_first (t : Fin cfg0.N) (h : t.val % 2 = 0) : (outsAt0 m c t.val t.isLt).2.1 = (outsAt0 m c (t.val - 1) (Nat.lt_of_le_of_lt (Nat.sub_le _ _) t.isLt)).2.1 := by
  rw [outsAt0_A m c t h (by omega)]
  rfl

theorem row_eq (t u : Fin cfg0.N) (h : t.val / 2 = u.val / 2) (i : Fin 704) : row t i = row u i :=
  Fin.ext (by unfold row; dsimp only <;> omega)

theorem diff_of (t : Fin cfg0.N) (h : t.val % 2 = 1) (acc : Vec Ideal S704x1024 .f32)
    (ha : acc = (outsAt0 m c (t.val - 1) (Nat.lt_of_le_of_lt (Nat.sub_le _ _) t.isLt)).2.2) (z : BitVec 32) (hz : z = BitVec.ofNat 32 ((grid0.coords t) 0).val) (i : Fin 704) (j : Fin 1024) :
    k0_pay5 z acc (iblk m c 0 t) (iblk m c 1 t) (iblk m c 2 t) (iblk m c 3 t) (ix2 i j) = diff m c (row t i) j := by
  have h1 : t.val - 1 < cfg0.N := Nat.lt_of_le_of_lt (Nat.sub_le _ _) t.isLt
  have e1 := after_first m c ⟨t.val - 1, h1⟩ (by dsimp only; omega) i j
  rw [row_eq _ t (by dsimp only; omega)] at e1
  refine (diff_at (tile t) z (hz.trans (congrArg (BitVec.ofNat 32) (coord t))) acc (iblk m c 0 t) (iblk m c 1 t) (iblk m c 2 t) (iblk m c 3 t) i j).trans ?_
  unfold diff
  by_cases hr : 128 ≤ (row t i).val
  · rw [dif_pos hr]
    refine (if_pos hr).trans (congrArg₂ (· - ·) ?_ (shifted_at m c t i j hr))
    unfold stream
    refine congrArg₂ (· + ·) (Eq.trans ?_ (Cert.Sums.two _)) (blk2 m c t i j)
    refine congrArg₂ (· + ·) ((congrFun ha _).trans (e1.trans ?_)) ((part_eq m c t i j).trans ?_)
    · unfold part
      simp only [Nat.mul_zero, Nat.zero_add]
    · unfold part
      simp only [h, Nat.mul_one]
  · rw [dif_neg hr]
    exact if_neg hr

/-- What the second point of a run writes. -/
theorem written4 (t : Fin cfg0.N) (h : t.val % 2 = 1) (i : Fin 704) (j : Fin 1024) :
    (outsAt0 m c t.val t.isLt).1 (ix2 i j) = diff m c (row t i) j * Ideal.ofBits .f32 0x3A800000#32 := by
  by_cases h3 : t.val < 2
  · rw [outsAt0_B m c t (by omega) h h3]
    frame_out
    exact (grad_at _ _ _ _ _ _ i j).trans (congrArg (· * _) (diff_of m c t h _ (Memref.IsWhole.read_unread _ _) _ rfl i j))
  · rw [outsAt0_C m c t (by omega) h h3]
    frame_out
    exact (grad_at _ _ _ _ _ _ i j).trans (congrArg (· * _) (diff_of m c t h _ (Memref.IsWhole.read_unread _ _) _ rfl i j))

/-! ### The loss, tile by tile -/

/-- A constant that multiplies each tile's sum. -/
theorem ofBits_half : Ideal.ofBits .f32 0x3A000000#32 = ((1 / 2048 : ℝ) : EReal) := by
  simp [Ideal.ofBits, Ideal.ieee, -EReal.coe_mul]; norm_num

/-- What row `n` contributes. -/
def term (n : ℕ) : EReal :=
  if hn : n < 4224 then ((1 / 2048 : ℝ) : EReal) * ∑ J : Fin 1024, diff m c ⟨n, hn⟩ J * diff m c ⟨n, hn⟩ J else 0

theorem tile_of (t : Fin cfg0.N) (h : t.val % 2 = 1) (acc : Vec Ideal S704x1024 .f32) (ha : acc = (outsAt0 m c (t.val - 1) (Nat.lt_of_le_of_lt (Nat.sub_le _ _) t.isLt)).2.2)
    (z : BitVec 32) (hz : z = BitVec.ofNat 32 ((grid0.coords t) 0).val) (p : Vec Ideal S1x128 .f32) (l : Fin 128) :
    k0_pay4 (k0_pay7 z acc (iblk m c 0 t) (iblk m c 1 t) (iblk m c 2 t) (iblk m c 3 t)) p (ix2 0 l)
      = p (ix2 0 l) + ∑ n ∈ Finset.range 704, term m c (704 * (t.val / 2) + n) := by
  refine (tile_at z acc (iblk m c 0 t) (iblk m c 1 t) (iblk m c 2 t) (iblk m c 3 t) l p).trans (congrArg (p (ix2 0 l) + ·) ?_)
  rw [ofBits_half, mul_comm, Cert.Norm.mul_sum' _ (by norm_num), Finset.sum_range]
  refine Finset.sum_congr rfl fun i _ => ?_
  have hn : 704 * (t.val / 2) + i.val < 4224 := by have := lt_points t; omega
  unfold term
  rw [dif_pos hn]
  refine congrArg (_ * ·) (Finset.sum_congr rfl fun j _ => ?_)
  exact congrArg₂ (· * ·) (diff_of m c t h acc ha z hz i j) (diff_of m c t h acc ha z hz i j)

theorem loss_first (t : Fin cfg0.N) (h : t.val % 2 = 1) (h3 : t.val < 2) (l : Fin 128) :
    (outsAt0 m c t.val t.isLt).2.1 (ix2 0 l) = ∑ n ∈ Finset.range 704, term m c (704 * (t.val / 2) + n) := by
  rw [outsAt0_B m c t (by omega) h h3]
  frame_out
  refine (tile_of m c t h _ (Memref.IsWhole.read_unread _ _) _ rfl _ l).trans ?_
  exact (congrArg (· + _) (zero_at l)).trans (zero_add _)

theorem loss_next (t : Fin cfg0.N) (h : t.val % 2 = 1) (h3 : ¬t.val < 2) (l : Fin 128) :
    (outsAt0 m c t.val t.isLt).2.1 (ix2 0 l)
      = (outsAt0 m c (t.val - 1) (Nat.lt_of_le_of_lt (Nat.sub_le _ _) t.isLt)).2.1 (ix2 0 l) + ∑ n ∈ Finset.range 704, term m c (704 * (t.val / 2) + n) := by
  rw [outsAt0_C m c t (by omega) h h3]
  frame_out
  exact tile_of m c t h _ (Memref.IsWhole.read_unread _ _) _ rfl _ l

/-- The loss after a tile: the rows of all tiles so far. -/
theorem rows : ∀ (q : ℕ) (n : ℕ) (hn : n < cfg0.N), n = 2 * q + 1 → ∀ l : Fin 128,
    (outsAt0 m c n hn).2.1 (ix2 0 l) = ∑ n ∈ Finset.range (704 * (q + 1)), term m c n := by
  intro q
  induction q with
  | zero =>
    intro n hn e l
    refine (loss_first m c ⟨n, hn⟩ (by dsimp only; omega) (by dsimp only; omega) l).trans ?_
    dsimp only
    rw [show n / 2 = 0 by omega]
    simp only [Nat.mul_zero, Nat.zero_add, Nat.mul_one]
  | succ q ih =>
    intro n hn e l
    refine (loss_next m c ⟨n, hn⟩ (by dsimp only; omega) (by dsimp only; omega) l).trans ?_
    have hp := ih (n - 2) (by omega) (by omega) l
    dsimp only
    rw [show n / 2 = q + 1 by omega, Nat.mul_add 704 (q + 1) 1, Nat.mul_one, Finset.sum_range_add]
    refine congrArg (· + _) (Eq.trans ?_ hp)
    have k1 := congrFun (kept_first m c ⟨n - 1, by omega⟩ (by dsimp only; omega)) (ix2 0 l)
    dsimp only at k1
    refine k1.trans (?_)
    congr 1

theorem written5 (t : Fin cfg0.N) (h : t.val % 12 = 11) (l : Fin 128) :
    (outsAt0 m c t.val t.isLt).2.1 (ix2 0 l) = ∑ n : Fin 4224, term m c n.val := by
  rw [rows m c 5 t.val t.isLt (by have := lt_points t; omega) l, Finset.sum_range]

/-- The results, entry by entry. -/
def result4 : FVec Ideal S4224x1024 .f32 := fun y => diff m c (y 0) (y 1) * Ideal.ofBits .f32 0x3A800000#32
def result5 : FVec Ideal S1x128 .f32 := fun _ => ∑ n : Fin 4224, term m c n.val

theorem final4 : (dats m 0 c).arrAt 4 (cfgs 0).N = result4 m c := by
  refine (dats m 0 c).arrAt_eq_of_covers 4 _ (by decide +kernel) fun t ht y => ?_
  blk_simp
  rw [after0_4]
  obtain ⟨i, j, rfl⟩ : ∃ (i : Fin 704) (j : Fin 1024), y = ix2 i j := ⟨y 0, y 1, by ext a; fin_cases a <;> rfl⟩
  refine (written4 m c t ((flush0_4 t).mp ht) i j).trans ?_
  refine (show _ = result4 m c (ix2 (row t i) j) from rfl).trans ?_
  unfold row
  blk_ext [idx t]

theorem final5 : (dats m 0 c).arrAt 5 (cfgs 0).N = result5 m c := by
  refine (dats m 0 c).arrAt_eq_of_covers 5 _ (by decide +kernel) fun t ht y => ?_
  blk_simp
  rw [after0_5]
  obtain ⟨i, l, rfl⟩ : ∃ (i : Fin 1) (l : Fin 128), y = ix2 i l := ⟨y 0, y 1, by ext a; fin_cases a <;> rfl⟩
  obtain rfl : i = 0 := Subsingleton.elim _ _
  exact written5 m c t ((flush0_5 t).mp ht) l

end Cert.LossIdeal.Prod

namespace Cert.LossRefIdeal.Prod

open Cert.LossRefIdeal Cert.LossRefIdeal.Gen
open Idealize.ShloMosaic Idealize.ShloMosaic.TcCoe Idealize.ShloMosaic.Tactic

/-- The reference's difference to the target. -/
def diff (a : FVec Ideal S4224x2816 .f32) (w : FVec Ideal S2816x1024 .f32) (h : FVec Ideal S4224x1024 .f32) (y : FVec Ideal S4096x1024 .f32) : FVec Ideal S4096x1024 .f32 :=
  subf (extractStridedSlice S4096x1024 ![128, 0] (addf h (Host.dotGeneral dot_S4224x2816_S2816x1024_S4224x1024_1_0_0_1_n_n none a w)) slices_S4224x1024_S4096x1024_128_0) y

/-- The gradient of the loss, and the loss, over the difference. -/
def line0 (d : FVec Ideal S4096x1024 .f32) : FVec Ideal S4224x1024 .f32 :=
  pad S4224x1024 ![128, 0] ![0, 0] ![0, 0] (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) d)) (constant S_ .f32 0x00000000#32) pads_S4096x1024_S4224x1024_12800_000 h_S_

def line1 (d : FVec Ideal S4096x1024 .f32) : FVec Ideal S1x128 .f32 :=
  broadcastInDim S1x128 ![] bcast_S_S1x128 (mulf (constant S_ .f32 0x3F000000#32) (Host.reduceAdd (Host.divf (Host.reduceAdd (mulf d d) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem line0_at (d : FVec Ideal S4096x1024 .f32) (i : Fin 4224) (j : Fin 1024) :
    line0 d (ix2 i j) = if h : 128 ≤ i.val then
        Ideal.div (Ideal.ofBits .f32 0x3F000000#32 * Ideal.ofBits .f32 0x3F800000#32) (Ideal.ofBits .f32 0x44800000#32) * (Ideal.ofBits .f32 0x40000000#32 * d (ix2 ⟨i.val - 128, by omega⟩ j))
      else 0 := by
  pointwise [line0]
  by_cases h : 128 ≤ i.val
  · rw [dif_pos ⟨h, by omega⟩, dif_pos h]
  · rw [dif_neg fun k => h k.1, dif_neg h]

theorem line1_at (d : FVec Ideal S4096x1024 .f32) (l : Fin 128) :
    line1 d (ix2 0 l) = Ideal.ofBits .f32 0x3F000000#32 * ∑ i : Fin 4096, Ideal.div (∑ j : Fin 1024, d (ix2 i j) * d (ix2 i j)) (Ideal.ofBits .f32 0x44800000#32) := by
  pointwise [line1]

end Cert.LossRefIdeal.Prod

namespace Cert.LossIdeal.Prod

open Cert.LossIdeal Cert.LossIdeal.Gen
open Idealize.ShloMosaic Idealize.ShloMosaic.TcCoe Idealize.ShloMosaic.Tactic

variable (m : (ℓ : Loc nD τ sig) → Buf (Elt Ideal) ℓ) (c : Dev nD)

theorem ofBits_inv : Ideal.ofBits .f32 0x3A800000#32 = ((1 / 1024 : ℝ) : EReal) := by
  simp [Ideal.ofBits, Ideal.ieee, -EReal.coe_mul]; norm_num

theorem ofBits_a_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The reference's difference. -/
def refDiff : FVec Ideal S4096x1024 .f32 := Cert.LossRefIdeal.Prod.diff (aA m c) (bA m c) (hA m c) (yA m c)

theorem refDiff_at (i : Fin 4096) (j : Fin 1024) : refDiff m c (ix2 i j) = diff m c ⟨128 + i.val, by omega⟩ j := by
  unfold diff
  rw [dif_pos (show 128 ≤ 128 + i.val by omega)]
  have e : (⟨128 + i.val - 128, by omega⟩ : Fin 4096) = i := Fin.ext (by show 128 + i.val - 128 = i.val; omega)
  rw [e]
  unfold stream
  rw [add_comm (∑ k, _)]
  unfold refDiff
  pointwise [Cert.LossRefIdeal.Prod.diff]

theorem reference_eq0 : Cert.LossRefIdeal.Prod.line0 (refDiff m c) = result4 m c := by
  funext y
  obtain ⟨i, j, rfl⟩ : ∃ (i : Fin 4224) (j : Fin 1024), y = ix2 i j := ⟨y 0, y 1, by ext a; fin_cases a <;> rfl⟩
  refine (Cert.LossRefIdeal.Prod.line0_at _ i j).trans ?_
  show _ = diff m c i j * _
  by_cases hi : 128 ≤ i.val
  · rw [dif_pos hi, refDiff_at, ofBits_inv, ofBits_a_half, ofBits_one, ofBits_two, Cert.Norm.ofBits_width, Ideal.div_coe (by norm_num), ← mul_assoc, mul_comm]
    refine congrArg₂ (· * ·) (congrArg (fun r => diff m c r j) (Fin.ext (by show 128 + (i.val - 128) = i.val; omega))) ?_
    norm_cast
    norm_num
  · rw [dif_neg hi]
    unfold diff
    rw [dif_neg hi, zero_mul]

theorem split128 (f : ℕ → EReal) : ∑ n : Fin 4224, f n.val = (∑ n : Fin 128, f n.val) + ∑ n : Fin 4096, f (128 + n.val) := by
  simp only [← Finset.sum_range]
  exact Finset.sum_range_add f 128 4096

/-- The rows before the 128th contribute nothing. -/
theorem term_head (n : Fin 128) : term m c n.val = 0 := by
  have hn : n.val < 4224 := by omega
  unfold term
  rw [dif_pos hn]
  have hd : ∀ J, diff m c ⟨n.val, hn⟩ J = 0 := fun J => by
    unfold diff
    exact dif_neg (by show ¬128 ≤ n.val; omega)
  simp only [hd, mul_zero, Finset.sum_const_zero]

/-- The reference's part of a row. -/
theorem term_tail (i : Fin 4096) :
    ((1 / 2 : ℝ) : EReal) * Ideal.div (∑ j : Fin 1024, refDiff m c (ix2 i j) * refDiff m c (ix2 i j)) (Ideal.ofBits .f32 0x44800000#32) = term m c (128 + i.val) := by
  have hn : 128 + i.val < 4224 := by omega
  unfold term
  rw [dif_pos hn, Cert.Norm.ofBits_width, Ideal.div_coe (by norm_num)]
  have hd : (∑ j : Fin 1024, refDiff m c (ix2 i j) * refDiff m c (ix2 i j)) = ∑ j : Fin 1024, diff m c ⟨128 + i.val, hn⟩ j * diff m c ⟨128 + i.val, hn⟩ j :=
    Finset.sum_congr rfl fun j _ => by rw [refDiff_at]
  rw [hd]
  generalize (∑ j : Fin 1024, diff m c ⟨128 + i.val, hn⟩ j * diff m c ⟨128 + i.val, hn⟩ j) = S
  rw [mul_comm S, ← mul_assoc]
  refine congrArg (· * S) ?_
  norm_cast
  norm_num

theorem reference_eq1 : Cert.LossRefIdeal.Prod.line1 (refDiff m c) = result5 m c := by
  funext y
  obtain ⟨i, l, rfl⟩ : ∃ (i : Fin 1) (l : Fin 128), y = ix2 i l := ⟨y 0, y 1, by ext a; fin_cases a <;> rfl⟩
  obtain rfl : i = 0 := Subsingleton.elim _ _
  refine (Cert.LossRefIdeal.Prod.line1_at _ l).trans ?_
  show _ = ∑ n : Fin 4224, term m c n.val
  refine Eq.trans ?_ (split128 fun n => term m c n).symm
  have z : (∑ n : Fin 128, term m c n.val) = 0 := Finset.sum_eq_zero fun n _ => term_head m c n
  rw [z, zero_add, ofBits_a_half, Cert.Norm.mul_sum' _ (by norm_num)]
  exact Finset.sum_congr rfl fun i _ => term_tail m c i

end Cert.LossIdeal.Prod

namespace Cert.Proof.Loss

open Idealize.ShloMosaic Idealize.ShloMosaic.TcCoe Idealize.SL.Sem
open Idealize.ShloMosaic.Tactic
open Cert.LossIdeal.Prod

theorem quiescent_kernelIdeal : Cert.quiescent_LossIdeal := fun m ρ _ => Cert.LossIdeal.Gen.frame (F := Ideal) m ρ

/-- What the frame says of a run of the ideal printing, at any reading of the floats. -/
def Framed (F : FTy → Type) [FloatOps F] : Prop :=
  ∀ (m : (ℓ : Loc Cert.LossIdeal.nD Cert.LossIdeal.τ Cert.LossIdeal.sig) → Buf (Elt F) ℓ) (ρ : Dev Cert.LossIdeal.nD → PrngReg), True →
    θ_run (Cert.LossIdeal.defs (F := F)) (onTc (τ := Cert.LossIdeal.τ) (Cert.LossIdeal.main (F := F))) ⟨m, fun _ => 0, ρ⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

theorem framed (F : FTy → Type) [FloatOps F] : Framed F := fun m ρ _ => Cert.LossIdeal.Gen.frame m ρ

/-- The two printings are one program, line for line. -/
theorem kernel_framed : Cert.quiescent_Loss = Framed Bits := by sl_kernel_rfl

theorem quiescent_kernel : Cert.quiescent_Loss := kernel_framed.mpr (framed Bits)

theorem quiescent_reference : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- The results are the reference's. -/
theorem equation : Cert.algebraic_LossIdeal_LossRefIdeal := by
  pair_intro
  · run_from Cert.LossIdeal.Gen.run_main m g
    all_goals first | exact Cert.LossIdeal.Gen.V_main_arg0 m c | exact Cert.LossIdeal.Gen.V_main_arg1 m c | exact Cert.LossIdeal.Gen.V_main_arg2 m c | exact Cert.LossIdeal.Gen.V_main_arg3 m c
  · run_from Cert.LossRefIdeal.Value.run m' g'
    · exact (reference_eq0 m c).trans (final4 m c).symm
    · exact (reference_eq1 m c).trans (final5 m c).symm

end Cert.Proof.Loss

end
-- ==== Proof.Adam.lean ====
module

public import Idealize.ShloMosaic.Lib.Pipeline.ValueKit

/-! One step of AdamW, entry by entry. The call writes the gradient's square term as (c g) g and the reference as
    c (g g); the two are one product. -/

@[expose] public section

noncomputable section

namespace Cert.Adam

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * g * g

/-- What is added to the weight. -/
def delta (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

theorem second_eq (g v : EReal) : Ideal.ofBits .f32 0x3F7FBE77#32 * v + Ideal.ofBits .f32 0x3A83126F#32 * (g * g) = second g v := by
  unfold second
  rw [mul_assoc]

end Cert.Adam

end

end
-- ==== Proof.AdamIn.lean ====
module

public import proofs.«01_k».proof.Defs
public import proofs.«01_k».proof.Proof.Gen.AdamIn
public import proofs.«01_k».proof.Proof.Gen.AdamInIdeal.Value
public import proofs.«01_k».proof.Proof.Gen.AdamInRefIdeal.Run
public import proofs.«01_k».proof.Proof.Adam
public import Idealize.ShloMosaic.Lib.Pipeline.ValueKit
public import Idealize.ShloMosaic.Lib.Ring
public import Idealize.ShloMosaic.Adequacy
public import Idealize.ShloMosaic.Init

/-! The update of the mixer's input weights. -/

@[expose] public section

set_option maxRecDepth 16384

noncomputable section

namespace Cert.AdamInIdeal.Prod

open Cert.AdamInIdeal Cert.AdamInIdeal.Gen
open Idealize.ShloMosaic Idealize.ShloMosaic.TcCoe Idealize.ShloMosaic.Tactic

/-! ### The body's arithmetic -/

theorem first_at (p : Vec Ideal S1x256x898 .f32) (g : Vec Ideal S256x898 .f32) (i : Fin 256) (j : Fin 898) :
    k0_pay1 (k0_pay5 p g) (ix3 0 i j) = Cert.Adam.first (g (ix2 i j)) (p (ix3 0 i j)) := by
  unfold Cert.Adam.first
  pointwise [k0_pay1, k0_pay5, k0_pay4]

theorem second_at (q : Vec Ideal S1x256x898 .f32) (g : Vec Ideal S256x898 .f32) (i : Fin 256) (j : Fin 898) :
    k0_pay2 (k0_pay6 q g) (ix3 0 i j) = Cert.Adam.second (g (ix2 i j)) (q (ix3 0 i j)) := by
  unfold Cert.Adam.second
  pointwise [k0_pay2, k0_pay6, k0_pay4]

theorem delta_at (w p q : Vec Ideal S1x256x898 .f32) (g : Vec Ideal S256x898 .f32) (i : Fin 256) (j : Fin 898) :
    k0_pay7 w p q g (ix3 0 i j) = Cert.Adam.delta (w (ix3 0 i j)) (g (ix2 i j)) (p (ix3 0 i j)) (q (ix3 0 i j)) := by
  unfold Cert.Adam.delta Cert.Adam.first Cert.Adam.second
  pointwise [k0_pay7, k0_pay6, k0_pay5, k0_pay4]

theorem kept_at (g : Vec Ideal S256x898 .f32) (i : Fin 256) (j : Fin 898) : k0_pay3 (k0_pay4 g) (ix3 0 i j) = g (ix2 i j) := by
  pointwise [k0_pay3, k0_pay4]

variable (m : (ℓ : Loc nD τ sig) → Buf (Elt Ideal) ℓ) (c : Dev nD)

abbrev wA : FVec Ideal S1x1024x898 .f32 := m ((c.tc : Thread nD τ).loc main_arg0)
abbrev gA : FVec Ideal S1x1024x898 .f32 := m ((c.tc : Thread nD τ).loc main_arg1)
abbrev pA : FVec Ideal S1x1024x898 .f32 := m ((c.tc : Thread nD τ).loc main_arg2)
abbrev qA : FVec Ideal S1x1024x898 .f32 := m ((c.tc : Thread nD τ).loc main_arg3)

/-- The block every window is at. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] := by
  decide +kernel

theorem lt_points (t : Fin cfg0.N) : t.val < 4 := lt_of_lt_of_eq t.isLt (show cfg0.N = 4 from N_0)

theorem V_g (r : Fin 1024) (j : Fin 898) : (V m c main_v0 : FVec Ideal S1024x898 .f32) (ix2 r j) = gA m c (ix3 0 r j) := by
  rw [show (V m c main_v0 : FVec Ideal S1024x898 .f32) = shapeCast S1024x898 (gA m c) shapeCasts_S1x1024x898_S1024x898 by entry_read; rfl]
  pointwise

/-- The layer of a point. -/
def lay (t : Fin cfg0.N) : Fin 1 := ⟨t.val / 4, by have := lt_points t; omega⟩

/-- The array's row of row `i` at point `t`. -/
def row (t : Fin cfg0.N) (i : Fin 256) : Fin 1024 := ⟨256 * (t.val % 4) + i.val, by omega⟩

theorem blk0 (t : Fin cfg0.N) (i : Fin 256) (j : Fin 898) : iblk m c 0 t (ix3 0 i j) = wA m c (ix3 (lay t) (row t i) j) := by
  rw [← show V m c main_arg0 = wA m c from V_main_arg0 m c]
  unfold lay row
  blk_ext [iblk, idx t]

theorem blk1 (t : Fin cfg0.N) (i : Fin 256) (j : Fin 898) : iblk m c 1 t (ix3 0 i j) = pA m c (ix3 (lay t) (row t i) j) := by
  rw [← show V m c main_arg2 = pA m c from V_main_arg2 m c]
  unfold lay row
  blk_ext [iblk, idx t]

theorem blk2 (t : Fin cfg0.N) (i : Fin 256) (j : Fin 898) : iblk m c 2 t (ix3 0 i j) = qA m c (ix3 (lay t) (row t i) j) := by
  rw [← show V m c main_arg3 = qA m c from V_main_arg3 m c]
  unfold lay row
  blk_ext [iblk, idx t]

theorem blk3 (t : Fin cfg0.N) (i : Fin 256) (j : Fin 898) : iblk m c 3 t (ix2 i j) = gA m c (ix3 (lay t) (row t i) j) := by
  have hl : lay t = 0 := Fin.ext (by have := lt_points t; show t.val / 4 = 0; omega)
  rw [hl, ← V_g]
  have ht : t.val % 4 = t.val := by have := lt_points t; omega
  unfold row
  simp only [ht]
  blk_ext [iblk, idx t]

/-- The results, entry by entry. -/
def result0 : FVec Ideal S1x1024x898 .f32 := fun I => Cert.Adam.delta (wA m c I) (gA m c I) (pA m c I) (qA m c I)

theorem written0 (t : Fin cfg0.N) (i : Fin 256) (j : Fin 898) : out0_4 (iblk m c 0 t) (iblk m c 1 t) (iblk m c 2 t) (iblk m c 3 t) (ix3 0 i j) = result0 m c (ix3 (lay t) (row t i) j) := by
  unfold out0_4
  frame_out
  exact (delta_at _ _ _ _ i j).trans (by rw [blk0 m c t i j, blk1 m c t i j, blk2 m c t i j, blk3 m c t i j]; rfl)

/-- The results, entry by entry. -/
def result1 : FVec Ideal S1x1024x898 .f32 := fun I => Cert.Adam.first (gA m c I) (pA m c I)

theorem written1 (t : Fin cfg0.N) (i : Fin 256) (j : Fin 898) : out0_5 (iblk m c 0 t) (iblk m c 1 t) (iblk m c 2 t) (iblk m c 3 t) (ix3 0 i j) = result1 m c (ix3 (lay t) (row t i) j) := by
  unfold out0_5
  frame_out
  exact (first_at _ _ i j).trans (by rw [blk1 m c t i j, blk3 m c t i j]; rfl)

/-- The results, entry by entry. -/
def result2 : FVec Ideal S1x1024x898 .f32 := fun I => Cert.Adam.second (gA m c I) (qA m c I)

theorem written2 (t : Fin cfg0.N) (i : Fin 256) (j : Fin 898) : out0_6 (iblk m c 0 t) (iblk m c 1 t) (iblk m c 2 t) (iblk m c 3 t) (ix3 0 i j) = result2 m c (ix3 (lay t) (row t i) j) := by
  unfold out0_6
  frame_out
  exact (second_at _ _ i j).trans (by rw [blk2 m c t i j, blk3 m c t i j]; rfl)

/-- The results, entry by entry. -/
def result3 : FVec Ideal S1x1024x898 .f32 := fun I => gA m c I

theorem written3 (t : Fin cfg0.N) (i : Fin 256) (j : Fin 898) : out0_7 (iblk m c 0 t) (iblk m c 1 t) (iblk m c 2 t) (iblk m c 3 t) (ix3 0 i j) = result3 m c (ix3 (lay t) (row t i) j) := by
  unfold out0_7
  frame_out
  exact (kept_at _ i j).trans (blk3 m c t i j)

theorem final0 : (dats m 0 c).arrAt 4 (cfgs 0).N = result0 m c := by
  refine (dats m 0 c).arrAt_eq_of_covers 4 _ (by decide +kernel) fun t ht y => ?_
  blk_simp
  rw [after0_4]
  obtain ⟨i, j, rfl⟩ : ∃ (i : Fin 256) (j : Fin 898), y = ix3 0 i j := ⟨y 1, y 2, by ext a; fin_cases a <;> first | rfl | exact (Nat.lt_one_iff.mp (y 0).isLt)⟩
  refine (written0 m c t i j).trans ?_
  refine (show _ = result0 m c (ix3 (lay t) (row t i) j) from rfl).trans ?_
  unfold lay row
  blk_ext [idx t]

theorem final1 : (dats m 0 c).arrAt 5 (cfgs 0).N = result1 m c := by
  refine (dats m 0 c).arrAt_eq_of_covers 5 _ (by decide +kernel) fun t ht y => ?_
  blk_simp
  rw [after0_5]
  obtain ⟨i, j, rfl⟩ : ∃ (i : Fin 256) (j : Fin 898), y = ix3 0 i j := ⟨y 1, y 2, by ext a; fin_cases a <;> first | rfl | exact (Nat.lt_one_iff.mp (y 0).isLt)⟩
  refine (written1 m c t i j).trans ?_
  refine (show _ = result1 m c (ix3 (lay t) (row t i) j) from rfl).trans ?_
  unfold lay row
  blk_ext [idx t]

theorem final2 : (dats m 0 c).arrAt 6 (cfgs 0).N = result2 m c := by
  refine (dats m 0 c).arrAt_eq_of_covers 6 _ (by decide +kernel) fun t ht y => ?_
  blk_simp
  rw [after0_6]
  obtain ⟨i, j, rfl⟩ : ∃ (i : Fin 256) (j : Fin 898), y = ix3 0 i j := ⟨y 1, y 2, by ext a; fin_cases a <;> first | rfl | exact (Nat.lt_one_iff.mp (y 0).isLt)⟩
  refine (written2 m c t i j).trans ?_
  refine (show _ = result2 m c (ix3 (lay t) (row t i) j) from rfl).trans ?_
  unfold lay row
  blk_ext [idx t]

theorem final3 : (dats m 0 c).arrAt 7 (cfgs 0).N = result3 m c := by
  refine (dats m 0 c).arrAt_eq_of_covers 7 _ (by decide +kernel) fun t ht y => ?_
  blk_simp
  rw [after0_7]
  obtain ⟨i, j, rfl⟩ : ∃ (i : Fin 256) (j : Fin 898), y = ix3 0 i j := ⟨y 1, y 2, by ext a; fin_cases a <;> first | rfl | exact (Nat.lt_one_iff.mp (y 0).isLt)⟩
  refine (written3 m c t i j).trans ?_
  refine (show _ = result3 m c (ix3 (lay t) (row t i) j) from rfl).trans ?_
  unfold lay row
  blk_ext [idx t]

end Cert.AdamInIdeal.Prod

namespace Cert.AdamInRefIdeal.Prod

open Cert.AdamInRefIdeal Cert.AdamInRefIdeal.Gen
open Idealize.ShloMosaic Idealize.ShloMosaic.TcCoe Idealize.ShloMosaic.Tactic

/-- The reference's results over its arguments. -/
def line0 (w g p q : FVec Ideal S1x1024x898 .f32) : FVec Ideal S1x1024x898 .f32 :=
  mulf (broadcastInDim S1x1024x898 ![] bcast_S_S1x1024x898 (constant S_ .f32 0xBA83126F#32)) (addf (Host.divf (Host.divf (addf (mulf (broadcastInDim S1x1024x898 ![] bcast_S_S1x1024x898 (constant S_ .f32 0x3F666666#32)) p) (mulf (broadcastInDim S1x1024x898 ![] bcast_S_S1x1024x898 (constant S_ .f32 0x3DCCCCCD#32)) g)) (broadcastInDim S1x1024x898 ![] bcast_S_S1x1024x898 (constant S_ .f32 0x3F26BD02#32))) (addf (Host.sqrt (Host.divf (addf (mulf (broadcastInDim S1x1024x898 ![] bcast_S_S1x1024x898 (constant S_ .f32 0x3F7FBE77#32)) q) (mulf (broadcastInDim S1x1024x898 ![] bcast_S_S1x1024x898 (constant S_ .f32 0x3A83126F#32)) (mulf g g))) (broadcastInDim S1x1024x898 ![] bcast_S_S1x1024x898 (constant S_ .f32 0x3C231ACC#32)))) (broadcastInDim S1x1024x898 ![] bcast_S_S1x1024x898 (constant S_ .f32 0x322BCC77#32)))) (mulf (broadcastInDim S1x1024x898 ![] bcast_S_S1x1024x898 (constant S_ .f32 0x3C23D70A#32)) w))

def line1 (g p : FVec Ideal S1x1024x898 .f32) : FVec Ideal S1x1024x898 .f32 :=
  addf (mulf (broadcastInDim S1x1024x898 ![] bcast_S_S1x1024x898 (constant S_ .f32 0x3F666666#32)) p) (mulf (broadcastInDim S1x1024x898 ![] bcast_S_S1x1024x898 (constant S_ .f32 0x3DCCCCCD#32)) g)

def line2 (g q : FVec Ideal S1x1024x898 .f32) : FVec Ideal S1x1024x898 .f32 :=
  addf (mulf (broadcastInDim S1x1024x898 ![] bcast_S_S1x1024x898 (constant S_ .f32 0x3F7FBE77#32)) q) (mulf (broadcastInDim S1x1024x898 ![] bcast_S_S1x1024x898 (constant S_ .f32 0x3A83126F#32)) (mulf g g))

theorem line1_at (g p : FVec Ideal S1x1024x898 .f32) (y : S1x1024x898.Idx) : line1 g p y = Cert.Adam.first (g y) (p y) := by
  unfold Cert.Adam.first
  pointwise [line1]

theorem line2_at (g q : FVec Ideal S1x1024x898 .f32) (y : S1x1024x898.Idx) : line2 g q y = Cert.Adam.second (g y) (q y) := by
  rw [← Cert.Adam.second_eq]
  pointwise [line2]

theorem line0_at (w g p q : FVec Ideal S1x1024x898 .f32) (y : S1x1024x898.Idx) : line0 w g p q y = Cert.Adam.delta (w y) (g y) (p y) (q y) := by
  unfold Cert.Adam.delta
  rw [← Cert.Adam.second_eq]
  unfold Cert.Adam.first
  pointwise [line0]

end Cert.AdamInRefIdeal.Prod

namespace Cert.AdamInIdeal.Prod

open Cert.AdamInIdeal Cert.AdamInIdeal.Gen
open Idealize.ShloMosaic Idealize.ShloMosaic.TcCoe Idealize.ShloMosaic.Tactic

variable (m : (ℓ : Loc nD τ sig) → Buf (Elt Ideal) ℓ) (c : Dev nD)

theorem reference_eq0 : Cert.AdamInRefIdeal.Prod.line0 (wA m c) (gA m c) (pA m c) (qA m c) = result0 m c :=
  funext fun y => Cert.AdamInRefIdeal.Prod.line0_at _ _ _ _ y

theorem reference_eq1 : Cert.AdamInRefIdeal.Prod.line1 (gA m c) (pA m c) = result1 m c :=
  funext fun y => Cert.AdamInRefIdeal.Prod.line1_at _ _ y

theorem reference_eq2 : Cert.AdamInRefIdeal.Prod.line2 (gA m c) (qA m c) = result2 m c :=
  funext fun y => Cert.AdamInRefIdeal.Prod.line2_at _ _ y

end Cert.AdamInIdeal.Prod

namespace Cert.Proof.AdamIn

open Idealize.ShloMosaic Idealize.ShloMosaic.TcCoe Idealize.SL.Sem
open Idealize.ShloMosaic.Tactic
open Cert.AdamInIdeal.Prod

theorem quiescent_kernelIdeal : Cert.quiescent_AdamInIdeal := fun m ρ _ => Cert.AdamInIdeal.Gen.frame (F := Ideal) m ρ

/-- What the frame says of a run of the ideal printing, at any reading of the floats. -/
def Framed (F : FTy → Type) [FloatOps F] : Prop :=
  ∀ (m : (ℓ : Loc Cert.AdamInIdeal.nD Cert.AdamInIdeal.τ Cert.AdamInIdeal.sig) → Buf (Elt F) ℓ) (ρ : Dev Cert.AdamInIdeal.nD → PrngReg), True →
    θ_run (Cert.AdamInIdeal.defs (F := F)) (onTc (τ := Cert.AdamInIdeal.τ) (Cert.AdamInIdeal.main (F := F))) ⟨m, fun _ => 0, ρ⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

theorem framed (F : FTy → Type) [FloatOps F] : Framed F := fun m ρ _ => Cert.AdamInIdeal.Gen.frame m ρ

/-- The two printings are one program, line for line. -/
theorem kernel_framed : Cert.quiescent_AdamIn = Framed Bits := by sl_kernel_rfl

theorem quiescent_kernel : Cert.quiescent_AdamIn := kernel_framed.mpr (framed Bits)

theorem quiescent_reference : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

/-- The results are the reference's. -/
theorem equation : Cert.algebraic_AdamInIdeal_AdamInRefIdeal := by
  pair_intro
  · run_from Cert.AdamInIdeal.Gen.run_main m g
    all_goals first | exact Cert.AdamInIdeal.Gen.V_main_arg0 m c | exact Cert.AdamInIdeal.Gen.V_main_arg1 m c | exact Cert.AdamInIdeal.Gen.V_main_arg2 m c | exact Cert.AdamInIdeal.Gen.V_main_arg3 m c
  · run_from Cert.AdamInRefIdeal.Value.run m' g'
    · exact (reference_eq0 m c).trans (final0 m c).symm
    · exact (reference_eq1 m c).trans (final1 m c).symm
    · exact (reference_eq2 m c).trans (final2 m c).symm
    · exact (final3 m c).symm

end Cert.Proof.AdamIn

end
-- ==== Proof.AdamOut.lean ====
module

public import proofs.«01_k».proof.Defs
public import proofs.«01_k».proof.Proof.Gen.AdamOut
public import proofs.«01_k».proof.Proof.Gen.AdamOutIdeal.Value
public import proofs.«01_k».proof.Proof.Gen.AdamOutRefIdeal.Run
public import proofs.«01_k».proof.Proof.Adam
public import Idealize.ShloMosaic.Lib.Pipeline.ValueKit
public import Idealize.ShloMosaic.Lib.Ring
public import Idealize.ShloMosaic.Adequacy
public import Idealize.ShloMosaic.Init

/-! The update of an output projection, or of the weights of the queries. -/

@[expose] public section

set_option maxRecDepth 16384

noncomputable section

namespace Cert.AdamOutIdeal.Prod

open Cert.AdamOutIdeal Cert.AdamOutIdeal.Gen
open Idealize.ShloMosaic Idealize.ShloMosaic.TcCoe Idealize.ShloMosaic.Tactic

/-! ### The body's arithmetic -/

theorem first_at (p : Vec Ideal S1x256x1024 .f32) (g : Vec Ideal S256x1024 .f32) (i : Fin 256) (j : Fin 1024) :
    k0_pay1 (k0_pay5 p g) (ix3 0 i j) = Cert.Adam.first (g (ix2 i j)) (p (ix3 0 i j)) := by
  unfold Cert.Adam.first
  pointwise [k0_pay1, k0_pay5, k0_pay4]

theorem second_at (q : Vec Ideal S1x256x1024 .f32) (g : Vec Ideal S256x1024 .f32) (i : Fin 256) (j : Fin 1024) :
    k0_pay2 (k0_pay6 q g) (ix3 0 i j) = Cert.Adam.second (g (ix2 i j)) (q (ix3 0 i j)) := by
  unfold Cert.Adam.second
  pointwise [k0_pay2, k0_pay6, k0_pay4]

theorem delta_at (w p q : Vec Ideal S1x256x1024 .f32) (g : Vec Ideal S256x1024 .f32) (i : Fin 256) (j : Fin 1024) :
    k0_pay7 w p q g (ix3 0 i j) = Cert.Adam.delta (w (ix3 0 i j)) (g (ix2 i j)) (p (ix3 0 i j)) (q (ix3 0 i j)) := by
  unfold Cert.Adam.delta Cert.Adam.first Cert.Adam.second
  pointwise [k0_pay7, k0_pay6, k0_pay5, k0_pay4]

theorem kept_at (g : Vec Ideal S256x1024 .f32) (i : Fin 256) (j : Fin 1024) : k0_pay3 (k0_pay4 g) (ix3 0 i j) = g (ix2 i j) := by
  pointwise [k0_pay3, k0_pay4]

variable (m : (ℓ : Loc nD τ sig) → Buf (Elt Ideal) ℓ) (c : Dev nD)

abbrev wA : FVec Ideal S1x256x1024 .f32 := m ((c.tc : Thread nD τ).loc main_arg0)
abbrev gA : FVec Ideal S1x256x1024 .f32 := m ((c.tc : Thread nD τ).loc main_arg1)
abbrev pA : FVec Ideal S1x256x1024 .f32 := m ((c.tc : Thread nD τ).loc main_arg2)
abbrev qA : FVec Ideal S1x256x1024 .f32 := m ((c.tc : Thread nD τ).loc main_arg3)

/-- The block every window is at. -/
theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] := by
  decide +kernel

theorem lt_points (t : Fin cfg0.N) : t.val < 1 := lt_of_lt_of_eq t.isLt (show cfg0.N = 1 from N_0)

theorem V_g (r : Fin 256) (j : Fin 1024) : (V m c main_v0 : FVec Ideal S256x1024 .f32) (ix2 r j) = gA m c (ix3 0 r j) := by
  rw [show (V m c main_v0 : FVec Ideal S256x1024 .f32) = shapeCast S256x1024 (gA m c) shapeCasts_S1x256x1024_S256x1024 by entry_read; rfl]
  pointwise

/-- The layer of a point. -/
def lay (t : Fin cfg0.N) : Fin 1 := ⟨t.val / 1, by have := lt_points t; omega⟩

/-- The array's row of row `i` at point `t`. -/
def row (t : Fin cfg0.N) (i : Fin 256) : Fin 256 := ⟨256 * (t.val % 1) + i.val, by omega⟩

theorem blk0 (t : Fin cfg0.N) (i : Fin 256) (j : Fin 1024) : iblk m c 0 t (ix3 0 i j) = wA m c (ix3 (lay t) (row t i) j) := by
  rw [← show V m c main_arg0 = wA m c from V_main_arg0 m c]
  unfold lay row
  blk_ext [iblk, idx t]

theorem blk1 (t : Fin cfg0.N) (i : Fin 256) (j : Fin 1024) : iblk m c 1 t (ix3 0 i j) = pA m c (ix3 (lay t) (row t i) j) := by
  rw [← show V m c main_arg2 = pA m c from V_main_arg2 m c]
  unfold lay row
  blk_ext [iblk, idx t]

theorem blk2 (t : Fin cfg0.N) (i : Fin 256) (j : Fin 1024) : iblk m c 2 t (ix3 0 i j) = qA m c (ix3 (lay t) (row t i) j) := by
  rw [← show V m c main_arg3 = qA m c from V_main_arg3 m c]
  unfold lay row
  blk_ext [iblk, idx t]

theorem blk3 (t : Fin cfg0.N) (i : Fin 256) (j : Fin 1024) : iblk m c 3 t (ix2 i j) = gA m c (ix3 (lay t) (row t i) j) := by
  have hl : lay t = 0 := Fin.ext (by have := lt_points t; show t.val / 1 = 0; omega)
  rw [hl, ← V_g]
  have ht : t.val % 1 = t.val := by have := lt_points t; omega
  unfold row
  simp only [ht]
  blk_ext [iblk, idx t]

/-- The results, entry by entry. -/
def result0 : FVec Ideal S1x256x1024 .f32 := fun I => Cert.Adam.delta (wA m c I) (gA m c I) (pA m c I) (qA m c I)

theorem written0 (t : Fin cfg0.N) (i : Fin 256) (j : Fin 1024) : out0_4 (iblk m c 0 t) (iblk m c 1 t) (iblk m c 2 t) (iblk m c 3 t) (ix3 0 i j) = result0 m c (ix3 (lay t) (row t i) j) := by
  unfold out0_4
  frame_out
  exact (delta_at _ _ _ _ i j).trans (by rw [blk0 m c t i j, blk1 m c t i j, blk2 m c t i j, blk3 m c t i j]; rfl)

/-- The results, entry by entry. -/
def result1 : FVec Ideal S1x256x1024 .f32 := fun I => Cert.Adam.first (gA m c I) (pA m c I)

theorem written1 (t : Fin cfg0.N) (i : Fin 256) (j : Fin 1024) : out0_5 (iblk m c 0 t) (iblk m c 1 t) (iblk m c 2 t) (iblk m c 3 t) (ix3 0 i j) = result1 m c (ix3 (lay t) (row t i) j) := by
  unfold out0_5
  frame_out
  exact (first_at _ _ i j).trans (by rw [blk1 m c t i j, blk3 m c t i j]; rfl)

/-- The results, entry by entry. -/
def result2 : FVec Ideal S1x256x1024 .f32 := fun I => Cert.Adam.second (gA m c I) (qA m c I)

theorem written2 (t : Fin cfg0.N) (i : Fin 256) (j : Fin 1024) : out0_6 (iblk m c 0 t) (iblk m c 1 t) (iblk m c 2 t) (iblk m c 3 t) (ix3 0 i j) = result2 m c (ix3 (lay t) (row t i) j) := by
  unfold out0_6
  frame_out
  exact (second_at _ _ i j).trans (by rw [blk2 m c t i j, blk3 m c t i j]; rfl)

/-- The results, entry by entry. -/
def result3 : FVec Ideal S1x256x1024 .f32 := fun I => gA m c I

theorem written3 (t : Fin cfg0.N) (i : Fin 256) (j : Fin 1024) : out0_7 (iblk m c 0 t) (iblk m c 1 t) (iblk m c 2 t) (iblk m c 3 t) (ix3 0 i j) = result3 m c (ix3 (lay t) (row t i) j) := by
  unfold out0_7
  frame_out
  exact (kept_at _ i j).trans (blk3 m c t i j)

theorem final0 : (dats m 0 c).arrAt 4 (cfgs 0).N = result0 m c := by
  refine (dats m 0 c).arrAt_eq_of_covers 4 _ (by decide +kernel) fun t ht y => ?_
  blk_simp
  rw [after0_4]
  obtain ⟨i, j, rfl⟩ : ∃ (i : Fin 256) (j : Fin 1024), y = ix3 0 i j := ⟨y 1, y 2, by ext a; fin_cases a <;> first | rfl | exact (Nat.lt_one_iff.mp (y 0).isLt)⟩
  refine (written0 m c t i j).trans ?_
  refine (show _ = result0 m c (ix3 (lay t) (row t i) j) from rfl).trans ?_
  unfold lay row
  blk_ext [idx t]

theorem final1 : (dats m 0 c).arrAt 5 (cfgs 0).N = result1 m c := by
  refine (dats m 0 c).arrAt_eq_of_covers 5 _ (by decide +kernel) fun t ht y => ?_
  blk_simp
  rw [after0_5]
  obtain ⟨i, j, rfl⟩ : ∃ (i : Fin 256) (j : Fin 1024), y = ix3 0 i j := ⟨y 1, y 2, by ext a; fin_cases a <;> first | rfl | exact (Nat.lt_one_iff.mp (y 0).isLt)⟩
  refine (written1 m c t i j).trans ?_
  refine (show _ = result1 m c (ix3 (lay t) (row t i) j) from rfl).trans ?_
  unfold lay row
  blk_ext [idx t]

theorem final2 : (dats m 0 c).arrAt 6 (cfgs 0).N = result2 m c := by
  refine (dats m 0 c).arrAt_eq_of_covers 6 _ (by decide +kernel) fun t ht y => ?_
  blk_simp
  rw [after0_6]
  obtain ⟨i, j, rfl⟩ : ∃ (i : Fin 256) (j : Fin 1024), y = ix3 0 i j := ⟨y 1, y 2, by ext a; fin_cases a <;> first | rfl | exact (Nat.lt_one_iff.mp (y 0).isLt)⟩
  refine (written2 m c t i j).trans ?_
  refine (show _ = result2 m c (ix3 (lay t) (row t i) j) from rfl).trans ?_
  unfold lay row
  blk_ext [idx t]

theorem final3 : (dats m 0 c).arrAt 7 (cfgs 0).N = result3 m c := by
  refine (dats m 0 c).arrAt_eq_of_covers 7 _ (by decide +kernel) fun t ht y => ?_
  blk_simp
  rw [after0_7]
  obtain ⟨i, j, rfl⟩ : ∃ (i : Fin 256) (j : Fin 1024), y = ix3 0 i j := ⟨y 1, y 2, by ext a; fin_cases a <;> first | rfl | exact (Nat.lt_one_iff.mp (y 0).isLt)⟩
  refine (written3 m c t i j).trans ?_
  refine (show _ = result3 m c (ix3 (lay t) (row t i) j) from rfl).trans ?_
  unfold lay row
  blk_ext [idx t]

end Cert.AdamOutIdeal.Prod

namespace Cert.AdamOutRefIdeal.Prod

open Cert.AdamOutRefIdeal Cert.AdamOutRefIdeal.Gen
open Idealize.ShloMosaic Idealize.ShloMosaic.TcCoe Idealize.ShloMosaic.Tactic

/-- The reference's results over its arguments. -/
def line0 (w g p q : FVec Ideal S1x256x1024 .f32) : FVec Ideal S1x256x1024 .f32 :=
  mulf (broadcastInDim S1x256x1024 ![] bcast_S_S1x256x1024 (constant S_ .f32 0xBA83126F#32)) (addf (Host.divf (Host.divf (addf (mulf (broadcastInDim S1x256x1024 ![] bcast_S_S1x256x1024 (constant S_ .f32 0x3F666666#32)) p) (mulf (broadcastInDim S1x256x1024 ![] bcast_S_S1x256x1024 (constant S_ .f32 0x3DCCCCCD#32)) g)) (broadcastInDim S1x256x1024 ![] bcast_S_S1x256x1024 (constant S_ .f32 0x3F26BD02#32))) (addf (Host.sqrt (Host.divf (addf (mulf (broadcastInDim S1x256x1024 ![] bcast_S_S1x256x1024 (constant S_ .f32 0x3F7FBE77#32)) q) (mulf (broadcastInDim S1x256x1024 ![] bcast_S_S1x256x1024 (constant S_ .f32 0x3A83126F#32)) (mulf g g))) (broadcastInDim S1x256x1024 ![] bcast_S_S1x256x1024 (constant S_ .f32 0x3C231ACC#32)))) (broadcastInDim S1x256x1024 ![] bcast_S_S1x256x1024 (constant S_ .f32 0x322BCC77#32)))) (mulf (broadcastInDim S1x256x1024 ![] bcast_S_S1x256x1024 (constant S_ .f32 0x3C23D70A#32)) w))

def line1 (g p : FVec Ideal S1x256x1024 .f32) : FVec Ideal S1x256x1024 .f32 :=
  addf (mulf (broadcastInDim S1x256x1024 ![] bcast_S_S1x256x1024 (constant S_ .f32 0x3F666666#32)) p) (mulf (broadcastInDim S1x256x1024 ![] bcast_S_S1x256x1024 (constant S_ .f32 0x3DCCCCCD#32)) g)

def line2 (g q : FVec Ideal S1x256x1024 .f32) : FVec Ideal S1x256x1024 .f32 :=
  addf (mulf (broadcastInDim S1x256x1024 ![] bcast_S_S1x256x1024 (constant S_ .f32 0x3F7FBE77#32)) q) (mulf (broadcastInDim S1x256x1024 ![] bcast_S_S1x256x1024 (constant S_ .f32 0x3A83126F#32)) (mulf g g))

theorem line1_at (g p : FVec Ideal S1x256x1024 .f32) (y : S1x256x1024.Idx) : line1 g p y = Cert.Adam.first (g y) (p y) := by
  unfold Cert.Adam.first
  pointwise [line1]

theorem line2_at (g q : FVec Ideal S1x256x1024 .f32) (y : S1x256x1024.Idx) : line2 g q y = Cert.Adam.second (g y) (q y) := by
  rw [← Cert.Adam.second_eq]
  pointwise [line2]

theorem line0_at (w g p q : FVec Ideal S1x256x1024 .f32) (y : S1x256x1024.Idx) : line0 w g p q y = Cert.Adam.delta (w y) (g y) (p y) (q y) := by
  unfold Cert.Adam.delta
  rw [← Cert.Adam.second_eq]
  unfold Cert.Adam.first
  pointwise [line0]

end Cert.AdamOutRefIdeal.Prod

namespace Cert.AdamOutIdeal.Prod

open Cert.AdamOutIdeal Cert.AdamOutIdeal.Gen
open Idealize.ShloMosaic Idealize.ShloMosaic.TcCoe Idealize.ShloMosaic.Tactic

variable (m : (ℓ : Loc nD τ sig) → Buf (Elt Ideal) ℓ) (c : Dev nD)

theorem reference_eq0 : Cert.AdamOutRefIdeal.Prod.line0 (wA m c) (gA m c) (pA m c) (qA m c) = result0 m c :=
  funext fun y => Cert.AdamOutRefIdeal.Prod.line0_at _ _ _ _ y

theorem reference_eq1 : Cert.AdamOutRefIdeal.Prod.line1 (gA m c) (pA m c) = result1 m c :=
  funext fun y => Cert.AdamOutRefIdeal.Prod.line1_at _ _ y

theorem reference_eq2 : Cert.AdamOutRefIdeal.Prod.line2 (gA m c) (qA m c) = result2 m c :=
  funext fun y => Cert.AdamOutRefIdeal.Prod.line2_at _ _ y

end Cert.AdamOutIdeal.Prod

namespace Cert.Proof.AdamOut

open Idealize.ShloMosaic Idealize.ShloMosaic.TcCoe Idealize.SL.Sem
open Idealize.ShloMosaic.Tactic
open Cert.AdamOutIdeal.Prod

theorem quiescent_kernelIdeal : Cert.quiescent_AdamOutIdeal := fun m ρ _ => Cert.AdamOutIdeal.Gen.frame (F := Ideal) m ρ

/-- What the frame says of a run of the ideal printing, at any reading of the floats. -/
def Framed (F : FTy → Type) [FloatOps F] : Prop :=
  ∀ (m : (ℓ : Loc Cert.AdamOutIdeal.nD Cert.AdamOutIdeal.τ Cert.AdamOutIdeal.sig) → Buf (Elt F) ℓ) (ρ : Dev Cert.AdamOutIdeal.nD → PrngReg), True →
    θ_run (Cert.AdamOutIdeal.defs (F := F)) (onTc (τ := Cert.AdamOutIdeal.τ) (Cert.AdamOutIdeal.main (F := F))) ⟨m, fun _ => 0, ρ⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

theorem framed (F : FTy → Type) [FloatOps F] : Framed F := fun m ρ _ => Cert.AdamOutIdeal.Gen.frame m ρ

/-- The two printings are one program, line for line. -/
theorem kernel_framed : Cert.quiescent_AdamOut = Framed Bits := by sl_kernel_rfl

theorem quiescent_kernel : Cert.quiescent_AdamOut := kernel_framed.mpr (framed Bits)

theorem quiescent_reference : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

/-- The results are the reference's. -/
theorem equation : Cert.algebraic_AdamOutIdeal_AdamOutRefIdeal := by
  pair_intro
  · run_from Cert.AdamOutIdeal.Gen.run_main m g
    all_goals first | exact Cert.AdamOutIdeal.Gen.V_main_arg0 m c | exact Cert.AdamOutIdeal.Gen.V_main_arg1 m c | exact Cert.AdamOutIdeal.Gen.V_main_arg2 m c | exact Cert.AdamOutIdeal.Gen.V_main_arg3 m c
  · run_from Cert.AdamOutRefIdeal.Value.run m' g'
    · exact (reference_eq0 m c).trans (final0 m c).symm
    · exact (reference_eq1 m c).trans (final1 m c).symm
    · exact (reference_eq2 m c).trans (final2 m c).symm
    · exact (final3 m c).symm

end Cert.Proof.AdamOut

end
-- ==== Proof.AdamKv.lean ====
module

public import proofs.«01_k».proof.Defs
public import proofs.«01_k».proof.Proof.Gen.AdamKv
public import proofs.«01_k».proof.Proof.Gen.AdamKvIdeal.Value
public import proofs.«01_k».proof.Proof.Gen.AdamKvRefIdeal.Run
public import proofs.«01_k».proof.Proof.Adam
public import Idealize.ShloMosaic.Lib.Pipeline.ValueKit
public import Idealize.ShloMosaic.Lib.Ring
public import Idealize.ShloMosaic.Adequacy
public import Idealize.ShloMosaic.Init

/-! The update of the weights of the keys or of the values. -/

@[expose] public section

set_option maxRecDepth 16384

noncomputable section

namespace Cert.AdamKvIdeal.Prod

open Cert.AdamKvIdeal Cert.AdamKvIdeal.Gen
open Idealize.ShloMosaic Idealize.ShloMosaic.TcCoe Idealize.ShloMosaic.Tactic

/-! ### The body's arithmetic -/

theorem first_at (p : Vec Ideal S1x256x256 .f32) (g : Vec Ideal S256x256 .f32) (i : Fin 256) (j : Fin 256) :
    k0_pay1 (k0_pay5 p g) (ix3 0 i j) = Cert.Adam.first (g (ix2 i j)) (p (ix3 0 i j)) := by
  unfold Cert.Adam.first
  pointwise [k0_pay1, k0_pay5, k0_pay4]

theorem second_at (q : Vec Ideal S1x256x256 .f32) (g : Vec Ideal S256x256 .f32) (i : Fin 256) (j : Fin 256) :
    k0_pay2 (k0_pay6 q g) (ix3 0 i j) = Cert.Adam.second (g (ix2 i j)) (q (ix3 0 i j)) := by
  unfold Cert.Adam.second
  pointwise [k0_pay2, k0_pay6, k0_pay4]

theorem delta_at (w p q : Vec Ideal S1x256x256 .f32) (g : Vec Ideal S256x256 .f32) (i : Fin 256) (j : Fin 256) :
    k0_pay7 w p q g (ix3 0 i j) = Cert.Adam.delta (w (ix3 0 i j)) (g (ix2 i j)) (p (ix3 0 i j)) (q (ix3 0 i j)) := by
  unfold Cert.Adam.delta Cert.Adam.first Cert.Adam.second
  pointwise [k0_pay7, k0_pay6, k0_pay5, k0_pay4]

theorem kept_at (g : Vec Ideal S256x256 .f32) (i : Fin 256) (j : Fin 256) : k0_pay3 (k0_pay4 g) (ix3 0 i j) = g (ix2 i j) := by
  pointwise [k0_pay3, k0_pay4]

variable (m : (ℓ : Loc nD τ sig) → Buf (Elt Ideal) ℓ) (c : Dev nD)

abbrev wA : FVec Ideal S1x256x256 .f32 := m ((c.tc : Thread nD τ).loc main_arg0)
abbrev gA : FVec Ideal S1x256x256 .f32 := m ((c.tc : Thread nD τ).loc main_arg1)
abbrev pA : FVec Ideal S1x256x256 .f32 := m ((c.tc : Thread nD τ).loc main_arg2)
abbrev qA : FVec Ideal S1x256x256 .f32 := m ((c.tc : Thread nD τ).loc main_arg3)

/-- The block every window is at. -/
theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] := by
  decide +kernel

theorem lt_points (t : Fin cfg0.N) : t.val < 1 := lt_of_lt_of_eq t.isLt (show cfg0.N = 1 from N_0)

theorem V_g (r : Fin 256) (j : Fin 256) : (V m c main_v0 : FVec Ideal S256x256 .f32) (ix2 r j) = gA m c (ix3 0 r j) := by
  rw [show (V m c main_v0 : FVec Ideal S256x256 .f32) = shapeCast S256x256 (gA m c) shapeCasts_S1x256x256_S256x256 by entry_read; rfl]
  pointwise

/-- The layer of a point. -/
def lay (t : Fin cfg0.N) : Fin 1 := ⟨t.val / 1, by have := lt_points t; omega⟩

/-- The array's row of row `i` at point `t`. -/
def row (t : Fin cfg0.N) (i : Fin 256) : Fin 256 := ⟨256 * (t.val % 1) + i.val, by omega⟩

theorem blk0 (t : Fin cfg0.N) (i : Fin 256) (j : Fin 256) : iblk m c 0 t (ix3 0 i j) = wA m c (ix3 (lay t) (row t i) j) := by
  rw [← show V m c main_arg0 = wA m c from V_main_arg0 m c]
  unfold lay row
  blk_ext [iblk, idx t]

theorem blk1 (t : Fin cfg0.N) (i : Fin 256) (j : Fin 256) : iblk m c 1 t (ix3 0 i j) = pA m c (ix3 (lay t) (row t i) j) := by
  rw [← show V m c main_arg2 = pA m c from V_main_arg2 m c]
  unfold lay row
  blk_ext [iblk, idx t]

theorem blk2 (t : Fin cfg0.N) (i : Fin 256) (j : Fin 256) : iblk m c 2 t (ix3 0 i j) = qA m c (ix3 (lay t) (row t i) j) := by
  rw [← show V m c main_arg3 = qA m c from V_main_arg3 m c]
  unfold lay row
  blk_ext [iblk, idx t]

theorem blk3 (t : Fin cfg0.N) (i : Fin 256) (j : Fin 256) : iblk m c 3 t (ix2 i j) = gA m c (ix3 (lay t) (row t i) j) := by
  have hl : lay t = 0 := Fin.ext (by have := lt_points t; show t.val / 1 = 0; omega)
  rw [hl, ← V_g]
  have ht : t.val % 1 = t.val := by have := lt_points t; omega
  unfold row
  simp only [ht]
  blk_ext [iblk, idx t]

/-- The results, entry by entry. -/
def result0 : FVec Ideal S1x256x256 .f32 := fun I => Cert.Adam.delta (wA m c I) (gA m c I) (pA m c I) (qA m c I)

theorem written0 (t : Fin cfg0.N) (i : Fin 256) (j : Fin 256) : out0_4 (iblk m c 0 t) (iblk m c 1 t) (iblk m c 2 t) (iblk m c 3 t) (ix3 0 i j) = result0 m c (ix3 (lay t) (row t i) j) := by
  unfold out0_4
  frame_out
  exact (delta_at _ _ _ _ i j).trans (by rw [blk0 m c t i j, blk1 m c t i j, blk2 m c t i j, blk3 m c t i j]; rfl)

/-- The results, entry by entry. -/
def result1 : FVec Ideal S1x256x256 .f32 := fun I => Cert.Adam.first (gA m c I) (pA m c I)

theorem written1 (t : Fin cfg0.N) (i : Fin 256) (j : Fin 256) : out0_5 (iblk m c 0 t) (iblk m c 1 t) (iblk m c 2 t) (iblk m c 3 t) (ix3 0 i j) = result1 m c (ix3 (lay t) (row t i) j) := by
  unfold out0_5
  frame_out
  exact (first_at _ _ i j).trans (by rw [blk1 m c t i j, blk3 m c t i j]; rfl)

/-- The results, entry by entry. -/
def result2 : FVec Ideal S1x256x256 .f32 := fun I => Cert.Adam.second (gA m c I) (qA m c I)

theorem written2 (t : Fin cfg0.N) (i : Fin 256) (j : Fin 256) : out0_6 (iblk m c 0 t) (iblk m c 1 t) (iblk m c 2 t) (iblk m c 3 t) (ix3 0 i j) = result2 m c (ix3 (lay t) (row t i) j) := by
  unfold out0_6
  frame_out
  exact (second_at _ _ i j).trans (by rw [blk2 m c t i j, blk3 m c t i j]; rfl)

/-- The results, entry by entry. -/
def result3 : FVec Ideal S1x256x256 .f32 := fun I => gA m c I

theorem written3 (t : Fin cfg0.N) (i : Fin 256) (j : Fin 256) : out0_7 (iblk m c 0 t) (iblk m c 1 t) (iblk m c 2 t) (iblk m c 3 t) (ix3 0 i j) = result3 m c (ix3 (lay t) (row t i) j) := by
  unfold out0_7
  frame_out
  exact (kept_at _ i j).trans (blk3 m c t i j)

theorem final0 : (dats m 0 c).arrAt 4 (cfgs 0).N = result0 m c := by
  refine (dats m 0 c).arrAt_eq_of_covers 4 _ (by decide +kernel) fun t ht y => ?_
  blk_simp
  rw [after0_4]
  obtain ⟨i, j, rfl⟩ : ∃ (i : Fin 256) (j : Fin 256), y = ix3 0 i j := ⟨y 1, y 2, by ext a; fin_cases a <;> first | rfl | exact (Nat.lt_one_iff.mp (y 0).isLt)⟩
  refine (written0 m c t i j).trans ?_
  refine (show _ = result0 m c (ix3 (lay t) (row t i) j) from rfl).trans ?_
  unfold lay row
  blk_ext [idx t]

theorem final1 : (dats m 0 c).arrAt 5 (cfgs 0).N = result1 m c := by
  refine (dats m 0 c).arrAt_eq_of_covers 5 _ (by decide +kernel) fun t ht y => ?_
  blk_simp
  rw [after0_5]
  obtain ⟨i, j, rfl⟩ : ∃ (i : Fin 256) (j : Fin 256), y = ix3 0 i j := ⟨y 1, y 2, by ext a; fin_cases a <;> first | rfl | exact (Nat.lt_one_iff.mp (y 0).isLt)⟩
  refine (written1 m c t i j).trans ?_
  refine (show _ = result1 m c (ix3 (lay t) (row t i) j) from rfl).trans ?_
  unfold lay row
  blk_ext [idx t]

theorem final2 : (dats m 0 c).arrAt 6 (cfgs 0).N = result2 m c := by
  refine (dats m 0 c).arrAt_eq_of_covers 6 _ (by decide +kernel) fun t ht y => ?_
  blk_simp
  rw [after0_6]
  obtain ⟨i, j, rfl⟩ : ∃ (i : Fin 256) (j : Fin 256), y = ix3 0 i j := ⟨y 1, y 2, by ext a; fin_cases a <;> first | rfl | exact (Nat.lt_one_iff.mp (y 0).isLt)⟩
  refine (written2 m c t i j).trans ?_
  refine (show _ = result2 m c (ix3 (lay t) (row t i) j) from rfl).trans ?_
  unfold lay row
  blk_ext [idx t]

theorem final3 : (dats m 0 c).arrAt 7 (cfgs 0).N = result3 m c := by
  refine (dats m 0 c).arrAt_eq_of_covers 7 _ (by decide +kernel) fun t ht y => ?_
  blk_simp
  rw [after0_7]
  obtain ⟨i, j, rfl⟩ : ∃ (i : Fin 256) (j : Fin 256), y = ix3 0 i j := ⟨y 1, y 2, by ext a; fin_cases a <;> first | rfl | exact (Nat.lt_one_iff.mp (y 0).isLt)⟩
  refine (written3 m c t i j).trans ?_
  refine (show _ = result3 m c (ix3 (lay t) (row t i) j) from rfl).trans ?_
  unfold lay row
  blk_ext [idx t]

end Cert.AdamKvIdeal.Prod

namespace Cert.AdamKvRefIdeal.Prod

open Cert.AdamKvRefIdeal Cert.AdamKvRefIdeal.Gen
open Idealize.ShloMosaic Idealize.ShloMosaic.TcCoe Idealize.ShloMosaic.Tactic

/-- The reference's results over its arguments. -/
def line0 (w g p q : FVec Ideal S1x256x256 .f32) : FVec Ideal S1x256x256 .f32 :=
  mulf (broadcastInDim S1x256x256 ![] bcast_S_S1x256x256 (constant S_ .f32 0xBA83126F#32)) (addf (Host.divf (Host.divf (addf (mulf (broadcastInDim S1x256x256 ![] bcast_S_S1x256x256 (constant S_ .f32 0x3F666666#32)) p) (mulf (broadcastInDim S1x256x256 ![] bcast_S_S1x256x256 (constant S_ .f32 0x3DCCCCCD#32)) g)) (broadcastInDim S1x256x256 ![] bcast_S_S1x256x256 (constant S_ .f32 0x3F26BD02#32))) (addf (Host.sqrt (Host.divf (addf (mulf (broadcastInDim S1x256x256 ![] bcast_S_S1x256x256 (constant S_ .f32 0x3F7FBE77#32)) q) (mulf (broadcastInDim S1x256x256 ![] bcast_S_S1x256x256 (constant S_ .f32 0x3A83126F#32)) (mulf g g))) (broadcastInDim S1x256x256 ![] bcast_S_S1x256x256 (constant S_ .f32 0x3C231ACC#32)))) (broadcastInDim S1x256x256 ![] bcast_S_S1x256x256 (constant S_ .f32 0x322BCC77#32)))) (mulf (broadcastInDim S1x256x256 ![] bcast_S_S1x256x256 (constant S_ .f32 0x3C23D70A#32)) w))

def line1 (g p : FVec Ideal S1x256x256 .f32) : FVec Ideal S1x256x256 .f32 :=
  addf (mulf (broadcastInDim S1x256x256 ![] bcast_S_S1x256x256 (constant S_ .f32 0x3F666666#32)) p) (mulf (broadcastInDim S1x256x256 ![] bcast_S_S1x256x256 (constant S_ .f32 0x3DCCCCCD#32)) g)

def line2 (g q : FVec Ideal S1x256x256 .f32) : FVec Ideal S1x256x256 .f32 :=
  addf (mulf (broadcastInDim S1x256x256 ![] bcast_S_S1x256x256 (constant S_ .f32 0x3F7FBE77#32)) q) (mulf (broadcastInDim S1x256x256 ![] bcast_S_S1x256x256 (constant S_ .f32 0x3A83126F#32)) (mulf g g))

theorem line1_at (g p : FVec Ideal S1x256x256 .f32) (y : S1x256x256.Idx) : line1 g p y = Cert.Adam.first (g y) (p y) := by
  unfold Cert.Adam.first
  pointwise [line1]

theorem line2_at (g q : FVec Ideal S1x256x256 .f32) (y : S1x256x256.Idx) : line2 g q y = Cert.Adam.second (g y) (q y) := by
  rw [← Cert.Adam.second_eq]
  pointwise [line2]

theorem line0_at (w g p q : FVec Ideal S1x256x256 .f32) (y : S1x256x256.Idx) : line0 w g p q y = Cert.Adam.delta (w y) (g y) (p y) (q y) := by
  unfold Cert.Adam.delta
  rw [← Cert.Adam.second_eq]
  unfold Cert.Adam.first
  pointwise [line0]

end Cert.AdamKvRefIdeal.Prod

namespace Cert.AdamKvIdeal.Prod

open Cert.AdamKvIdeal Cert.AdamKvIdeal.Gen
open Idealize.ShloMosaic Idealize.ShloMosaic.TcCoe Idealize.ShloMosaic.Tactic

variable (m : (ℓ : Loc nD τ sig) → Buf (Elt Ideal) ℓ) (c : Dev nD)

theorem reference_eq0 : Cert.AdamKvRefIdeal.Prod.line0 (wA m c) (gA m c) (pA m c) (qA m c) = result0 m c :=
  funext fun y => Cert.AdamKvRefIdeal.Prod.line0_at _ _ _ _ y

theorem reference_eq1 : Cert.AdamKvRefIdeal.Prod.line1 (gA m c) (pA m c) = result1 m c :=
  funext fun y => Cert.AdamKvRefIdeal.Prod.line1_at _ _ y

theorem reference_eq2 : Cert.AdamKvRefIdeal.Prod.line2 (gA m c) (qA m c) = result2 m c :=
  funext fun y => Cert.AdamKvRefIdeal.Prod.line2_at _ _ y

end Cert.AdamKvIdeal.Prod

namespace Cert.Proof.AdamKv

open Idealize.ShloMosaic Idealize.ShloMosaic.TcCoe Idealize.SL.Sem
open Idealize.ShloMosaic.Tactic
open Cert.AdamKvIdeal.Prod

theorem quiescent_kernelIdeal : Cert.quiescent_AdamKvIdeal := fun m ρ _ => Cert.AdamKvIdeal.Gen.frame (F := Ideal) m ρ

/-- What the frame says of a run of the ideal printing, at any reading of the floats. -/
def Framed (F : FTy → Type) [FloatOps F] : Prop :=
  ∀ (m : (ℓ : Loc Cert.AdamKvIdeal.nD Cert.AdamKvIdeal.τ Cert.AdamKvIdeal.sig) → Buf (Elt F) ℓ) (ρ : Dev Cert.AdamKvIdeal.nD → PrngReg), True →
    θ_run (Cert.AdamKvIdeal.defs (F := F)) (onTc (τ := Cert.AdamKvIdeal.τ) (Cert.AdamKvIdeal.main (F := F))) ⟨m, fun _ => 0, ρ⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

theorem framed (F : FTy → Type) [FloatOps F] : Framed F := fun m ρ _ => Cert.AdamKvIdeal.Gen.frame m ρ

/-- The two printings are one program, line for line. -/
theorem kernel_framed : Cert.quiescent_AdamKv = Framed Bits := by sl_kernel_rfl

theorem quiescent_kernel : Cert.quiescent_AdamKv := kernel_framed.mpr (framed Bits)

theorem quiescent_reference : Cert.quiescent_AdamKvRefIdeal := fun m ρ _ =>
  (θ_run Cert.AdamKvRefIdeal.defs _ _).mono (fun r h => ⟨fun c => (h c).2.2.2.2, sem_eq_zero_of_no_sems (by decide) r.2⟩)
    (Cert.AdamKvRefIdeal.Value.run (F := Ideal) m ρ)

/-- The results are the reference's. -/
theorem equation : Cert.algebraic_AdamKvIdeal_AdamKvRefIdeal := by
  pair_intro
  · run_from Cert.AdamKvIdeal.Gen.run_main m g
    all_goals first | exact Cert.AdamKvIdeal.Gen.V_main_arg0 m c | exact Cert.AdamKvIdeal.Gen.V_main_arg1 m c | exact Cert.AdamKvIdeal.Gen.V_main_arg2 m c | exact Cert.AdamKvIdeal.Gen.V_main_arg3 m c
  · run_from Cert.AdamKvRefIdeal.Value.run m' g'
    · exact (reference_eq0 m c).trans (final0 m c).symm
    · exact (reference_eq1 m c).trans (final1 m c).symm
    · exact (reference_eq2 m c).trans (final2 m c).symm
    · exact (final3 m c).symm

end Cert.Proof.AdamKv

end
-- ==== Proof.AdamUp.lean ====
module

public import proofs.«01_k».proof.Defs
public import proofs.«01_k».proof.Proof.Gen.AdamUp
public import proofs.«01_k».proof.Proof.Gen.AdamUpIdeal.Value
public import proofs.«01_k».proof.Proof.Gen.AdamUpRefIdeal.Run
public import proofs.«01_k».proof.Proof.Adam
public import Idealize.ShloMosaic.Lib.Pipeline.ValueKit
public import Idealize.ShloMosaic.Lib.Ring
public import Idealize.ShloMosaic.Adequacy
public import Idealize.ShloMosaic.Init

/-! The update of the up projection's weights, whose gradient comes as one array per layer. -/

@[expose] public section

set_option maxRecDepth 16384

noncomputable section

namespace Cert.AdamUpIdeal.Prod

open Cert.AdamUpIdeal Cert.AdamUpIdeal.Gen
open Idealize.ShloMosaic Idealize.ShloMosaic.TcCoe Idealize.ShloMosaic.Tactic

/-! ### The body's arithmetic -/

theorem first_at (z : grid0.Coords) (p : Vec Ideal S1x256x1408 .f32) (g0 g1 : Vec Ideal S256x1408 .f32) (i : Fin 256) (j : Fin 1408) :
    k0_pay2 (k0_pay6 z p g0 g1) (ix3 0 i j) = Cert.Adam.first (k0_pay5 z g0 g1 (ix2 i j)) (p (ix3 0 i j)) := by
  unfold Cert.Adam.first
  pointwise [k0_pay2, k0_pay6]

theorem second_at (z : grid0.Coords) (q : Vec Ideal S1x256x1408 .f32) (g0 g1 : Vec Ideal S256x1408 .f32) (i : Fin 256) (j : Fin 1408) :
    k0_pay3 (k0_pay7 z q g0 g1) (ix3 0 i j) = Cert.Adam.second (k0_pay5 z g0 g1 (ix2 i j)) (q (ix3 0 i j)) := by
  unfold Cert.Adam.second
  pointwise [k0_pay3, k0_pay7]

theorem delta_at (z : grid0.Coords) (w p q : Vec Ideal S1x256x1408 .f32) (g0 g1 : Vec Ideal S256x1408 .f32) (i : Fin 256) (j : Fin 1408) :
    k0_pay1 (k0_pay8 z p q g0 g1) (k0_pay9 w) (ix3 0 i j) = Cert.Adam.delta (w (ix3 0 i j)) (k0_pay5 z g0 g1 (ix2 i j)) (p (ix3 0 i j)) (q (ix3 0 i j)) := by
  unfold Cert.Adam.delta Cert.Adam.first Cert.Adam.second
  pointwise [k0_pay1, k0_pay8, k0_pay9, k0_pay7, k0_pay6]

theorem kept_at (z : grid0.Coords) (g0 g1 : Vec Ideal S256x1408 .f32) (i : Fin 256) (j : Fin 1408) : k0_pay4 (k0_pay5 z g0 g1) (ix3 0 i j) = k0_pay5 z g0 g1 (ix2 i j) := by
  pointwise [k0_pay4]

theorem of_first (z : grid0.Coords) (g0 g1 : Vec Ideal S256x1408 .f32) (hz : (z 0).val < 4) (i : Fin 256) (j : Fin 1408) : k0_pay5 z g0 g1 (ix2 i j) = g0 (ix2 i j) := by
  obtain ⟨k, hk⟩ : ∃ k : Fin 8, k.val = (z 0).val := ⟨⟨(z 0).val, by omega⟩, rfl⟩
  have hs : Scalar.cmpi .sge (Scalar.addi (Scalar.muli (BitVec.ofNat 32 (z 0).val) 256#32) 0#32) 1024#32 = 0#1 := by
    rw [← hk] at hz ⊢
    clear hk
    revert k
    decide +kernel
  unfold k0_pay5
  simp only [hs]
  pointwise

theorem of_second (z : grid0.Coords) (g0 g1 : Vec Ideal S256x1408 .f32) (hz : 4 ≤ (z 0).val) (hn : (z 0).val < 8) (i : Fin 256) (j : Fin 1408) : k0_pay5 z g0 g1 (ix2 i j) = g1 (ix2 i j) := by
  obtain ⟨k, hk⟩ : ∃ k : Fin 8, k.val = (z 0).val := ⟨⟨(z 0).val, hn⟩, rfl⟩
  have hs : Scalar.cmpi .sge (Scalar.addi (Scalar.muli (BitVec.ofNat 32 (z 0).val) 256#32) 0#32) 1024#32 = 1#1 := by
    rw [← hk] at hz ⊢
    clear hn hk
    revert k
    decide +kernel
  unfold k0_pay5
  simp only [hs]
  pointwise

variable (m : (ℓ : Loc nD τ sig) → Buf (Elt Ideal) ℓ) (c : Dev nD)

abbrev wA : FVec Ideal S2x1024x1408 .f32 := m ((c.tc : Thread nD τ).loc main_arg0)
abbrev gA : FVec Ideal S2x1024x1408 .f32 := m ((c.tc : Thread nD τ).loc main_arg1)
abbrev pA : FVec Ideal S2x1024x1408 .f32 := m ((c.tc : Thread nD τ).loc main_arg2)
abbrev qA : FVec Ideal S2x1024x1408 .f32 := m ((c.tc : Thread nD τ).loc main_arg3)

/-- The block every window is at. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![min t.val 3, 0] ∧ win0_4.index t = ![t.val - 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] := by
  decide +kernel

theorem lt_points (t : Fin cfg0.N) : t.val < 8 := lt_of_lt_of_eq t.isLt (show cfg0.N = 8 from N_0)

theorem V_g0 (r : Fin 1024) (j : Fin 1408) : (V m c main_v1 : FVec Ideal S1024x1408 .f32) (ix2 r j) = gA m c (ix3 0 r j) := by
  rw [show (V m c main_v1 : FVec Ideal S1024x1408 .f32) = shapeCast S1024x1408 (extractStridedSlice S1x1024x1408 ![0, 0, 0] (gA m c) slices_S2x1024x1408_S1x1024x1408_0_0_0) shapeCasts_S1x1024x1408_S1024x1408 by entry_read; rfl]
  pointwise

theorem V_g1 (r : Fin 1024) (j : Fin 1408) : (V m c main_v3 : FVec Ideal S1024x1408 .f32) (ix2 r j) = gA m c (ix3 1 r j) := by
  rw [show (V m c main_v3 : FVec Ideal S1024x1408 .f32) = shapeCast S1024x1408 (extractStridedSlice S1x1024x1408 ![1, 0, 0] (gA m c) slices_S2x1024x1408_S1x1024x1408_1_0_0) shapeCasts_S1x1024x1408_S1024x1408 by entry_read; rfl]
  pointwise

/-- The layer of a point. -/
def lay (t : Fin cfg0.N) : Fin 2 := ⟨t.val / 4, by have := lt_points t; omega⟩

/-- The array's row of row `i` at point `t`. -/
def row (t : Fin cfg0.N) (i : Fin 256) : Fin 1024 := ⟨256 * (t.val % 4) + i.val, by omega⟩

theorem blk0 (t : Fin cfg0.N) (i : Fin 256) (j : Fin 1408) : iblk m c 0 t (ix3 0 i j) = wA m c (ix3 (lay t) (row t i) j) := by
  rw [← show V m c main_arg0 = wA m c from V_main_arg0 m c]
  unfold lay row
  blk_ext [iblk, idx t]

theorem blk1 (t : Fin cfg0.N) (i : Fin 256) (j : Fin 1408) : iblk m c 1 t (ix3 0 i j) = pA m c (ix3 (lay t) (row t i) j) := by
  rw [← show V m c main_arg2 = pA m c from V_main_arg2 m c]
  unfold lay row
  blk_ext [iblk, idx t]

theorem blk2 (t : Fin cfg0.N) (i : Fin 256) (j : Fin 1408) : iblk m c 2 t (ix3 0 i j) = qA m c (ix3 (lay t) (row t i) j) := by
  rw [← show V m c main_arg3 = qA m c from V_main_arg3 m c]
  unfold lay row
  blk_ext [iblk, idx t]

theorem blk3 (t : Fin cfg0.N) (ht : t.val < 4) (i : Fin 256) (j : Fin 1408) : iblk m c 3 t (ix2 i j) = gA m c (ix3 (lay t) (row t i) j) := by
  have hl : lay t = 0 := Fin.ext (by show t.val / 4 = 0; omega)
  rw [hl, ← V_g0]
  have h' : t.val % 4 = t.val := by omega
  have hm : min t.val 3 = t.val := by omega
  unfold row
  simp only [h']
  blk_ext [iblk, idx t, hm]

theorem blk4 (t : Fin cfg0.N) (ht : 4 ≤ t.val) (i : Fin 256) (j : Fin 1408) : iblk m c 4 t (ix2 i j) = gA m c (ix3 (lay t) (row t i) j) := by
  have := lt_points t
  have hl : lay t = 1 := Fin.ext (by show t.val / 4 = 1; omega)
  rw [hl, ← V_g1]
  have h' : t.val % 4 = t.val - 4 := by omega
  unfold row
  simp only [h']
  blk_ext [iblk, idx t]

theorem coord : ∀ t : Fin cfg0.N, ((grid0.coords t) 0).val = t.val := by decide +kernel

/-- The gradient that a point takes. -/
theorem grad_of (t : Fin cfg0.N) (i : Fin 256) (j : Fin 1408) : k0_pay5 (grid0.coords t) (iblk m c 3 t) (iblk m c 4 t) (ix2 i j) = gA m c (ix3 (lay t) (row t i) j) := by
  have hc := coord t
  by_cases ht : t.val < 4
  · exact (of_first _ _ _ (by omega) i j).trans (blk3 m c t ht i j)
  · exact (of_second _ _ _ (by omega) (by have := lt_points t; omega) i j).trans (blk4 m c t (by omega) i j)

/-- The results, entry by entry. -/
def result0 : FVec Ideal S2x1024x1408 .f32 := fun I => Cert.Adam.delta (wA m c I) (gA m c I) (pA m c I) (qA m c I)

theorem written0 (t : Fin cfg0.N) (i : Fin 256) (j : Fin 1408) : out0_5 (grid0.coords t) (iblk m c 0 t) (iblk m c 1 t) (iblk m c 2 t) (iblk m c 3 t) (iblk m c 4 t) (ix3 0 i j) = result0 m c (ix3 (lay t) (row t i) j) := by
  unfold out0_5
  frame_out
  exact (delta_at _ _ _ _ _ _ i j).trans (by rw [blk0 m c t i j, blk1 m c t i j, blk2 m c t i j, grad_of m c t i j]; rfl)

/-- The results, entry by entry. -/
def result1 : FVec Ideal S2x1024x1408 .f32 := fun I => Cert.Adam.first (gA m c I) (pA m c I)

theorem written1 (t : Fin cfg0.N) (i : Fin 256) (j : Fin 1408) : out0_6 (grid0.coords t) (iblk m c 0 t) (iblk m c 1 t) (iblk m c 2 t) (iblk m c 3 t) (iblk m c 4 t) (ix3 0 i j) = result1 m c (ix3 (lay t) (row t i) j) := by
  unfold out0_6
  frame_out
  exact (first_at _ _ _ _ i j).trans (by rw [blk1 m c t i j, grad_of m c t i j]; rfl)

/-- The results, entry by entry. -/
def result2 : FVec Ideal S2x1024x1408 .f32 := fun I => Cert.Adam.second (gA m c I) (qA m c I)

theorem written2 (t : Fin cfg0.N) (i : Fin 256) (j : Fin 1408) : out0_7 (grid0.coords t) (iblk m c 0 t) (iblk m c 1 t) (iblk m c 2 t) (iblk m c 3 t) (iblk m c 4 t) (ix3 0 i j) = result2 m c (ix3 (lay t) (row t i) j) := by
  unfold out0_7
  frame_out
  exact (second_at _ _ _ _ i j).trans (by rw [blk2 m c t i j, grad_of m c t i j]; rfl)

/-- The results, entry by entry. -/
def result3 : FVec Ideal S2x1024x1408 .f32 := fun I => gA m c I

theorem written3 (t : Fin cfg0.N) (i : Fin 256) (j : Fin 1408) : out0_8 (grid0.coords t) (iblk m c 0 t) (iblk m c 1 t) (iblk m c 2 t) (iblk m c 3 t) (iblk m c 4 t) (ix3 0 i j) = result3 m c (ix3 (lay t) (row t i) j) := by
  unfold out0_8
  frame_out
  exact (kept_at _ _ _ i j).trans (grad_of m c t i j)

theorem final0 : (dats m 0 c).arrAt 5 (cfgs 0).N = result0 m c := by
  refine (dats m 0 c).arrAt_eq_of_covers 5 _ (by decide +kernel) fun t ht y => ?_
  blk_simp
  rw [after0_5]
  obtain ⟨i, j, rfl⟩ : ∃ (i : Fin 256) (j : Fin 1408), y = ix3 0 i j := ⟨y 1, y 2, by ext a; fin_cases a <;> first | rfl | exact (Nat.lt_one_iff.mp (y 0).isLt)⟩
  refine (written0 m c t i j).trans ?_
  refine (show _ = result0 m c (ix3 (lay t) (row t i) j) from rfl).trans ?_
  unfold lay row
  blk_ext [idx t]

theorem final1 : (dats m 0 c).arrAt 6 (cfgs 0).N = result1 m c := by
  refine (dats m 0 c).arrAt_eq_of_covers 6 _ (by decide +kernel) fun t ht y => ?_
  blk_simp
  rw [after0_6]
  obtain ⟨i, j, rfl⟩ : ∃ (i : Fin 256) (j : Fin 1408), y = ix3 0 i j := ⟨y 1, y 2, by ext a; fin_cases a <;> first | rfl | exact (Nat.lt_one_iff.mp (y 0).isLt)⟩
  refine (written1 m c t i j).trans ?_
  refine (show _ = result1 m c (ix3 (lay t) (row t i) j) from rfl).trans ?_
  unfold lay row
  blk_ext [idx t]

theorem final2 : (dats m 0 c).arrAt 7 (cfgs 0).N = result2 m c := by
  refine (dats m 0 c).arrAt_eq_of_covers 7 _ (by decide +kernel) fun t ht y => ?_
  blk_simp
  rw [after0_7]
  obtain ⟨i, j, rfl⟩ : ∃ (i : Fin 256) (j : Fin 1408), y = ix3 0 i j := ⟨y 1, y 2, by ext a; fin_cases a <;> first | rfl | exact (Nat.lt_one_iff.mp (y 0).isLt)⟩
  refine (written2 m c t i j).trans ?_
  refine (show _ = result2 m c (ix3 (lay t) (row t i) j) from rfl).trans ?_
  unfold lay row
  blk_ext [idx t]

theorem final3 : (dats m 0 c).arrAt 8 (cfgs 0).N = result3 m c := by
  refine (dats m 0 c).arrAt_eq_of_covers 8 _ (by decide +kernel) fun t ht y => ?_
  blk_simp
  rw [after0_8]
  obtain ⟨i, j, rfl⟩ : ∃ (i : Fin 256) (j : Fin 1408), y = ix3 0 i j := ⟨y 1, y 2, by ext a; fin_cases a <;> first | rfl | exact (Nat.lt_one_iff.mp (y 0).isLt)⟩
  refine (written3 m c t i j).trans ?_
  refine (show _ = result3 m c (ix3 (lay t) (row t i) j) from rfl).trans ?_
  unfold lay row
  blk_ext [idx t]

end Cert.AdamUpIdeal.Prod

namespace Cert.AdamUpRefIdeal.Prod

open Cert.AdamUpRefIdeal Cert.AdamUpRefIdeal.Gen
open Idealize.ShloMosaic Idealize.ShloMosaic.TcCoe Idealize.ShloMosaic.Tactic

/-- The reference's results over its arguments. -/
def line0 (w g p q : FVec Ideal S2x1024x1408 .f32) : FVec Ideal S2x1024x1408 .f32 :=
  mulf (broadcastInDim S2x1024x1408 ![] bcast_S_S2x1024x1408 (constant S_ .f32 0xBA83126F#32)) (addf (Host.divf (Host.divf (addf (mulf (broadcastInDim S2x1024x1408 ![] bcast_S_S2x1024x1408 (constant S_ .f32 0x3F666666#32)) p) (mulf (broadcastInDim S2x1024x1408 ![] bcast_S_S2x1024x1408 (constant S_ .f32 0x3DCCCCCD#32)) g)) (broadcastInDim S2x1024x1408 ![] bcast_S_S2x1024x1408 (constant S_ .f32 0x3F26BD02#32))) (addf (Host.sqrt (Host.divf (addf (mulf (broadcastInDim S2x1024x1408 ![] bcast_S_S2x1024x1408 (constant S_ .f32 0x3F7FBE77#32)) q) (mulf (broadcastInDim S2x1024x1408 ![] bcast_S_S2x1024x1408 (constant S_ .f32 0x3A83126F#32)) (mulf g g))) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) w))

def line1 (g p : FVec Ideal S2x1024x1408 .f32) : FVec Ideal S2x1024x1408 .f32 :=
  addf (mulf (broadcastInDim S2x1024x1408 ![] bcast_S_S2x1024x1408 (constant S_ .f32 0x3F666666#32)) p) (mulf (broadcastInDim S2x1024x1408 ![] bcast_S_S2x1024x1408 (constant S_ .f32 0x3DCCCCCD#32)) g)

def line2 (g q : FVec Ideal S2x1024x1408 .f32) : FVec Ideal S2x1024x1408 .f32 :=
  addf (mulf (broadcastInDim S2x1024x1408 ![] bcast_S_S2x1024x1408 (constant S_ .f32 0x3F7FBE77#32)) q) (mulf (broadcastInDim S2x1024x1408 ![] bcast_S_S2x1024x1408 (constant S_ .f32 0x3A83126F#32)) (mulf g g))

theorem line1_at (g p : FVec Ideal S2x1024x1408 .f32) (y : S2x1024x1408.Idx) : line1 g p y = Cert.Adam.first (g y) (p y) := by
  unfold Cert.Adam.first
  pointwise [line1]

theorem line2_at (g q : FVec Ideal S2x1024x1408 .f32) (y : S2x1024x1408.Idx) : line2 g q y = Cert.Adam.second (g y) (q y) := by
  rw [← Cert.Adam.second_eq]
  pointwise [line2]

theorem line0_at (w g p q : FVec Ideal S2x1024x1408 .f32) (y : S2x1024x1408.Idx) : line0 w g p q y = Cert.Adam.delta (w y) (g y) (p y) (q y) := by
  unfold Cert.Adam.delta
  rw [← Cert.Adam.second_eq]
  unfold Cert.Adam.first
  pointwise [line0]

end Cert.AdamUpRefIdeal.Prod

namespace Cert.AdamUpIdeal.Prod

open Cert.AdamUpIdeal Cert.AdamUpIdeal.Gen
open Idealize.ShloMosaic Idealize.ShloMosaic.TcCoe Idealize.ShloMosaic.Tactic

variable (m : (ℓ : Loc nD τ sig) → Buf (Elt Ideal) ℓ) (c : Dev nD)

theorem reference_eq0 : Cert.AdamUpRefIdeal.Prod.line0 (wA m c) (gA m c) (pA m c) (qA m c) = result0 m c :=
  funext fun y => Cert.AdamUpRefIdeal.Prod.line0_at _ _ _ _ y

theorem reference_eq1 : Cert.AdamUpRefIdeal.Prod.line1 (gA m c) (pA m c) = result1 m c :=
  funext fun y => Cert.AdamUpRefIdeal.Prod.line1_at _ _ y

theorem reference_eq2 : Cert.AdamUpRefIdeal.Prod.line2 (gA m c) (qA m c) = result2 m c :=
  funext fun y => Cert.AdamUpRefIdeal.Prod.line2_at _ _ y

end Cert.AdamUpIdeal.Prod

namespace Cert.Proof.AdamUp

open Idealize.ShloMosaic Idealize.ShloMosaic.TcCoe Idealize.SL.Sem
open Idealize.ShloMosaic.Tactic
open Cert.AdamUpIdeal.Prod

theorem quiescent_kernelIdeal : Cert.quiescent_AdamUpIdeal := fun m ρ _ => Cert.AdamUpIdeal.Gen.frame (F := Ideal) m ρ

/-- What the frame says of a run of the ideal printing, at any reading of the floats. -/
def Framed (F : FTy → Type) [FloatOps F] : Prop :=
  ∀ (m : (ℓ : Loc Cert.AdamUpIdeal.nD Cert.AdamUpIdeal.τ Cert.AdamUpIdeal.sig) → Buf (Elt F) ℓ) (ρ : Dev Cert.AdamUpIdeal.nD → PrngReg), True →
    θ_run (Cert.AdamUpIdeal.defs (F := F)) (onTc (τ := Cert.AdamUpIdeal.τ) (Cert.AdamUpIdeal.main (F := F))) ⟨m, fun _ => 0, ρ⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

theorem framed (F : FTy → Type) [FloatOps F] : Framed F := fun m ρ _ => Cert.AdamUpIdeal.Gen.frame m ρ

/-- The two printings are one program, line for line. -/
theorem kernel_framed : Cert.quiescent_AdamUp = Framed Bits := by sl_kernel_rfl

theorem quiescent_kernel : Cert.quiescent_AdamUp := kernel_framed.mpr (framed Bits)

theorem quiescent_reference : Cert.quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

/-- The results are the reference's. -/
theorem equation : Cert.algebraic_AdamUpIdeal_AdamUpRefIdeal := by
  pair_intro
  · run_from Cert.AdamUpIdeal.Gen.run_main m g
    all_goals first | exact Cert.AdamUpIdeal.Gen.V_main_arg0 m c | exact Cert.AdamUpIdeal.Gen.V_main_arg1 m c | exact Cert.AdamUpIdeal.Gen.V_main_arg2 m c | exact Cert.AdamUpIdeal.Gen.V_main_arg3 m c
  · run_from Cert.AdamUpRefIdeal.Value.run m' g'
    · exact (reference_eq0 m c).trans (final0 m c).symm
    · exact (reference_eq1 m c).trans (final1 m c).symm
    · exact (reference_eq2 m c).trans (final2 m c).symm
    · exact (final3 m c).symm

end Cert.Proof.AdamUp

end
-- ==== Proof.AdamDown.lean ====
module

public import proofs.«01_k».proof.Defs
public import proofs.«01_k».proof.Proof.Gen.AdamDown
public import proofs.«01_k».proof.Proof.Gen.AdamDownIdeal.Value
public import proofs.«01_k».proof.Proof.Gen.AdamDownRefIdeal.Run
public import proofs.«01_k».proof.Proof.Adam
public import Idealize.ShloMosaic.Lib.Pipeline.ValueKit
public import Idealize.ShloMosaic.Lib.Ring
public import Idealize.ShloMosaic.Adequacy
public import Idealize.ShloMosaic.Init

/-! The update of the down projection's weights, whose gradient comes as one array per layer. -/

@[expose] public section

set_option maxRecDepth 16384

noncomputable section

namespace Cert.AdamDownIdeal.Prod

open Cert.AdamDownIdeal Cert.AdamDownIdeal.Gen
open Idealize.ShloMosaic Idealize.ShloMosaic.TcCoe Idealize.ShloMosaic.Tactic

/-! ### The body's arithmetic -/

theorem first_at (z : grid0.Coords) (p : Vec Ideal S1x176x1024 .f32) (g0 g1 : Vec Ideal S176x1024 .f32) (i : Fin 176) (j : Fin 1024) :
    k0_pay2 (k0_pay6 z p g0 g1) (ix3 0 i j) = Cert.Adam.first (k0_pay5 z g0 g1 (ix2 i j)) (p (ix3 0 i j)) := by
  unfold Cert.Adam.first
  pointwise [k0_pay2, k0_pay6]

theorem second_at (z : grid0.Coords) (q : Vec Ideal S1x176x1024 .f32) (g0 g1 : Vec Ideal S176x1024 .f32) (i : Fin 176) (j : Fin 1024) :
    k0_pay3 (k0_pay7 z q g0 g1) (ix3 0 i j) = Cert.Adam.second (k0_pay5 z g0 g1 (ix2 i j)) (q (ix3 0 i j)) := by
  unfold Cert.Adam.second
  pointwise [k0_pay3, k0_pay7]

theorem delta_at (z : grid0.Coords) (w p q : Vec Ideal S1x176x1024 .f32) (g0 g1 : Vec Ideal S176x1024 .f32) (i : Fin 176) (j : Fin 1024) :
    k0_pay1 (k0_pay8 z p q g0 g1) (k0_pay9 w) (ix3 0 i j) = Cert.Adam.delta (w (ix3 0 i j)) (k0_pay5 z g0 g1 (ix2 i j)) (p (ix3 0 i j)) (q (ix3 0 i j)) := by
  unfold Cert.Adam.delta Cert.Adam.first Cert.Adam.second
  pointwise [k0_pay1, k0_pay8, k0_pay9, k0_pay7, k0_pay6]

theorem kept_at (z : grid0.Coords) (g0 g1 : Vec Ideal S176x1024 .f32) (i : Fin 176) (j : Fin 1024) : k0_pay4 (k0_pay5 z g0 g1) (ix3 0 i j) = k0_pay5 z g0 g1 (ix2 i j) := by
  pointwise [k0_pay4]

theorem of_first (z : grid0.Coords) (g0 g1 : Vec Ideal S176x1024 .f32) (hz : (z 0).val < 4) (i : Fin 176) (j : Fin 1024) : k0_pay5 z g0 g1 (ix2 i j) = g0 (ix2 i j) := by
  obtain ⟨k, hk⟩ : ∃ k : Fin 8, k.val = (z 0).val := ⟨⟨(z 0).val, by omega⟩, rfl⟩
  have hs : Scalar.cmpi .sge (Scalar.addi (Scalar.muli (BitVec.ofNat 32 (z 0).val) 176#32) 0#32) 704#32 = 0#1 := by
    rw [← hk] at hz ⊢
    clear hk
    revert k
    decide +kernel
  unfold k0_pay5
  simp only [hs]
  pointwise

theorem of_second (z : grid0.Coords) (g0 g1 : Vec Ideal S176x1024 .f32) (hz : 4 ≤ (z 0).val) (hn : (z 0).val < 8) (i : Fin 176) (j : Fin 1024) : k0_pay5 z g0 g1 (ix2 i j) = g1 (ix2 i j) := by
  obtain ⟨k, hk⟩ : ∃ k : Fin 8, k.val = (z 0).val := ⟨⟨(z 0).val, hn⟩, rfl⟩
  have hs : Scalar.cmpi .sge (Scalar.addi (Scalar.muli (BitVec.ofNat 32 (z 0).val) 176#32) 0#32) 704#32 = 1#1 := by
    rw [← hk] at hz ⊢
    clear hn hk
    revert k
    decide +kernel
  unfold k0_pay5
  simp only [hs]
  pointwise

variable (m : (ℓ : Loc nD τ sig) → Buf (Elt Ideal) ℓ) (c : Dev nD)

abbrev wA : FVec Ideal S2x704x1024 .f32 := m ((c.tc : Thread nD τ).loc main_arg0)
abbrev gA : FVec Ideal S2x704x1024 .f32 := m ((c.tc : Thread nD τ).loc main_arg1)
abbrev pA : FVec Ideal S2x704x1024 .f32 := m ((c.tc : Thread nD τ).loc main_arg2)
abbrev qA : FVec Ideal S2x704x1024 .f32 := m ((c.tc : Thread nD τ).loc main_arg3)

/-- The block every window is at. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![min t.val 3, 0] ∧ win0_4.index t = ![t.val - 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] := by
  decide +kernel

theorem lt_points (t : Fin cfg0.N) : t.val < 8 := lt_of_lt_of_eq t.isLt (show cfg0.N = 8 from N_0)

theorem V_g0 (r : Fin 704) (j : Fin 1024) : (V m c main_v1 : FVec Ideal S704x1024 .f32) (ix2 r j) = gA m c (ix3 0 r j) := by
  rw [show (V m c main_v1 : FVec Ideal S704x1024 .f32) = shapeCast S704x1024 (extractStridedSlice S1x704x1024 ![0, 0, 0] (gA m c) slices_S2x704x1024_S1x704x1024_0_0_0) shapeCasts_S1x704x1024_S704x1024 by entry_read; rfl]
  pointwise

theorem V_g1 (r : Fin 704) (j : Fin 1024) : (V m c main_v3 : FVec Ideal S704x1024 .f32) (ix2 r j) = gA m c (ix3 1 r j) := by
  rw [show (V m c main_v3 : FVec Ideal S704x1024 .f32) = shapeCast S704x1024 (extractStridedSlice S1x704x1024 ![1, 0, 0] (gA m c) slices_S2x704x1024_S1x704x1024_1_0_0) shapeCasts_S1x704x1024_S704x1024 by entry_read; rfl]
  pointwise

/-- The layer of a point. -/
def lay (t : Fin cfg0.N) : Fin 2 := ⟨t.val / 4, by have := lt_points t; omega⟩

/-- The array's row of row `i` at point `t`. -/
def row (t : Fin cfg0.N) (i : Fin 176) : Fin 704 := ⟨176 * (t.val % 4) + i.val, by omega⟩

theorem blk0 (t : Fin cfg0.N) (i : Fin 176) (j : Fin 1024) : iblk m c 0 t (ix3 0 i j) = wA m c (ix3 (lay t) (row t i) j) := by
  rw [← show V m c main_arg0 = wA m c from V_main_arg0 m c]
  unfold lay row
  blk_ext [iblk, idx t]

theorem blk1 (t : Fin cfg0.N) (i : Fin 176) (j : Fin 1024) : iblk m c 1 t (ix3 0 i j) = pA m c (ix3 (lay t) (row t i) j) := by
  rw [← show V m c main_arg2 = pA m c from V_main_arg2 m c]
  unfold lay row
  blk_ext [iblk, idx t]

theorem blk2 (t : Fin cfg0.N) (i : Fin 176) (j : Fin 1024) : iblk m c 2 t (ix3 0 i j) = qA m c (ix3 (lay t) (row t i) j) := by
  rw [← show V m c main_arg3 = qA m c from V_main_arg3 m c]
  unfold lay row
  blk_ext [iblk, idx t]

theorem blk3 (t : Fin cfg0.N) (ht : t.val < 4) (i : Fin 176) (j : Fin 1024) : iblk m c 3 t (ix2 i j) = gA m c (ix3 (lay t) (row t i) j) := by
  have hl : lay t = 0 := Fin.ext (by show t.val / 4 = 0; omega)
  rw [hl, ← V_g0]
  have h' : t.val % 4 = t.val := by omega
  have hm : min t.val 3 = t.val := by omega
  unfold row
  simp only [h']
  blk_ext [iblk, idx t, hm]

theorem blk4 (t : Fin cfg0.N) (ht : 4 ≤ t.val) (i : Fin 176) (j : Fin 1024) : iblk m c 4 t (ix2 i j) = gA m c (ix3 (lay t) (row t i) j) := by
  have := lt_points t
  have hl : lay t = 1 := Fin.ext (by show t.val / 4 = 1; omega)
  rw [hl, ← V_g1]
  have h' : t.val % 4 = t.val - 4 := by omega
  unfold row
  simp only [h']
  blk_ext [iblk, idx t]

theorem coord : ∀ t : Fin cfg0.N, ((grid0.coords t) 0).val = t.val := by decide +kernel

/-- The gradient that a point takes. -/
theorem grad_of (t : Fin cfg0.N) (i : Fin 176) (j : Fin 1024) : k0_pay5 (grid0.coords t) (iblk m c 3 t) (iblk m c 4 t) (ix2 i j) = gA m c (ix3 (lay t) (row t i) j) := by
  have hc := coord t
  by_cases ht : t.val < 4
  · exact (of_first _ _ _ (by omega) i j).trans (blk3 m c t ht i j)
  · exact (of_second _ _ _ (by omega) (by have := lt_points t; omega) i j).trans (blk4 m c t (by omega) i j)

/-- The results, entry by entry. -/
def result0 : FVec Ideal S2x704x1024 .f32 := fun I => Cert.Adam.delta (wA m c I) (gA m c I) (pA m c I) (qA m c I)

theorem written0 (t : Fin cfg0.N) (i : Fin 176) (j : Fin 1024) : out0_5 (grid0.coords t) (iblk m c 0 t) (iblk m c 1 t) (iblk m c 2 t) (iblk m c 3 t) (iblk m c 4 t) (ix3 0 i j) = result0 m c (ix3 (lay t) (row t i) j) := by
  unfold out0_5
  frame_out
  exact (delta_at _ _ _ _ _ _ i j).trans (by rw [blk0 m c t i j, blk1 m c t i j, blk2 m c t i j, grad_of m c t i j]; rfl)

/-- The results, entry by entry. -/
def result1 : FVec Ideal S2x704x1024 .f32 := fun I => Cert.Adam.first (gA m c I) (pA m c I)

theorem written1 (t : Fin cfg0.N) (i : Fin 176) (j : Fin 1024) : out0_6 (grid0.coords t) (iblk m c 0 t) (iblk m c 1 t) (iblk m c 2 t) (iblk m c 3 t) (iblk m c 4 t) (ix3 0 i j) = result1 m c (ix3 (lay t) (row t i) j) := by
  unfold out0_6
  frame_out
  exact (first_at _ _ _ _ i j).trans (by rw [blk1 m c t i j, grad_of m c t i j]; rfl)

/-- The results, entry by entry. -/
def result2 : FVec Ideal S2x704x1024 .f32 := fun I => Cert.Adam.second (gA m c I) (qA m c I)

theorem written2 (t : Fin cfg0.N) (i : Fin 176) (j : Fin 1024) : out0_7 (grid0.coords t) (iblk m c 0 t) (iblk m c 1 t) (iblk m c 2 t) (iblk m c 3 t) (iblk m c 4 t) (ix3 0 i j) = result2 m c (ix3 (lay t) (row t i) j) := by
  unfold out0_7
  frame_out
  exact (second_at _ _ _ _ i j).trans (by rw [blk2 m c t i j, grad_of m c t i j]; rfl)

/-- The results, entry by entry. -/
def result3 : FVec Ideal S2x704x1024 .f32 := fun I => gA m c I

theorem written3 (t : Fin cfg0.N) (i : Fin 176) (j : Fin 1024) : out0_8 (grid0.coords t) (iblk m c 0 t) (iblk m c 1 t) (iblk m c 2 t) (iblk m c 3 t) (iblk m c 4 t) (ix3 0 i j) = result3 m c (ix3 (lay t) (row t i) j) := by
  unfold out0_8
  frame_out
  exact (kept_at _ _ _ i j).trans (grad_of m c t i j)

theorem final0 : (dats m 0 c).arrAt 5 (cfgs 0).N = result0 m c := by
  refine (dats m 0 c).arrAt_eq_of_covers 5 _ (by decide +kernel) fun t ht y => ?_
  blk_simp
  rw [after0_5]
  obtain ⟨i, j, rfl⟩ : ∃ (i : Fin 176) (j : Fin 1024), y = ix3 0 i j := ⟨y 1, y 2, by ext a; fin_cases a <;> first | rfl | exact (Nat.lt_one_iff.mp (y 0).isLt)⟩
  refine (written0 m c t i j).trans ?_
  refine (show _ = result0 m c (ix3 (lay t) (row t i) j) from rfl).trans ?_
  unfold lay row
  blk_ext [idx t]

theorem final1 : (dats m 0 c).arrAt 6 (cfgs 0).N = result1 m c := by
  refine (dats m 0 c).arrAt_eq_of_covers 6 _ (by decide +kernel) fun t ht y => ?_
  blk_simp
  rw [after0_6]
  obtain ⟨i, j, rfl⟩ : ∃ (i : Fin 176) (j : Fin 1024), y = ix3 0 i j := ⟨y 1, y 2, by ext a; fin_cases a <;> first | rfl | exact (Nat.lt_one_iff.mp (y 0).isLt)⟩
  refine (written1 m c t i j).trans ?_
  refine (show _ = result1 m c (ix3 (lay t) (row t i) j) from rfl).trans ?_
  unfold lay row
  blk_ext [idx t]

theorem final2 : (dats m 0 c).arrAt 7 (cfgs 0).N = result2 m c := by
  refine (dats m 0 c).arrAt_eq_of_covers 7 _ (by decide +kernel) fun t ht y => ?_
  blk_simp
  rw [after0_7]
  obtain ⟨i, j, rfl⟩ : ∃ (i : Fin 176) (j : Fin 1024), y = ix3 0 i j := ⟨y 1, y 2, by ext a; fin_cases a <;> first | rfl | exact (Nat.lt_one_iff.mp (y 0).isLt)⟩
  refine (written2 m c t i j).trans ?_
  refine (show _ = result2 m c (ix3 (lay t) (row t i) j) from rfl).trans ?_
  unfold lay row
  blk_ext [idx t]

theorem final3 : (dats m 0 c).arrAt 8 (cfgs 0).N = result3 m c := by
  refine (dats m 0 c).arrAt_eq_of_covers 8 _ (by decide +kernel) fun t ht y => ?_
  blk_simp
  rw [after0_8]
  obtain ⟨i, j, rfl⟩ : ∃ (i : Fin 176) (j : Fin 1024), y = ix3 0 i j := ⟨y 1, y 2, by ext a; fin_cases a <;> first | rfl | exact (Nat.lt_one_iff.mp (y 0).isLt)⟩
  refine (written3 m c t i j).trans ?_
  refine (show _ = result3 m c (ix3 (lay t) (row t i) j) from rfl).trans ?_
  unfold lay row
  blk_ext [idx t]

end Cert.AdamDownIdeal.Prod

namespace Cert.AdamDownRefIdeal.Prod

open Cert.AdamDownRefIdeal Cert.AdamDownRefIdeal.Gen
open Idealize.ShloMosaic Idealize.ShloMosaic.TcCoe Idealize.ShloMosaic.Tactic

/-- The reference's results over its arguments. -/
def line0 (w g p q : FVec Ideal S2x704x1024 .f32) : FVec Ideal S2x704x1024 .f32 :=
  mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) p) (mulf (broadcastInDim S2x704x1024 ![] bcast_S_S2x704x1024 (constant S_ .f32 0x3DCCCCCD#32)) g)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) q) (mulf (broadcastInDim S2x704x1024 ![] bcast_S_S2x704x1024 (constant S_ .f32 0x3A83126F#32)) (mulf g g))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) w))

def line1 (g p : FVec Ideal S2x704x1024 .f32) : FVec Ideal S2x704x1024 .f32 :=
  addf (mulf (broadcastInDim S2x704x1024 ![] bcast_S_S2x704x1024 (constant S_ .f32 0x3F666666#32)) p) (mulf (broadcastInDim S2x704x1024 ![] bcast_S_S2x704x1024 (constant S_ .f32 0x3DCCCCCD#32)) g)

def line2 (g q : FVec Ideal S2x704x1024 .f32) : FVec Ideal S2x704x1024 .f32 :=
  addf (mulf (broadcastInDim S2x704x1024 ![] bcast_S_S2x704x1024 (constant S_ .f32 0x3F7FBE77#32)) q) (mulf (broadcastInDim S2x704x1024 ![] bcast_S_S2x704x1024 (constant S_ .f32 0x3A83126F#32)) (mulf g g))

theorem line1_at (g p : FVec Ideal S2x704x1024 .f32) (y : S2x704x1024.Idx) : line1 g p y = Cert.Adam.first (g y) (p y) := by
  unfold Cert.Adam.first
  pointwise [line1]

theorem line2_at (g q : FVec Ideal S2x704x1024 .f32) (y : S2x704x1024.Idx) : line2 g q y = Cert.Adam.second (g y) (q y) := by
  rw [← Cert.Adam.second_eq]
  pointwise [line2]

theorem line0_at (w g p q : FVec Ideal S2x704x1024 .f32) (y : S2x704x1024.Idx) : line0 w g p q y = Cert.Adam.delta (w y) (g y) (p y) (q y) := by
  unfold Cert.Adam.delta
  rw [← Cert.Adam.second_eq]
  unfold Cert.Adam.first
  pointwise [line0]

end Cert.AdamDownRefIdeal.Prod

namespace Cert.AdamDownIdeal.Prod

open Cert.AdamDownIdeal Cert.AdamDownIdeal.Gen
open Idealize.ShloMosaic Idealize.ShloMosaic.TcCoe Idealize.ShloMosaic.Tactic

variable (m : (ℓ : Loc nD τ sig) → Buf (Elt Ideal) ℓ) (c : Dev nD)

theorem reference_eq0 : Cert.AdamDownRefIdeal.Prod.line0 (wA m c) (gA m c) (pA m c) (qA m c) = result0 m c :=
  funext fun y => Cert.AdamDownRefIdeal.Prod.line0_at _ _ _ _ y

theorem reference_eq1 : Cert.AdamDownRefIdeal.Prod.line1 (gA m c) (pA m c) = result1 m c :=
  funext fun y => Cert.AdamDownRefIdeal.Prod.line1_at _ _ y

theorem reference_eq2 : Cert.AdamDownRefIdeal.Prod.line2 (gA m c) (qA m c) = result2 m c :=
  funext fun y => Cert.AdamDownRefIdeal.Prod.line2_at _ _ y

end Cert.AdamDownIdeal.Prod

namespace Cert.Proof.AdamDown

open Idealize.ShloMosaic Idealize.ShloMosaic.TcCoe Idealize.SL.Sem
open Idealize.ShloMosaic.Tactic
open Cert.AdamDownIdeal.Prod

theorem quiescent_kernelIdeal : Cert.quiescent_AdamDownIdeal := fun m ρ _ => Cert.AdamDownIdeal.Gen.frame (F := Ideal) m ρ

/-- What the frame says of a run of the ideal printing, at any reading of the floats. -/
def Framed (F : FTy → Type) [FloatOps F] : Prop :=
  ∀ (m : (ℓ : Loc Cert.AdamDownIdeal.nD Cert.AdamDownIdeal.τ Cert.AdamDownIdeal.sig) → Buf (Elt F) ℓ) (ρ : Dev Cert.AdamDownIdeal.nD → PrngReg), True →
    θ_run (Cert.AdamDownIdeal.defs (F := F)) (onTc (τ := Cert.AdamDownIdeal.τ) (Cert.AdamDownIdeal.main (F := F))) ⟨m, fun _ => 0, ρ⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

theorem framed (F : FTy → Type) [FloatOps F] : Framed F := fun m ρ _ => Cert.AdamDownIdeal.Gen.frame m ρ

/-- The two printings are one program, line for line. -/
theorem kernel_framed : Cert.quiescent_AdamDown = Framed Bits := by sl_kernel_rfl

theorem quiescent_kernel : Cert.quiescent_AdamDown := kernel_framed.mpr (framed Bits)

theorem quiescent_reference : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

/-- The results are the reference's. -/
theorem equation : Cert.algebraic_AdamDownIdeal_AdamDownRefIdeal := by
  pair_intro
  · run_from Cert.AdamDownIdeal.Gen.run_main m g
    all_goals first | exact Cert.AdamDownIdeal.Gen.V_main_arg0 m c | exact Cert.AdamDownIdeal.Gen.V_main_arg1 m c | exact Cert.AdamDownIdeal.Gen.V_main_arg2 m c | exact Cert.AdamDownIdeal.Gen.V_main_arg3 m c
  · run_from Cert.AdamDownRefIdeal.Value.run m' g'
    · exact (reference_eq0 m c).trans (final0 m c).symm
    · exact (reference_eq1 m c).trans (final1 m c).symm
    · exact (reference_eq2 m c).trans (final2 m c).symm
    · exact (final3 m c).symm

end Cert.Proof.AdamDown

end
-- ==== Proof.AdamSmall.lean ====
module

public import proofs.«01_k».proof.Defs
public import proofs.«01_k».proof.Proof.Gen.AdamSmall
public import proofs.«01_k».proof.Proof.Gen.AdamSmallIdeal.Value
public import proofs.«01_k».proof.Proof.Gen.AdamSmallRefIdeal.Run
public import proofs.«01_k».proof.Proof.Adam
public import Idealize.ShloMosaic.Lib.Pipeline.ValueKit
public import Idealize.ShloMosaic.Lib.Ring
public import Idealize.ShloMosaic.Adequacy
public import Idealize.ShloMosaic.Init

/-! The update of the small weights, packed in one array. -/

@[expose] public section

set_option maxRecDepth 16384

noncomputable section

namespace Cert.AdamSmallIdeal.Prod

open Cert.AdamSmallIdeal Cert.AdamSmallIdeal.Gen
open Idealize.ShloMosaic Idealize.ShloMosaic.TcCoe Idealize.ShloMosaic.Tactic

/-! ### The body's arithmetic -/

theorem first_at (p : Vec Ideal S16x1024 .f32) (g : Vec Ideal S16x1024 .f32) (i : Fin 16) (j : Fin 1024) :
    k0_pay1 p g (ix2 i j) = Cert.Adam.first (g (ix2 i j)) (p (ix2 i j)) := by
  unfold Cert.Adam.first
  pointwise [k0_pay1]

theorem second_at (q : Vec Ideal S16x1024 .f32) (g : Vec Ideal S16x1024 .f32) (i : Fin 16) (j : Fin 1024) :
    k0_pay2 q g (ix2 i j) = Cert.Adam.second (g (ix2 i j)) (q (ix2 i j)) := by
  unfold Cert.Adam.second
  pointwise [k0_pay2]

theorem delta_at (w p q : Vec Ideal S16x1024 .f32) (g : Vec Ideal S16x1024 .f32) (i : Fin 16) (j : Fin 1024) :
    k0_pay3 w p q g (ix2 i j) = Cert.Adam.delta (w (ix2 i j)) (g (ix2 i j)) (p (ix2 i j)) (q (ix2 i j)) := by
  unfold Cert.Adam.delta Cert.Adam.first Cert.Adam.second
  pointwise [k0_pay3, k0_pay1, k0_pay2]

variable (m : (ℓ : Loc nD τ sig) → Buf (Elt Ideal) ℓ) (c : Dev nD)

abbrev wA : FVec Ideal S16x1024 .f32 := m ((c.tc : Thread nD τ).loc main_arg0)
abbrev gA : FVec Ideal S16x1024 .f32 := m ((c.tc : Thread nD τ).loc main_arg1)
abbrev pA : FVec Ideal S16x1024 .f32 := m ((c.tc : Thread nD τ).loc main_arg2)
abbrev qA : FVec Ideal S16x1024 .f32 := m ((c.tc : Thread nD τ).loc main_arg3)

/-- The block every window is at. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] := by
  decide +kernel

theorem lt_points (t : Fin cfg0.N) : t.val < 1 := lt_of_lt_of_eq t.isLt (show cfg0.N = 1 from N_0)

theorem blk0 (t : Fin cfg0.N) (i : Fin 16) (j : Fin 1024) : iblk m c 0 t (ix2 i j) = wA m c (ix2 i j) := by
  rw [← show V m c main_arg0 = wA m c from V_main_arg0 m c]
  blk_ext [iblk, idx t]

theorem blk1 (t : Fin cfg0.N) (i : Fin 16) (j : Fin 1024) : iblk m c 1 t (ix2 i j) = pA m c (ix2 i j) := by
  rw [← show V m c main_arg2 = pA m c from V_main_arg2 m c]
  blk_ext [iblk, idx t]

theorem blk2 (t : Fin cfg0.N) (i : Fin 16) (j : Fin 1024) : iblk m c 2 t (ix2 i j) = qA m c (ix2 i j) := by
  rw [← show V m c main_arg3 = qA m c from V_main_arg3 m c]
  blk_ext [iblk, idx t]

theorem blk3 (t : Fin cfg0.N) (i : Fin 16) (j : Fin 1024) : iblk m c 3 t (ix2 i j) = gA m c (ix2 i j) := by
  rw [← show V m c main_arg1 = gA m c from V_main_arg1 m c]
  blk_ext [iblk, idx t]

/-- The results, entry by entry. -/
def result0 : FVec Ideal S16x1024 .f32 := fun I => Cert.Adam.delta (wA m c I) (gA m c I) (pA m c I) (qA m c I)

theorem written0 (t : Fin cfg0.N) (i : Fin 16) (j : Fin 1024) : out0_4 (iblk m c 0 t) (iblk m c 1 t) (iblk m c 2 t) (iblk m c 3 t) (ix2 i j) = result0 m c (ix2 i j) := by
  unfold out0_4
  frame_out
  exact (delta_at _ _ _ _ i j).trans (by rw [blk0 m c t i j, blk1 m c t i j, blk2 m c t i j, blk3 m c t i j]; rfl)

/-- The results, entry by entry. -/
def result1 : FVec Ideal S16x1024 .f32 := fun I => Cert.Adam.first (gA m c I) (pA m c I)

theorem written1 (t : Fin cfg0.N) (i : Fin 16) (j : Fin 1024) : out0_5 (iblk m c 0 t) (iblk m c 1 t) (iblk m c 2 t) (iblk m c 3 t) (ix2 i j) = result1 m c (ix2 i j) := by
  unfold out0_5
  frame_out
  exact (first_at _ _ i j).trans (by rw [blk1 m c t i j, blk3 m c t i j]; rfl)

/-- The results, entry by entry. -/
def result2 : FVec Ideal S16x1024 .f32 := fun I => Cert.Adam.second (gA m c I) (qA m c I)

theorem written2 (t : Fin cfg0.N) (i : Fin 16) (j : Fin 1024) : out0_6 (iblk m c 0 t) (iblk m c 1 t) (iblk m c 2 t) (iblk m c 3 t) (ix2 i j) = result2 m c (ix2 i j) := by
  unfold out0_6
  frame_out
  exact (second_at _ _ i j).trans (by rw [blk2 m c t i j, blk3 m c t i j]; rfl)

/-- The results, entry by entry. -/
def result3 : FVec Ideal S16x1024 .f32 := fun I => gA m c I

theorem written3 (t : Fin cfg0.N) (i : Fin 16) (j : Fin 1024) : out0_7 (iblk m c 0 t) (iblk m c 1 t) (iblk m c 2 t) (iblk m c 3 t) (ix2 i j) = result3 m c (ix2 i j) := by
  unfold out0_7
  frame_out
  exact blk3 m c t i j

theorem final0 : (dats m 0 c).arrAt 4 (cfgs 0).N = result0 m c := by
  refine (dats m 0 c).arrAt_eq_of_covers 4 _ (by decide +kernel) fun t ht y => ?_
  blk_simp
  rw [after0_4]
  obtain ⟨i, j, rfl⟩ : ∃ (i : Fin 16) (j : Fin 1024), y = ix2 i j := ⟨y 0, y 1, by ext a; fin_cases a <;> rfl⟩
  refine (written0 m c t i j).trans ?_
  refine (show _ = result0 m c (ix2 i j) from rfl).trans ?_
  blk_ext [idx t]

theorem final1 : (dats m 0 c).arrAt 5 (cfgs 0).N = result1 m c := by
  refine (dats m 0 c).arrAt_eq_of_covers 5 _ (by decide +kernel) fun t ht y => ?_
  blk_simp
  rw [after0_5]
  obtain ⟨i, j, rfl⟩ : ∃ (i : Fin 16) (j : Fin 1024), y = ix2 i j := ⟨y 0, y 1, by ext a; fin_cases a <;> rfl⟩
  refine (written1 m c t i j).trans ?_
  refine (show _ = result1 m c (ix2 i j) from rfl).trans ?_
  blk_ext [idx t]

theorem final2 : (dats m 0 c).arrAt 6 (cfgs 0).N = result2 m c := by
  refine (dats m 0 c).arrAt_eq_of_covers 6 _ (by decide +kernel) fun t ht y => ?_
  blk_simp
  rw [after0_6]
  obtain ⟨i, j, rfl⟩ : ∃ (i : Fin 16) (j : Fin 1024), y = ix2 i j := ⟨y 0, y 1, by ext a; fin_cases a <;> rfl⟩
  refine (written2 m c t i j).trans ?_
  refine (show _ = result2 m c (ix2 i j) from rfl).trans ?_
  blk_ext [idx t]

theorem final3 : (dats m 0 c).arrAt 7 (cfgs 0).N = result3 m c := by
  refine (dats m 0 c).arrAt_eq_of_covers 7 _ (by decide +kernel) fun t ht y => ?_
  blk_simp
  rw [after0_7]
  obtain ⟨i, j, rfl⟩ : ∃ (i : Fin 16) (j : Fin 1024), y = ix2 i j := ⟨y 0, y 1, by ext a; fin_cases a <;> rfl⟩
  refine (written3 m c t i j).trans ?_
  refine (show _ = result3 m c (ix2 i j) from rfl).trans ?_
  blk_ext [idx t]

end Cert.AdamSmallIdeal.Prod

namespace Cert.AdamSmallRefIdeal.Prod

open Cert.AdamSmallRefIdeal Cert.AdamSmallRefIdeal.Gen
open Idealize.ShloMosaic Idealize.ShloMosaic.TcCoe Idealize.ShloMosaic.Tactic

/-- The reference's results over its arguments. -/
def line0 (w g p q : FVec Ideal S16x1024 .f32) : FVec Ideal S16x1024 .f32 :=
  mulf (broadcastInDim S16x1024 ![] bcast_S_S16x1024 (constant S_ .f32 0xBA83126F#32)) (addf (Host.divf (Host.divf (addf (mulf (broadcastInDim S16x1024 ![] bcast_S_S16x1024 (constant S_ .f32 0x3F666666#32)) p) (mulf (broadcastInDim S16x1024 ![] bcast_S_S16x1024 (constant S_ .f32 0x3DCCCCCD#32)) g)) (broadcastInDim S16x1024 ![] bcast_S_S16x1024 (constant S_ .f32 0x3F26BD02#32))) (addf (Host.sqrt (Host.divf (addf (mulf (broadcastInDim S16x1024 ![] bcast_S_S16x1024 (constant S_ .f32 0x3F7FBE77#32)) q) (mulf (broadcastInDim S16x1024 ![] bcast_S_S16x1024 (constant S_ .f32 0x3A83126F#32)) (mulf g g))) (broadcastInDim S16x1024 ![] bcast_S_S16x1024 (constant S_ .f32 0x3C231ACC#32)))) (broadcastInDim S16x1024 ![] bcast_S_S16x1024 (constant S_ .f32 0x322BCC77#32)))) (mulf (broadcastInDim S16x1024 ![] bcast_S_S16x1024 (constant S_ .f32 0x3C23D70A#32)) w))

def line1 (g p : FVec Ideal S16x1024 .f32) : FVec Ideal S16x1024 .f32 :=
  addf (mulf (broadcastInDim S16x1024 ![] bcast_S_S16x1024 (constant S_ .f32 0x3F666666#32)) p) (mulf (broadcastInDim S16x1024 ![] bcast_S_S16x1024 (constant S_ .f32 0x3DCCCCCD#32)) g)

def line2 (g q : FVec Ideal S16x1024 .f32) : FVec Ideal S16x1024 .f32 :=
  addf (mulf (broadcastInDim S16x1024 ![] bcast_S_S16x1024 (constant S_ .f32 0x3F7FBE77#32)) q) (mulf (broadcastInDim S16x1024 ![] bcast_S_S16x1024 (constant S_ .f32 0x3A83126F#32)) (mulf g g))

theorem line1_at (g p : FVec Ideal S16x1024 .f32) (y : S16x1024.Idx) : line1 g p y = Cert.Adam.first (g y) (p y) := by
  unfold Cert.Adam.first
  pointwise [line1]

theorem line2_at (g q : FVec Ideal S16x1024 .f32) (y : S16x1024.Idx) : line2 g q y = Cert.Adam.second (g y) (q y) := by
  rw [← Cert.Adam.second_eq]
  pointwise [line2]

theorem line0_at (w g p q : FVec Ideal S16x1024 .f32) (y : S16x1024.Idx) : line0 w g p q y = Cert.Adam.delta (w y) (g y) (p y) (q y) := by
  unfold Cert.Adam.delta
  rw [← Cert.Adam.second_eq]
  unfold Cert.Adam.first
  pointwise [line0]

end Cert.AdamSmallRefIdeal.Prod

namespace Cert.AdamSmallIdeal.Prod

open Cert.AdamSmallIdeal Cert.AdamSmallIdeal.Gen
open Idealize.ShloMosaic Idealize.ShloMosaic.TcCoe Idealize.ShloMosaic.Tactic

variable (m : (ℓ : Loc nD τ sig) → Buf (Elt Ideal) ℓ) (c : Dev nD)

theorem reference_eq0 : Cert.AdamSmallRefIdeal.Prod.line0 (wA m c) (gA m c) (pA m c) (qA m c) = result0 m c :=
  funext fun y => Cert.AdamSmallRefIdeal.Prod.line0_at _ _ _ _ y

theorem reference_eq1 : Cert.AdamSmallRefIdeal.Prod.line1 (gA m c) (pA m c) = result1 m c :=
  funext fun y => Cert.AdamSmallRefIdeal.Prod.line1_at _ _ y

theorem reference_eq2 : Cert.AdamSmallRefIdeal.Prod.line2 (gA m c) (qA m c) = result2 m c :=
  funext fun y => Cert.AdamSmallRefIdeal.Prod.line2_at _ _ y

end Cert.AdamSmallIdeal.Prod

namespace Cert.Proof.AdamSmall

open Idealize.ShloMosaic Idealize.ShloMosaic.TcCoe Idealize.SL.Sem
open Idealize.ShloMosaic.Tactic
open Cert.AdamSmallIdeal.Prod

theorem quiescent_kernelIdeal : Cert.quiescent_AdamSmallIdeal := fun m ρ _ => Cert.AdamSmallIdeal.Gen.frame (F := Ideal) m ρ

/-- What the frame says of a run of the ideal printing, at any reading of the floats. -/
def Framed (F : FTy → Type) [FloatOps F] : Prop :=
  ∀ (m : (ℓ : Loc Cert.AdamSmallIdeal.nD Cert.AdamSmallIdeal.τ Cert.AdamSmallIdeal.sig) → Buf (Elt F) ℓ) (ρ : Dev Cert.AdamSmallIdeal.nD → PrngReg), True →
    θ_run (Cert.AdamSmallIdeal.defs (F := F)) (onTc (τ := Cert.AdamSmallIdeal.τ) (Cert.AdamSmallIdeal.main (F := F))) ⟨m, fun _ => 0, ρ⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

theorem framed (F : FTy → Type) [FloatOps F] : Framed F := fun m ρ _ => Cert.AdamSmallIdeal.Gen.frame m ρ

/-- The two printings are one program, line for line. -/
theorem kernel_framed : Cert.quiescent_AdamSmall = Framed Bits := by sl_kernel_rfl

theorem quiescent_kernel : Cert.quiescent_AdamSmall := kernel_framed.mpr (framed Bits)

theorem quiescent_reference : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

/-- The results are the reference's. -/
theorem equation : Cert.algebraic_AdamSmallIdeal_AdamSmallRefIdeal := by
  pair_intro
  · run_from Cert.AdamSmallIdeal.Gen.run_main m g
    all_goals first | exact Cert.AdamSmallIdeal.Gen.V_main_arg0 m c | exact Cert.AdamSmallIdeal.Gen.V_main_arg1 m c | exact Cert.AdamSmallIdeal.Gen.V_main_arg2 m c | exact Cert.AdamSmallIdeal.Gen.V_main_arg3 m c
  · run_from Cert.AdamSmallRefIdeal.Value.run m' g'
    · exact (reference_eq0 m c).trans (final0 m c).symm
    · exact (reference_eq1 m c).trans (final1 m c).symm
    · exact (reference_eq2 m c).trans (final2 m c).symm
    · exact (final3 m c).symm

end Cert.Proof.AdamSmall

end
-- ==== Proof.SumSlots.lean ====
module

public import proofs.«01_k».proof.Defs
public import proofs.«01_k».proof.Proof.Gen.SumSlots
public import proofs.«01_k».proof.Proof.Gen.SumSlotsIdeal.Value
public import proofs.«01_k».proof.Proof.Gen.SumSlotsRefIdeal.Run
public import Idealize.ShloMosaic.Lib.Pipeline.ValueKit
public import Idealize.ShloMosaic.Lib.Ring
public import Idealize.ShloMosaic.Adequacy
public import Idealize.ShloMosaic.Init

/-! The sum over the devices of the small gradients and the loss, packed in one array per device. -/

@[expose] public section

set_option maxRecDepth 16384

noncomputable section

namespace Cert.SumSlotsIdeal.Prod

open Cert.SumSlotsIdeal Cert.SumSlotsIdeal.Gen
open Idealize.ShloMosaic Idealize.ShloMosaic.TcCoe Idealize.ShloMosaic.Tactic

/-- The kernel's chain of seven additions is the sum over the slots. -/
theorem total_at (p : Vec Ideal S8x48x1024 .f32) (i : Fin 48) (j : Fin 1024) :
    k0_pay1 p (ix2 i j) = ∑ k : Fin 8, p (ix3 k i j) := by
  rw [Fin.sum_univ_eight]
  pointwise [k0_pay1]

variable (m : (ℓ : Loc nD τ sig) → Buf (Elt Ideal) ℓ) (c : Dev nD)

abbrev pA : FVec Ideal S8x48x1024 .f32 := m ((c.tc : Thread nD τ).loc main_arg0)

/-- The block every window is at. -/
theorem idx : ∀ t : Fin cfg0.N, win0_0.index t = ![0, 0, 0] ∧ win0_1.index t = ![0, 0] := by
  decide +kernel

theorem blk0 (t : Fin cfg0.N) (k : Fin 8) (i : Fin 48) (j : Fin 1024) : iblk m c 0 t (ix3 k i j) = pA m c (ix3 k i j) := by
  rw [← show V m c main_arg0 = pA m c from V_main_arg0 m c]
  blk_ext [iblk, idx t]

/-- The result, entry by entry: the sum over the slots. -/
def result : FVec Ideal S48x1024 .f32 := fun y => ∑ k : Fin 8, pA m c (ix3 k (y 0) (y 1))

theorem written (t : Fin cfg0.N) (i : Fin 48) (j : Fin 1024) : out0_1 (iblk m c 0 t) (ix2 i j) = result m c (ix2 i j) := by
  unfold out0_1
  frame_out
  exact (total_at _ i j).trans (Finset.sum_congr rfl fun k _ => blk0 m c t k i j)

theorem final : (dats m 0 c).arrAt 1 (cfgs 0).N = result m c := by
  refine (dats m 0 c).arrAt_eq_of_covers 1 _ (by decide +kernel) fun t ht y => ?_
  blk_simp
  rw [after0_1]
  obtain ⟨i, j, rfl⟩ : ∃ (i : Fin 48) (j : Fin 1024), y = ix2 i j := ⟨y 0, y 1, by ext a; fin_cases a <;> rfl⟩
  refine (written m c t i j).trans ?_
  refine (show _ = result m c (ix2 i j) from rfl).trans ?_
  blk_ext [idx t]

end Cert.SumSlotsIdeal.Prod

namespace Cert.SumSlotsRefIdeal.Prod

open Cert.SumSlotsRefIdeal Cert.SumSlotsRefIdeal.Gen
open Idealize.ShloMosaic Idealize.ShloMosaic.TcCoe Idealize.ShloMosaic.Tactic

/-- The reference's result over its argument. -/
def line (p : FVec Ideal S8x48x1024 .f32) : FVec Ideal S48x1024 .f32 :=
  Host.reduceAdd p (constant S_ .f32 0x00000000#32) reducesTo_S8x48x1024_S48x1024_d0 h_S_

theorem line_at (p : FVec Ideal S8x48x1024 .f32) (i : Fin 48) (j : Fin 1024) : line p (ix2 i j) = ∑ k : Fin 8, p (ix3 k i j) := by
  pointwise [line]

end Cert.SumSlotsRefIdeal.Prod

namespace Cert.SumSlotsIdeal.Prod

open Cert.SumSlotsIdeal Cert.SumSlotsIdeal.Gen
open Idealize.ShloMosaic Idealize.ShloMosaic.TcCoe Idealize.ShloMosaic.Tactic

variable (m : (ℓ : Loc nD τ sig) → Buf (Elt Ideal) ℓ) (c : Dev nD)

theorem reference_eq : Cert.SumSlotsRefIdeal.Prod.line (pA m c) = result m c := by
  funext y
  obtain ⟨i, j, rfl⟩ : ∃ (i : Fin 48) (j : Fin 1024), y = ix2 i j := ⟨y 0, y 1, by ext a; fin_cases a <;> rfl⟩
  exact Cert.SumSlotsRefIdeal.Prod.line_at _ i j

end Cert.SumSlotsIdeal.Prod

namespace Cert.Proof.SumSlots

open Idealize.ShloMosaic Idealize.ShloMosaic.TcCoe Idealize.SL.Sem
open Idealize.ShloMosaic.Tactic
open Cert.SumSlotsIdeal.Prod

theorem quiescent_kernelIdeal : Cert.quiescent_SumSlotsIdeal := fun m ρ _ => Cert.SumSlotsIdeal.Gen.frame (F := Ideal) m ρ

/-- What the frame says of a run of the ideal printing, at any reading of the floats. -/
def Framed (F : FTy → Type) [FloatOps F] : Prop :=
  ∀ (m : (ℓ : Loc Cert.SumSlotsIdeal.nD Cert.SumSlotsIdeal.τ Cert.SumSlotsIdeal.sig) → Buf (Elt F) ℓ) (ρ : Dev Cert.SumSlotsIdeal.nD → PrngReg), True →
    θ_run (Cert.SumSlotsIdeal.defs (F := F)) (onTc (τ := Cert.SumSlotsIdeal.τ) (Cert.SumSlotsIdeal.main (F := F))) ⟨m, fun _ => 0, ρ⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

theorem framed (F : FTy → Type) [FloatOps F] : Framed F := fun m ρ _ => Cert.SumSlotsIdeal.Gen.frame m ρ

/-- The two printings are one program, line for line. -/
theorem kernel_framed : Cert.quiescent_SumSlots = Framed Bits := by sl_kernel_rfl

theorem quiescent_kernel : Cert.quiescent_SumSlots := kernel_framed.mpr (framed Bits)

theorem quiescent_reference : Cert.quiescent_SumSlotsRefIdeal := fun m ρ _ =>
  (θ_run Cert.SumSlotsRefIdeal.defs _ _).mono (fun r h => ⟨fun c => (h c).2, sem_eq_zero_of_no_sems (by decide) r.2⟩)
    (Cert.SumSlotsRefIdeal.Value.run (F := Ideal) m ρ)

/-- The results are the reference's. -/
theorem equation : Cert.algebraic_SumSlotsIdeal_SumSlotsRefIdeal := by
  pair_intro
  · run_from Cert.SumSlotsIdeal.Gen.run_main m g
    all_goals exact Cert.SumSlotsIdeal.Gen.V_main_arg0 m c
  · refine θ_run_mono (Cert.SumSlotsRefIdeal.Value.run m' g') fun r hr c => ⟨?_, (hr c).2⟩
    have hm : m' ((c.tc : Thread Cert.SumSlotsRefIdeal.nD Cert.SumSlotsRefIdeal.τ).loc Cert.SumSlotsRefIdeal.main_arg0) = pA m c := hagree c
    refine (hr c).1.trans ?_
    rw [hm]
    exact (reference_eq m c).trans (final m c).symm

end Cert.Proof.SumSlots

end
-- ==== Proof.lean ====
module

public import proofs.«01_k».proof.Defs
public import proofs.«01_k».proof.Proof.FfnEq
public import proofs.«01_k».proof.Proof.UpDw
public import proofs.«01_k».proof.Proof.DownDw
public import proofs.«01_k».proof.Proof.InDw
public import proofs.«01_k».proof.Proof.QkvDw
public import proofs.«01_k».proof.Proof.OutDw
public import proofs.«01_k».proof.Proof.MixOutDx
public import proofs.«01_k».proof.Proof.SwaOutDx
public import proofs.«01_k».proof.Proof.MixIn
public import proofs.«01_k».proof.Proof.Qkv
public import proofs.«01_k».proof.Proof.OutNorm
public import proofs.«01_k».proof.Proof.DownNorm
public import proofs.«01_k».proof.Proof.UpDx
public import proofs.«01_k».proof.Proof.InDx
public import proofs.«01_k».proof.Proof.QkvDx
public import proofs.«01_k».proof.Proof.Loss
public import proofs.«01_k».proof.Proof.AdamIn
public import proofs.«01_k».proof.Proof.AdamOut
public import proofs.«01_k».proof.Proof.AdamKv
public import proofs.«01_k».proof.Proof.AdamUp
public import proofs.«01_k».proof.Proof.AdamDown
public import proofs.«01_k».proof.Proof.AdamSmall
public import proofs.«01_k».proof.Proof.SumSlots

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.UpDw.Gen.facts, Cert.UpDwIdeal.Gen.facts, Cert.UpDwRefIdeal.Gen.facts,
    Cert.DownDw.Gen.facts, Cert.DownDwIdeal.Gen.facts, Cert.DownDwRefIdeal.Gen.facts,
    Cert.InDw.Gen.facts, Cert.InDwIdeal.Gen.facts, Cert.InDwRefIdeal.Gen.facts,
    Cert.QkvDw.Gen.facts, Cert.QkvDwIdeal.Gen.facts, Cert.QkvDwRefIdeal.Gen.facts,
    Cert.OutDw.Gen.facts, Cert.OutDwIdeal.Gen.facts, Cert.OutDwRefIdeal.Gen.facts,
    Cert.MixOutDx.Gen.facts, Cert.MixOutDxIdeal.Gen.facts, Cert.MixOutDxRefIdeal.Gen.facts,
    Cert.SwaOutDx.Gen.facts, Cert.SwaOutDxIdeal.Gen.facts, Cert.SwaOutDxRefIdeal.Gen.facts,
    Cert.MixIn.Gen.facts, Cert.MixInIdeal.Gen.facts, Cert.MixInRefIdeal.Gen.facts,
    Cert.Qkv.Gen.facts, Cert.QkvIdeal.Gen.facts, Cert.QkvRefIdeal.Gen.facts,
    Cert.OutNorm.Gen.facts, Cert.OutNormIdeal.Gen.facts, Cert.OutNormRefIdeal.Gen.facts,
    Cert.DownNorm.Gen.facts, Cert.DownNormIdeal.Gen.facts, Cert.DownNormRefIdeal.Gen.facts,
    Cert.UpDx.Gen.facts, Cert.UpDxIdeal.Gen.facts, Cert.UpDxRefIdeal.Gen.facts,
    Cert.InDx.Gen.facts, Cert.InDxIdeal.Gen.facts, Cert.InDxRefIdeal.Gen.facts,
    Cert.QkvDx.Gen.facts, Cert.QkvDxIdeal.Gen.facts, Cert.QkvDxRefIdeal.Gen.facts,
    Cert.Loss.Gen.facts, Cert.LossIdeal.Gen.facts, Cert.LossRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamKv.Gen.facts, Cert.AdamKvIdeal.Gen.facts, Cert.AdamKvRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamSmall.Gen.facts, Cert.AdamSmallIdeal.Gen.facts, Cert.AdamSmallRefIdeal.Gen.facts,
    Cert.SumSlots.Gen.facts, Cert.SumSlotsIdeal.Gen.facts, Cert.SumSlotsRefIdeal.Gen.facts,
    Ffn.facts_pre,
    Ffn.quiescent_kernel,
    Ffn.quiescent_kernelIdeal,
    fun m ρ _ => Ffn.quiescent_kernelIdeal m ρ trivial,
    Ffn.quiescent_reference,
    fun m ρ _ => Ffn.quiescent_reference m ρ trivial,
    UpDw.quiescent_kernel, UpDw.quiescent_kernelIdeal, UpDw.quiescent_reference,
    DownDw.quiescent_kernel, DownDw.quiescent_kernelIdeal, DownDw.quiescent_reference,
    InDw.quiescent_kernel, InDw.quiescent_kernelIdeal, InDw.quiescent_reference,
    QkvDw.quiescent_kernel, QkvDw.quiescent_kernelIdeal, QkvDw.quiescent_reference,
    OutDw.quiescent_kernel, OutDw.quiescent_kernelIdeal, OutDw.quiescent_reference,
    MixOutDx.quiescent_kernel, MixOutDx.quiescent_kernelIdeal, MixOutDx.quiescent_reference,
    SwaOutDx.quiescent_kernel, SwaOutDx.quiescent_kernelIdeal, SwaOutDx.quiescent_reference,
    MixIn.quiescent_kernel, MixIn.quiescent_kernelIdeal, MixIn.quiescent_reference,
    Qkv.quiescent_kernel, Qkv.quiescent_kernelIdeal, Qkv.quiescent_reference,
    OutNorm.quiescent_kernel, OutNorm.quiescent_kernelIdeal, OutNorm.quiescent_reference,
    DownNorm.quiescent_kernel, DownNorm.quiescent_kernelIdeal, DownNorm.quiescent_reference,
    UpDx.quiescent_kernel, UpDx.quiescent_kernelIdeal, UpDx.quiescent_reference,
    InDx.quiescent_kernel, InDx.quiescent_kernelIdeal, InDx.quiescent_reference,
    QkvDx.quiescent_kernel, QkvDx.quiescent_kernelIdeal, QkvDx.quiescent_reference,
    Loss.quiescent_kernel, Loss.quiescent_kernelIdeal, Loss.quiescent_reference,
    AdamIn.quiescent_kernel, AdamIn.quiescent_kernelIdeal, AdamIn.quiescent_reference,
    AdamOut.quiescent_kernel, AdamOut.quiescent_kernelIdeal, AdamOut.quiescent_reference,
    AdamKv.quiescent_kernel, AdamKv.quiescent_kernelIdeal, AdamKv.quiescent_reference,
    AdamUp.quiescent_kernel, AdamUp.quiescent_kernelIdeal, AdamUp.quiescent_reference,
    AdamDown.quiescent_kernel, AdamDown.quiescent_kernelIdeal, AdamDown.quiescent_reference,
    AdamSmall.quiescent_kernel, AdamSmall.quiescent_kernelIdeal, AdamSmall.quiescent_reference,
    SumSlots.quiescent_kernel, SumSlots.quiescent_kernelIdeal, SumSlots.quiescent_reference,
    trivial,
    Ffn.equation,
    trivial, UpDw.equation,
    trivial, DownDw.equation,
    trivial, InDw.equation,
    trivial, QkvDw.equation,
    trivial, OutDw.equation,
    trivial, MixOutDx.equation,
    trivial, SwaOutDx.equation,
    trivial, MixIn.equation,
    trivial, Qkv.equation,
    trivial, OutNorm.equation,
    trivial, DownNorm.equation,
    trivial, UpDx.equation,
    trivial, InDx.equation,
    trivial, QkvDx.equation,
    trivial, Loss.equation,
    trivial, AdamIn.equation,
    trivial, AdamOut.equation,
    trivial, AdamKv.equation,
    trivial, AdamUp.equation,
    trivial, AdamDown.equation,
    trivial, AdamSmall.equation,
    trivial, SumSlots.equation⟩

end Cert.Proof

end
